-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v270) = v1 c
          ∧ r.2.mem ((c.tc : Thread Cert.ReferenceIdeal.nD Cert.ReferenceIdeal.τ).loc Cert.ReferenceIdeal.main_v272) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x2048x6144 : Shape := ⟨3, ![8, 2048, 6144]⟩
abbrev S8x2048x128 : Shape := ⟨3, ![8, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x2048x1024 : Shape := ⟨3, ![32, 2048, 1024]⟩
abbrev S65536x1024 : Shape := ⟨2, ![65536, 1024]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S1x3072 : Shape := ⟨2, ![1, 3072]⟩
abbrev S8x2048x2048 : Shape := ⟨3, ![8, 2048, 2048]⟩
abbrev S1x128x3072 : Shape := ⟨3, ![1, 128, 3072]⟩
abbrev S1x128x2048 : Shape := ⟨3, ![1, 128, 2048]⟩
abbrev S1x128x128 : Shape := ⟨3, ![1, 128, 128]⟩
abbrev S512x1024 : Shape := ⟨2, ![512, 1024]⟩
abbrev S8x3072 : Shape := ⟨2, ![8, 3072]⟩
abbrev S4x128x512 : Shape := ⟨3, ![4, 128, 512]⟩
abbrev S128x2048 : Shape := ⟨2, ![128, 2048]⟩
abbrev S128x512 : Shape := ⟨2, ![128, 512]⟩
abbrev S128x3072 : Shape := ⟨2, ![128, 3072]⟩
abbrev S128x128 : Shape := ⟨2, ![128, 128]⟩
abbrev S1x128x512 : Shape := ⟨3, ![1, 128, 512]⟩
abbrev S128x1 : Shape := ⟨2, ![128, 1]⟩
abbrev S1x1 : Shape := ⟨2, ![1, 1]⟩
abbrev S1x512 : Shape := ⟨2, ![1, 512]⟩

abbrev nBuf : Space → Nat
  | .hbm => 28
  | .vmem => 26
  | .smem => 0
  | _ => 0

abbrev bufTy : (tb : Table) → Fin (tcTables nBuf tb) → BufTy
  | .hbm, ⟨0, _⟩ => ⟨S8x2048x6144, .bf16⟩
  | .hbm, ⟨1, _⟩ => ⟨S8x2048x128, .f32⟩
  | .hbm, ⟨2, _⟩ => ⟨S4x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S32x2048x1024, .f32⟩
  | .hbm, ⟨9, _⟩ => ⟨S32x2048x1024, .f32⟩
  | .hbm, ⟨10, _⟩ => ⟨S65536x1024, .f32⟩
  | .hbm, ⟨11, _⟩ => ⟨S65536x1024, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S32x64, .f32⟩
  | .hbm, ⟨21, _⟩ => ⟨S2048, .f32⟩
  | .hbm, ⟨22, _⟩ => ⟨S1x2048, .f32⟩
  | .hbm, ⟨23, _⟩ => ⟨S1x3072, .f32⟩
  | .hbm, ⟨24, _⟩ => ⟨S1x2048, .f32⟩
  | .hbm, ⟨25, _⟩ => ⟨S8x2048x2048, .bf16⟩
  | .hbm, ⟨26, _⟩ => ⟨S65536x1024, .bf16⟩
  | .hbm, ⟨27, _⟩ => ⟨S65536x1024, .bf16⟩
  | .local _ .vmem, ⟨0, _⟩ => ⟨S1x128x3072, .bf16⟩
  | .local _ .vmem, ⟨1, _⟩ => ⟨S1x128x3072, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x128, .f32⟩
  | .local _ .vmem, ⟨5, _⟩ => ⟨S1x128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x128x2048, .bf16⟩
  | .local _ .vmem, ⟨17, _⟩ => ⟨S1x128x2048, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S8x3072, .f32⟩
  | .local _ .vmem, ⟨23, _⟩ => ⟨S4x128x512, .f32⟩
  | .local _ .vmem, ⟨24, _⟩ => ⟨S128x2048, .f32⟩
  | .local _ .vmem, ⟨25, _⟩ => ⟨S128x512, .bf16⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x6144 : Shape := ⟨3, ![8, 2048, 6144]⟩
abbrev S8x2048x128 : Shape := ⟨3, ![8, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x2048x1024 : Shape := ⟨3, ![32, 2048, 1024]⟩
abbrev S8x2048x2048 : Shape := ⟨3, ![8, 2048, 2048]⟩
abbrev S8x2048x3072 : Shape := ⟨3, ![8, 2048, 3072]⟩
abbrev S_ : Shape := ⟨0, ![]⟩
abbrev S8x2051x3072 : Shape := ⟨3, ![8, 2051, 3072]⟩
abbrev S1x3072 : Shape := ⟨2, ![1, 3072]⟩
abbrev S1x1x3072 : Shape := ⟨3, ![1, 1, 3072]⟩
abbrev S8x2048x32x64 : Shape := ⟨4, ![8, 2048, 32, 64]⟩
abbrev S8x2048x512 : Shape := ⟨3, ![8, 2048, 512]⟩
abbrev S8x2048x4x128 : Shape := ⟨4, ![8, 2048, 4, 128]⟩
abbrev S8x2048x4x8x128 : Shape := ⟨5, ![8, 2048, 4, 8, 128]⟩
abbrev S8x2048x32x128 : Shape := ⟨4, ![8, 2048, 32, 128]⟩
abbrev S8x16x128x32x128 : Shape := ⟨5, ![8, 16, 128, 32, 128]⟩
abbrev S8x2048x32 : Shape := ⟨3, ![8, 2048, 32]⟩
abbrev S1x1x32 : Shape := ⟨3, ![1, 1, 32]⟩
abbrev S8x2048x32x1 : Shape := ⟨4, ![8, 2048, 32, 1]⟩
abbrev S8x16x128x32x64 : Shape := ⟨5, ![8, 16, 128, 32, 64]⟩
abbrev S8x16x128x32 : Shape := ⟨4, ![8, 16, 128, 32]⟩
abbrev S8x16x32x128 : Shape := ⟨4, ![8, 16, 32, 128]⟩
abbrev S128x128 : Shape := ⟨2, ![128, 128]⟩
abbrev S8x16x32x128x1 : Shape := ⟨5, ![8, 16, 32, 128, 1]⟩
abbrev S8x16x32x1x128 : Shape := ⟨5, ![8, 16, 32, 1, 128]⟩
abbrev S8x16x32x128x128 : Shape := ⟨5, ![8, 16, 32, 128, 128]⟩
abbrev S8x16x32x64x128 : Shape := ⟨5, ![8, 16, 32, 64, 128]⟩
abbrev S8x16x32x1 : Shape := ⟨4, ![8, 16, 32, 1]⟩
abbrev S8x16x128x32x1 : Shape := ⟨5, ![8, 16, 128, 32, 1]⟩
abbrev S8x16x32 : Shape := ⟨3, ![8, 16, 32]⟩
abbrev S8x32x64x128 : Shape := ⟨4, ![8, 32, 64, 128]⟩
abbrev S8x1x32 : Shape := ⟨3, ![8, 1, 32]⟩
abbrev S8x32 : Shape := ⟨2, ![8, 32]⟩
abbrev S8x32x1x1 : Shape := ⟨4, ![8, 32, 1, 1]⟩
abbrev S8x1x32x64x128 : Shape := ⟨5, ![8, 1, 32, 64, 128]⟩
abbrev S32x1 : Shape := ⟨2, ![32, 1]⟩
abbrev S1x1x32x1 : Shape := ⟨4, ![1, 1, 32, 1]⟩
abbrev S8x2048x4x512 : Shape := ⟨4, ![8, 2048, 4, 512]⟩
abbrev S8x2048x4 : Shape := ⟨3, ![8, 2048, 4]⟩
abbrev S8x2048x4x1 : Shape := ⟨4, ![8, 2048, 4, 1]⟩
abbrev S1x1x2048 : Shape := ⟨3, ![1, 1, 2048]⟩
abbrev S65536x1024 : Shape := ⟨2, ![65536, 1024]⟩

abbrev nBuf : Space → Nat
  | .hbm => 333
  | .vmem => 0
  | .smem => 0
  | _ => 0

abbrev hbmTy0_0 (i : Nat) : BufTy := match i % 128 with
  | 0 => ⟨S8x2048x6144, .bf16⟩
  | 1 => ⟨S8x2048x128, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S32x2048x1024, .f32⟩
  | 9 => ⟨S32x2048x1024, .f32⟩
  | 10 => ⟨S8x2048x2048, .bf16⟩
  | 11 => ⟨S8x2048x2048, .f32⟩
  | 12 => ⟨S8x2048x3072, .bf16⟩
  | 13 => ⟨S8x2048x3072, .f32⟩
  | 14 => ⟨S_, .i32⟩
  | 15 => ⟨S_, .f32⟩
  | 16 => ⟨S8x2051x3072, .f32⟩
  | 17 => ⟨S8x2048x3072, .f32⟩
  | 18 => ⟨S1x3072, .f32⟩
  | 19 => ⟨S3072, .f32⟩
  | 20 => ⟨S1x1x3072, .f32⟩
  | 21 => ⟨S8x2048x3072, .f32⟩
  | 22 => ⟨S8x2048x3072, .f32⟩
  | 23 => ⟨S8x2048x3072, .f32⟩
  | 24 => ⟨S1x3072, .f32⟩
  | 25 => ⟨S3072, .f32⟩
  | 26 => ⟨S1x1x3072, .f32⟩
  | 27 => ⟨S8x2048x3072, .f32⟩
  | 28 => ⟨S8x2048x3072, .f32⟩
  | 29 => ⟨S8x2048x3072, .f32⟩
  | 30 => ⟨S8x2048x3072, .f32⟩
  | 31 => ⟨S1x3072, .f32⟩
  | 32 => ⟨S3072, .f32⟩
  | 33 => ⟨S1x1x3072, .f32⟩
  | 34 => ⟨S8x2048x3072, .f32⟩
  | 35 => ⟨S8x2048x3072, .f32⟩
  | 36 => ⟨S8x2048x3072, .f32⟩
  | 37 => ⟨S8x2048x3072, .f32⟩
  | 38 => ⟨S1x3072, .f32⟩
  | 39 => ⟨S3072, .f32⟩
  | 40 => ⟨S1x1x3072, .f32⟩
  | 41 => ⟨S8x2048x3072, .f32⟩
  | 42 => ⟨S8x2048x3072, .f32⟩
  | 43 => ⟨S8x2048x3072, .f32⟩
  | 44 => ⟨S1x1x3072, .f32⟩
  | 45 => ⟨S8x2048x3072, .f32⟩
  | 46 => ⟨S8x2048x3072, .f32⟩
  | 47 => ⟨S8x2048x3072, .f32⟩
  | 48 => ⟨S8x2048x3072, .f32⟩
  | 49 => ⟨S_, .f32⟩
  | 50 => ⟨S8x2048x3072, .f32⟩
  | 51 => ⟨S8x2048x3072, .f32⟩
  | 52 => ⟨S_, .f32⟩
  | 53 => ⟨S8x2048x3072, .f32⟩
  | 54 => ⟨S8x2048x3072, .f32⟩
  | 55 => ⟨S8x2048x3072, .f32⟩
  | 56 => ⟨S8x2048x2048, .f32⟩
  | 57 => ⟨S8x2048x32x64, .f32⟩
  | 58 => ⟨S8x2048x512, .f32⟩
  | 59 => ⟨S8x2048x4x128, .f32⟩
  | 60 => ⟨S8x2048x4x8x128, .f32⟩
  | 61 => ⟨S8x2048x32x128, .f32⟩
  | 62 => ⟨S8x16x128x32x128, .f32⟩
  | 63 => ⟨S8x2048x512, .f32⟩
  | 64 => ⟨S8x2048x4x128, .f32⟩
  | 65 => ⟨S8x2048x4x8x128, .f32⟩
  | 66 => ⟨S8x2048x32x128, .f32⟩
  | 67 => ⟨S8x16x128x32x128, .f32⟩
  | 68 => ⟨S8x2048x32, .f32⟩
  | 69 => ⟨S1x1x32, .f32⟩
  | 70 => ⟨S8x2048x32, .f32⟩
  | 71 => ⟨S8x2048x32, .f32⟩
  | 72 => ⟨S_, .f32⟩
  | 73 => ⟨S8x2048x32, .f32⟩
  | 74 => ⟨S8x2048x32, .f32⟩
  | 75 => ⟨S8x2048x32, .f32⟩
  | 76 => ⟨S8x2048x32, .f32⟩
  | 77 => ⟨S8x2048x32, .i1⟩
  | 78 => ⟨S8x2048x32, .f32⟩
  | 79 => ⟨S8x2048x32, .f32⟩
  | 80 => ⟨S8x2048x32, .f32⟩
  | 81 => ⟨S8x2048x32, .f32⟩
  | 82 => ⟨S8x2048x32, .f32⟩
  | 83 => ⟨S8x2048x32, .f32⟩
  | 84 => ⟨S8x2048x32, .f32⟩
  | 85 => ⟨S8x2048x32, .f32⟩
  | 86 => ⟨S32, .f32⟩
  | 87 => ⟨S32, .f32⟩
  | 88 => ⟨S8x2048x32x1, .f32⟩
  | 89 => ⟨S8x2048x32x64, .f32⟩
  | 90 => ⟨S8x2048x32x64, .f32⟩
  | 91 => ⟨S8x16x128x32x64, .f32⟩
  | 92 => ⟨S1x1x32, .f32⟩
  | 93 => ⟨S8x2048x32, .f32⟩
  | 94 => ⟨S8x2048x32, .f32⟩
  | 95 => ⟨S8x16x128x32, .f32⟩
  | 96 => ⟨S8x16x32x128, .f32⟩
  | 97 => ⟨S_, .f32⟩
  | 98 => ⟨S_, .f32⟩
  | 99 => ⟨S8x16x32x128, .f32⟩
  | 100 => ⟨S_, .i1⟩
  | 101 => ⟨S128x128, .i1⟩
  | 102 => ⟨S128x128, .i32⟩
  | 103 => ⟨S_, .i32⟩
  | 104 => ⟨S128x128, .i32⟩
  | 105 => ⟨S128x128, .i32⟩
  | 106 => ⟨S128x128, .i32⟩
  | 107 => ⟨S128x128, .i1⟩
  | 108 => ⟨S_, .i1⟩
  | 109 => ⟨S128x128, .i1⟩
  | 110 => ⟨S128x128, .i1⟩
  | 111 => ⟨S8x16x32x128x1, .f32⟩
  | 112 => ⟨S8x16x32x1x128, .f32⟩
  | 113 => ⟨S8x16x32x128x128, .f32⟩
  | 114 => ⟨S8x16x32x128x128, .f32⟩
  | 115 => ⟨S8x16x32x128x128, .f32⟩
  | 116 => ⟨S_, .f32⟩
  | 117 => ⟨S_, .f32⟩
  | 118 => ⟨S8x16x32x128x128, .i1⟩
  | 119 => ⟨S8x16x32x128x128, .f32⟩
  | 120 => ⟨S8x16x32x128x128, .f32⟩
  | 121 => ⟨S8x16x32x128x128, .f32⟩
  | 122 => ⟨S8x16x32x128x128, .f32⟩
  | 123 => ⟨S8x16x32x128x128, .f32⟩
  | 124 => ⟨S8x16x32x64x128, .f32⟩
  | 125 => ⟨S8x16x128x32x64, .f32⟩
  | 126 => ⟨S8x16x32x1, .f32⟩
  | 127 => ⟨S8x16x32x128, .f32⟩
  | _ => ⟨S8x2048x6144, .bf16⟩

abbrev hbmTy0_1 (i : Nat) : BufTy := match i % 128 with
  | 0 => ⟨S8x16x32x128, .f32⟩
  | 1 => ⟨S8x16x32x128, .f32⟩
  | 2 => ⟨S8x16x128x32, .f32⟩
  | 3 => ⟨S8x16x128x32x1, .f32⟩
  | 4 => ⟨S8x16x128x32x64, .f32⟩
  | 5 => ⟨S8x16x128x32x64, .f32⟩
  | 6 => ⟨S8x16x32x64x128, .f32⟩
  | 7 => ⟨S8x16x32x1, .f32⟩
  | 8 => ⟨S8x16x32, .f32⟩
  | 9 => ⟨S8x16x32, .f32⟩
  | 10 => ⟨S_, .f32⟩
  | 11 => ⟨S8x32x64x128, .f32⟩
  | 12 => ⟨S8x1x32, .f32⟩
  | 13 => ⟨S8x32, .f32⟩
  | 14 => ⟨S8x32x1x1, .f32⟩
  | 15 => ⟨S8x32x64x128, .f32⟩
  | 16 => ⟨S8x32x64x128, .f32⟩
  | 17 => ⟨S8x1x32x64x128, .f32⟩
  | 18 => ⟨S8x32x64x128, .f32⟩
  | 19 => ⟨S8x32x64x128, .f32⟩
  | 20 => ⟨S8x1x32, .f32⟩
  | 21 => ⟨S8x32, .f32⟩
  | 22 => ⟨S8x32x1x1, .f32⟩
  | 23 => ⟨S8x32x64x128, .f32⟩
  | 24 => ⟨S8x32x64x128, .f32⟩
  | 25 => ⟨S8x1x32x64x128, .f32⟩
  | 26 => ⟨S8x32x64x128, .f32⟩
  | 27 => ⟨S8x32x64x128, .f32⟩
  | 28 => ⟨S8x1x32, .f32⟩
  | 29 => ⟨S8x32, .f32⟩
  | 30 => ⟨S8x32x1x1, .f32⟩
  | 31 => ⟨S8x32x64x128, .f32⟩
  | 32 => ⟨S8x32x64x128, .f32⟩
  | 33 => ⟨S8x1x32x64x128, .f32⟩
  | 34 => ⟨S8x32x64x128, .f32⟩
  | 35 => ⟨S8x32x64x128, .f32⟩
  | 36 => ⟨S8x1x32, .f32⟩
  | 37 => ⟨S8x32, .f32⟩
  | 38 => ⟨S8x32x1x1, .f32⟩
  | 39 => ⟨S8x32x64x128, .f32⟩
  | 40 => ⟨S8x32x64x128, .f32⟩
  | 41 => ⟨S8x1x32x64x128, .f32⟩
  | 42 => ⟨S8x32x64x128, .f32⟩
  | 43 => ⟨S8x32x64x128, .f32⟩
  | 44 => ⟨S8x1x32, .f32⟩
  | 45 => ⟨S8x32, .f32⟩
  | 46 => ⟨S8x32x1x1, .f32⟩
  | 47 => ⟨S8x32x64x128, .f32⟩
  | 48 => ⟨S8x32x64x128, .f32⟩
  | 49 => ⟨S8x1x32x64x128, .f32⟩
  | 50 => ⟨S8x32x64x128, .f32⟩
  | 51 => ⟨S8x32x64x128, .f32⟩
  | 52 => ⟨S8x1x32, .f32⟩
  | 53 => ⟨S8x32, .f32⟩
  | 54 => ⟨S8x32x1x1, .f32⟩
  | 55 => ⟨S8x32x64x128, .f32⟩
  | 56 => ⟨S8x32x64x128, .f32⟩
  | 57 => ⟨S8x1x32x64x128, .f32⟩
  | 58 => ⟨S8x32x64x128, .f32⟩
  | 59 => ⟨S8x32x64x128, .f32⟩
  | 60 => ⟨S8x1x32, .f32⟩
  | 61 => ⟨S8x32, .f32⟩
  | 62 => ⟨S8x32x1x1, .f32⟩
  | 63 => ⟨S8x32x64x128, .f32⟩
  | 64 => ⟨S8x32x64x128, .f32⟩
  | 65 => ⟨S8x1x32x64x128, .f32⟩
  | 66 => ⟨S8x32x64x128, .f32⟩
  | 67 => ⟨S8x32x64x128, .f32⟩
  | 68 => ⟨S8x1x32, .f32⟩
  | 69 => ⟨S8x32, .f32⟩
  | 70 => ⟨S8x32x1x1, .f32⟩
  | 71 => ⟨S8x32x64x128, .f32⟩
  | 72 => ⟨S8x32x64x128, .f32⟩
  | 73 => ⟨S8x1x32x64x128, .f32⟩
  | 74 => ⟨S8x32x64x128, .f32⟩
  | 75 => ⟨S8x32x64x128, .f32⟩
  | 76 => ⟨S8x1x32, .f32⟩
  | 77 => ⟨S8x32, .f32⟩
  | 78 => ⟨S8x32x1x1, .f32⟩
  | 79 => ⟨S8x32x64x128, .f32⟩
  | 80 => ⟨S8x32x64x128, .f32⟩
  | 81 => ⟨S8x1x32x64x128, .f32⟩
  | 82 => ⟨S8x32x64x128, .f32⟩
  | 83 => ⟨S8x32x64x128, .f32⟩
  | 84 => ⟨S8x1x32, .f32⟩
  | 85 => ⟨S8x32, .f32⟩
  | 86 => ⟨S8x32x1x1, .f32⟩
  | 87 => ⟨S8x32x64x128, .f32⟩
  | 88 => ⟨S8x32x64x128, .f32⟩
  | 89 => ⟨S8x1x32x64x128, .f32⟩
  | 90 => ⟨S8x32x64x128, .f32⟩
  | 91 => ⟨S8x32x64x128, .f32⟩
  | 92 => ⟨S8x1x32, .f32⟩
  | 93 => ⟨S8x32, .f32⟩
  | 94 => ⟨S8x32x1x1, .f32⟩
  | 95 => ⟨S8x32x64x128, .f32⟩
  | 96 => ⟨S8x32x64x128, .f32⟩
  | 97 => ⟨S8x1x32x64x128, .f32⟩
  | 98 => ⟨S8x32x64x128, .f32⟩
  | 99 => ⟨S8x32x64x128, .f32⟩
  | 100 => ⟨S8x1x32, .f32⟩
  | 101 => ⟨S8x32, .f32⟩
  | 102 => ⟨S8x32x1x1, .f32⟩
  | 103 => ⟨S8x32x64x128, .f32⟩
  | 104 => ⟨S8x32x64x128, .f32⟩
  | 105 => ⟨S8x1x32x64x128, .f32⟩
  | 106 => ⟨S8x32x64x128, .f32⟩
  | 107 => ⟨S8x32x64x128, .f32⟩
  | 108 => ⟨S8x1x32, .f32⟩
  | 109 => ⟨S8x32, .f32⟩
  | 110 => ⟨S8x32x1x1, .f32⟩
  | 111 => ⟨S8x32x64x128, .f32⟩
  | 112 => ⟨S8x32x64x128, .f32⟩
  | 113 => ⟨S8x1x32x64x128, .f32⟩
  | 114 => ⟨S8x32x64x128, .f32⟩
  | 115 => ⟨S8x32x64x128, .f32⟩
  | 116 => ⟨S8x1x32, .f32⟩
  | 117 => ⟨S8x32, .f32⟩
  | 118 => ⟨S8x32x1x1, .f32⟩
  | 119 => ⟨S8x32x64x128, .f32⟩
  | 120 => ⟨S8x32x64x128, .f32⟩
  | 121 => ⟨S8x1x32x64x128, .f32⟩
  | 122 => ⟨S8x32x64x128, .f32⟩
  | 123 => ⟨S8x32x64x128, .f32⟩
  | 124 => ⟨S8x1x32, .f32⟩
  | 125 => ⟨S8x32, .f32⟩
  | 126 => ⟨S8x32x1x1, .f32⟩
  | 127 => ⟨S8x32x64x128, .f32⟩
  | _ => ⟨S8x2048x6144, .bf16⟩

abbrev hbmTy0_2 (i : Nat) : BufTy := match i % 128 with
  | 0 => ⟨S8x32x64x128, .f32⟩
  | 1 => ⟨S8x1x32x64x128, .f32⟩
  | 2 => ⟨S8x32x64x128, .f32⟩
  | 3 => ⟨S8x32x64x128, .f32⟩
  | 4 => ⟨S8x1x32, .f32⟩
  | 5 => ⟨S8x32, .f32⟩
  | 6 => ⟨S8x32x1x1, .f32⟩
  | 7 => ⟨S8x32x64x128, .f32⟩
  | 8 => ⟨S8x32x64x128, .f32⟩
  | 9 => ⟨S8x1x32x64x128, .f32⟩
  | 10 => ⟨S8x32x64x128, .f32⟩
  | 11 => ⟨S8x32x64x128, .f32⟩
  | 12 => ⟨S8x1x32x64x128, .f32⟩
  | 13 => ⟨S8x1x32x64x128, .f32⟩
  | 14 => ⟨S8x1x32x64x128, .f32⟩
  | 15 => ⟨S8x1x32x64x128, .f32⟩
  | 16 => ⟨S8x1x32x64x128, .f32⟩
  | 17 => ⟨S8x1x32x64x128, .f32⟩
  | 18 => ⟨S8x1x32x64x128, .f32⟩
  | 19 => ⟨S8x1x32x64x128, .f32⟩
  | 20 => ⟨S8x1x32x64x128, .f32⟩
  | 21 => ⟨S8x1x32x64x128, .f32⟩
  | 22 => ⟨S8x1x32x64x128, .f32⟩
  | 23 => ⟨S8x1x32x64x128, .f32⟩
  | 24 => ⟨S8x1x32x64x128, .f32⟩
  | 25 => ⟨S8x1x32x64x128, .f32⟩
  | 26 => ⟨S8x1x32x64x128, .f32⟩
  | 27 => ⟨S8x1x32x64x128, .f32⟩
  | 28 => ⟨S8x16x32x64x128, .f32⟩
  | 29 => ⟨S8x16x32x64x128, .f32⟩
  | 30 => ⟨S8x16x128x32x64, .f32⟩
  | 31 => ⟨S8x16x32x128, .f32⟩
  | 32 => ⟨S8x16x128x32, .f32⟩
  | 33 => ⟨S8x16x128x32x1, .f32⟩
  | 34 => ⟨S8x16x128x32x64, .f32⟩
  | 35 => ⟨S8x16x128x32x64, .f32⟩
  | 36 => ⟨S8x16x128x32x64, .f32⟩
  | 37 => ⟨S8x2048x32x64, .f32⟩
  | 38 => ⟨S32x1, .f32⟩
  | 39 => ⟨S1x1x32x1, .f32⟩
  | 40 => ⟨S8x2048x32x64, .f32⟩
  | 41 => ⟨S8x2048x32x64, .f32⟩
  | 42 => ⟨S8x2048x32x64, .f32⟩
  | 43 => ⟨S8x2048x2048, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .f32⟩
  | 52 => ⟨S8x2048x2048, .f32⟩
  | 53 => ⟨S8x2048x2048, .f32⟩
  | 54 => ⟨S8x2048x4x512, .f32⟩
  | 55 => ⟨S8x2048x4x512, .f32⟩
  | 56 => ⟨S_, .f32⟩
  | 57 => ⟨S8x2048x4, .f32⟩
  | 58 => ⟨S8x2048x4x1, .f32⟩
  | 59 => ⟨S_, .f32⟩
  | 60 => ⟨S8x2048x4x1, .f32⟩
  | 61 => ⟨S8x2048x4x1, .f32⟩
  | 62 => ⟨S_, .f32⟩
  | 63 => ⟨S8x2048x4x1, .f32⟩
  | 64 => ⟨S8x2048x4x1, .f32⟩
  | 65 => ⟨S8x2048x4x1, .f32⟩
  | 66 => ⟨S8x2048x4x512, .f32⟩
  | 67 => ⟨S8x2048x4x512, .f32⟩
  | 68 => ⟨S8x2048x2048, .f32⟩
  | 69 => ⟨S1x1x2048, .f32⟩
  | 70 => ⟨S8x2048x2048, .f32⟩
  | 71 => ⟨S8x2048x2048, .f32⟩
  | 72 => ⟨S8x2048x2048, .bf16⟩
  | 73 => ⟨S65536x1024, .f32⟩
  | 74 => ⟨S65536x1024, .bf16⟩
  | 75 => ⟨S65536x1024, .f32⟩
  | 76 => ⟨S65536x1024, .bf16⟩
  | _ => ⟨S8x2048x6144, .bf16⟩

abbrev hbmTy (i : Nat) : BufTy := match i / 128 with
  | 0 => hbmTy0_0 i
  | 1 => hbmTy0_1 i
  | 2 => hbmTy0_2 i
  | _ => ⟨S8x2048x6144, .bf16⟩

abbrev bufTy : (tb : Table) → Fin (tcTables nBuf tb) → BufTy
  | .hbm, ⟨i, _⟩ => hbmTy i
  | _, _ => ⟨S8x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call3_call0_cst : Ref sig .tc := ⟨.hbm, 97, rfl⟩
abbrev main_call3_call0_v0 : Ref sig .tc := ⟨.hbm, 98, rfl⟩
abbrev main_v64 : Ref sig .tc := ⟨.hbm, 99, rfl⟩
abbrev main_c_0 : Ref sig .tc := ⟨.hbm, 100, rfl⟩
abbrev main_v65 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_0 : Ref sig .tc := ⟨.hbm, 108, rfl⟩
abbrev main_call4_v5 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_1 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_call6_v0 : Ref sig .tc := ⟨.hbm, 300, rfl⟩
abbrev main_call6_v1 : Ref sig .tc := ⟨.hbm, 301, rfl⟩
abbrev main_call6_cst : Ref sig .tc := ⟨.hbm, 302, rfl⟩
abbrev main_call6_v2 : Ref sig .tc := ⟨.hbm, 303, rfl⟩
abbrev main_call6_v3 : Ref sig .tc := ⟨.hbm, 304, rfl⟩
abbrev main_call6_cst_0 : Ref sig .tc := ⟨.hbm, 305, rfl⟩
abbrev main_call6_v4 : Ref sig .tc := ⟨.hbm, 306, rfl⟩
abbrev main_call6_v5 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_cst_2 : Ref sig .tc := ⟨.hbm, 312, rfl⟩
abbrev main_v255 : Ref sig .tc := ⟨.hbm, 313, rfl⟩
abbrev main_v256 : Ref sig .tc := ⟨.hbm, 314, rfl⟩
abbrev main_cst_3 : Ref sig .tc := ⟨.hbm, 315, rfl⟩
abbrev main_v257 : Ref sig .tc := ⟨.hbm, 316, rfl⟩
abbrev main_v258 : Ref sig .tc := ⟨.hbm, 317, rfl⟩
abbrev main_cst_4 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩

abbrev nD : Nat := 1
abbrev τ : Topo := Topo.v7x

variable {F : FTy → Type} [FloatOps F]
-- ==== Kernel2.lean ====
abbrev S16384x2048 : Shape := ⟨2, ![16384, 2048]⟩
abbrev S2048x8224 : Shape := ⟨2, ![2048, 8224]⟩
abbrev S3072x2048 : Shape := ⟨2, ![3072, 2048]⟩
abbrev S8224x2048 : Shape := ⟨2, ![8224, 2048]⟩
abbrev S1x3072x2048 : Shape := ⟨3, ![1, 3072, 2048]⟩
abbrev S16384x6144 : Shape := ⟨2, ![16384, 6144]⟩
abbrev S1024x2048 : Shape := ⟨2, ![1024, 2048]⟩
abbrev S32x2048 : Shape := ⟨2, ![32, 2048]⟩
abbrev S1024x1024 : Shape := ⟨2, ![1024, 1024]⟩
abbrev S256x2048 : Shape := ⟨2, ![256, 2048]⟩
abbrev S1024x256 : Shape := ⟨2, ![1024, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x8224, .f32⟩
  | .hbm, ⟨2, _⟩ => ⟨S3072x2048, .f32⟩
  | .hbm, ⟨3, _⟩ => ⟨S8224x2048, .f32⟩
  | .hbm, ⟨4, _⟩ => ⟨S8224x2048, .bf16⟩
  | .hbm, ⟨5, _⟩ => ⟨S1x3072x2048, .f32⟩
  | .hbm, ⟨6, _⟩ => ⟨S3072x2048, .f32⟩
  | .hbm, ⟨7, _⟩ => ⟨S16384x6144, .bf16⟩
  | .hbm, ⟨8, _⟩ => ⟨S3072x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S32x2048, .f32⟩
  | .local _ .vmem, ⟨5, _⟩ => ⟨S32x2048, .f32⟩
  | .local _ .vmem, ⟨6, _⟩ => ⟨S1024x1024, .bf16⟩
  | .local _ .vmem, ⟨7, _⟩ => ⟨S1024x1024, .bf16⟩
  | .local _ .vmem, ⟨8, _⟩ => ⟨S32x2048, .bf16⟩
  | .local _ .vmem, ⟨9, _⟩ => ⟨S32x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c5_i32 : BitVec 32 := 5#32
  let v1 : BitVec 32 := Scalar.addi c5_i32 arg1
  let c2_i32 : BitVec 32 := 2#32
  let v2 : BitVec 32 := Scalar.addi c2_i32 arg1
  let c3_i32_0 : BitVec 32 := 3#32
  let v3 : BitVec 32 := Scalar.subi v2 c3_i32_0
  let v4 : BitVec 32 := Scalar.select v0 v1 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x2048 : Shape := ⟨2, ![16384, 2048]⟩
abbrev S2048x8224 : Shape := ⟨2, ![2048, 8224]⟩
abbrev S3072x2048 : Shape := ⟨2, ![3072, 2048]⟩
abbrev S16384x8224 : Shape := ⟨2, ![16384, 8224]⟩
abbrev S16384x1024 : Shape := ⟨2, ![16384, 1024]⟩
abbrev S16384x3072 : Shape := ⟨2, ![16384, 3072]⟩
abbrev S16384x6144 : Shape := ⟨2, ![16384, 6144]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8224, .f32⟩
  | .hbm, ⟨2, _⟩ => ⟨S3072x2048, .f32⟩
  | .hbm, ⟨3, _⟩ => ⟨S16384x2048, .f32⟩
  | .hbm, ⟨4, _⟩ => ⟨S16384x8224, .f32⟩
  | .hbm, ⟨5, _⟩ => ⟨S16384x1024, .f32⟩
  | .hbm, ⟨6, _⟩ => ⟨S16384x2048, .f32⟩
  | .hbm, ⟨7, _⟩ => ⟨S16384x3072, .f32⟩
  | .hbm, ⟨8, _⟩ => ⟨S16384x6144, .f32⟩
  | .hbm, ⟨9, _⟩ => ⟨S16384x6144, .bf16⟩
  | .hbm, ⟨10, _⟩ => ⟨S3072x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S3072x2048 : Shape := ⟨2, ![3072, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x2048, .bf16⟩
  | .hbm, ⟨3, _⟩ => ⟨S3072x2048, .bf16⟩
  | .hbm, ⟨4, _⟩ => ⟨S1024x2048, .bf16⟩
  | .hbm, ⟨5, _⟩ => ⟨S2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1024x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S16384x1024 : Shape := ⟨2, ![16384, 1024]⟩
abbrev S3072x2048 : Shape := ⟨2, ![3072, 2048]⟩
abbrev S16384x3072 : Shape := ⟨2, ![16384, 3072]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x2048, .bf16⟩
  | .hbm, ⟨3, _⟩ => ⟨S3072x2048, .bf16⟩
  | .hbm, ⟨4, _⟩ => ⟨S16384x1024, .f32⟩
  | .hbm, ⟨5, _⟩ => ⟨S16384x2048, .f32⟩
  | .hbm, ⟨6, _⟩ => ⟨S16384x3072, .f32⟩
  | .hbm, ⟨7, _⟩ => ⟨S3072x2048, .f32⟩
  | .hbm, ⟨8, _⟩ => ⟨S16384x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x8224 : Shape := ⟨2, ![2048, 8224]⟩
abbrev S8224x2048 : Shape := ⟨2, ![8224, 2048]⟩
abbrev S32x2048 : Shape := ⟨2, ![32, 2048]⟩
abbrev S_ : Shape := ⟨0, ![]⟩
abbrev S128x2048 : Shape := ⟨2, ![128, 2048]⟩
abbrev S1x2048 : Shape := ⟨2, ![1, 2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S256x2048 : Shape := ⟨2, ![256, 2048]⟩
abbrev S1024x256 : Shape := ⟨2, ![1024, 256]⟩

abbrev nBuf : Space → Nat
  | .hbm => 45
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8224, .f32⟩
  | .hbm, ⟨3, _⟩ => ⟨S8224x2048, .f32⟩
  | .hbm, ⟨4, _⟩ => ⟨S8224x2048, .bf16⟩
  | .hbm, ⟨5, _⟩ => ⟨S32x2048, .bf16⟩
  | .hbm, ⟨6, _⟩ => ⟨S_, .i32⟩
  | .hbm, ⟨7, _⟩ => ⟨S_, .bf16⟩
  | .hbm, ⟨8, _⟩ => ⟨S128x2048, .bf16⟩
  | .hbm, ⟨9, _⟩ => ⟨S1x2048, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2048, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S_, .f32⟩
  | .hbm, ⟨33, _⟩ => ⟨S2048x96, .f32⟩
  | .hbm, ⟨34, _⟩ => ⟨S_, .f32⟩
  | .hbm, ⟨35, _⟩ => ⟨S2048x16, .f32⟩
  | .hbm, ⟨36, _⟩ => ⟨S_, .f32⟩
  | .hbm, ⟨37, _⟩ => ⟨S2048x96, .f32⟩
  | .hbm, ⟨38, _⟩ => ⟨S2048x128, .f32⟩
  | .hbm, ⟨39, _⟩ => ⟨S2048x16, .f32⟩
  | .hbm, ⟨40, _⟩ => ⟨S2048x128, .f32⟩
  | .hbm, ⟨41, _⟩ => ⟨S2048x128, .f32⟩
  | .hbm, ⟨42, _⟩ => ⟨S16384x2048, .bf16⟩
  | .hbm, ⟨43, _⟩ => ⟨S16384x128, .f32⟩
  | .hbm, ⟨44, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | .local _ .vmem, ⟨17, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S16384x2048 : Shape := ⟨2, ![16384, 2048]⟩
abbrev S2048 : Shape := ⟨1, ![2048]⟩
abbrev S2048x8224 : Shape := ⟨2, ![2048, 8224]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8224 : Shape := ⟨2, ![16384, 8224]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x16x128 : Shape := ⟨4, ![8, 2048, 16, 128]⟩
abbrev S8x2048x16x16 : Shape := ⟨4, ![8, 2048, 16, 16]⟩
abbrev S8x2048x16x96 : Shape := ⟨4, ![8, 2048, 16, 96]⟩
abbrev S16384x32 : Shape := ⟨2, ![16384, 32]⟩
abbrev S16384x128 : Shape := ⟨2, ![16384, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8224, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8224, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2048, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S1x2048x1x16, .f32⟩
  | .hbm, ⟨42, _⟩ => ⟨S2048x16, .f32⟩
  | .hbm, ⟨43, _⟩ => ⟨S1x2048x1x16, .f32⟩
  | .hbm, ⟨44, _⟩ => ⟨S16384x2048, .f32⟩
  | .hbm, ⟨45, _⟩ => ⟨S8x2048x16x128, .f32⟩
  | .hbm, ⟨46, _⟩ => ⟨S8x2048x16x16, .f32⟩
  | .hbm, ⟨47, _⟩ => ⟨S8x2048x16x16, .f32⟩
  | .hbm, ⟨48, _⟩ => ⟨S8x2048x16x96, .f32⟩
  | .hbm, ⟨49, _⟩ => ⟨S8x2048x16x16, .f32⟩
  | .hbm, ⟨50, _⟩ => ⟨S8x2048x16x16, .f32⟩
  | .hbm, ⟨51, _⟩ => ⟨S8x2048x16x16, .f32⟩
  | .hbm, ⟨52, _⟩ => ⟨S8x2048x16x16, .f32⟩
  | .hbm, ⟨53, _⟩ => ⟨S8x2048x16x16, .f32⟩
  | .hbm, ⟨54, _⟩ => ⟨S8x2048x16x16, .f32⟩
  | .hbm, ⟨55, _⟩ => ⟨S8x2048x16x16, .f32⟩
  | .hbm, ⟨56, _⟩ => ⟨S8x2048x16x16, .f32⟩
  | .hbm, ⟨57, _⟩ => ⟨S8x2048x16x16, .f32⟩
  | .hbm, ⟨58, _⟩ => ⟨S8x2048x16x16, .f32⟩
  | .hbm, ⟨59, _⟩ => ⟨S8x2048x16x128, .f32⟩
  | .hbm, ⟨60, _⟩ => ⟨S16384x32, .f32⟩
  | .hbm, ⟨61, _⟩ => ⟨S_, .i32⟩
  | .hbm, ⟨62, _⟩ => ⟨S_, .f32⟩
  | .hbm, ⟨63, _⟩ => ⟨S16384x128, .f32⟩
  | .hbm, ⟨64, _⟩ => ⟨S16384x2048, .f32⟩
  | .hbm, ⟨65, _⟩ => ⟨S16384x2048, .bf16⟩
  | .hbm, ⟨66, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c : Ref sig .tc := ⟨.hbm, 61, rfl⟩
abbrev main_call0_v0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Proof.SsdBody.lean ====
module

public import proofs.«01_k».proof.Proof.Gen.KernelIdeal.Skeleton
public import Idealize.ShloMosaic.Lib.Pipeline.Value
public import Idealize.ShloMosaic.Lib.Pointwise
public import Idealize.ShloMosaic.Lib.IdealHost

/-! The state-space scan's body as vector functions of what it loads.

`Lds` holds the vectors one grid point loads. The definitions below spell the body's stages over them, each group's and
each pair of heads' stage once, with the group and the pair as numbers. -/

@[expose] public section

set_option maxRecDepth 16384

noncomputable section

namespace SsdBody

open Cert.KernelIdeal Cert.KernelIdeal.Gen Idealize.ShloMosaic Idealize.ShloMosaic.TcCoe

/-- The vectors one grid point loads: the block of the convolution's input, the four taps, the bias, the three rows the
chunk before left, the raw time steps with their bias and the decay logarithms, the four groups' states, the skip
weights, the gate's block and the norm's weights. -/
structure Lds where
  x : Vec Ideal S1x128x3072 .bf16
  w0 : Vec Ideal S1x3072 .f32
  w1 : Vec Ideal S1x3072 .f32
  w2 : Vec Ideal S1x3072 .f32
  w3 : Vec Ideal S1x3072 .f32
  cb : Vec Ideal S1x3072 .f32
  r0 : Vec Ideal S1x3072 .f32
  r1 : Vec Ideal S1x3072 .f32
  r2 : Vec Ideal S1x3072 .f32
  d : Vec Ideal S1x128x128 .f32
  db : Vec Ideal S1x128 .f32
  al : Vec Ideal S1x128 .f32
  st : Fin 4 → Vec Ideal S1x128x512 .f32
  df : Vec Ideal S1x2048 .f32
  z : Vec Ideal S1x128x2048 .bf16
  nw : Fin 4 → Vec Ideal S1x512 .f32

variable (K : Lds)

/-! ## Boxes -/

theorem sl_col (h : ℕ) (hh : h < 128) : S128x128.Slices ![0, h] S128x1 :=
  ⟨rfl, fun a => by fin_cases a <;> simp <;> omega⟩
theorem sl_row (h : ℕ) (hh : h < 128) : S128x128.Slices ![h, 0] S1x128 :=
  ⟨rfl, fun a => by fin_cases a <;> simp <;> omega⟩
theorem sl_one (h : ℕ) (hh : h < 128) : S1x128.Slices ![0, h] S1x1 :=
  ⟨rfl, fun a => by fin_cases a <;> simp <;> omega⟩
theorem sl_x (o : ℕ) (ho : o ≤ 1920) : S128x2048.Slices ![0, o] S128x128 :=
  ⟨rfl, fun a => by fin_cases a <;> simp <;> omega⟩
theorem sl_g (o : ℕ) (ho : o ≤ 384) : S128x512.Slices ![0, o] S128x128 :=
  ⟨rfl, fun a => by fin_cases a <;> simp <;> omega⟩
theorem sl_y (o : ℕ) (ho : o ≤ 1536) : S128x2048.Slices ![0, o] S128x512 :=
  ⟨rfl, fun a => by fin_cases a <;> simp <;> omega⟩
theorem inb_y (o : ℕ) (ho : o ≤ 1920) : ∀ a, (![0, o] : Fin 2 → ℕ) a + S128x128.size a ≤ S128x2048.size a :=
  fun a => by fin_cases a <;> simp <;> omega
theorem inb_w (o : ℕ) (ho : o ≤ 384) : ∀ a, (![0, o] : Fin 2 → ℕ) a + S128x128.size a ≤ S128x512.size a :=
  fun a => by fin_cases a <;> simp <;> omega
theorem inb_s (g : ℕ) (hg : g ≤ 3) : ∀ a, (![g, 0, 0] : Fin 3 → ℕ) a + S1x128x512.size a ≤ S4x128x512.size a :=
  fun a => by fin_cases a <;> simp <;> omega
theorem inb_o (o : ℕ) (ho : o ≤ 1536) : ∀ a, (![0, 0, o] : Fin 3 → ℕ) a + S1x128x512.size a ≤ S1x128x2048.size a :=
  fun a => by fin_cases a <;> simp <;> omega

/-! ## The stages -/

/-- The convolution's partial sums: tap 0, taps 0 and 1, taps 0 to 2; what the next chunk is left of each. -/
def c0 : FVec Ideal S128x3072 .f32 := k0_pay8 K.x K.w0
def c1 : FVec Ideal S128x3072 .f32 := k0_pay12 (k0_pay6 K.x) (k0_pay9 K.x K.w0 K.r0) (k0_pay11 K.w1)
def c2 : FVec Ideal S128x3072 .f32 :=
  k0_pay14 (k0_pay6 K.x) k0_pay7 (k0_pay9 K.x K.w0 K.r0) (k0_pay11 K.w1) K.r1 K.w2
/-- The activated convolution. -/
def act : FVec Ideal S128x3072 .f32 :=
  k0_pay16 (k0_pay6 K.x) k0_pay7 (k0_pay9 K.x K.w0 K.r0) (k0_pay11 K.w1) K.r1 K.w2 K.r2 K.w3 K.cb
def xs : FVec Ideal S128x2048 .f32 :=
  k0_pay17 (k0_pay6 K.x) k0_pay7 (k0_pay9 K.x K.w0 K.r0) (k0_pay11 K.w1) K.r1 K.w2 K.r2 K.w3 K.cb
def bm : FVec Ideal S128x512 .bf16 :=
  k0_pay18 (k0_pay6 K.x) k0_pay7 (k0_pay9 K.x K.w0 K.r0) (k0_pay11 K.w1) K.r1 K.w2 K.r2 K.w3 K.cb
def cm : FVec Ideal S128x512 .bf16 :=
  k0_pay19 (k0_pay6 K.x) k0_pay7 (k0_pay9 K.x K.w0 K.r0) (k0_pay11 K.w1) K.r1 K.w2 K.r2 K.w3 K.cb

theorem xs_eq : xs K = extractStridedSlice S128x2048 ![0, 0] (act K) slices_S128x3072_o0_0_S128x2048 := by exact id rfl
theorem bm_eq : bm K =
    truncf .bf16 (extractStridedSlice S128x512 ![0, 2048] (act K) slices_S128x3072_o0_2048_S128x512) bitsLt_bf16_f32 := by
  exact id rfl
theorem cm_eq : cm K =
    truncf .bf16 (extractStridedSlice S128x512 ![0, 2560] (act K) slices_S128x3072_o0_2560_S128x512) bitsLt_bf16_f32 := by
  exact id rfl

/-- Time steps, running decays (in base-two units), their exponentials. -/
def dt : FVec Ideal S128x128 .f32 := k0_pay20 K.d K.db
def acs : FVec Ideal S128x128 .f32 := k0_pay22 K.d K.db K.al
def acsT : FVec Ideal S128x128 .f32 := k0_pay23 K.d K.db K.al
def eacs : FVec Ideal S128x128 .f32 := k0_pay25 K.d K.db K.al
def dte : FVec Ideal S128x128 .f32 := k0_pay26 K.d K.db K.al
def cdec : FVec Ideal S1x128 .f32 := k0_pay27 K.d K.db K.al

/-- Column `h` of `v` on the lower half of the lanes, column `h + 1` on the upper. -/
def pairCols (v : FVec Ideal S128x128 .f32) (h : ℕ) (hh : h + 1 < 128) : FVec Ideal S128x128 .f32 :=
  select k0_pay28
    (broadcastTo S128x128 (shapeCast S128x1 (extractStridedSlice S128x1 ![0, h] v (sl_col h (by omega)))
      shapeCasts_S128x1_S128x1) broadcasts_S128x1_S128x128)
    (broadcastTo S128x128 (shapeCast S128x1 (extractStridedSlice S128x1 ![0, h + 1] v (sl_col (h + 1) hh))
      shapeCasts_S128x1_S128x1) broadcasts_S128x1_S128x128)

/-- The same of a row vector. -/
def pairRow (v : FVec Ideal S1x128 .f32) (h : ℕ) (hh : h + 1 < 128) : FVec Ideal S1x128 .f32 :=
  select k0_pay29
    (broadcastTo S1x128 (shapeCast S1x1 (extractStridedSlice S1x1 ![0, h] v (sl_one h (by omega)))
      shapeCasts_S1x1_S1x1) broadcasts_S1x1_S1x128)
    (broadcastTo S1x128 (shapeCast S1x1 (extractStridedSlice S1x1 ![0, h + 1] v (sl_one (h + 1) hh))
      shapeCasts_S1x1_S1x1) broadcasts_S1x1_S1x128)

/-- Group `g`'s columns of a 512-wide vector. -/
def grp (v : FVec Ideal S128x512 .bf16) (o : ℕ) (ho : o ≤ 384) : FVec Ideal S128x128 .bf16 :=
  extractStridedSlice S128x128 ![0, o] v (sl_g o ho)

def cbg (o : ℕ) (ho : o ≤ 384) : FVec Ideal S128x128 .f32 :=
  matmul dot_S128x128_S128x128_S128x128_1_1_0_0_n_n none (grp (cm K) o ho) (grp (bm K) o ho)
    (constant S128x128 .f32 0x00000000#32)

def bgT (o : ℕ) (ho : o ≤ 384) : FVec Ideal S128x128 .bf16 :=
  truncf .bf16 (transpose S128x128 [1, 0] (extf .f32 (grp (bm K) o ho) bitsLt_bf16_f32)
    transposes_S128x128_p1_0_S128x128) bitsLt_bf16_f32

def stg (g : Fin 4) : FVec Ideal S128x512 .f32 := shapeCast S128x512 (K.st g) shapeCasts_S1x128x512_S128x512

def yoff (g : Fin 4) (o : ℕ) (ho : o ≤ 384) : FVec Ideal S128x512 .f32 :=
  matmul dot_S128x128_S128x512_S128x512_1_0_0_1_n_n none (grp (cm K) o ho) (truncf .bf16 (stg K g) bitsLt_bf16_f32)
    (constant S128x512 .f32 0x00000000#32)

def xdt (h : ℕ) (hh : h + 1 < 128) (c : ℕ) (hc : c ≤ 1920) : FVec Ideal S128x128 .f32 :=
  mulf (extractStridedSlice S128x128 ![0, c] (xs K) (sl_x c hc)) (pairCols (dt K) h hh)

def yHead (cb : FVec Ideal S128x128 .f32) (xd : FVec Ideal S128x128 .bf16) (h : ℕ) (hh : h < 128) :
    FVec Ideal S128x128 .f32 :=
  matmul dot_S128x128_S128x128_S128x128_1_0_0_1_n_n none
    (truncf .bf16 (mulf cb (exp2 (select k0_pay21
      (subf (broadcastTo S128x128 (extractStridedSlice S128x1 ![0, h] (acs K) (sl_col h hh)) broadcasts_S128x1_S128x128)
        (broadcastTo S128x128 (extractStridedSlice S1x128 ![h, 0] (acsT K) (sl_row h hh)) broadcasts_S1x128_S128x128))
      (broadcast S128x128 (Scalar.ofBits .f32 0xFF800000#32))))) bitsLt_bf16_f32)
    xd (constant S128x128 .f32 0x00000000#32)

/-- One pair of heads' columns of the scan's output, before the skip: group `g` (its B and C columns at `o`, its output
columns' offset in the group `q`), heads `h` and `h + 1`, output columns from `c`. -/
def yPair (g : Fin 4) (o : ℕ) (ho : o ≤ 384) (q : ℕ) (hq : q ≤ 384) (h : ℕ) (hh : h + 1 < 128) (c : ℕ) (hc : c ≤ 1920) :
    FVec Ideal S128x128 .f32 :=
  shapeCast S128x128
    (addf (select k0_pay28
        (yHead K (cbg K o ho) (truncf .bf16 (xdt K h hh c hc) bitsLt_bf16_f32) h (by omega))
        (yHead K (cbg K o ho) (truncf .bf16 (xdt K h hh c hc) bitsLt_bf16_f32) (h + 1) hh))
      (mulf (extractStridedSlice S128x128 ![0, q] (yoff K g o ho) (sl_g q hq)) (pairCols (eacs K) h hh)))
    shapeCasts_S128x128_S128x128

/-- The pair's columns of the weighted inputs of the state's update. -/
def wPair (h : ℕ) (hh : h + 1 < 128) (c : ℕ) (hc : c ≤ 1920) : FVec Ideal S128x128 .bf16 :=
  shapeCast S128x128 (truncf .bf16 (mulf (xdt K h hh c hc) (pairCols (dte K) h hh)) bitsLt_bf16_f32)
    shapeCasts_S128x128_S128x128

/-- A pair's stores into the two scratch buffers. -/
def yPiece (g : Fin 4) (o : ℕ) (ho : o ≤ 384) (q : ℕ) (hq : q ≤ 384) (h : ℕ) (hh : h + 1 < 128) (c : ℕ) (hc : c ≤ 1920) :
    View.Piece (Elt Ideal) S128x2048 .f32 :=
  ⟨Rect.unit ![0, c] S128x128.size (inb_y c hc), yPair K g o ho q hq h hh c hc⟩
def wPiece (q : ℕ) (hq : q ≤ 384) (h : ℕ) (hh : h + 1 < 128) (c : ℕ) (hc : c ≤ 1920) :
    View.Piece (Elt Ideal) S128x512 .bf16 :=
  ⟨Rect.unit ![0, q] S128x128.size (inb_w q hq), wPair K h hh c hc⟩

def yL : List (View.Piece (Elt Ideal) S128x2048 .f32) :=
  [yPiece K 3 384 (by omega) 384 (by omega) 30 (by omega) 1920 (by omega),
    yPiece K 3 384 (by omega) 256 (by omega) 28 (by omega) 1792 (by omega),
    yPiece K 3 384 (by omega) 128 (by omega) 26 (by omega) 1664 (by omega),
    yPiece K 3 384 (by omega) 0 (by omega) 24 (by omega) 1536 (by omega),
    yPiece K 2 256 (by omega) 384 (by omega) 22 (by omega) 1408 (by omega),
    yPiece K 2 256 (by omega) 256 (by omega) 20 (by omega) 1280 (by omega),
    yPiece K 2 256 (by omega) 128 (by omega) 18 (by omega) 1152 (by omega),
    yPiece K 2 256 (by omega) 0 (by omega) 16 (by omega) 1024 (by omega),
    yPiece K 1 128 (by omega) 384 (by omega) 14 (by omega) 896 (by omega),
    yPiece K 1 128 (by omega) 256 (by omega) 12 (by omega) 768 (by omega),
    yPiece K 1 128 (by omega) 128 (by omega) 10 (by omega) 640 (by omega),
    yPiece K 1 128 (by omega) 0 (by omega) 8 (by omega) 512 (by omega),
    yPiece K 0 0 (by omega) 384 (by omega) 6 (by omega) 384 (by omega),
    yPiece K 0 0 (by omega) 256 (by omega) 4 (by omega) 256 (by omega),
    yPiece K 0 0 (by omega) 128 (by omega) 2 (by omega) 128 (by omega),
    yPiece K 0 0 (by omega) 0 (by omega) 0 (by omega) 0 (by omega)]
def wL4 : List (View.Piece (Elt Ideal) S128x512 .bf16) :=
  wPiece K 384 (by omega) 6 (by omega) 384 (by omega) ::
    wPiece K 256 (by omega) 4 (by omega) 256 (by omega) ::
    wPiece K 128 (by omega) 2 (by omega) 128 (by omega) ::
    wPiece K 0 (by omega) 0 (by omega) 0 (by omega) :: []
def wL8 : List (View.Piece (Elt Ideal) S128x512 .bf16) :=
  wPiece K 384 (by omega) 14 (by omega) 896 (by omega) ::
    wPiece K 256 (by omega) 12 (by omega) 768 (by omega) ::
    wPiece K 128 (by omega) 10 (by omega) 640 (by omega) ::
    wPiece K 0 (by omega) 8 (by omega) 512 (by omega) :: wL4 K
def wL12 : List (View.Piece (Elt Ideal) S128x512 .bf16) :=
  wPiece K 384 (by omega) 22 (by omega) 1408 (by omega) ::
    wPiece K 256 (by omega) 20 (by omega) 1280 (by omega) ::
    wPiece K 128 (by omega) 18 (by omega) 1152 (by omega) ::
    wPiece K 0 (by omega) 16 (by omega) 1024 (by omega) :: wL8 K
def wL16 : List (View.Piece (Elt Ideal) S128x512 .bf16) :=
  wPiece K 384 (by omega) 30 (by omega) 1920 (by omega) ::
    wPiece K 256 (by omega) 28 (by omega) 1792 (by omega) ::
    wPiece K 128 (by omega) 26 (by omega) 1664 (by omega) ::
    wPiece K 0 (by omega) 24 (by omega) 1536 (by omega) :: wL12 K

/-- Group `g`'s state after the chunk, `w` the group's weighted inputs. -/
def stNew (g : Fin 4) (o : ℕ) (ho : o ≤ 384) (h : ℕ) (hh : h + 7 < 128) (w : FVec Ideal S128x512 .bf16) :
    FVec Ideal S1x128x512 .f32 :=
  shapeCast S1x128x512
    (addf (mulf (stg K g) (broadcastTo S128x512
        (concatenate S1x512 1 [⟨S1x128, pairRow (cdec K) h (by omega)⟩, ⟨S1x128, pairRow (cdec K) (h + 2) (by omega)⟩,
          ⟨S1x128, pairRow (cdec K) (h + 4) (by omega)⟩, ⟨S1x128, pairRow (cdec K) (h + 6) hh⟩]
          concatenates_S1x128_S1x128_S1x128_S1x128_S1x512_d1) broadcasts_S1x512_S128x512))
      (matmul dot_S128x128_S128x512_S128x512_1_0_0_1_n_n none (bgT K o ho) w (constant S128x512 .f32 0x00000000#32)))
    shapeCasts_S128x512_S1x128x512

/-- The gated output before the norm, `y` the scan's output. -/
def gated (y : FVec Ideal S128x2048 .f32) : FVec Ideal S128x2048 .f32 := k0_pay163 (xs K) y K.df K.z

/-- Group `g`'s columns of the result. -/
def outG (y : FVec Ideal S128x2048 .f32) (g : Fin 4) (o : ℕ) (ho : o ≤ 1536) : FVec Ideal S1x128x512 .bf16 :=
  shapeCast S1x128x512 (truncf .bf16 (mulf
    (mulf (extractStridedSlice S128x512 ![0, o] (gated K y) (sl_y o ho))
      (broadcastTo S128x512 (rsqrt (addf (divf (shapeCast S128x1
        (multiReduction .add [1] S128 (mulf (extractStridedSlice S128x512 ![0, o] (gated K y) (sl_y o ho))
          (extractStridedSlice S128x512 ![0, o] (gated K y) (sl_y o ho))) 0x00000000#32 reduces_S128x512_S128 (.inl rfl) rfl)
          shapeCasts_S128_S128x1) (broadcast S128x1 (Scalar.ofBits .f32 0x44000000#32)))
        (broadcast S128x1 (Scalar.ofBits .f32 0x358637BD#32)))) broadcasts_S128x1_S128x512))
    (broadcastTo S128x512 (shapeCast S1x512 (K.nw g) shapeCasts_S1x512_S1x512) broadcasts_S1x512_S128x512))
    bitsLt_bf16_f32) shapeCasts_S128x512_S1x128x512

end SsdBody

end
-- ==== Proof.SsdSpec.lean ====
module

public import Idealize.ShloMosaic.Lib.Pointwise
public import Idealize.ShloMosaic.PureOps.Ideal.Laws
public import Mathlib.Analysis.SpecialFunctions.Pow.Real

/-! The state-space scan as scalar mathematics: what one chunk computes of its activations and time steps, the state's
recursion over the chunks, and the extended-real facts that join the kernel's base-two exponentials to `exp`. -/

@[expose] public section

noncomputable section

namespace SsdSpec

open Idealize.ShloMosaic

/-! ## Extended reals -/

/-- The base-two scale `1 / log 2`. -/
def lg : EReal := (((Real.log 2)⁻¹ : ℝ) : EReal)

theorem lg_pos : (0 : ℝ) < (Real.log 2)⁻¹ := inv_pos.mpr (Real.log_pos (by norm_num))

theorem exp2_lg (x : EReal) : Ideal.exp2 (x * lg) = Ideal.exp x := by
  induction x with
  | bot => rw [lg, EReal.bot_mul_coe_of_pos lg_pos]; rfl
  | top => rw [lg, EReal.top_mul_coe_of_pos lg_pos]; rfl
  | coe r =>
    rw [lg, ← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have : Real.log 2 ≠ 0 := (Real.log_pos (by norm_num)).ne'
    field_simp

theorem sub_lg (x y : EReal) : x * lg - y * lg = (x - y) * lg := by
  rw [sub_eq_add_neg, sub_eq_add_neg, ← EReal.neg_mul, mul_comm x, mul_comm (-y), mul_comm (x + -y),
    EReal.left_distrib_of_nonneg_of_ne_top (by rw [lg]; exact_mod_cast lg_pos.le) (by rw [lg]; exact EReal.coe_ne_top _)]

theorem exp2_sub_lg (x y : EReal) : Ideal.exp2 (x * lg - y * lg) = Ideal.exp (x - y) := by
  rw [sub_lg, exp2_lg]

theorem exp2_mask_lg (p : Prop) [Decidable p] (x y : EReal) :
    Ideal.exp2 (if p then x * lg - y * lg else ⊥) = Ideal.exp (if p then x - y else ⊥) := by
  split
  · exact exp2_sub_lg x y
  · rfl

theorem zero_sub' (x : EReal) : (0 : EReal) - x = -x := by rw [sub_eq_add_neg, zero_add]
theorem sub_zero' (x : EReal) : x - (0 : EReal) = x := by simp [sub_eq_add_neg]

/-! ## The chunk -/

/-- The columns of the activations: the inputs', and a group's B and C columns. -/
def xcol (j : Fin 2048) : Fin 3072 := ⟨j.val, by omega⟩
def bcol (g : Fin 4) (n : Fin 128) : Fin 3072 := ⟨2048 + (128 * g.val + n.val), by omega⟩
def ccol (g : Fin 4) (n : Fin 128) : Fin 3072 := ⟨2560 + (128 * g.val + n.val), by omega⟩
/-- An output column's head and group. -/
def hd (j : Fin 2048) : Fin 32 := ⟨j.val / 64, by omega⟩
def gr (j : Fin 2048) : Fin 4 := ⟨j.val / 512, by omega⟩

variable (A : Fin 128 → Fin 3072 → EReal) (D : Fin 128 → Fin 32 → EReal) (a : Fin 32 → EReal)

/-- The running decay of head `h` up to row `l`. -/
def cs (l : Fin 128) (h : Fin 32) : EReal := ∑ k : Fin 128, if k ≤ l then D k h * a h else 0

/-- The part of the output a chunk makes of its own inputs. -/
def yDiag (l : Fin 128) (j : Fin 2048) : EReal :=
  ∑ s : Fin 128, ((∑ n : Fin 128, A l (ccol (gr j) n) * A s (bcol (gr j) n)) *
    Ideal.exp (if s ≤ l then cs D a l (hd j) - cs D a s (hd j) else ⊥)) * (A s (xcol j) * D s (hd j))

/-- What a chunk adds to the state. -/
def stAdd (n : Fin 128) (j : Fin 2048) : EReal :=
  ∑ s : Fin 128, A s (bcol (gr j) n) * ((A s (xcol j) * D s (hd j)) * Ideal.exp (cs D a 127 (hd j) - cs D a s (hd j)))

/-- The state after a chunk that began with `S`. -/
def stNext (S : Fin 128 → Fin 2048 → EReal) (n : Fin 128) (j : Fin 2048) : EReal :=
  S n j * Ideal.exp (cs D a 127 (hd j)) + stAdd A D a n j

/-- The output of a chunk that began with state `S`, without the skip. -/
def yAll (S : Fin 128 → Fin 2048 → EReal) (l : Fin 128) (j : Fin 2048) : EReal :=
  yDiag A D a l j + (∑ n : Fin 128, A l (ccol (gr j) n) * S n j) * Ideal.exp (cs D a l (hd j))

/-- The output with its skip, gated by `z`. -/
def gate (S : Fin 128 → Fin 2048 → EReal) (d : Fin 32 → EReal) (z : Fin 128 → Fin 2048 → EReal) (l : Fin 128)
    (j : Fin 2048) : EReal :=
  (yAll A D a S l j + A l (xcol j) * d (hd j)) * (z l j * Ideal.logistic (z l j))

/-- Column `k` of group `g`. -/
def gcol (g : Fin 4) (k : Fin 512) : Fin 2048 := ⟨512 * g.val + k.val, by omega⟩

/-- A row's norm over its groups, weighted. -/
def normed (G : Fin 2048 → EReal) (nw : Fin 2048 → EReal) (j : Fin 2048) : EReal :=
  (G j * Ideal.rsqrt (Ideal.div (∑ k : Fin 512, G (gcol (gr j) k) * G (gcol (gr j) k)) (Ideal.ofBits .f32 0x44000000#32) +
    Ideal.ofBits .f32 0x358637BD#32)) * nw j

/-! ## The whole sequence -/

/-- The convolution's partial sums along a sequence `X` of one channel, from tap 0 on. -/
def conv0 (X : ℕ → EReal) (w : Fin 4 → EReal) (t : ℕ) : EReal := X t * w 0
def conv1 (X : ℕ → EReal) (w : Fin 4 → EReal) (t : ℕ) : EReal := X t * w 1 + (if t = 0 then 0 else conv0 X w (t - 1))
def conv2 (X : ℕ → EReal) (w : Fin 4 → EReal) (t : ℕ) : EReal := X t * w 2 + (if t = 0 then 0 else conv1 X w (t - 1))
def conv3 (X : ℕ → EReal) (w : Fin 4 → EReal) (t : ℕ) : EReal := X t * w 3 + (if t = 0 then 0 else conv2 X w (t - 1))

/-- The same as a sum of shifted products over the sequence padded with three zeros. -/
theorem conv3_eq (X : ℕ → EReal) (w : Fin 4 → EReal) (t : ℕ) :
    conv3 X w t = (((if t < 3 then 0 else X (t - 3)) * w 0 + (if t + 1 < 3 then 0 else X (t + 1 - 3)) * w 1) +
      (if t + 2 < 3 then 0 else X (t + 2 - 3)) * w 2) + X t * w 3 := by
  unfold conv3 conv2 conv1 conv0
  rcases t with _ | _ | _ | t
  · simp
  · simp [add_comm]
  · simp [add_comm, add_left_comm]
  · have h0 : ¬ t + 1 + 1 + 1 < 3 := by omega
    have h1 : ¬ t + 1 + 1 + 1 + 1 < 3 := by omega
    have h2 : ¬ t + 1 + 1 + 1 + 2 < 3 := by omega
    rw [if_neg h0, if_neg h1, if_neg h2, if_neg (by omega), if_neg (by omega), if_neg (by omega),
      show t + 1 + 1 + 1 - 3 = t by omega, show t + 1 + 1 + 1 + 1 - 3 = t + 1 by omega,
      show t + 1 + 1 + 1 + 2 - 3 = t + 1 + 1 by omega, show t + 1 + 1 + 1 - 1 = t + 1 + 1 by omega,
      show t + 1 + 1 - 1 = t + 1 by omega, show t + 1 - 1 = t by omega]
    ac_rfl

/-- The state at the start of chunk `c`, the chunks' activations and time steps given. -/
def stAt (A : ℕ → Fin 128 → Fin 3072 → EReal) (D : ℕ → Fin 128 → Fin 32 → EReal) (a : Fin 32 → EReal) :
    ℕ → Fin 128 → Fin 2048 → EReal
  | 0 => fun _ _ => 0
  | c + 1 => stNext (A c) (D c) a (stAt A D a c)

end SsdSpec

end
-- ==== Proof.SsdRead.lean ====
module

public import proofs.«01_k».proof.Proof.SsdBody
public import proofs.«01_k».proof.Proof.SsdSpec

/-! The body's stages read at an index: the scalar mathematics of `SsdSpec`. -/

@[expose] public section

set_option maxRecDepth 16384

noncomputable section

namespace SsdBody

open Cert.KernelIdeal Cert.KernelIdeal.Gen Idealize.ShloMosaic Idealize.ShloMosaic.TcCoe SsdSpec

variable (K : Lds)

/-! ## Words -/

theorem sel_lt64 {α : Type} (j : Fin 128) (x y : α) :
    Scalar.select (IntOp.cmpi CmpIPredicate.slt (BitVec.ofNat 32 ↑j) 64#32) x y = if j.val < 64 then x else y := by
  have h : ∀ j : Fin 128, IntOp.cmpi CmpIPredicate.slt (BitVec.ofNat 32 ↑j) 64#32 = BitVec.ofBool (decide (j.val < 64)) := by
    decide +kernel
  rw [h]
  by_cases hj : j.val < 64 <;> simp [Scalar.select, hj]

theorem sel_le {α : Type} (x s : Fin 128) (a b : α) :
    Scalar.select (IntOp.cmpi CmpIPredicate.sle (BitVec.ofNat 32 ↑x) (BitVec.ofNat 32 ↑s)) a b = if x ≤ s then a else b := by
  have h : ∀ x s : Fin 128, IntOp.cmpi CmpIPredicate.sle (BitVec.ofNat 32 ↑x) (BitVec.ofNat 32 ↑s) =
      BitVec.ofBool (decide (x ≤ s)) := by
    decide +kernel
  rw [h]
  by_cases hj : x ≤ s <;> simp [Scalar.select, hj]

theorem sel_eq0 {α : Type} (s : Fin 128) (a b : α) :
    Scalar.select (IntOp.cmpi CmpIPredicate.eq (BitVec.ofNat 32 ↑s) 0#32) a b = if s.val = 0 then a else b := by
  have h : ∀ s : Fin 128, IntOp.cmpi CmpIPredicate.eq (BitVec.ofNat 32 ↑s) 0#32 = BitVec.ofBool (decide (s.val = 0)) := by
    decide +kernel
  rw [h]
  by_cases hj : s.val = 0 <;> simp [Scalar.select, hj]

theorem neg_inf : Ideal.ofBits .f32 0xFF800000#32 = (⊥ : EReal) := by simp [Ideal.ofBits, Ideal.ieee]

theorem named_lg : (Named.named (F := Ideal) κ "log2e" 0x3FB8AA3B#32 : Ideal .f32) = lg :=
  IdealRules.named_const.ideal_named_scalar _ _ _ _ rfl

/-! ## What a chunk is given -/

/-- A head's lane. -/
def lane (h : Fin 32) : Fin 128 := ⟨h.val, by omega⟩
/-- The activations, the time steps, the decay rates. -/
def kA (s : Fin 128) (j : Fin 3072) : EReal := act K (ix2 s j)
def kD (s : Fin 128) (h : Fin 32) : EReal := dt K (ix2 s (lane h))
def ka (h : Fin 32) : EReal := -Ideal.exp (K.al (ix2 0 (lane h)))
/-- A column's place in its group. -/
def inG (j : Fin 2048) : Fin 512 := ⟨j.val % 512, by omega⟩
/-- The state the chunk begins with. -/
def kS (n : Fin 128) (j : Fin 2048) : EReal := K.st (gr j) (ix3 0 n (inG j))

/-! ## The stages -/

theorem dt_apply (s j : Fin 128) : dt K (ix2 s j) =
    max (K.d (ix3 0 s j) + K.db (ix2 0 j)) 0 +
      Ideal.log (1 + Ideal.exp (0 - max (K.d (ix3 0 s j) + K.db (ix2 0 j)) (-(K.d (ix3 0 s j) + K.db (ix2 0 j))))) := by
  pointwise [dt, k0_pay20]
  rfl

theorem acs_apply (l : Fin 128) (h : Fin 32) : acs K (ix2 l (lane h)) = cs (kD K) (ka K) l h * lg := by
  have e : acs K (ix2 l (lane h)) = (∑ x, Scalar.select (k0_pay21 (ix2 l x))
      (k0_pay20 K.d K.db (ix2 x (lane h)) * (0 - Ideal.exp (K.al (ix2 0 (lane h))))) 0) *
      Named.named (F := Ideal) κ "log2e" 0x3FB8AA3B#32 := by
    pointwise [acs, k0_pay22]
  rw [e, named_lg, cs]
  congr 1
  refine Finset.sum_congr rfl fun k _ => ?_
  have m : k0_pay21 (ix2 l k) = IntOp.cmpi CmpIPredicate.sle (BitVec.ofNat 32 ↑k) (BitVec.ofNat 32 ↑l) := by
    pointwise [k0_pay21]
  rw [m, sel_le, zero_sub']
  rfl

theorem acsT_apply (l : Fin 128) (h : Fin 32) : acsT K (ix2 (lane h) l) = cs (kD K) (ka K) l h * lg := by
  rw [← acs_apply]
  pointwise [acsT, k0_pay23]
  rfl

theorem eacs_apply (l : Fin 128) (h : Fin 32) : eacs K (ix2 l (lane h)) = Ideal.exp (cs (kD K) (ka K) l h) := by
  rw [← exp2_lg, ← acs_apply]
  pointwise [eacs, k0_pay25]
  rfl

theorem dte_apply (l : Fin 128) (h : Fin 32) :
    dte K (ix2 l (lane h)) = Ideal.exp (cs (kD K) (ka K) 127 h - cs (kD K) (ka K) l h) := by
  rw [← exp2_sub_lg, ← acs_apply, ← acs_apply]
  pointwise [dte, k0_pay26, k0_pay24]
  rfl

theorem cdec_apply (h : Fin 32) : cdec K (ix2 0 (lane h)) = Ideal.exp (cs (kD K) (ka K) 127 h) := by
  rw [← exp2_lg, ← acs_apply]
  pointwise [cdec, k0_pay27, k0_pay24]
  rfl

theorem pairCols_apply (v : FVec Ideal S128x128 .f32) (h : ℕ) (hh : h + 1 < 128) (s j : Fin 128) :
    pairCols v h hh (ix2 s j) = v (ix2 s ⟨h + j.val / 64, by omega⟩) := by
  have e : pairCols v h hh (ix2 s j) = Scalar.select (IntOp.cmpi CmpIPredicate.slt (BitVec.ofNat 32 ↑j) 64#32)
      (v (ix2 s ⟨h, by omega⟩)) (v (ix2 s ⟨h + 1, hh⟩)) := by
    pointwise [pairCols, k0_pay28]
  rw [e, sel_lt64]
  split
  · congr 2; apply Fin.ext; show h = h + j.val / 64; omega
  · congr 2; apply Fin.ext; show h + 1 = h + j.val / 64; omega

theorem pairRow_apply (v : FVec Ideal S1x128 .f32) (h : ℕ) (hh : h + 1 < 128) (j : Fin 128) :
    pairRow v h hh (ix2 0 j) = v (ix2 0 ⟨h + j.val / 64, by omega⟩) := by
  have e : pairRow v h hh (ix2 0 j) = Scalar.select (IntOp.cmpi CmpIPredicate.slt (BitVec.ofNat 32 ↑j) 64#32)
      (v (ix2 0 ⟨h, by omega⟩)) (v (ix2 0 ⟨h + 1, hh⟩)) := by
    pointwise [pairRow, k0_pay29]
  rw [e, sel_lt64]
  split
  · congr 2; apply Fin.ext; show h = h + j.val / 64; omega
  · congr 2; apply Fin.ext; show h + 1 = h + j.val / 64; omega

theorem xs_apply (s : Fin 128) (j : Fin 2048) : xs K (ix2 s j) = kA K s (xcol j) := by
  rw [xs_eq]
  pointwise [xcol, kA]

theorem bm_apply (s : Fin 128) (g : Fin 4) (n : Fin 128) (i : Fin 512) (hi : i.val = 128 * g.val + n.val) :
    bm K (ix2 s i) = kA K s (bcol g n) := by
  rw [bm_eq]
  have e : bcol g n = ⟨2048 + i.val, by omega⟩ := by apply Fin.ext; simp only [bcol, hi]
  rw [e]
  pointwise [kA]

theorem cm_apply (s : Fin 128) (g : Fin 4) (n : Fin 128) (i : Fin 512) (hi : i.val = 128 * g.val + n.val) :
    cm K (ix2 s i) = kA K s (ccol g n) := by
  rw [cm_eq]
  have e : ccol g n = ⟨2560 + i.val, by omega⟩ := by apply Fin.ext; simp only [ccol, hi]
  rw [e]
  pointwise [kA]

/-- Column `p` of a pair whose columns begin at `c`. -/
def pcol (c : ℕ) (hc : c ≤ 1920) (p : Fin 128) : Fin 2048 := ⟨c + p.val, by omega⟩

section pair

/- Pair `r` of group `g`. -/
variable (g r : Fin 4) (o q h c : ℕ) (ho : o ≤ 384) (hq : q ≤ 384) (hh : h + 1 < 128) (hc : c ≤ 1920)
  (eo : o = 128 * g.val) (eq' : q = 128 * r.val) (eh : h = 8 * g.val + 2 * r.val) (ec : c = 512 * g.val + 128 * r.val)

include eh ec in
theorem lane_eq (p : Fin 128) (hp : h + p.val / 64 < 128) :
    (⟨h + p.val / 64, hp⟩ : Fin 128) = lane (hd (pcol c hc p)) := by
  apply Fin.ext; simp only [lane, hd, pcol]; omega

include eo in
theorem cbg_apply (l s : Fin 128) :
    cbg K o ho (ix2 l s) = ∑ n : Fin 128, kA K l (ccol g n) * kA K s (bcol g n) := by
  have e : cbg K o ho (ix2 l s) = ∑ x : Fin 128, cm K (ix2 l ⟨o + ↑x, by omega⟩) * bm K (ix2 s ⟨o + ↑x, by omega⟩) := by
    pointwise [cbg, grp]
  rw [e]
  exact Finset.sum_congr rfl fun n _ => by
    rw [cm_apply K l g n _ (by simp only [eo]), bm_apply K s g n _ (by simp only [eo])]

include eh ec in
theorem xdt_apply (s p : Fin 128) :
    xdt K h hh c hc (ix2 s p) =
      kA K s (xcol (pcol c hc p)) * kD K s (hd (pcol c hc p)) := by
  have e : xdt K h hh c hc (ix2 s p) = xs K (ix2 s ⟨c + ↑p, by omega⟩) * pairCols (dt K) h hh (ix2 s p) := by
    pointwise [xdt]
  rw [e, pairCols_apply, lane_eq g r h c hc eh ec p, xs_apply]
  rfl

theorem yHead_apply (cb : FVec Ideal S128x128 .f32) (xd : FVec Ideal S128x128 .bf16) (k : Fin 32) (hk : k.val < 128)
    (l p : Fin 128) :
    yHead K cb xd k.val hk (ix2 l p) = ∑ s : Fin 128, (cb (ix2 l s) *
      Ideal.exp (if s ≤ l then cs (kD K) (ka K) l k - cs (kD K) (ka K) s k else ⊥)) * xd (ix2 s p) := by
  have e : yHead K cb xd k.val hk (ix2 l p) = ∑ x : Fin 128,
      cb (ix2 l x) * FloatOps.exp2 (φ := .f32)
            (Scalar.select (IntOp.cmpi CmpIPredicate.sle (BitVec.ofNat 32 ↑x) (BitVec.ofNat 32 ↑l))
              (acs K (ix2 l (lane k)) - acsT K (ix2 (lane k) x)) (Ideal.ofBits FTy.f32 4286578688#32)) *
        xd (ix2 x p) := by
    pointwise [yHead, k0_pay21, lane]
  rw [e]
  refine Finset.sum_congr rfl fun s _ => ?_
  rw [sel_le, neg_inf, acs_apply, acsT_apply]
  show _ * Ideal.exp2 _ * _ = _
  rw [exp2_mask_lg]

include eo eq' eh ec in
theorem yPair_apply (l p : Fin 128) :
    yPair K g o ho q hq h hh c hc (ix2 l p) = yAll (kA K) (kD K) (ka K) (kS K) l (pcol c hc p) := by
  have e : yPair K g o ho q hq h hh c hc (ix2 l p) =
      Scalar.select (IntOp.cmpi CmpIPredicate.slt (BitVec.ofNat 32 ↑p) 64#32)
        (yHead K (cbg K o ho) (truncf .bf16 (xdt K h hh c hc) bitsLt_bf16_f32) h (by omega) (ix2 l p))
        (yHead K (cbg K o ho) (truncf .bf16 (xdt K h hh c hc) bitsLt_bf16_f32) (h + 1) hh (ix2 l p)) +
      (∑ x : Fin 128, cm K (ix2 l ⟨o + ↑x, by omega⟩) * K.st g (ix3 0 x ⟨q + p.val, by omega⟩)) *
        pairCols (eacs K) h hh (ix2 l p) := by
    pointwise [yPair, k0_pay28, yoff, grp, stg]
  have hg : gr (pcol c hc p) = g := by apply Fin.ext; simp only [gr, pcol]; omega
  have hi : inG (pcol c hc p) = ⟨q + p.val, by omega⟩ := by apply Fin.ext; simp only [inG, pcol]; omega
  have ey : Scalar.select (IntOp.cmpi CmpIPredicate.slt (BitVec.ofNat 32 ↑p) 64#32)
        (yHead K (cbg K o ho) (truncf .bf16 (xdt K h hh c hc) bitsLt_bf16_f32) h (by omega) (ix2 l p))
        (yHead K (cbg K o ho) (truncf .bf16 (xdt K h hh c hc) bitsLt_bf16_f32) (h + 1) hh (ix2 l p)) =
      yHead K (cbg K o ho) (truncf .bf16 (xdt K h hh c hc) bitsLt_bf16_f32) (hd (pcol c hc p)).val (by simp only [hd, pcol]; omega) (ix2 l p) := by
    rw [sel_lt64]
    split
    · congr 1; simp only [hd, pcol]; omega
    · congr 1; simp only [hd, pcol]; omega
  have ep : pairCols (eacs K) h hh (ix2 l p) = Ideal.exp (cs (kD K) (ka K) l (hd (pcol c hc p))) := by
    rw [pairCols_apply, lane_eq g r h c hc eh ec p, eacs_apply]
  refine e.trans (congrArg₂ (· + ·) (ey.trans ?_) (congrArg₂ (· * ·) ?_ ep))
  · rw [yHead_apply, yDiag, hg]
    refine Finset.sum_congr rfl fun s _ => ?_
    show _ * xdt K h hh c hc (ix2 s p) = _
    rw [cbg_apply K g o ho eo, xdt_apply K g r h c hh hc eh ec]
  · rw [hg]
    refine Finset.sum_congr rfl fun n _ => ?_
    rw [cm_apply K l g n _ (by simp only [eo]), kS, hg, hi]

include eh ec in
theorem wPair_apply (s p : Fin 128) :
    wPair K h hh c hc (ix2 s p) =
      kA K s (xcol (pcol c hc p)) * kD K s (hd (pcol c hc p)) *
        Ideal.exp (cs (kD K) (ka K) 127 (hd (pcol c hc p)) - cs (kD K) (ka K) s (hd (pcol c hc p))) := by
  have e : wPair K h hh c hc (ix2 s p) = xdt K h hh c hc (ix2 s p) * pairCols (dte K) h hh (ix2 s p) := by
    pointwise [wPair]
  rw [e, xdt_apply K g r h c hh hc eh ec, pairCols_apply, lane_eq g r h c hc eh ec p, dte_apply]

end pair

/-- The state's decay over a group's columns. -/
theorem cd_apply (g : Fin 4) (h : ℕ) (hh : h + 7 < 128) (eh : h = 8 * g.val) (j : Fin 512) :
    (if _ : j.val < 128 then pairRow (cdec K) h (by omega) (ix2 0 ⟨j.val, by omega⟩)
        else
          if _ : j.val - 128 < 128 then pairRow (cdec K) (h + 2) (by omega) (ix2 0 ⟨j.val - 128, by omega⟩)
          else
            if _ : j.val - 128 - 128 < 128 then pairRow (cdec K) (h + 4) (by omega) (ix2 0 ⟨j.val - 128 - 128, by omega⟩)
            else pairRow (cdec K) (h + 6) hh (ix2 0 ⟨j.val - 128 - 128 - 128, by omega⟩)) =
      Ideal.exp (cs (kD K) (ka K) 127 (hd (gcol g j))) := by
  rw [← cdec_apply]
  split
  · rw [pairRow_apply]; congr 2; apply Fin.ext; simp only [lane, hd, gcol]; omega
  split
  · rw [pairRow_apply]; congr 2; apply Fin.ext; simp only [lane, hd, gcol]; omega
  split
  · rw [pairRow_apply]; congr 2; apply Fin.ext; simp only [lane, hd, gcol]; omega
  · rw [pairRow_apply]; congr 2; apply Fin.ext; simp only [lane, hd, gcol]; omega

theorem gr_gcol (g : Fin 4) (j : Fin 512) : gr (gcol g j) = g := by
  apply Fin.ext; simp only [gr, gcol]; omega
theorem inG_gcol (g : Fin 4) (j : Fin 512) : inG (gcol g j) = j := by
  apply Fin.ext; simp only [inG, gcol]; omega

theorem stNew_apply (g : Fin 4) (o : ℕ) (ho : o ≤ 384) (eo : o = 128 * g.val) (h : ℕ) (hh : h + 7 < 128)
    (eh : h = 8 * g.val) (w : FVec Ideal S128x512 .bf16) (n : Fin 128) (j : Fin 512)
    (hw : ∀ s, w (ix2 s j) = kA K s (xcol (gcol g j)) * kD K s (hd (gcol g j)) *
        Ideal.exp (cs (kD K) (ka K) 127 (hd (gcol g j)) - cs (kD K) (ka K) s (hd (gcol g j)))) :
    stNew K g o ho h hh w (ix3 0 n j) = stNext (kA K) (kD K) (ka K) (kS K) n (gcol g j) := by
  have e : stNew K g o ho h hh w (ix3 0 n j) = (K.st g (ix3 0 n j) *
        if _ : j.val < 128 then pairRow (cdec K) h (by omega) (ix2 0 ⟨j.val, by omega⟩)
        else
          if _ : j.val - 128 < 128 then pairRow (cdec K) (h + 2) (by omega) (ix2 0 ⟨j.val - 128, by omega⟩)
          else
            if _ : j.val - 128 - 128 < 128 then pairRow (cdec K) (h + 4) (by omega) (ix2 0 ⟨j.val - 128 - 128, by omega⟩)
            else pairRow (cdec K) (h + 6) hh (ix2 0 ⟨j.val - 128 - 128 - 128, by omega⟩)) +
      ∑ x : Fin 128, bm K (ix2 x ⟨o + n.val, by omega⟩) * w (ix2 x j) := by
    pointwise [stNew, stg, bgT, grp]
  rw [e, cd_apply K g h hh eh j, stNext, stAdd, kS, gr_gcol, inG_gcol]
  congr 1
  refine Finset.sum_congr rfl fun s _ => ?_
  rw [bm_apply K s g n _ (by simp only [eo]), hw]

/-- The skip weights, the gate, the norm's weights over the heads and columns. -/
theorem gated_apply (y : FVec Ideal S128x2048 .f32) (s : Fin 128) (j : Fin 2048) :
    gated K y (ix2 s j) = (y (ix2 s j) + kA K s (xcol j) * K.df (ix2 0 j)) *
      (K.z (ix3 0 s j) * Ideal.logistic (K.z (ix3 0 s j))) := by
  rw [← xs_apply]
  pointwise [gated, k0_pay163]

theorem outG_apply (y : FVec Ideal S128x2048 .f32) (g : Fin 4) (o : ℕ) (ho : o ≤ 1536) (eo : o = 512 * g.val)
    (s : Fin 128) (j : Fin 512) (nw : Fin 2048 → EReal) (hn : K.nw g (ix2 0 j) = nw (gcol g j)) :
    outG K y g o ho (ix3 0 s j) = normed (fun j => gated K y (ix2 s j)) nw (gcol g j) := by
  have e : outG K y g o ho (ix3 0 s j) = gated K y (ix2 s ⟨o + ↑j, by omega⟩) *
        Ideal.rsqrt
          (Ideal.div (∑ x : Fin 512, gated K y (ix2 s ⟨o + ↑x, by omega⟩) * gated K y (ix2 s ⟨o + ↑x, by omega⟩))
              (Ideal.ofBits FTy.f32 0x44000000#32) +
            Ideal.ofBits FTy.f32 0x358637BD#32) *
      K.nw g (ix2 0 j) := by
    pointwise [outG]
  subst eo
  rw [e, normed, hn, gr_gcol]
  rfl

end SsdBody

end
-- ==== Proof.SsdRow.lean ====
module

public import proofs.«01_k».proof.Proof.SsdRead
public import proofs.«01_k».proof.Proof.Gen.KernelIdeal.Frame

/-! The stores of a chunk read at an index, and the convolution fed by the rows kept of the chunk before. -/

@[expose] public section

set_option maxRecDepth 16384

noncomputable section

namespace SsdSpec

open Idealize.ShloMosaic

/-- The activation of a channel at row `t`. -/
def actAt (X : ℕ → EReal) (w : Fin 4 → EReal) (b : EReal) (t : ℕ) : EReal :=
  (conv3 X w t + b) * Ideal.logistic (conv3 X w t + b)

end SsdSpec

namespace SsdBody

open Cert.KernelIdeal Cert.KernelIdeal.Gen Idealize.ShloMosaic Idealize.ShloMosaic.TcCoe SsdSpec

/-! ## Lists of stores -/

/-- Stores in front that agree with `G` and cover an index decide it, whatever was stored before. -/
theorem canon_front {s : Shape} {e : EltTy} (G : s.Idx → Elt Ideal e) (L' : List (View.Piece (Elt Ideal) s e)) :
    ∀ L : List (View.Piece (Elt Ideal) s e), (∀ p ∈ L, ∀ x : p.1.shape.Idx, p.2 x = G (p.1.emb x)) →
      ∀ y : s.Idx, (∃ p ∈ L, y ∈ p.1.set) → View.canon (L ++ L') y = G y
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      exact (View.canon_cons_emb p.1 p.2 (L ++ L') x).trans (hG p (List.mem_cons_self ..) x)
    · rw [List.cons_append, View.canon_cons_of_not_mem _ _ hy]
      refine canon_front G L' L (fun q hq => hG q (List.mem_cons_of_mem _ hq)) y ?_
      obtain ⟨q, hq, hqy⟩ := h
      rcases List.mem_cons.mp hq with rfl | hq
      · exact absurd hqy hy
      · exact ⟨q, hq, hqy⟩

variable (K : Lds)

/-! ## The output before the gate -/

def yG : S128x2048.Idx → EReal := fun y => yAll (kA K) (kD K) (ka K) (kS K) (y 0) (y 1)

theorem yPiece_ok (g r : Fin 4) (o q h c : ℕ) (ho : o ≤ 384) (hq : q ≤ 384) (hh : h + 1 < 128) (hc : c ≤ 1920)
    (eo : o = 128 * g.val) (eq' : q = 128 * r.val) (eh : h = 8 * g.val + 2 * r.val) (ec : c = 512 * g.val + 128 * r.val)
    (x : (yPiece K g o ho q hq h hh c hc).1.shape.Idx) :
    (yPiece K g o ho q hq h hh c hc).2 x = yG K ((yPiece K g o ho q hq h hh c hc).1.emb x) := by
  have e := yPair_apply K g r o q h c ho hq hh hc eo eq' eh ec (x 0) (x 1)
  have e0 : ((yPiece K g o ho q hq h hh c hc).1.emb x) 0 = x 0 := by
    apply Fin.ext; show 0 + 1 * (x 0).val = (x 0).val; omega
  have e1 : ((yPiece K g o ho q hq h hh c hc).1.emb x) 1 = pcol c hc (x 1) := by
    apply Fin.ext; show c + 1 * (x 1).val = c + (x 1).val; omega
  show yPair K g o ho q hq h hh c hc x = yAll _ _ _ _ _ _
  rw [e0, e1, ← e]
  exact congrArg _ (eq_ix2 x)

theorem y_canon (l : Fin 128) (j : Fin 2048) :
    View.canon (yL K) (ix2 l j) = yAll (kA K) (kD K) (ka K) (kS K) l j := by
  refine View.canon_apply_of_pieces (yG K) (yL K) ?_ (ix2 l j)
    (View.cover_of_tiledL (yL K) S128x128.size (by sl_kernel_rfl) _)
  intro p hp
  simp only [yL, List.mem_cons, List.not_mem_nil, or_false] at hp
  rcases hp with h | h | h | h | h | h | h | h | h | h | h | h | h | h | h | h
  · subst h; exact yPiece_ok K 3 3 _ _ _ _ _ _ _ _ rfl rfl rfl rfl
  · subst h; exact yPiece_ok K 3 2 _ _ _ _ _ _ _ _ rfl rfl rfl rfl
  · subst h; exact yPiece_ok K 3 1 _ _ _ _ _ _ _ _ rfl rfl rfl rfl
  · subst h; exact yPiece_ok K 3 0 _ _ _ _ _ _ _ _ rfl rfl rfl rfl
  · subst h; exact yPiece_ok K 2 3 _ _ _ _ _ _ _ _ rfl rfl rfl rfl
  · subst h; exact yPiece_ok K 2 2 _ _ _ _ _ _ _ _ rfl rfl rfl rfl
  · subst h; exact yPiece_ok K 2 1 _ _ _ _ _ _ _ _ rfl rfl rfl rfl
  · subst h; exact yPiece_ok K 2 0 _ _ _ _ _ _ _ _ rfl rfl rfl rfl
  · subst h; exact yPiece_ok K 1 3 _ _ _ _ _ _ _ _ rfl rfl rfl rfl
  · subst h; exact yPiece_ok K 1 2 _ _ _ _ _ _ _ _ rfl rfl rfl rfl
  · subst h; exact yPiece_ok K 1 1 _ _ _ _ _ _ _ _ rfl rfl rfl rfl
  · subst h; exact yPiece_ok K 1 0 _ _ _ _ _ _ _ _ rfl rfl rfl rfl
  · subst h; exact yPiece_ok K 0 3 _ _ _ _ _ _ _ _ rfl rfl rfl rfl
  · subst h; exact yPiece_ok K 0 2 _ _ _ _ _ _ _ _ rfl rfl rfl rfl
  · subst h; exact yPiece_ok K 0 1 _ _ _ _ _ _ _ _ rfl rfl rfl rfl
  · subst h; exact yPiece_ok K 0 0 _ _ _ _ _ _ _ _ rfl rfl rfl rfl

theorem idx_whole2 {a b : ℕ} (inb) (l : Fin a) (j : Fin b) :
    ((Rect.unit (s := ⟨2, ![a, b]⟩) ![0, 0] (⟨2, ![a, b]⟩ : Shape).size inb).toLoadRect).idx (ix2 l j) = ix2 l j := by
  refine funext fun k => ?_
  fin_cases k
  · apply Fin.ext; show 0 + 1 * l.val = l.val; omega
  · apply Fin.ext; show 0 + 1 * j.val = j.val; omega

theorem y_read (v : View sig .tc .vmem S128x2048 .f32) (l : Fin 128) (j : Fin 2048) :
    v.readCov (yL K) (Rect.unit (s := S128x2048) ![0, 0] S128x2048.size inb_S128x2048_S128x2048_0_0).toLoadRect (ix2 l j) =
      yAll (kA K) (kD K) (ka K) (kS K) l j := by
  rw [View.readCov_eq_canon', ← y_canon]
  exact congrArg _ (idx_whole2 _ l j)

/-! ## A group's weighted inputs -/

def wVal (s : Fin 128) (j : Fin 2048) : EReal :=
  kA K s (xcol j) * kD K s (hd j) * Ideal.exp (cs (kD K) (ka K) 127 (hd j) - cs (kD K) (ka K) s (hd j))

def wG (g : Fin 4) : S128x512.Idx → EReal := fun y => wVal K (y 0) (gcol g (y 1))

theorem wPiece_ok (g r : Fin 4) (q h c : ℕ) (hq : q ≤ 384) (hh : h + 1 < 128) (hc : c ≤ 1920)
    (eq' : q = 128 * r.val) (eh : h = 8 * g.val + 2 * r.val) (ec : c = 512 * g.val + 128 * r.val)
    (x : (wPiece K q hq h hh c hc).1.shape.Idx) :
    (wPiece K q hq h hh c hc).2 x = wG K g ((wPiece K q hq h hh c hc).1.emb x) := by
  have e := wPair_apply K g r h c hh hc eh ec (x 0) (x 1)
  have e0 : ((wPiece K q hq h hh c hc).1.emb x) 0 = x 0 := by
    apply Fin.ext; show 0 + 1 * (x 0).val = (x 0).val; omega
  have e1 : gcol g (((wPiece K q hq h hh c hc).1.emb x) 1) = pcol c hc (x 1) := by
    apply Fin.ext; show 512 * g.val + (q + 1 * (x 1).val) = c + (x 1).val; omega
  show wPair K h hh c hc x = wVal K _ _
  rw [e0, e1]
  refine Eq.trans ?_ e
  exact congrArg _ (eq_ix2 x)

theorem w_canon (g : Fin 4) (h0 h1 h2 h3 c0 c1 c2 c3 : ℕ) (a0 : h0 + 1 < 128) (a1 : h1 + 1 < 128) (a2 : h2 + 1 < 128)
    (a3 : h3 + 1 < 128) (b0 : c0 ≤ 1920) (b1 : c1 ≤ 1920) (b2 : c2 ≤ 1920) (b3 : c3 ≤ 1920)
    (eh0 : h0 = 8 * g.val) (eh1 : h1 = 8 * g.val + 2) (eh2 : h2 = 8 * g.val + 4) (eh3 : h3 = 8 * g.val + 6)
    (ec0 : c0 = 512 * g.val) (ec1 : c1 = 512 * g.val + 128) (ec2 : c2 = 512 * g.val + 256) (ec3 : c3 = 512 * g.val + 384)
    (L' : List (View.Piece (Elt Ideal) S128x512 .bf16)) (s : Fin 128) (j : Fin 512) :
    View.canon (wPiece K 384 (by omega) h3 a3 c3 b3 :: wPiece K 256 (by omega) h2 a2 c2 b2 ::
      wPiece K 128 (by omega) h1 a1 c1 b1 :: wPiece K 0 (by omega) h0 a0 c0 b0 :: L') (ix2 s j) = wVal K s (gcol g j) := by
  refine canon_front (wG K g) L' [wPiece K 384 (by omega) h3 a3 c3 b3, wPiece K 256 (by omega) h2 a2 c2 b2,
      wPiece K 128 (by omega) h1 a1 c1 b1, wPiece K 0 (by omega) h0 a0 c0 b0] ?_ (ix2 s j)
    (View.cover_of_tiledL (Val := Elt Ideal) (s := S128x512) (e := .bf16) [wPiece K 384 (by omega) h3 a3 c3 b3, wPiece K 256 (by omega) h2 a2 c2 b2,
      wPiece K 128 (by omega) h1 a1 c1 b1, wPiece K 0 (by omega) h0 a0 c0 b0] S128x128.size (by sl_kernel_rfl) _)
  intro p hp
  simp only [List.mem_cons, List.not_mem_nil, or_false] at hp
  rcases hp with h | h | h | h
  · subst h; exact wPiece_ok K g 3 _ _ _ _ _ _ rfl eh3 ec3
  · subst h; exact wPiece_ok K g 2 _ _ _ _ _ _ rfl eh2 ec2
  · subst h; exact wPiece_ok K g 1 _ _ _ _ _ _ rfl eh1 ec1
  · subst h; exact wPiece_ok K g 0 _ _ _ _ _ _ rfl eh0 ec0

section wread
variable (v : View sig .tc .vmem S128x512 .bf16) (s : Fin 128) (j : Fin 512)

theorem w_read4 : v.readCov (wL4 K) (Rect.unit (s := S128x512) ![0, 0] S128x512.size inb_S128x512_S128x512_0_0).toLoadRect (ix2 s j) = wVal K s (gcol 0 j) := by
  rw [View.readCov_eq_canon', ← w_canon K 0 0 2 4 6 0 128 256 384 (by omega) (by omega) (by omega) (by omega) (by omega)
    (by omega) (by omega) (by omega) rfl rfl rfl rfl rfl rfl rfl rfl [] s j]
  exact congrArg _ (idx_whole2 _ s j)
theorem w_read8 : v.readCov (wL8 K) (Rect.unit (s := S128x512) ![0, 0] S128x512.size inb_S128x512_S128x512_0_0).toLoadRect (ix2 s j) = wVal K s (gcol 1 j) := by
  rw [View.readCov_eq_canon', ← w_canon K 1 8 10 12 14 512 640 768 896 (by omega) (by omega) (by omega) (by omega) (by omega)
    (by omega) (by omega) (by omega) rfl rfl rfl rfl rfl rfl rfl rfl (wL4 K) s j]
  exact congrArg _ (idx_whole2 _ s j)
theorem w_read12 : v.readCov (wL12 K) (Rect.unit (s := S128x512) ![0, 0] S128x512.size inb_S128x512_S128x512_0_0).toLoadRect (ix2 s j) = wVal K s (gcol 2 j) := by
  rw [View.readCov_eq_canon', ← w_canon K 2 16 18 20 22 1024 1152 1280 1408 (by omega) (by omega) (by omega) (by omega) (by omega)
    (by omega) (by omega) (by omega) rfl rfl rfl rfl rfl rfl rfl rfl (wL8 K) s j]
  exact congrArg _ (idx_whole2 _ s j)
theorem w_read16 : v.readCov (wL16 K) (Rect.unit (s := S128x512) ![0, 0] S128x512.size inb_S128x512_S128x512_0_0).toLoadRect (ix2 s j) = wVal K s (gcol 3 j) := by
  rw [View.readCov_eq_canon', ← w_canon K 3 24 26 28 30 1536 1664 1792 1920 (by omega) (by omega) (by omega) (by omega) (by omega)
    (by omega) (by omega) (by omega) rfl rfl rfl rfl rfl rfl rfl rfl (wL12 K) s j]
  exact congrArg _ (idx_whole2 _ s j)

end wread

/-! ## The state -/

/-- The state's stores, the groups' weighted inputs given. -/
def stL (w0 w1 w2 w3 : FVec Ideal S128x512 .bf16) : List (View.Piece (Elt Ideal) S4x128x512 .f32) :=
  [⟨Rect.unit ![3, 0, 0] S1x128x512.size (inb_s 3 (by omega)), stNew K 3 384 (by omega) 24 (by omega) w3⟩,
    ⟨Rect.unit ![2, 0, 0] S1x128x512.size (inb_s 2 (by omega)), stNew K 2 256 (by omega) 16 (by omega) w2⟩,
    ⟨Rect.unit ![1, 0, 0] S1x128x512.size (inb_s 1 (by omega)), stNew K 1 128 (by omega) 8 (by omega) w1⟩,
    ⟨Rect.unit ![0, 0, 0] S1x128x512.size (inb_s 0 (by omega)), stNew K 0 0 (by omega) 0 (by omega) w0⟩]

def stG : S4x128x512.Idx → EReal := fun y => stNext (kA K) (kD K) (ka K) (kS K) (y 1) (gcol (y 0) (y 2))

theorem stPiece_ok (g : Fin 4) (q : ℕ) (hq : q ≤ 3) (eq' : q = g.val) (o : ℕ) (ho : o ≤ 384) (eo : o = 128 * g.val) (h : ℕ) (hh : h + 7 < 128)
    (eh : h = 8 * g.val) (w : FVec Ideal S128x512 .bf16) (hw : ∀ s j, w (ix2 s j) = wVal K s (gcol g j))
    (x : (Rect.unit (s := S4x128x512) ![q, 0, 0] S1x128x512.size (inb_s q hq)).shape.Idx) :
    stNew K g o ho h hh w x = stG K ((Rect.unit (s := S4x128x512) ![q, 0, 0] S1x128x512.size (inb_s q hq)).emb x) := by
  have e := stNew_apply K g o ho eo h hh eh w (x 1) (x 2) (fun s => hw s (x 2))
  have x0 : (x 0).val = 0 := by have := (x 0).isLt; change (x 0).val < 1 at this; omega
  have e0 : ((Rect.unit (s := S4x128x512) ![q, 0, 0] S1x128x512.size (inb_s q hq)).emb x) 0 = g := by
    apply Fin.ext; show q + 1 * (x 0).val = g.val; omega
  have e1 : ((Rect.unit (s := S4x128x512) ![q, 0, 0] S1x128x512.size (inb_s q hq)).emb x) 1 = x 1 := by
    apply Fin.ext; show 0 + 1 * (x 1).val = (x 1).val; omega
  have e2 : ((Rect.unit (s := S4x128x512) ![q, 0, 0] S1x128x512.size (inb_s q hq)).emb x) 2 = x 2 := by
    apply Fin.ext; show 0 + 1 * (x 2).val = (x 2).val; omega
  show _ = stNext _ _ _ _ _ _
  rw [e0, e1, e2, ← e]
  refine congrArg _ ((eq_ix3 x).trans ?_)
  have : x 0 = (0 : Fin 1) := Fin.ext x0
  rw [this]

theorem st_ok (w0 w1 w2 w3 : FVec Ideal S128x512 .bf16) (hw0 : ∀ s j, w0 (ix2 s j) = wVal K s (gcol 0 j))
    (hw1 : ∀ s j, w1 (ix2 s j) = wVal K s (gcol 1 j)) (hw2 : ∀ s j, w2 (ix2 s j) = wVal K s (gcol 2 j))
    (hw3 : ∀ s j, w3 (ix2 s j) = wVal K s (gcol 3 j)) :
    ∀ p ∈ stL K w0 w1 w2 w3, ∀ x : p.1.shape.Idx, p.2 x = stG K (p.1.emb x) := by
  intro p hp
  simp only [stL, List.mem_cons, List.not_mem_nil, or_false] at hp
  rcases hp with h | h | h | h
  · subst h; exact stPiece_ok K 3 3 (by omega) rfl _ (by omega) rfl _ (by omega) rfl w3 hw3
  · subst h; exact stPiece_ok K 2 2 (by omega) rfl _ (by omega) rfl _ (by omega) rfl w2 hw2
  · subst h; exact stPiece_ok K 1 1 (by omega) rfl _ (by omega) rfl _ (by omega) rfl w1 hw1
  · subst h; exact stPiece_ok K 0 0 (by omega) rfl _ (by omega) rfl _ (by omega) rfl w0 hw0

theorem st_cover (w0 w1 w2 w3 : FVec Ideal S128x512 .bf16) (g : Fin 4) (n : Fin 128) (q : Fin 512) :
    ∃ p ∈ stL K w0 w1 w2 w3, (ix3 g n q : S4x128x512.Idx) ∈ p.1.set := by
  have hm : ∀ (r : ℕ) (hr : r ≤ 3), g.val = r →
      (ix3 g n q : S4x128x512.Idx) ∈ (Rect.unit (s := S4x128x512) ![r, 0, 0] S1x128x512.size (inb_s r hr)).set := by
    intro r hr e
    refine Rect.mem_set_unit.mpr fun a => ?_
    fin_cases a
    · show r ≤ g.val ∧ g.val < r + 1; omega
    · show 0 ≤ n.val ∧ n.val < 0 + 128; omega
    · show 0 ≤ q.val ∧ q.val < 0 + 512; omega
  rcases (by omega : g.val = 0 ∨ g.val = 1 ∨ g.val = 2 ∨ g.val = 3) with h | h | h | h
  · exact ⟨_, .tail _ (.tail _ (.tail _ (.head _))), hm 0 (by omega) h⟩
  · exact ⟨_, .tail _ (.tail _ (.head _)), hm 1 (by omega) h⟩
  · exact ⟨_, .tail _ (.head _), hm 2 (by omega) h⟩
  · exact ⟨_, .head _, hm 3 (by omega) h⟩

theorem st_canon (w0 w1 w2 w3 : FVec Ideal S128x512 .bf16) (hw0 : ∀ s j, w0 (ix2 s j) = wVal K s (gcol 0 j))
    (hw1 : ∀ s j, w1 (ix2 s j) = wVal K s (gcol 1 j)) (hw2 : ∀ s j, w2 (ix2 s j) = wVal K s (gcol 2 j))
    (hw3 : ∀ s j, w3 (ix2 s j) = wVal K s (gcol 3 j)) (L' : List (View.Piece (Elt Ideal) S4x128x512 .f32))
    (g : Fin 4) (n : Fin 128) (q : Fin 512) :
    View.canon (stL K w0 w1 w2 w3 ++ L') (ix3 g n q) = stNext (kA K) (kD K) (ka K) (kS K) n (gcol g q) :=
  (canon_front (stG K) L' _ (st_ok K w0 w1 w2 w3 hw0 hw1 hw2 hw3) (ix3 g n q) (st_cover K w0 w1 w2 w3 g n q)).trans rfl

/-! ## The output -/

def outL (y : FVec Ideal S128x2048 .f32) : List (View.Piece (Elt Ideal) S1x128x2048 .bf16) :=
  [⟨Rect.unit ![0, 0, 1536] S1x128x512.size (inb_o 1536 (by omega)), outG K y 3 1536 (by omega)⟩,
    ⟨Rect.unit ![0, 0, 1024] S1x128x512.size (inb_o 1024 (by omega)), outG K y 2 1024 (by omega)⟩,
    ⟨Rect.unit ![0, 0, 512] S1x128x512.size (inb_o 512 (by omega)), outG K y 1 512 (by omega)⟩,
    ⟨Rect.unit ![0, 0, 0] S1x128x512.size (inb_o 0 (by omega)), outG K y 0 0 (by omega)⟩]

def oG (y : FVec Ideal S128x2048 .f32) (nw : Fin 2048 → EReal) : S1x128x2048.Idx → EReal :=
  fun i => normed (fun j => gated K y (ix2 (i 1) j)) nw (i 2)

theorem oPiece_ok (y : FVec Ideal S128x2048 .f32) (nw : Fin 2048 → EReal) (g : Fin 4) (o : ℕ) (ho : o ≤ 1536)
    (eo : o = 512 * g.val) (hn : ∀ j, K.nw g (ix2 0 j) = nw (gcol g j))
    (x : (Rect.unit (s := S1x128x2048) ![0, 0, o] S1x128x512.size (inb_o o ho)).shape.Idx) :
    outG K y g o ho x = oG K y nw ((Rect.unit (s := S1x128x2048) ![0, 0, o] S1x128x512.size (inb_o o ho)).emb x) := by
  have e := outG_apply K y g o ho eo (x 1) (x 2) nw (hn (x 2))
  have x0 : (x 0).val = 0 := by have := (x 0).isLt; change (x 0).val < 1 at this; omega
  have e1 : ((Rect.unit (s := S1x128x2048) ![0, 0, o] S1x128x512.size (inb_o o ho)).emb x) 1 = x 1 := by
    apply Fin.ext; show 0 + 1 * (x 1).val = (x 1).val; omega
  have e2 : ((Rect.unit (s := S1x128x2048) ![0, 0, o] S1x128x512.size (inb_o o ho)).emb x) 2 = gcol g (x 2) := by
    apply Fin.ext; show o + 1 * (x 2).val = 512 * g.val + (x 2).val; omega
  show _ = normed _ _ _
  rw [e1, e2, ← e]
  refine congrArg _ ((eq_ix3 x).trans ?_)
  have : x 0 = (0 : Fin 1) := Fin.ext x0
  rw [this]

theorem out_canon (y : FVec Ideal S128x2048 .f32) (nw : Fin 2048 → EReal) (hn : ∀ g j, K.nw g (ix2 0 j) = nw (gcol g j))
    (s : Fin 128) (j : Fin 2048) :
    View.canon (outL K y) (ix3 0 s j) = normed (fun j => gated K y (ix2 s j)) nw j := by
  refine View.canon_apply_of_pieces (oG K y nw) (outL K y) ?_ (ix3 0 s j)
    (View.cover_of_tiledL (outL K y) S1x128x512.size (by sl_kernel_rfl) _)
  intro p hp
  simp only [outL, List.mem_cons, List.not_mem_nil, or_false] at hp
  rcases hp with h | h | h | h
  · subst h; exact oPiece_ok K y nw 3 _ (by omega) rfl (hn 3)
  · subst h; exact oPiece_ok K y nw 2 _ (by omega) rfl (hn 2)
  · subst h; exact oPiece_ok K y nw 1 _ (by omega) rfl (hn 1)
  · subst h; exact oPiece_ok K y nw 0 _ (by omega) rfl (hn 0)

/-! ## The rows kept for the next chunk -/

def padL : List (View.Piece (Elt Ideal) S8x3072 .f32) :=
  [⟨Rect.unit ![2, 0] S1x3072.size inb_S8x3072_S1x3072_2_0, shapeCast S1x3072 (extractStridedSlice S1x3072 ![127, 0] (c2 K) slices_S128x3072_o127_0_S1x3072) shapeCasts_S1x3072_S1x3072⟩,
    ⟨Rect.unit ![1, 0] S1x3072.size inb_S8x3072_S1x3072_1_0, shapeCast S1x3072 (extractStridedSlice S1x3072 ![127, 0] (c1 K) slices_S128x3072_o127_0_S1x3072) shapeCasts_S1x3072_S1x3072⟩,
    ⟨Rect.unit ![0, 0] S1x3072.size inb_S8x3072_S1x3072_0_0, shapeCast S1x3072 (extractStridedSlice S1x3072 ![127, 0] (c0 K) slices_S128x3072_o127_0_S1x3072) shapeCasts_S1x3072_S1x3072⟩]

def padG : S8x3072.Idx → EReal := fun y =>
  if (y 0).val = 0 then c0 K (ix2 127 (y 1)) else if (y 0).val = 1 then c1 K (ix2 127 (y 1)) else c2 K (ix2 127 (y 1))

theorem last_row (v : FVec Ideal S128x3072 .f32) (x : S1x3072.Idx) :
    shapeCast S1x3072 (extractStridedSlice S1x3072 ![127, 0] v slices_S128x3072_o127_0_S1x3072) shapeCasts_S1x3072_S1x3072 x =
      v (ix2 127 (x 1)) := by
  have x0 : x 0 = (0 : Fin 1) := by apply Fin.ext; have := (x 0).isLt; change (x 0).val < 1 at this; show (x 0).val = 0; omega
  rw [eq_ix2 x, x0]
  pointwise

theorem padPiece_ok (k : ℕ) (hk : k ≤ 2) (inb) (x : (Rect.unit (s := S8x3072) ![k, 0] S1x3072.size inb).shape.Idx) :
    padG K ((Rect.unit (s := S8x3072) ![k, 0] S1x3072.size inb).emb x) =
      if k = 0 then c0 K (ix2 127 (x 1)) else if k = 1 then c1 K (ix2 127 (x 1)) else c2 K (ix2 127 (x 1)) := by
  have x0 : (x 0).val = 0 := by have := (x 0).isLt; change (x 0).val < 1 at this; omega
  have e0 : (((Rect.unit (s := S8x3072) ![k, 0] S1x3072.size inb).emb x) 0).val = k := by
    show k + 1 * (x 0).val = k; omega
  have e1 : ((Rect.unit (s := S8x3072) ![k, 0] S1x3072.size inb).emb x) 1 = x 1 := by
    apply Fin.ext; show 0 + 1 * (x 1).val = (x 1).val; omega
  rw [padG, e0, e1]

theorem pad_ok : ∀ p ∈ padL K, ∀ x : p.1.shape.Idx, p.2 x = padG K (p.1.emb x) := by
  intro p hp
  simp only [padL, List.mem_cons, List.not_mem_nil, or_false] at hp
  rcases hp with h | h | h
  · subst h; intro x; exact (last_row (c2 K) x).trans ((padPiece_ok K 2 (by omega) inb_S8x3072_S1x3072_2_0 x).trans (by simp)).symm
  · subst h; intro x; exact (last_row (c1 K) x).trans ((padPiece_ok K 1 (by omega) inb_S8x3072_S1x3072_1_0 x).trans (by simp)).symm
  · subst h; intro x; exact (last_row (c0 K) x).trans ((padPiece_ok K 0 (by omega) inb_S8x3072_S1x3072_0_0 x).trans (by simp)).symm

theorem pad_cover (k : Fin 8) (hk : k.val ≤ 2) (j : Fin 3072) : ∃ p ∈ padL K, (ix2 k j : S8x3072.Idx) ∈ p.1.set := by
  have hm : ∀ (q : ℕ) (inb), k.val = q → (ix2 k j : S8x3072.Idx) ∈ (Rect.unit (s := S8x3072) ![q, 0] S1x3072.size inb).set := by
    intro q inb e
    refine Rect.mem_set_unit.mpr fun a => ?_
    fin_cases a
    · show q ≤ k.val ∧ k.val < q + 1; omega
    · show 0 ≤ j.val ∧ j.val < 0 + 3072; omega
  rcases (by omega : k.val = 0 ∨ k.val = 1 ∨ k.val = 2) with h | h | h
  · exact ⟨_, .tail _ (.tail _ (.head _)), hm 0 inb_S8x3072_S1x3072_0_0 h⟩
  · exact ⟨_, .tail _ (.head _), hm 1 inb_S8x3072_S1x3072_1_0 h⟩
  · exact ⟨_, .head _, hm 2 inb_S8x3072_S1x3072_2_0 h⟩

/-! ## The convolution -/

/-- What a chunk is given: chunk `c` of the channels' sequences, and the partial sums at the row before it. -/
structure Feed (c : ℕ) (X : Fin 3072 → ℕ → EReal) (W : Fin 3072 → Fin 4 → EReal) (B : Fin 3072 → EReal) : Prop where
  x : ∀ (s : Fin 128) (j : Fin 3072), K.x (ix3 0 s j) = X j (128 * c + s.val)
  w0 : ∀ j : Fin 3072, K.w0 (ix2 0 j) = W j 0
  w1 : ∀ j : Fin 3072, K.w1 (ix2 0 j) = W j 1
  w2 : ∀ j : Fin 3072, K.w2 (ix2 0 j) = W j 2
  w3 : ∀ j : Fin 3072, K.w3 (ix2 0 j) = W j 3
  cb : ∀ j : Fin 3072, K.cb (ix2 0 j) = B j
  r0 : ∀ j : Fin 3072, K.r0 (ix2 0 j) = if c = 0 then 0 else conv0 (X j) (W j) (128 * c - 1)
  r1 : ∀ j : Fin 3072, K.r1 (ix2 0 j) = if c = 0 then 0 else conv1 (X j) (W j) (128 * c - 1)
  r2 : ∀ j : Fin 3072, K.r2 (ix2 0 j) = if c = 0 then 0 else conv2 (X j) (W j) (128 * c - 1)

variable {c : ℕ} {X : Fin 3072 → ℕ → EReal} {W : Fin 3072 → Fin 4 → EReal} {B : Fin 3072 → EReal}

/-- A row shifted down by one, the row before the chunk put on top. -/
theorem shift_row (c : ℕ) (Y : ℕ → EReal) (r : EReal) (v : Fin 128 → EReal) (s : Fin 128) (hs : (s.val + 128 - 1) % 128 < 128)
    (hr : r = if c = 0 then 0 else Y (128 * c - 1)) (hv : ∀ s, v s = Y (128 * c + s.val)) :
    (if s.val = 0 then r else v ⟨(s.val + 128 - 1) % 128, hs⟩) =
      if 128 * c + s.val = 0 then 0 else Y (128 * c + s.val - 1) := by
  by_cases h : s.val = 0
  · rw [if_pos h, hr, h]
    by_cases hc : c = 0
    · simp [hc]
    · rw [if_neg hc, if_neg (by omega), Nat.add_zero]
  · rw [if_neg h, hv, if_neg (by omega)]
    congr 1
    show 128 * c + (s.val + 128 - 1) % 128 = _
    omega

variable {K}

theorem c0_eq (F : Feed K c X W B) (s : Fin 128) (j : Fin 3072) : c0 K (ix2 s j) = conv0 (X j) (W j) (128 * c + s.val) := by
  have e : c0 K (ix2 s j) = K.x (ix3 0 s j) * K.w0 (ix2 0 j) := by
    pointwise [c0, k0_pay8, k0_pay6]
  rw [e, F.x, F.w0, conv0]

theorem c1_eq (F : Feed K c X W B) (s : Fin 128) (j : Fin 3072) : c1 K (ix2 s j) = conv1 (X j) (W j) (128 * c + s.val) := by
  have hs : (s.val + 128 - 1) % 128 < 128 := Nat.mod_lt _ (by omega)
  have e : c1 K (ix2 s j) = K.x (ix3 0 s j) * K.w1 (ix2 0 j) +
      Scalar.select (IntOp.cmpi .eq (BitVec.ofNat 32 ↑s) 0#32) (K.r0 (ix2 0 j))
        (c0 K (ix2 ⟨(s.val + 128 - 1) % 128, hs⟩ j)) := by
    pointwise [c0, c1, k0_pay8, k0_pay6, k0_pay7, k0_pay12, k0_pay9, k0_pay11]
  rw [e, sel_eq0, shift_row c (conv0 (X j) (W j)) _ (fun s => c0 K (ix2 s j)) s hs (F.r0 j) (fun s => c0_eq F s j), F.x, F.w1, conv1]

theorem c2_eq (F : Feed K c X W B) (s : Fin 128) (j : Fin 3072) : c2 K (ix2 s j) = conv2 (X j) (W j) (128 * c + s.val) := by
  have hs : (s.val + 128 - 1) % 128 < 128 := Nat.mod_lt _ (by omega)
  have e : c2 K (ix2 s j) = K.x (ix3 0 s j) * K.w2 (ix2 0 j) +
      Scalar.select (IntOp.cmpi .eq (BitVec.ofNat 32 ↑s) 0#32) (K.r1 (ix2 0 j))
        (c1 K (ix2 ⟨(s.val + 128 - 1) % 128, hs⟩ j)) := by
    pointwise [c1, c2, k0_pay6, k0_pay7, k0_pay14]
  rw [e, sel_eq0, shift_row c (conv1 (X j) (W j)) _ (fun s => c1 K (ix2 s j)) s hs (F.r1 j) (fun s => c1_eq F s j), F.x, F.w2, conv2]

theorem act_eq (F : Feed K c X W B) (s : Fin 128) (j : Fin 3072) : kA K s j = actAt (X j) (W j) (B j) (128 * c + s.val) := by
  have hs : (s.val + 128 - 1) % 128 < 128 := Nat.mod_lt _ (by omega)
  have e : act K (ix2 s j) =
      (K.x (ix3 0 s j) * K.w3 (ix2 0 j) + Scalar.select (IntOp.cmpi .eq (BitVec.ofNat 32 ↑s) 0#32) (K.r2 (ix2 0 j))
        (c2 K (ix2 ⟨(s.val + 128 - 1) % 128, hs⟩ j)) + K.cb (ix2 0 j)) *
      Ideal.logistic (K.x (ix3 0 s j) * K.w3 (ix2 0 j) + Scalar.select (IntOp.cmpi .eq (BitVec.ofNat 32 ↑s) 0#32) (K.r2 (ix2 0 j))
        (c2 K (ix2 ⟨(s.val + 128 - 1) % 128, hs⟩ j)) + K.cb (ix2 0 j)) := by
    pointwise [act, c2, k0_pay6, k0_pay7, k0_pay16]
  rw [kA, e, sel_eq0, shift_row c (conv2 (X j) (W j)) _ (fun s => c2 K (ix2 s j)) s hs (F.r2 j) (fun s => c2_eq F s j), F.x, F.w3, F.cb,
    actAt, conv3]

end SsdBody

end
-- ==== Proof.SsdStep.lean ====
module

public import proofs.«01_k».proof.Proof.SsdRow
public import Idealize.ShloMosaic.Lib.WholeRead
public import Idealize.ShloMosaic.Lib.Pipeline.ValueKit.Basic

/-! One chunk over the whole sequence's data: its output, the state and the kept rows it leaves for the next. -/

@[expose] public section

set_option maxRecDepth 16384

noncomputable section

namespace SsdSpec

open Idealize.ShloMosaic

/-- The time step of a raw value. -/
def softp (v : EReal) : EReal := max v 0 + Ideal.log (1 + Ideal.exp (0 - max v (-v)))

/-- One sequence's data: channels, taps, biases, raw time steps and their biases, decay logarithms, skips, gates, norm weights. -/
structure Seq where
  X : Fin 3072 → ℕ → EReal
  W : Fin 3072 → Fin 4 → EReal
  B : Fin 3072 → EReal
  T : Fin 32 → ℕ → EReal
  tb : Fin 32 → EReal
  al : Fin 32 → EReal
  sk : Fin 32 → EReal
  Z : Fin 2048 → ℕ → EReal
  nw : Fin 2048 → EReal

variable (Q : Seq)

/-- Chunk `c`'s activations, time steps, gates; the decay rates. -/
def Seq.A (c : ℕ) (s : Fin 128) (j : Fin 3072) : EReal := actAt (Q.X j) (Q.W j) (Q.B j) (128 * c + s.val)
def Seq.D (c : ℕ) (s : Fin 128) (h : Fin 32) : EReal := softp (Q.T h (128 * c + s.val) + Q.tb h)
def Seq.a (h : Fin 32) : EReal := -Ideal.exp (Q.al h)
def Seq.z (c : ℕ) (s : Fin 128) (j : Fin 2048) : EReal := Q.Z j (128 * c + s.val)
/-- The state at the start of chunk `c`. -/
def Seq.S (c : ℕ) : Fin 128 → Fin 2048 → EReal := stAt Q.A Q.D Q.a c
/-- The layer's output at row `s` of chunk `c`. -/
def Seq.out (c : ℕ) (s : Fin 128) (j : Fin 2048) : EReal :=
  normed (gate (Q.A c) (Q.D c) Q.a (Q.S c) Q.sk (Q.z c) s) Q.nw j

end SsdSpec

namespace SsdBody

open Cert.KernelIdeal Cert.KernelIdeal.Gen Idealize.ShloMosaic Idealize.ShloMosaic.TcCoe SsdSpec

/-- What a chunk is given of a sequence. -/
structure Given (K : Lds) (Q : Seq) (c : ℕ) : Prop where
  feed : Feed K c Q.X Q.W Q.B
  d : ∀ (s : Fin 128) (h : Fin 32), K.d (ix3 0 s (lane h)) = Q.T h (128 * c + s.val)
  db : ∀ h : Fin 32, K.db (ix2 0 (lane h)) = Q.tb h
  al : ∀ h : Fin 32, K.al (ix2 0 (lane h)) = Q.al h
  df : ∀ j : Fin 2048, K.df (ix2 0 j) = Q.sk (hd j)
  z : ∀ (s : Fin 128) (j : Fin 2048), K.z (ix3 0 s j) = Q.Z j (128 * c + s.val)
  nw : ∀ (g : Fin 4) (q : Fin 512), K.nw g (ix2 0 q) = Q.nw (gcol g q)
  st : ∀ (g : Fin 4) (n : Fin 128) (q : Fin 512), K.st g (ix3 0 n q) = Q.S c n (gcol g q)

variable {K : Lds} {Q : Seq} {c : ℕ} (G : Given K Q c)
include G

theorem kA_eq : kA K = Q.A c := funext fun s => funext fun j => act_eq G.feed s j
theorem kD_eq : kD K = Q.D c := funext fun s => funext fun h => by
  rw [kD, dt_apply, G.d, G.db]; rfl
theorem ka_eq : ka K = Q.a := funext fun h => by rw [ka, G.al]; rfl
theorem kS_eq : kS K = Q.S c := funext fun n => funext fun j => by
  rw [kS, G.st]
  congr 1
  apply Fin.ext; simp only [gcol, gr, inG]; omega

theorem step_out (v : View sig .tc .vmem S128x2048 .f32) (s : Fin 128) (j : Fin 2048) :
    View.canon (outL K (v.readCov (yL K) (Rect.unit (s := S128x2048) ![0, 0] S128x2048.size inb_S128x2048_S128x2048_0_0).toLoadRect))
      (ix3 0 s j) = Q.out c s j := by
  rw [out_canon K _ Q.nw G.nw, Seq.out]
  congr 1
  funext j
  rw [gated_apply, y_read, kA_eq G, kD_eq G, ka_eq G, kS_eq G, G.df, G.z]
  rfl

section st
variable (v0 v1 v2 v3 : View sig .tc .vmem S128x512 .bf16) (L' : List (View.Piece (Elt Ideal) S4x128x512 .f32))

theorem step_st (g : Fin 4) (n : Fin 128) (q : Fin 512) :
    View.canon (stL K (v0.readCov (wL4 K) (Rect.unit (s := S128x512) ![0, 0] S128x512.size inb_S128x512_S128x512_0_0).toLoadRect)
      (v1.readCov (wL8 K) (Rect.unit (s := S128x512) ![0, 0] S128x512.size inb_S128x512_S128x512_0_0).toLoadRect)
      (v2.readCov (wL12 K) (Rect.unit (s := S128x512) ![0, 0] S128x512.size inb_S128x512_S128x512_0_0).toLoadRect)
      (v3.readCov (wL16 K) (Rect.unit (s := S128x512) ![0, 0] S128x512.size inb_S128x512_S128x512_0_0).toLoadRect) ++ L')
      (ix3 g n q) = Q.S (c + 1) n (gcol g q) := by
  rw [st_canon K _ _ _ _ (w_read4 K v0) (w_read8 K v1) (w_read12 K v2) (w_read16 K v3), kA_eq G, kD_eq G, ka_eq G, kS_eq G]
  rfl

end st

/-- The rows a chunk keeps. -/
def keep (Q : Seq) (c : ℕ) (k : Fin 8) (j : Fin 3072) : EReal :=
  if k.val = 0 then conv0 (Q.X j) (Q.W j) (128 * c - 1) else if k.val = 1 then conv1 (Q.X j) (Q.W j) (128 * c - 1)
    else conv2 (Q.X j) (Q.W j) (128 * c - 1)

theorem padG_eq (k : Fin 8) (j : Fin 3072) : padG K (ix2 k j) = keep Q (c + 1) k j := by
  have e : 128 * c + (127 : Fin 128).val = 128 * (c + 1) - 1 := by show 128 * c + 127 = _; omega
  have h0 := c0_eq G.feed 127 j
  have h1 := c1_eq G.feed 127 j
  have h2 := c2_eq G.feed 127 j
  rw [e] at h0 h1 h2
  show (if k.val = 0 then c0 K (ix2 127 j) else if k.val = 1 then c1 K (ix2 127 j) else c2 K (ix2 127 j)) = _
  rw [h0, h1, h2]
  rfl

theorem step_pad_front (L' : List (View.Piece (Elt Ideal) S8x3072 .f32)) (k : Fin 8) (hk : k.val ≤ 2) (j : Fin 3072) :
    View.canon (padL K ++ L') (ix2 k j) = keep Q (c + 1) k j :=
  (canon_front (padG K) L' _ (pad_ok K) (ix2 k j) (pad_cover K k hk j)).trans (padG_eq G k j)

theorem step_pad_over (m : Memref sig .tc .vmem S8x3072 .f32) (f) (k : Fin 8) (hk : k.val ≤ 2) (j : Fin 3072) :
    m.view.read (Elt Ideal) (m.view.writes (Elt Ideal) f (padL K)) (ix2 k j) = keep Q (c + 1) k j :=
  (View.read_writes_apply_of_pieces _ _ (padG K) (padL K) (pad_ok K) (ix2 k j) (pad_cover K k hk j)).trans (padG_eq G k j)

end SsdBody

namespace SsdBody

open Cert.KernelIdeal Cert.KernelIdeal.Gen Idealize.ShloMosaic Idealize.ShloMosaic.TcCoe SsdSpec

/-! ## Loads of whole blocks -/

theorem ld2 {a b a' b' p q : ℕ} {e : EltTy} {m : Memref sig .tc .vmem ⟨2, ![a, b]⟩ e} (h : m.IsWhole)
    (X : (⟨2, ![a, b]⟩ : Shape).Idx → Elt Ideal e) (inb) (l : Fin a') (j : Fin b') (l' : Fin a) (j' : Fin b)
    (el : l'.val = p + l.val) (ej : j'.val = q + j.val) :
    View.readAt (Elt Ideal) m.view (Rect.unit (s := ⟨2, ![a, b]⟩) ![p, q] (⟨2, ![a', b']⟩ : Shape).size inb).toLoadRect (h.unread X) (ix2 l j) =
      X (ix2 l' j') := by
  refine (Memref.IsWhole.readAt_unread h X _ _).trans (congrArg X (funext fun k => ?_))
  fin_cases k
  · apply Fin.ext; show p + 1 * l.val = l'.val; omega
  · apply Fin.ext; show q + 1 * j.val = j'.val; omega

theorem ld3 {a b d a' b' d' p q r : ℕ} {e : EltTy} {m : Memref sig .tc .vmem ⟨3, ![a, b, d]⟩ e} (h : m.IsWhole)
    (X : (⟨3, ![a, b, d]⟩ : Shape).Idx → Elt Ideal e) (inb) (l : Fin a') (j : Fin b') (i : Fin d') (l' : Fin a) (j' : Fin b) (i' : Fin d)
    (el : l'.val = p + l.val) (ej : j'.val = q + j.val) (ei : i'.val = r + i.val) :
    View.readAt (Elt Ideal) m.view (Rect.unit (s := ⟨3, ![a, b, d]⟩) ![p, q, r] (⟨3, ![a', b', d']⟩ : Shape).size inb).toLoadRect (h.unread X) (ix3 l j i) =
      X (ix3 l' j' i') := by
  refine (Memref.IsWhole.readAt_unread h X _ _).trans (congrArg X (funext fun k => ?_))
  fin_cases k
  · apply Fin.ext; show p + 1 * l.val = l'.val; omega
  · apply Fin.ext; show q + 1 * j.val = j'.val; omega
  · apply Fin.ext; show r + 1 * i.val = i'.val; omega

/-! ## Loads of freshly zeroed scratch -/

theorem pay4_zero (y : S8x3072.Idx) : k0_pay4 (F := Ideal) y = 0 := by
  rw [eq_ix2 y]; pointwise [k0_pay4]
theorem pay5_zero (y : S4x128x512.Idx) : k0_pay5 (F := Ideal) y = 0 := by
  rw [eq_ix3 y]; pointwise [k0_pay5]

/-- A load past earlier stores to other boxes of a scratch that began as zeros. -/
theorem zero_under {s : Shape} (Z : s.Idx → Elt Ideal .f32) (hZ : ∀ y, Z y = (0 : EReal)) {off : Fin s.rank → ℕ}
    (inb : ∀ a, off a + s.size a ≤ s.size a) (h0 : ∀ a, off a = 0) :
    ∀ (L : List (View.Piece (Elt Ideal) s .f32)) (y : s.Idx), (∀ p ∈ L, y ∉ p.1.set) →
      View.canon (L ++ [⟨Rect.unit off s.size inb, Z⟩]) y = (0 : EReal)
  | [], y, _ => by
    rw [List.nil_append, View.canon_cons_unit_lit inb Z [] h0]; exact hZ y
  | p :: L, y, h => by
    rw [List.cons_append, View.canon_cons_of_not_mem _ _ (h p (List.mem_cons_self ..))]
    exact zero_under Z hZ inb h0 L y fun q hq => h q (List.mem_cons_of_mem _ hq)

theorem zero_row (v : View sig .tc .vmem S8x3072 .f32) (L : List (View.Piece (Elt Ideal) S8x3072 .f32)) (k : ℕ) (inb) (j : Fin 3072)
    (h : ∀ p ∈ L, p.1.off 0 + p.1.size 0 ≤ k ∧ ∀ a, p.1.stride a = 1) :
    v.readCov (L ++ [⟨Rect.unit ![0, 0] S8x3072.size inb_S8x3072_S8x3072_0_0, k0_pay4 (F := Ideal)⟩])
      (Rect.unit (s := S8x3072) ![k, 0] S1x3072.size inb).toLoadRect (ix2 0 j) = (0 : EReal) := by
  rw [View.readCov_eq_canon']
  refine zero_under _ pay4_zero _ (fun a => by fin_cases a <;> rfl) L _ fun p hp hm => ?_
  obtain ⟨h1, h2⟩ := h p hp
  obtain ⟨i, hi, e⟩ := p.1.mem_set.mp hm 0
  have e' : k + 1 * 0 = p.1.off 0 + p.1.stride 0 * i := e
  rw [h2] at e'
  have hi' : i < p.1.size 0 := hi
  omega

theorem zero_grp (v : View sig .tc .vmem S4x128x512 .f32) (L : List (View.Piece (Elt Ideal) S4x128x512 .f32)) (k : ℕ) (inb) (n : Fin 128) (q : Fin 512)
    (h : ∀ p ∈ L, p.1.off 0 + p.1.size 0 ≤ k ∧ ∀ a, p.1.stride a = 1) :
    v.readCov (L ++ [⟨Rect.unit ![0, 0, 0] S4x128x512.size inb_S4x128x512_S4x128x512_0_0_0, k0_pay5 (F := Ideal)⟩])
      (Rect.unit (s := S4x128x512) ![k, 0, 0] S1x128x512.size inb).toLoadRect (ix3 0 n q) = (0 : EReal) := by
  rw [View.readCov_eq_canon']
  refine zero_under _ pay5_zero _ (fun a => by fin_cases a <;> rfl) L _ fun p hp hm => ?_
  obtain ⟨h1, h2⟩ := h p hp
  obtain ⟨i, hi, e⟩ := p.1.mem_set.mp hm 0
  have e' : k + 1 * 0 = p.1.off 0 + p.1.stride 0 * i := e
  rw [h2] at e'
  have hi' : i < p.1.size 0 := hi
  omega

end SsdBody

end
-- ==== Proof.SsdPay.lean ====
module

public import proofs.«01_k».proof.Proof.SsdBody

/-! Each store's payload, over the base vectors, is the stage `SsdBody` names. -/

@[expose] public section

set_option maxRecDepth 16384

noncomputable section

namespace SsdBody

open Cert.KernelIdeal Cert.KernelIdeal.Gen Idealize.ShloMosaic Idealize.ShloMosaic.TcCoe

variable (K : Lds)

theorem pay_y15 :
    k0_pay159 k0_pay21 (eacs K) k0_pay28 (k0_pay129 (bm K) (cm K)) (k0_pay132 (cm K) (K.st 3)) (k0_pay156 (xs K) (dt K) k0_pay28) (k0_pay157 (xs K) (dt K) k0_pay21 (acs K) (acsT K) k0_pay28 (k0_pay129 (bm K) (cm K))) (k0_pay158 (acs K) (acsT K)) =
      yPair K 3 384 (by omega) 384 (by omega) 30 (by omega) 1920 (by omega) := by exact id rfl

theorem pay_y14 :
    k0_pay152 k0_pay28 (k0_pay132 (cm K) (K.st 3)) (k0_pay149 (xs K) (dt K) k0_pay21 (acs K) (acsT K) k0_pay28 (k0_pay129 (bm K) (cm K))) (k0_pay150 (eacs K)) (k0_pay151 (eacs K)) =
      yPair K 3 384 (by omega) 256 (by omega) 28 (by omega) 1792 (by omega) := by exact id rfl

theorem pay_y13 :
    k0_pay143 (xs K) (dt K) k0_pay21 (acs K) (acsT K) (eacs K) k0_pay28 (k0_pay129 (bm K) (cm K)) (k0_pay132 (cm K) (K.st 3)) =
      yPair K 3 384 (by omega) 128 (by omega) 26 (by omega) 1664 (by omega) := by exact id rfl

theorem pay_y12 :
    k0_pay137 k0_pay21 (acs K) (acsT K) (eacs K) k0_pay28 (k0_pay129 (bm K) (cm K)) (k0_pay132 (cm K) (K.st 3)) (k0_pay134 (xs K) (dt K) k0_pay28) (k0_pay135 (acsT K)) (k0_pay136 (acs K)) =
      yPair K 3 384 (by omega) 0 (by omega) 24 (by omega) 1536 (by omega) := by exact id rfl

theorem pay_y11 :
    k0_pay122 (xs K) (dt K) k0_pay21 (acs K) (acsT K) (eacs K) k0_pay28 (k0_pay95 (bm K) (cm K)) (k0_pay98 (cm K) (K.st 2)) =
      yPair K 2 256 (by omega) 384 (by omega) 22 (by omega) 1408 (by omega) := by exact id rfl

theorem pay_y10 :
    k0_pay116 k0_pay21 (acs K) (acsT K) (eacs K) k0_pay28 (k0_pay95 (bm K) (cm K)) (k0_pay98 (cm K) (K.st 2)) (k0_pay113 (xs K) (dt K) k0_pay28) (k0_pay114 (acs K)) (k0_pay115 (acsT K)) =
      yPair K 2 256 (by omega) 256 (by omega) 20 (by omega) 1280 (by omega) := by exact id rfl

theorem pay_y9 :
    k0_pay109 k0_pay21 (eacs K) k0_pay28 (k0_pay95 (bm K) (cm K)) (k0_pay98 (cm K) (K.st 2)) (k0_pay106 (xs K) (dt K) k0_pay28) (k0_pay107 (xs K) (dt K) k0_pay21 (acs K) (acsT K) k0_pay28 (k0_pay95 (bm K) (cm K))) (k0_pay108 (acs K) (acsT K)) (FloatOps.ofBits FTy.f32 4286578688#32) =
      yPair K 2 256 (by omega) 128 (by omega) 18 (by omega) 1152 (by omega) := by exact id rfl

theorem pay_y8 :
    k0_pay102 (k0_pay98 (cm K) (K.st 2)) (k0_pay100 (xs K) (bm K) (cm K) (dt K) k0_pay21 (acs K) (acsT K) k0_pay28) (k0_pay101 (eacs K) k0_pay28) =
      yPair K 2 256 (by omega) 0 (by omega) 16 (by omega) 1024 (by omega) := by exact id rfl

theorem pay_y7 :
    k0_pay90 k0_pay21 (eacs K) k0_pay28 (k0_pay63 (bm K) (cm K)) (k0_pay66 (cm K) (K.st 1)) (k0_pay86 (xs K) (dt K) k0_pay28) (k0_pay87 (xs K) (dt K) k0_pay21 (acs K) (acsT K) k0_pay28 (k0_pay63 (bm K) (cm K))) (k0_pay88 (acs K) (acsT K)) k0_pay89 =
      yPair K 1 128 (by omega) 384 (by omega) 14 (by omega) 896 (by omega) := by exact id rfl

theorem pay_y6 :
    k0_pay82 (k0_pay79 (xs K) (dt K) k0_pay21 (acs K) (acsT K) k0_pay28 (k0_pay63 (bm K) (cm K))) (k0_pay80 (eacs K) k0_pay28) (k0_pay81 (k0_pay66 (cm K) (K.st 1))) =
      yPair K 1 128 (by omega) 256 (by omega) 12 (by omega) 768 (by omega) := by exact id rfl

theorem pay_y5 :
    k0_pay74 (xs K) (dt K) k0_pay21 (acs K) (acsT K) (eacs K) k0_pay28 (k0_pay63 (bm K) (cm K)) (k0_pay66 (cm K) (K.st 1)) =
      yPair K 1 128 (by omega) 128 (by omega) 10 (by omega) 640 (by omega) := by exact id rfl

theorem pay_y4 :
    k0_pay70 k0_pay21 (acs K) (acsT K) (eacs K) k0_pay28 (k0_pay63 (bm K) (cm K)) (k0_pay66 (cm K) (K.st 1)) (k0_pay68 (xs K) (dt K) k0_pay28) (k0_pay69 (acs K) (acsT K)) =
      yPair K 1 128 (by omega) 0 (by omega) 8 (by omega) 512 (by omega) := by exact id rfl

theorem pay_y3 :
    k0_pay57 (dt K) k0_pay21 (acs K) (acsT K) (eacs K) k0_pay28 (k0_pay32 (cm K) (k0_pay30 (bm K))) (k0_pay35 (cm K) (K.st 0)) (k0_pay55 (xs K)) =
      yPair K 0 0 (by omega) 384 (by omega) 6 (by omega) 384 (by omega) := by exact id rfl

theorem pay_y2 :
    k0_pay52 k0_pay21 (acs K) (acsT K) (eacs K) k0_pay28 (k0_pay32 (cm K) (k0_pay30 (bm K))) (k0_pay35 (cm K) (K.st 0)) (k0_pay50 (xs K) (dt K) k0_pay28) (k0_pay51 (acs K) (acsT K)) (FloatOps.ofBits FTy.f32 4286578688#32) =
      yPair K 0 0 (by omega) 256 (by omega) 4 (by omega) 256 (by omega) := by exact id rfl

theorem pay_y1 :
    k0_pay46 (eacs K) k0_pay28 (k0_pay32 (cm K) (k0_pay30 (bm K))) (k0_pay35 (cm K) (K.st 0)) (k0_pay43 (xs K) (dt K) k0_pay28) (k0_pay44 (xs K) (dt K) k0_pay21 (acs K) (acsT K) k0_pay28 (k0_pay32 (cm K) (k0_pay30 (bm K)))) (k0_pay45 k0_pay21 (acs K) (acsT K)) =
      yPair K 0 0 (by omega) 128 (by omega) 2 (by omega) 128 (by omega) := by exact id rfl

theorem pay_y0 :
    k0_pay39 (k0_pay37 (xs K) (cm K) (dt K) k0_pay21 (acs K) (acsT K) k0_pay28 (k0_pay30 (bm K))) (k0_pay38 (cm K) (eacs K) k0_pay28 (K.st 0)) =
      yPair K 0 0 (by omega) 0 (by omega) 0 (by omega) 0 (by omega) := by exact id rfl

theorem pay_w15 :
    k0_pay160 (dte K) k0_pay28 (k0_pay155 (xs K) (dt K) k0_pay28) =
      wPair K 30 (by omega) 1920 (by omega) := by exact id rfl

theorem pay_w14 :
    k0_pay153 (dte K) k0_pay28 (k0_pay148 (xs K) (dt K) k0_pay28) =
      wPair K 28 (by omega) 1792 (by omega) := by exact id rfl

theorem pay_w13 :
    k0_pay146 k0_pay28 (k0_pay142 (xs K) (dt K) k0_pay28) (k0_pay144 (dte K)) (k0_pay145 (dte K)) =
      wPair K 26 (by omega) 1664 (by omega) := by exact id rfl

theorem pay_w12 :
    k0_pay138 (dte K) k0_pay28 (k0_pay133 (xs K) (dt K) k0_pay28) =
      wPair K 24 (by omega) 1536 (by omega) := by exact id rfl

theorem pay_w11 :
    k0_pay125 k0_pay28 (k0_pay121 (xs K) (dt K) k0_pay28) (k0_pay123 (dte K)) (k0_pay124 (dte K)) =
      wPair K 22 (by omega) 1408 (by omega) := by exact id rfl

theorem pay_w10 :
    k0_pay117 (dte K) k0_pay28 (k0_pay112 (xs K) (dt K) k0_pay28) =
      wPair K 20 (by omega) 1280 (by omega) := by exact id rfl

theorem pay_w9 :
    k0_pay110 (dte K) k0_pay28 (k0_pay105 (xs K) (dt K) k0_pay28) =
      wPair K 18 (by omega) 1152 (by omega) := by exact id rfl

theorem pay_w8 :
    k0_pay103 (dte K) k0_pay28 (k0_pay99 (xs K) (dt K) k0_pay28) =
      wPair K 16 (by omega) 1024 (by omega) := by exact id rfl

theorem pay_w7 :
    k0_pay91 (dte K) k0_pay28 (k0_pay85 (xs K) (dt K) k0_pay28) =
      wPair K 14 (by omega) 896 (by omega) := by exact id rfl

theorem pay_w6 :
    k0_pay83 (dte K) k0_pay28 (k0_pay78 (xs K) (dt K) k0_pay28) =
      wPair K 12 (by omega) 768 (by omega) := by exact id rfl

theorem pay_w5 :
    k0_pay76 (k0_pay73 (xs K) (dt K) k0_pay28) (k0_pay75 (dte K) k0_pay28) =
      wPair K 10 (by omega) 640 (by omega) := by exact id rfl

theorem pay_w4 :
    k0_pay71 (dte K) k0_pay28 (k0_pay67 (xs K) (dt K) k0_pay28) =
      wPair K 8 (by omega) 512 (by omega) := by exact id rfl

theorem pay_w3 :
    k0_pay59 (k0_pay58 (dt K) (dte K) k0_pay28 (k0_pay55 (xs K))) =
      wPair K 6 (by omega) 384 (by omega) := by exact id rfl

theorem pay_w2 :
    k0_pay53 (dte K) k0_pay28 (k0_pay49 (xs K) (dt K) k0_pay28) =
      wPair K 4 (by omega) 256 (by omega) := by exact id rfl

theorem pay_w1 :
    k0_pay47 (dte K) k0_pay28 (k0_pay42 (xs K) (dt K) k0_pay28) =
      wPair K 2 (by omega) 128 (by omega) := by exact id rfl

theorem pay_w0 :
    k0_pay40 (dte K) k0_pay28 (k0_pay36 (xs K) (dt K) k0_pay28) =
      wPair K 0 (by omega) 0 (by omega) := by exact id rfl

theorem pay_s0 (W : FVec Ideal S128x512 .bf16) :
    k0_pay60 (cdec K) k0_pay29 (k0_pay33 (k0_pay30 (bm K))) (k0_pay34 (K.st 0)) (k0_pay41 (cdec K) k0_pay29) (k0_pay48 (cdec K) k0_pay29) (k0_pay54 (cdec K) k0_pay29) W =
      stNew K 0 0 (by omega) 0 (by omega) W := by exact id rfl

theorem pay_s1 (W : FVec Ideal S128x512 .bf16) :
    k0_pay92 (cdec K) k0_pay29 (k0_pay64 (bm K)) (k0_pay65 (K.st 1)) (k0_pay72 (cdec K) k0_pay29) (k0_pay77 (cdec K) k0_pay29) (k0_pay84 (cdec K) k0_pay29) W =
      stNew K 1 128 (by omega) 8 (by omega) W := by exact id rfl

theorem pay_s2 (W : FVec Ideal S128x512 .bf16) :
    k0_pay126 (cdec K) k0_pay29 (k0_pay96 (bm K)) (k0_pay97 (K.st 2)) (k0_pay104 (cdec K) k0_pay29) (k0_pay111 (cdec K) k0_pay29) (k0_pay120 k0_pay29 (k0_pay118 (cdec K)) (k0_pay119 (cdec K))) W =
      stNew K 2 256 (by omega) 16 (by omega) W := by exact id rfl

theorem pay_s3 (W : FVec Ideal S128x512 .bf16) :
    k0_pay162 (k0_pay161 (cdec K) k0_pay29 (k0_pay130 (bm K)) (k0_pay131 (K.st 3)) (k0_pay141 k0_pay29 (k0_pay139 (cdec K)) (k0_pay140 (cdec K))) (k0_pay147 (cdec K) k0_pay29) (k0_pay154 (cdec K) k0_pay29) W) =
      stNew K 3 384 (by omega) 24 (by omega) W := by exact id rfl

theorem pay_out3 (Y : FVec Ideal S128x2048 .f32) :
    k0_pay1 (k0_pay170 (k0_pay163 (xs K) Y K.df K.z)) (K.nw 3) = outG K Y 3 1536 (by omega) := by exact id rfl
theorem pay_out2 (Y : FVec Ideal S128x2048 .f32) :
    k0_pay169 (k0_pay163 (xs K) Y K.df K.z) (K.nw 2) = outG K Y 2 1024 (by omega) := by exact id rfl
theorem pay_out1 (Y : FVec Ideal S128x2048 .f32) :
    k0_pay168 (k0_pay165 (xs K) Y K.df K.z) (k0_pay166 (xs K) Y K.df K.z) k0_pay167 (K.nw 1) =
      outG K Y 1 512 (by omega) := by exact id rfl
theorem pay_out0 (Y : FVec Ideal S128x2048 .f32) :
    k0_pay164 (xs K) Y K.df K.z (K.nw 0) = outG K Y 0 0 (by omega) := by exact id rfl

end SsdBody

end
-- ==== Proof.SsdRunA.lean ====
module

public import proofs.«01_k».proof.Proof.SsdPay
public import proofs.«01_k».proof.Proof.Gen.KernelIdeal.Frame

/-! The body's run at a point that is a row's first, its stores spelled with the stages of `SsdBody`. -/

@[expose] public section

set_option maxRecDepth 16384

noncomputable section

namespace SsdBody

open Cert.KernelIdeal Cert.KernelIdeal.Gen Idealize.ShloMosaic Idealize.ShloMosaic.TcCoe

section

variable (c : Dev nD) (i : Cert.KernelIdeal.grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x128x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S8x3072 .f32) (harg16 : arg16.IsWhole) (arg17 : Memref sig .tc .vmem S4x128x512 .f32) (harg17 : arg17.IsWhole) (arg18 : Memref sig .tc .vmem S128x2048 .f32) (harg18 : arg18.IsWhole) (arg19 : Memref sig .tc .vmem S128x512 .bf16) (harg19 : arg19.IsWhole) (hc0 : cond0_0 i)
  (x0 : Vec Ideal S1x128x3072 .bf16) (x1 : Vec Ideal S1x128x2048 .bf16) (x2 : Vec Ideal S1x128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S512x1024 .f32) (x10 : Vec Ideal S512x1024 .f32)

/-- What the point loads. -/
def ldsA : Lds where
  x := View.readAt (Elt Ideal) arg2.view (Rect.unit (s := S1x128x3072) ![0, 0, 0] S1x128x3072.size inb_S1x128x3072_S1x128x3072_0_0_0).toLoadRect (harg2.unread x0)
  w0 := View.readAt (Elt Ideal) arg5.view (Rect.unit (s := S4x3072) ![0, 0] S1x3072.size inb_S4x3072_S1x3072_0_0).toLoadRect (harg5.unread x3)
  w1 := View.readAt (Elt Ideal) arg5.view (Rect.unit (s := S4x3072) ![1, 0] S1x3072.size inb_S4x3072_S1x3072_1_0).toLoadRect (harg5.unread x3)
  w2 := View.readAt (Elt Ideal) arg5.view (Rect.unit (s := S4x3072) ![2, 0] S1x3072.size inb_S4x3072_S1x3072_2_0).toLoadRect (harg5.unread x3)
  w3 := View.readAt (Elt Ideal) arg5.view (Rect.unit (s := S4x3072) ![3, 0] S1x3072.size inb_S4x3072_S1x3072_3_0).toLoadRect (harg5.unread x3)
  cb := View.readAt (Elt Ideal) arg6.view (Rect.unit (s := S1x3072) ![0, 0] S1x3072.size inb_S1x3072_S1x3072_0_0).toLoadRect (harg6.unread x4)
  r0 := (kernelRun0_A.sl.v20 (F := Ideal) c arg16)
  r1 := (kernelRun0_A.sl.v33 (F := Ideal) c arg2 harg2 arg5 harg5 arg16 x0 x3)
  r2 := (kernelRun0_A.sl.v46 (F := Ideal) c arg2 harg2 arg5 harg5 arg16 x0 x3)
  d := View.readAt (Elt Ideal) arg4.view (Rect.unit (s := S1x128x128) ![0, 0, 0] S1x128x128.size inb_S1x128x128_S1x128x128_0_0_0).toLoadRect (harg4.unread x2)
  db := View.readAt (Elt Ideal) arg7.view (Rect.unit (s := S1x128) ![0, 0] S1x128.size inb_S1x128_S1x128_0_0).toLoadRect (harg7.unread x5)
  al := View.readAt (Elt Ideal) arg8.view (Rect.unit (s := S1x128) ![0, 0] S1x128.size inb_S1x128_S1x128_0_0).toLoadRect (harg8.unread x6)
  df := View.readAt (Elt Ideal) arg9.view (Rect.unit (s := S1x2048) ![0, 0] S1x2048.size inb_S1x2048_S1x2048_0_0).toLoadRect (harg9.unread x7)
  z := View.readAt (Elt Ideal) arg3.view (Rect.unit (s := S1x128x2048) ![0, 0, 0] S1x128x2048.size inb_S1x128x2048_S1x128x2048_0_0_0).toLoadRect (harg3.unread x1)
  st := ![(kernelRun0_A.sl.v121 (F := Ideal) c arg17),
    (kernelRun0_A.sl.v400 (F := Ideal) c arg2 harg2 arg4 harg4 arg5 harg5 arg6 harg6 arg7 harg7 arg8 harg8 arg16 arg17 arg19 x0 x2 x3 x4 x5 x6),
    (kernelRun0_A.sl.v679 (F := Ideal) c arg2 harg2 arg4 harg4 arg5 harg5 arg6 harg6 arg7 harg7 arg8 harg8 arg16 arg17 arg19 x0 x2 x3 x4 x5 x6),
    (kernelRun0_A.sl.v958 (F := Ideal) c arg2 harg2 arg4 harg4 arg5 harg5 arg6 harg6 arg7 harg7 arg8 harg8 arg16 arg17 arg19 x0 x2 x3 x4 x5 x6)]
  nw := ![View.readAt (Elt Ideal) arg10.view (Rect.unit (s := S1x2048) ![0, 0] S1x512.size inb_S1x2048_S1x512_0_0).toLoadRect (harg10.unread x8),
    View.readAt (Elt Ideal) arg10.view (Rect.unit (s := S1x2048) ![0, 512] S1x512.size inb_S1x2048_S1x512_0_512).toLoadRect (harg10.unread x8),
    View.readAt (Elt Ideal) arg10.view (Rect.unit (s := S1x2048) ![0, 1024] S1x512.size inb_S1x2048_S1x512_0_1024).toLoadRect (harg10.unread x8),
    View.readAt (Elt Ideal) arg10.view (Rect.unit (s := S1x2048) ![0, 1536] S1x512.size inb_S1x2048_S1x512_0_1536).toLoadRect (harg10.unread x8)]

theorem xsA : (kernelRun0_A.sl.r_3 (F := Ideal) c arg2 harg2 arg5 harg5 arg6 harg6 arg16 x0 x3 x4) = xs (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem bmA : (kernelRun0_A.sl.r_4 (F := Ideal) c arg2 harg2 arg5 harg5 arg6 harg6 arg16 x0 x3 x4) = bm (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem cmA : (kernelRun0_A.sl.r_5 (F := Ideal) c arg2 harg2 arg5 harg5 arg6 harg6 arg16 x0 x3 x4) = cm (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem dtA : (kernelRun0_A.sl.r_6 (F := Ideal) c arg4 harg4 arg7 harg7 x2 x5) = dt (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem acsA : (kernelRun0_A.sl.r_7 (F := Ideal) c arg4 harg4 arg7 harg7 arg8 harg8 x2 x5 x6) = acs (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem acsTA : (kernelRun0_A.sl.r_8 (F := Ideal) c arg4 harg4 arg7 harg7 arg8 harg8 x2 x5 x6) = acsT (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem eacsA : (kernelRun0_A.sl.r_9 (F := Ideal) c arg4 harg4 arg7 harg7 arg8 harg8 x2 x5 x6) = eacs (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem dteA : (kernelRun0_A.sl.r_10 (F := Ideal) c arg4 harg4 arg7 harg7 arg8 harg8 x2 x5 x6) = dte (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem cdecA : (kernelRun0_A.sl.r_11 (F := Ideal) c arg4 harg4 arg7 harg7 arg8 harg8 x2 x5 x6) = cdec (ldsA c arg2 harg2 arg3 harg3 arg4 harg4 arg5 harg5 arg6 harg6 arg7 harg7 arg8 harg8 arg9 harg9 arg10 harg10 arg16 arg17 arg19 x0 x1 x2 x3 x4 x5 x6 x7 x8) := by exact id rfl

theorem yA : (kernelRun0_A.sl.HS2_16 (F := Ideal) c arg2 harg2 arg4 harg4 arg5 harg5 arg6 harg6 arg7 harg7 arg8 harg8 arg16 arg17 arg19 x0 x2 x3 x4 x5 x6) = yL (ldsA c arg2 harg2 arg3 harg3 arg4 harg4 arg5 harg5 arg6 harg6 arg7 harg7 arg8 harg8 arg9 harg9 arg10 harg10 arg16 arg17 arg19 x0 x1 x2 x3 x4 x5 x6 x7 x8) := by
  have h : (kernelRun0_A.sl.HS2_16 (F := Ideal) c arg2 harg2 arg4 harg4 arg5 harg5 arg6 harg6 arg7 harg7 arg8 harg8 arg16 arg17 arg19 x0 x2 x3 x4 x5 x6) =
    [⟨Rect.unit ![0, 1920] S128x128.size (inb_y 1920 (by omega)),
        k0_pay159 k0_pay21 (kernelRun0_A.sl.r_9 (F := Ideal) c arg4 harg4 arg7 harg7 arg8 harg8 x2 x5 x6) k0_pay28 (k0_pay129 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay132 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 3)) (k0_pay156 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay157 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay129 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4))) (k0_pay158 (kernelRun0_A.sl.r_7 (F := Ideal) c arg4 harg4 arg7 harg7 arg8 harg8 x2 x5 x6) (kernelRun0_A.sl.r_8 (F := Ideal) c arg4 harg4 arg7 harg7 arg8 harg8 x2 x5 x6))⟩,
      ⟨Rect.unit ![0, 1792] S128x128.size (inb_y 1792 (by omega)),
        k0_pay152 k0_pay28 (k0_pay132 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 3)) (k0_pay149 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay129 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4))) (k0_pay150 (kernelRun0_A.sl.r_9 (F := Ideal) c arg4 harg4 arg7 harg7 arg8 harg8 x2 x5 x6)) (k0_pay151 (kernelRun0_A.sl.r_9 (F := Ideal) c arg4 harg4 arg7 harg7 arg8 harg8 x2 x5 x6))⟩,
      ⟨Rect.unit ![0, 1664] S128x128.size (inb_y 1664 (by omega)),
        k0_pay143 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay129 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay132 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 3))⟩,
      ⟨Rect.unit ![0, 1536] S128x128.size (inb_y 1536 (by omega)),
        k0_pay137 k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay129 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay132 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 3)) (k0_pay134 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay135 (kernelRun0_A.sl.r_8 (F := Ideal) c arg4 harg4 arg7 harg7 arg8 harg8 x2 x5 x6)) (k0_pay136 (kernelRun0_A.sl.r_7 (F := Ideal) c arg4 harg4 arg7 harg7 arg8 harg8 x2 x5 x6))⟩,
      ⟨Rect.unit ![0, 1408] S128x128.size (inb_y 1408 (by omega)),
        k0_pay122 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay95 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay98 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 2))⟩,
      ⟨Rect.unit ![0, 1280] S128x128.size (inb_y 1280 (by omega)),
        k0_pay116 k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay95 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay98 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 2)) (k0_pay113 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay114 (kernelRun0_A.sl.r_7 (F := Ideal) c arg4 harg4 arg7 harg7 arg8 harg8 x2 x5 x6)) (k0_pay115 (kernelRun0_A.sl.r_8 (F := Ideal) c arg4 harg4 arg7 harg7 arg8 harg8 x2 x5 x6))⟩,
      ⟨Rect.unit ![0, 1152] S128x128.size (inb_y 1152 (by omega)),
        k0_pay109 k0_pay21 (kernelRun0_A.sl.r_9 (F := Ideal) c arg4 harg4 arg7 harg7 arg8 harg8 x2 x5 x6) k0_pay28 (k0_pay95 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay98 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 2)) (k0_pay106 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay107 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay95 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4))) (k0_pay108 (kernelRun0_A.sl.r_7 (F := Ideal) c arg4 harg4 arg7 harg7 arg8 harg8 x2 x5 x6) (kernelRun0_A.sl.r_8 (F := Ideal) c arg4 harg4 arg7 harg7 arg8 harg8 x2 x5 x6)) (FloatOps.ofBits FTy.f32 4286578688#32)⟩,
      ⟨Rect.unit ![0, 1024] S128x128.size (inb_y 1024 (by omega)),
        k0_pay102 (k0_pay98 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 2)) (k0_pay100 (kernelRun0_A.sl.r_3 (F := Ideal) c arg2 harg2 arg5 harg5 arg6 harg6 arg16 x0 x3 x4) (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28) (k0_pay101 (kernelRun0_A.sl.r_9 (F := Ideal) c arg4 harg4 arg7 harg7 arg8 harg8 x2 x5 x6) k0_pay28)⟩,
      ⟨Rect.unit ![0, 896] S128x128.size (inb_y 896 (by omega)),
        k0_pay90 k0_pay21 (kernelRun0_A.sl.r_9 (F := Ideal) c arg4 harg4 arg7 harg7 arg8 harg8 x2 x5 x6) k0_pay28 (k0_pay63 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay66 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 1)) (k0_pay86 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay87 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay63 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4))) (k0_pay88 (kernelRun0_A.sl.r_7 (F := Ideal) c arg4 harg4 arg7 harg7 arg8 harg8 x2 x5 x6) (kernelRun0_A.sl.r_8 (F := Ideal) c arg4 harg4 arg7 harg7 arg8 harg8 x2 x5 x6)) k0_pay89⟩,
      ⟨Rect.unit ![0, 768] S128x128.size (inb_y 768 (by omega)),
        k0_pay82 (k0_pay79 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay63 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4))) (k0_pay80 (kernelRun0_A.sl.r_9 (F := Ideal) c arg4 harg4 arg7 harg7 arg8 harg8 x2 x5 x6) k0_pay28) (k0_pay81 (k0_pay66 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 1)))⟩,
      ⟨Rect.unit ![0, 640] S128x128.size (inb_y 640 (by omega)),
        k0_pay74 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay63 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay66 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 1))⟩,
      ⟨Rect.unit ![0, 512] S128x128.size (inb_y 512 (by omega)),
        k0_pay70 k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay63 (kernelRun0_A.sl.r_4 (F := Ideal) c arg2 harg2 arg5 harg5 arg6 harg6 arg16 x0 x3 x4) (kernelRun0_A.sl.r_5 (F := Ideal) c arg2 harg2 arg5 harg5 arg6 harg6 arg16 x0 x3 x4)) (k0_pay66 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 1)) (k0_pay68 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay69 (kernelRun0_A.sl.r_7 (F := Ideal) c arg4 harg4 arg7 harg7 arg8 harg8 x2 x5 x6) (kernelRun0_A.sl.r_8 (F := Ideal) c arg4 harg4 arg7 harg7 arg8 harg8 x2 x5 x6))⟩,
      ⟨Rect.unit ![0, 384] S128x128.size (inb_y 384 (by omega)),
        k0_pay57 (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay32 (kernelRun0_A.sl.r_5 (F := Ideal) c arg2 harg2 arg5 harg5 arg6 harg6 arg16 x0 x3 x4) (k0_pay30 (kernelRun0_A.sl.r_4 (F := Ideal) c arg2 harg2 arg5 harg5 arg6 harg6 arg16 x0 x3 x4))) (k0_pay35 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 0)) (k0_pay55 (kernelRun0_A.sl.r_3 (F := Ideal) c arg2 harg2 arg5 harg5 arg6 harg6 arg16 x0 x3 x4))⟩,
      ⟨Rect.unit ![0, 256] S128x128.size (inb_y 256 (by omega)),
        k0_pay52 k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) (kernelRun0_A.sl.r_9 (F := Ideal) c arg4 harg4 arg7 harg7 arg8 harg8 x2 x5 x6) k0_pay28 (k0_pay32 (kernelRun0_A.sl.r_5 (F := Ideal) c arg2 harg2 arg5 harg5 arg6 harg6 arg16 x0 x3 x4) (k0_pay30 (kernelRun0_A.sl.r_4 (F := Ideal) c arg2 harg2 arg5 harg5 arg6 harg6 arg16 x0 x3 x4))) (k0_pay35 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 0)) (k0_pay50 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay51 (kernelRun0_A.sl.r_7 (F := Ideal) c arg4 harg4 arg7 harg7 arg8 harg8 x2 x5 x6) (kernelRun0_A.sl.r_8 (F := Ideal) c arg4 harg4 arg7 harg7 arg8 harg8 x2 x5 x6)) (FloatOps.ofBits FTy.f32 4286578688#32)⟩,
      ⟨Rect.unit ![0, 128] S128x128.size (inb_y 128 (by omega)),
        k0_pay46 (kernelRun0_A.sl.r_9 (F := Ideal) c arg4 harg4 arg7 harg7 arg8 harg8 x2 x5 x6) k0_pay28 (k0_pay32 (kernelRun0_A.sl.r_5 (F := Ideal) c arg2 harg2 arg5 harg5 arg6 harg6 arg16 x0 x3 x4) (k0_pay30 (kernelRun0_A.sl.r_4 (F := Ideal) c arg2 harg2 arg5 harg5 arg6 harg6 arg16 x0 x3 x4))) (k0_pay35 (kernelRun0_A.sl.r_5 (F := Ideal) c arg2 harg2 arg5 harg5 arg6 harg6 arg16 x0 x3 x4) ((ldsA c arg2 harg2 arg3 harg3 arg4 harg4 arg5 harg5 arg6 harg6 arg7 harg7 arg8 harg8 arg9 harg9 arg10 harg10 arg16 arg17 arg19 x0 x1 x2 x3 x4 x5 x6 x7 x8).st 0)) (k0_pay43 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay44 (kernelRun0_A.sl.r_3 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay32 (kernelRun0_A.sl.r_5 (F := Ideal) c arg2 harg2 arg5 harg5 arg6 harg6 arg16 x0 x3 x4) (k0_pay30 (kernelRun0_A.sl.r_4 (F := Ideal) c arg2 harg2 arg5 harg5 arg6 harg6 arg16 x0 x3 x4)))) (k0_pay45 k0_pay21 (kernelRun0_A.sl.r_7 (F := Ideal) c arg4 harg4 arg7 harg7 arg8 harg8 x2 x5 x6) (kernelRun0_A.sl.r_8 (F := Ideal) c arg4 harg4 arg7 harg7 arg8 harg8 x2 x5 x6))⟩,
      ⟨Rect.unit ![0, 0] S128x128.size (inb_y 0 (by omega)),
        k0_pay39 (k0_pay37 (kernelRun0_A.sl.r_3 (F := Ideal) c arg2 harg2 arg5 harg5 arg6 harg6 arg16 x0 x3 x4) (kernelRun0_A.sl.r_5 (F := Ideal) c arg2 harg2 arg5 harg5 arg6 harg6 arg16 x0 x3 x4) (kernelRun0_A.sl.r_6 (F := Ideal) c arg4 harg4 arg7 harg7 x2 x5) k0_pay21 (kernelRun0_A.sl.r_7 (F := Ideal) c arg4 harg4 arg7 harg7 arg8 harg8 x2 x5 x6) (kernelRun0_A.sl.r_8 (F := Ideal) c arg4 harg4 arg7 harg7 arg8 harg8 x2 x5 x6) k0_pay28 (k0_pay30 (kernelRun0_A.sl.r_4 (F := Ideal) c arg2 harg2 arg5 harg5 arg6 harg6 arg16 x0 x3 x4))) (k0_pay38 (kernelRun0_A.sl.r_5 (F := Ideal) c arg2 harg2 arg5 harg5 arg6 harg6 arg16 x0 x3 x4) (kernelRun0_A.sl.r_9 (F := Ideal) c arg4 harg4 arg7 harg7 arg8 harg8 x2 x5 x6) k0_pay28 ((ldsA c arg2 harg2 arg3 harg3 arg4 harg4 arg5 harg5 arg6 harg6 arg7 harg7 arg8 harg8 arg9 harg9 arg10 harg10 arg16 arg17 arg19 x0 x1 x2 x3 x4 x5 x6 x7 x8).st 0))⟩] := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8] at h
  rw [h, pay_y15, pay_y14, pay_y13, pay_y12, pay_y11, pay_y10, pay_y9, pay_y8, pay_y7, pay_y6, pay_y5, pay_y4, pay_y3, pay_y2, pay_y1, pay_y0]
  rfl

theorem w4A : (kernelRun0_A.sl.HS3_4 (F := Ideal) c arg2 harg2 arg4 harg4 arg5 harg5 arg6 harg6 arg7 harg7 arg8 harg8 arg16 x0 x2 x3 x4 x5 x6) = wL4 (ldsA c arg2 harg2 arg3 harg3 arg4 harg4 arg5 harg5 arg6 harg6 arg7 harg7 arg8 harg8 arg9 harg9 arg10 harg10 arg16 arg17 arg19 x0 x1 x2 x3 x4 x5 x6 x7 x8) := by
  have h : (kernelRun0_A.sl.HS3_4 (F := Ideal) c arg2 harg2 arg4 harg4 arg5 harg5 arg6 harg6 arg7 harg7 arg8 harg8 arg16 x0 x2 x3 x4 x5 x6) =
    ⟨Rect.unit ![0, 384] S128x128.size (inb_w 384 (by omega)),
        k0_pay59 (k0_pay58 (kernelRun0_A.sl.r_6 (F := Ideal) c arg4 harg4 arg7 harg7 x2 x5) (kernelRun0_A.sl.r_10 (F := Ideal) c arg4 harg4 arg7 harg7 arg8 harg8 x2 x5 x6) k0_pay28 (k0_pay55 (kernelRun0_A.sl.r_3 (F := Ideal) c arg2 harg2 arg5 harg5 arg6 harg6 arg16 x0 x3 x4)))⟩ ::
      ⟨Rect.unit ![0, 256] S128x128.size (inb_w 256 (by omega)),
        k0_pay53 (kernelRun0_A.sl.r_10 (F := Ideal) c arg4 harg4 arg7 harg7 arg8 harg8 x2 x5 x6) k0_pay28 (k0_pay49 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 128] S128x128.size (inb_w 128 (by omega)),
        k0_pay47 (kernelRun0_A.sl.r_10 (F := Ideal) c arg4 harg4 arg7 harg7 arg8 harg8 x2 x5 x6) k0_pay28 (k0_pay42 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 0] S128x128.size (inb_w 0 (by omega)),
        k0_pay40 (kernelRun0_A.sl.r_10 (F := Ideal) c arg4 harg4 arg7 harg7 arg8 harg8 x2 x5 x6) k0_pay28 (k0_pay36 (kernelRun0_A.sl.r_3 (F := Ideal) c arg2 harg2 arg5 harg5 arg6 harg6 arg16 x0 x3 x4) (kernelRun0_A.sl.r_6 (F := Ideal) c arg4 harg4 arg7 harg7 x2 x5) k0_pay28)⟩ :: [] := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8] at h
  rw [h, pay_w3, pay_w2, pay_w1, pay_w0]
  rfl

theorem w8A : (kernelRun0_A.sl.HS3_8 (F := Ideal) c arg2 harg2 arg4 harg4 arg5 harg5 arg6 harg6 arg7 harg7 arg8 harg8 arg16 x0 x2 x3 x4 x5 x6) = wL8 (ldsA c arg2 harg2 arg3 harg3 arg4 harg4 arg5 harg5 arg6 harg6 arg7 harg7 arg8 harg8 arg9 harg9 arg10 harg10 arg16 arg17 arg19 x0 x1 x2 x3 x4 x5 x6 x7 x8) := by
  have h : (kernelRun0_A.sl.HS3_8 (F := Ideal) c arg2 harg2 arg4 harg4 arg5 harg5 arg6 harg6 arg7 harg7 arg8 harg8 arg16 x0 x2 x3 x4 x5 x6) =
    ⟨Rect.unit ![0, 384] S128x128.size (inb_w 384 (by omega)),
        k0_pay91 (kernelRun0_A.sl.r_10 (F := Ideal) c arg4 harg4 arg7 harg7 arg8 harg8 x2 x5 x6) k0_pay28 (k0_pay85 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 256] S128x128.size (inb_w 256 (by omega)),
        k0_pay83 (kernelRun0_A.sl.r_10 (F := Ideal) c arg4 harg4 arg7 harg7 arg8 harg8 x2 x5 x6) k0_pay28 (k0_pay78 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 128] S128x128.size (inb_w 128 (by omega)),
        k0_pay76 (k0_pay73 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay75 (kernelRun0_A.sl.r_10 (F := Ideal) c arg4 harg4 arg7 harg7 arg8 harg8 x2 x5 x6) k0_pay28)⟩ ::
      ⟨Rect.unit ![0, 0] S128x128.size (inb_w 0 (by omega)),
        k0_pay71 (kernelRun0_A.sl.r_10 (F := Ideal) c arg4 harg4 arg7 harg7 arg8 harg8 x2 x5 x6) k0_pay28 (k0_pay67 (kernelRun0_A.sl.r_3 (F := Ideal) c arg2 harg2 arg5 harg5 arg6 harg6 arg16 x0 x3 x4) (kernelRun0_A.sl.r_6 (F := Ideal) c arg4 harg4 arg7 harg7 x2 x5) k0_pay28)⟩ :: (kernelRun0_A.sl.HS3_4 (F := Ideal) c arg2 harg2 arg4 harg4 arg5 harg5 arg6 harg6 arg7 harg7 arg8 harg8 arg16 x0 x2 x3 x4 x5 x6) := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8] at h
  rw [h, pay_w7, pay_w6, pay_w5, pay_w4, w4A]
  rfl

theorem w12A : (kernelRun0_A.sl.HS3_12 (F := Ideal) c arg2 harg2 arg4 harg4 arg5 harg5 arg6 harg6 arg7 harg7 arg8 harg8 arg16 x0 x2 x3 x4 x5 x6) = wL12 (ldsA c arg2 harg2 arg3 harg3 arg4 harg4 arg5 harg5 arg6 harg6 arg7 harg7 arg8 harg8 arg9 harg9 arg10 harg10 arg16 arg17 arg19 x0 x1 x2 x3 x4 x5 x6 x7 x8) := by
  have h : (kernelRun0_A.sl.HS3_12 (F := Ideal) c arg2 harg2 arg4 harg4 arg5 harg5 arg6 harg6 arg7 harg7 arg8 harg8 arg16 x0 x2 x3 x4 x5 x6) =
    ⟨Rect.unit ![0, 384] S128x128.size (inb_w 384 (by omega)),
        k0_pay125 k0_pay28 (k0_pay121 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay123 (kernelRun0_A.sl.r_10 (F := Ideal) c arg4 harg4 arg7 harg7 arg8 harg8 x2 x5 x6)) (k0_pay124 (kernelRun0_A.sl.r_10 (F := Ideal) c arg4 harg4 arg7 harg7 arg8 harg8 x2 x5 x6))⟩ ::
      ⟨Rect.unit ![0, 256] S128x128.size (inb_w 256 (by omega)),
        k0_pay117 (kernelRun0_A.sl.r_10 (F := Ideal) c arg4 harg4 arg7 harg7 arg8 harg8 x2 x5 x6) k0_pay28 (k0_pay112 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 128] S128x128.size (inb_w 128 (by omega)),
        k0_pay110 (kernelRun0_A.sl.r_10 (F := Ideal) c arg4 harg4 arg7 harg7 arg8 harg8 x2 x5 x6) k0_pay28 (k0_pay105 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 0] S128x128.size (inb_w 0 (by omega)),
        k0_pay103 (kernelRun0_A.sl.r_10 (F := Ideal) c arg4 harg4 arg7 harg7 arg8 harg8 x2 x5 x6) k0_pay28 (k0_pay99 (kernelRun0_A.sl.r_3 (F := Ideal) c arg2 harg2 arg5 harg5 arg6 harg6 arg16 x0 x3 x4) (kernelRun0_A.sl.r_6 (F := Ideal) c arg4 harg4 arg7 harg7 x2 x5) k0_pay28)⟩ :: (kernelRun0_A.sl.HS3_8 (F := Ideal) c arg2 harg2 arg4 harg4 arg5 harg5 arg6 harg6 arg7 harg7 arg8 harg8 arg16 x0 x2 x3 x4 x5 x6) := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8] at h
  rw [h, pay_w11, pay_w10, pay_w9, pay_w8, w8A]
  rfl

theorem w16A : (kernelRun0_A.sl.HS3_16 (F := Ideal) c arg2 harg2 arg4 harg4 arg5 harg5 arg6 harg6 arg7 harg7 arg8 harg8 arg16 x0 x2 x3 x4 x5 x6) = wL16 (ldsA c arg2 harg2 arg3 harg3 arg4 harg4 arg5 harg5 arg6 harg6 arg7 harg7 arg8 harg8 arg9 harg9 arg10 harg10 arg16 arg17 arg19 x0 x1 x2 x3 x4 x5 x6 x7 x8) := by
  have h : (kernelRun0_A.sl.HS3_16 (F := Ideal) c arg2 harg2 arg4 harg4 arg5 harg5 arg6 harg6 arg7 harg7 arg8 harg8 arg16 x0 x2 x3 x4 x5 x6) =
    ⟨Rect.unit ![0, 384] S128x128.size (inb_w 384 (by omega)),
        k0_pay160 (kernelRun0_A.sl.r_10 (F := Ideal) c arg4 harg4 arg7 harg7 arg8 harg8 x2 x5 x6) k0_pay28 (k0_pay155 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 256] S128x128.size (inb_w 256 (by omega)),
        k0_pay153 (kernelRun0_A.sl.r_10 (F := Ideal) c arg4 harg4 arg7 harg7 arg8 harg8 x2 x5 x6) k0_pay28 (k0_pay148 (kernelRun0_A.sl.r_3 (F := Ideal) c arg2 harg2 arg5 harg5 arg6 harg6 arg16 x0 x3 x4) (kernelRun0_A.sl.r_6 (F := Ideal) c arg4 harg4 arg7 harg7 x2 x5) k0_pay28)⟩ ::
      ⟨Rect.unit ![0, 128] S128x128.size (inb_w 128 (by omega)),
        k0_pay146 k0_pay28 (k0_pay142 (kernelRun0_A.sl.r_3 (F := Ideal) c arg2 harg2 arg5 harg5 arg6 harg6 arg16 x0 x3 x4) (kernelRun0_A.sl.r_6 (F := Ideal) c arg4 harg4 arg7 harg7 x2 x5) k0_pay28) (k0_pay144 (kernelRun0_A.sl.r_10 (F := Ideal) c arg4 harg4 arg7 harg7 arg8 harg8 x2 x5 x6)) (k0_pay145 (kernelRun0_A.sl.r_10 (F := Ideal) c arg4 harg4 arg7 harg7 arg8 harg8 x2 x5 x6))⟩ ::
      ⟨Rect.unit ![0, 0] S128x128.size (inb_w 0 (by omega)),
        k0_pay138 (kernelRun0_A.sl.r_10 (F := Ideal) c arg4 harg4 arg7 harg7 arg8 harg8 x2 x5 x6) k0_pay28 (k0_pay133 (kernelRun0_A.sl.r_3 (F := Ideal) c arg2 harg2 arg5 harg5 arg6 harg6 arg16 x0 x3 x4) (kernelRun0_A.sl.r_6 (F := Ideal) c arg4 harg4 arg7 harg7 x2 x5) k0_pay28)⟩ :: (kernelRun0_A.sl.HS3_12 (F := Ideal) c arg2 harg2 arg4 harg4 arg5 harg5 arg6 harg6 arg7 harg7 arg8 harg8 arg16 x0 x2 x3 x4 x5 x6) := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8] at h
  rw [h, pay_w15, pay_w14, pay_w13, pay_w12, w12A]
  rfl

theorem v1231A : (kernelRun0_A.sl.v1231 (F := Ideal) c arg2 harg2 arg4 harg4 arg5 harg5 arg6 harg6 arg7 harg7 arg8 harg8 arg16 arg17 arg18 arg19 x0 x2 x3 x4 x5 x6) = (arg18.view.readCov (yL (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x2048.size inb_S128x2048_S128x2048_0_0).toLoadRect) := by
  rw [← yA]; rfl
theorem v388A : (kernelRun0_A.sl.v388 (F := Ideal) c arg2 harg2 arg4 harg4 arg5 harg5 arg6 harg6 arg7 harg7 arg8 harg8 arg16 arg19 x0 x2 x3 x4 x5 x6) = (arg19.view.readCov (wL4 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect) := by
  rw [← w4A]; rfl
theorem v667A : (kernelRun0_A.sl.v667 (F := Ideal) c arg2 harg2 arg4 harg4 arg5 harg5 arg6 harg6 arg7 harg7 arg8 harg8 arg16 arg19 x0 x2 x3 x4 x5 x6) = (arg19.view.readCov (wL8 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect) := by
  rw [← w8A]; rfl
theorem v946A : (kernelRun0_A.sl.v946 (F := Ideal) c arg2 harg2 arg4 harg4 arg5 harg5 arg6 harg6 arg7 harg7 arg8 harg8 arg16 arg19 x0 x2 x3 x4 x5 x6) = (arg19.view.readCov (wL12 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect) := by
  rw [← w12A]; rfl
theorem v1225A : (kernelRun0_A.sl.v1225 (F := Ideal) c arg2 harg2 arg4 harg4 arg5 harg5 arg6 harg6 arg7 harg7 arg8 harg8 arg16 arg19 x0 x2 x3 x4 x5 x6) = (arg19.view.readCov (wL16 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect) := by
  rw [← w16A]; rfl

theorem outA :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1 =
      [⟨Rect.unit ![0, 0, 1536] S1x128x512.size (inb_o 1536 (by omega)), outG (ldsA c arg2 harg2 arg3 harg3 arg4 harg4 arg5 harg5 arg6 harg6 arg7 harg7 arg8 harg8 arg9 harg9 arg10 harg10 arg16 arg17 arg19 x0 x1 x2 x3 x4 x5 x6 x7 x8) (arg18.view.readCov (yL (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x2048.size inb_S128x2048_S128x2048_0_0).toLoadRect) 3 1536 (by omega)⟩,
        ⟨Rect.unit ![0, 0, 1024] S1x128x512.size (inb_o 1024 (by omega)), outG (ldsA c arg2 harg2 arg3 harg3 arg4 harg4 arg5 harg5 arg6 harg6 arg7 harg7 arg8 harg8 arg9 harg9 arg10 harg10 arg16 arg17 arg19 x0 x1 x2 x3 x4 x5 x6 x7 x8) (arg18.view.readCov (yL (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x2048.size inb_S128x2048_S128x2048_0_0).toLoadRect) 2 1024 (by omega)⟩,
        ⟨Rect.unit ![0, 0, 512] S1x128x512.size (inb_o 512 (by omega)), outG (ldsA c arg2 harg2 arg3 harg3 arg4 harg4 arg5 harg5 arg6 harg6 arg7 harg7 arg8 harg8 arg9 harg9 arg10 harg10 arg16 arg17 arg19 x0 x1 x2 x3 x4 x5 x6 x7 x8) (arg18.view.readCov (yL (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x2048.size inb_S128x2048_S128x2048_0_0).toLoadRect) 1 512 (by omega)⟩,
        ⟨Rect.unit ![0, 0, 0] S1x128x512.size (inb_o 0 (by omega)), outG (ldsA c arg2 harg2 arg3 harg3 arg4 harg4 arg5 harg5 arg6 harg6 arg7 harg7 arg8 harg8 arg9 harg9 arg10 harg10 arg16 arg17 arg19 x0 x1 x2 x3 x4 x5 x6 x7 x8) (arg18.view.readCov (yL (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x2048.size inb_S128x2048_S128x2048_0_0).toLoadRect) 0 0 (by omega)⟩] := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1 =
      [⟨Rect.unit ![0, 0, 1536] S1x128x512.size (inb_o 1536 (by omega)), k0_pay1 (k0_pay170 (k0_pay163 (kernelRun0_A.sl.r_3 (F := Ideal) c arg2 harg2 arg5 harg5 arg6 harg6 arg16 x0 x3 x4) (kernelRun0_A.sl.v1231 (F := Ideal) c arg2 harg2 arg4 harg4 arg5 harg5 arg6 harg6 arg7 harg7 arg8 harg8 arg16 arg17 arg18 arg19 x0 x2 x3 x4 x5 x6) (ldsA c arg2 harg2 arg3 harg3 arg4 harg4 arg5 harg5 arg6 harg6 arg7 harg7 arg8 harg8 arg9 harg9 arg10 harg10 arg16 arg17 arg19 x0 x1 x2 x3 x4 x5 x6 x7 x8).df (ldsA c arg2 harg2 arg3 harg3 arg4 harg4 arg5 harg5 arg6 harg6 arg7 harg7 arg8 harg8 arg9 harg9 arg10 harg10 arg16 arg17 arg19 x0 x1 x2 x3 x4 x5 x6 x7 x8).z)) ((ldsA c arg2 harg2 arg3 harg3 arg4 harg4 arg5 harg5 arg6 harg6 arg7 harg7 arg8 harg8 arg9 harg9 arg10 harg10 arg16 arg17 arg19 x0 x1 x2 x3 x4 x5 x6 x7 x8).nw 3)⟩,
        ⟨Rect.unit ![0, 0, 1024] S1x128x512.size (inb_o 1024 (by omega)), k0_pay169 (k0_pay163 (kernelRun0_A.sl.r_3 (F := Ideal) c arg2 harg2 arg5 harg5 arg6 harg6 arg16 x0 x3 x4) (kernelRun0_A.sl.v1231 (F := Ideal) c arg2 harg2 arg4 harg4 arg5 harg5 arg6 harg6 arg7 harg7 arg8 harg8 arg16 arg17 arg18 arg19 x0 x2 x3 x4 x5 x6) (ldsA c arg2 harg2 arg3 harg3 arg4 harg4 arg5 harg5 arg6 harg6 arg7 harg7 arg8 harg8 arg9 harg9 arg10 harg10 arg16 arg17 arg19 x0 x1 x2 x3 x4 x5 x6 x7 x8).df (ldsA c arg2 harg2 arg3 harg3 arg4 harg4 arg5 harg5 arg6 harg6 arg7 harg7 arg8 harg8 arg9 harg9 arg10 harg10 arg16 arg17 arg19 x0 x1 x2 x3 x4 x5 x6 x7 x8).z) ((ldsA c arg2 harg2 arg3 harg3 arg4 harg4 arg5 harg5 arg6 harg6 arg7 harg7 arg8 harg8 arg9 harg9 arg10 harg10 arg16 arg17 arg19 x0 x1 x2 x3 x4 x5 x6 x7 x8).nw 2)⟩,
        ⟨Rect.unit ![0, 0, 512] S1x128x512.size (inb_o 512 (by omega)), k0_pay168 (k0_pay165 (kernelRun0_A.sl.r_3 (F := Ideal) c arg2 harg2 arg5 harg5 arg6 harg6 arg16 x0 x3 x4) (kernelRun0_A.sl.v1231 (F := Ideal) c arg2 harg2 arg4 harg4 arg5 harg5 arg6 harg6 arg7 harg7 arg8 harg8 arg16 arg17 arg18 arg19 x0 x2 x3 x4 x5 x6) (ldsA c arg2 harg2 arg3 harg3 arg4 harg4 arg5 harg5 arg6 harg6 arg7 harg7 arg8 harg8 arg9 harg9 arg10 harg10 arg16 arg17 arg19 x0 x1 x2 x3 x4 x5 x6 x7 x8).df (ldsA c arg2 harg2 arg3 harg3 arg4 harg4 arg5 harg5 arg6 harg6 arg7 harg7 arg8 harg8 arg9 harg9 arg10 harg10 arg16 arg17 arg19 x0 x1 x2 x3 x4 x5 x6 x7 x8).z) (k0_pay166 (kernelRun0_A.sl.r_3 (F := Ideal) c arg2 harg2 arg5 harg5 arg6 harg6 arg16 x0 x3 x4) (kernelRun0_A.sl.v1231 (F := Ideal) c arg2 harg2 arg4 harg4 arg5 harg5 arg6 harg6 arg7 harg7 arg8 harg8 arg16 arg17 arg18 arg19 x0 x2 x3 x4 x5 x6) (ldsA c arg2 harg2 arg3 harg3 arg4 harg4 arg5 harg5 arg6 harg6 arg7 harg7 arg8 harg8 arg9 harg9 arg10 harg10 arg16 arg17 arg19 x0 x1 x2 x3 x4 x5 x6 x7 x8).df (ldsA c arg2 harg2 arg3 harg3 arg4 harg4 arg5 harg5 arg6 harg6 arg7 harg7 arg8 harg8 arg9 harg9 arg10 harg10 arg16 arg17 arg19 x0 x1 x2 x3 x4 x5 x6 x7 x8).z) k0_pay167 ((ldsA c arg2 harg2 arg3 harg3 arg4 harg4 arg5 harg5 arg6 harg6 arg7 harg7 arg8 harg8 arg9 harg9 arg10 harg10 arg16 arg17 arg19 x0 x1 x2 x3 x4 x5 x6 x7 x8).nw 1)⟩,
        ⟨Rect.unit ![0, 0, 0] S1x128x512.size (inb_o 0 (by omega)), k0_pay164 (kernelRun0_A.sl.r_3 (F := Ideal) c arg2 harg2 arg5 harg5 arg6 harg6 arg16 x0 x3 x4) (kernelRun0_A.sl.v1231 (F := Ideal) c arg2 harg2 arg4 harg4 arg5 harg5 arg6 harg6 arg7 harg7 arg8 harg8 arg16 arg17 arg18 arg19 x0 x2 x3 x4 x5 x6) (ldsA c arg2 harg2 arg3 harg3 arg4 harg4 arg5 harg5 arg6 harg6 arg7 harg7 arg8 harg8 arg9 harg9 arg10 harg10 arg16 arg17 arg19 x0 x1 x2 x3 x4 x5 x6 x7 x8).df (ldsA c arg2 harg2 arg3 harg3 arg4 harg4 arg5 harg5 arg6 harg6 arg7 harg7 arg8 harg8 arg9 harg9 arg10 harg10 arg16 arg17 arg19 x0 x1 x2 x3 x4 x5 x6 x7 x8).z ((ldsA c arg2 harg2 arg3 harg3 arg4 harg4 arg5 harg5 arg6 harg6 arg7 harg7 arg8 harg8 arg9 harg9 arg10 harg10 arg16 arg17 arg19 x0 x1 x2 x3 x4 x5 x6 x7 x8).nw 0)⟩] := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8, v1231A c arg2 harg2 arg3 harg3 arg4 harg4 arg5 harg5 arg6 harg6 arg7 harg7 arg8 harg8 arg9 harg9 arg10 harg10 arg16 arg17 arg18 arg19 x0 x1 x2 x3 x4 x5 x6 x7 x8] at h
  rw [h, pay_out3, pay_out2, pay_out1, pay_out0]

theorem stA :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.1 =
      ⟨Rect.unit ![3, 0, 0] S1x128x512.size (inb_s 3 (by omega)), stNew (ldsA c arg2 harg2 arg3 harg3 arg4 harg4 arg5 harg5 arg6 harg6 arg7 harg7 arg8 harg8 arg9 harg9 arg10 harg10 arg16 arg17 arg19 x0 x1 x2 x3 x4 x5 x6 x7 x8) 3 384 (by omega) 24 (by omega) (arg19.view.readCov (wL16 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect)⟩ ::
        ⟨Rect.unit ![2, 0, 0] S1x128x512.size (inb_s 2 (by omega)), stNew (ldsA c arg2 harg2 arg3 harg3 arg4 harg4 arg5 harg5 arg6 harg6 arg7 harg7 arg8 harg8 arg9 harg9 arg10 harg10 arg16 arg17 arg19 x0 x1 x2 x3 x4 x5 x6 x7 x8) 2 256 (by omega) 16 (by omega) (arg19.view.readCov (wL12 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect)⟩ ::
        ⟨Rect.unit ![1, 0, 0] S1x128x512.size (inb_s 1 (by omega)), stNew (ldsA c arg2 harg2 arg3 harg3 arg4 harg4 arg5 harg5 arg6 harg6 arg7 harg7 arg8 harg8 arg9 harg9 arg10 harg10 arg16 arg17 arg19 x0 x1 x2 x3 x4 x5 x6 x7 x8) 1 128 (by omega) 8 (by omega) (arg19.view.readCov (wL8 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect)⟩ ::
        ⟨Rect.unit ![0, 0, 0] S1x128x512.size (inb_s 0 (by omega)), stNew (ldsA c arg2 harg2 arg3 harg3 arg4 harg4 arg5 harg5 arg6 harg6 arg7 harg7 arg8 harg8 arg9 harg9 arg10 harg10 arg16 arg17 arg19 x0 x1 x2 x3 x4 x5 x6 x7 x8) 0 0 (by omega) 0 (by omega) (arg19.view.readCov (wL4 (ldsA c arg2 harg2 arg3 harg3 arg4 harg4 arg5 harg5 arg6 harg6 arg7 harg7 arg8 harg8 arg9 harg9 arg10 harg10 arg16 arg17 arg19 x0 x1 x2 x3 x4 x5 x6 x7 x8)) (Rect.unit ![0, 0] S128x512.size inb_S128x512_S128x512_0_0).toLoadRect)⟩ :: [⟨Rect.unit ![0, 0, 0] S4x128x512.size inb_S4x128x512_S4x128x512_0_0_0, k0_pay5 (F := Ideal)⟩] := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.1 =
      ⟨Rect.unit ![3, 0, 0] S1x128x512.size (inb_s 3 (by omega)), k0_pay162 (k0_pay161 (kernelRun0_A.sl.r_11 (F := Ideal) c arg4 harg4 arg7 harg7 arg8 harg8 x2 x5 x6) k0_pay29 (k0_pay130 (kernelRun0_A.sl.r_4 (F := Ideal) c arg2 harg2 arg5 harg5 arg6 harg6 arg16 x0 x3 x4)) (k0_pay131 ((ldsA c arg2 harg2 arg3 harg3 arg4 harg4 arg5 harg5 arg6 harg6 arg7 harg7 arg8 harg8 arg9 harg9 arg10 harg10 arg16 arg17 arg19 x0 x1 x2 x3 x4 x5 x6 x7 x8).st 3)) (k0_pay141 k0_pay29 (k0_pay139 (kernelRun0_A.sl.r_11 (F := Ideal) c arg4 harg4 arg7 harg7 arg8 harg8 x2 x5 x6)) (k0_pay140 (kernelRun0_A.sl.r_11 (F := Ideal) c arg4 harg4 arg7 harg7 arg8 harg8 x2 x5 x6))) (k0_pay147 (kernelRun0_A.sl.r_11 (F := Ideal) c arg4 harg4 arg7 harg7 arg8 harg8 x2 x5 x6) k0_pay29) (k0_pay154 (kernelRun0_A.sl.r_11 (F := Ideal) c arg4 harg4 arg7 harg7 arg8 harg8 x2 x5 x6) k0_pay29) (kernelRun0_A.sl.v1225 (F := Ideal) c arg2 harg2 arg4 harg4 arg5 harg5 arg6 harg6 arg7 harg7 arg8 harg8 arg16 arg19 x0 x2 x3 x4 x5 x6))⟩ ::
        ⟨Rect.unit ![2, 0, 0] S1x128x512.size (inb_s 2 (by omega)), k0_pay126 (kernelRun0_A.sl.r_11 (F := Ideal) c arg4 harg4 arg7 harg7 arg8 harg8 x2 x5 x6) k0_pay29 (k0_pay96 (kernelRun0_A.sl.r_4 (F := Ideal) c arg2 harg2 arg5 harg5 arg6 harg6 arg16 x0 x3 x4)) (k0_pay97 ((ldsA c arg2 harg2 arg3 harg3 arg4 harg4 arg5 harg5 arg6 harg6 arg7 harg7 arg8 harg8 arg9 harg9 arg10 harg10 arg16 arg17 arg19 x0 x1 x2 x3 x4 x5 x6 x7 x8).st 2)) (k0_pay104 (kernelRun0_A.sl.r_11 (F := Ideal) c arg4 harg4 arg7 harg7 arg8 harg8 x2 x5 x6) k0_pay29) (k0_pay111 (kernelRun0_A.sl.r_11 (F := Ideal) c arg4 harg4 arg7 harg7 arg8 harg8 x2 x5 x6) k0_pay29) (k0_pay120 k0_pay29 (k0_pay118 (kernelRun0_A.sl.r_11 (F := Ideal) c arg4 harg4 arg7 harg7 arg8 harg8 x2 x5 x6)) (k0_pay119 (kernelRun0_A.sl.r_11 (F := Ideal) c arg4 harg4 arg7 harg7 arg8 harg8 x2 x5 x6))) (kernelRun0_A.sl.v946 (F := Ideal) c arg2 harg2 arg4 harg4 arg5 harg5 arg6 harg6 arg7 harg7 arg8 harg8 arg16 arg19 x0 x2 x3 x4 x5 x6)⟩ ::
        ⟨Rect.unit ![1, 0, 0] S1x128x512.size (inb_s 1 (by omega)), k0_pay92 (kernelRun0_A.sl.r_11 (F := Ideal) c arg4 harg4 arg7 harg7 arg8 harg8 x2 x5 x6) k0_pay29 (k0_pay64 (kernelRun0_A.sl.r_4 (F := Ideal) c arg2 harg2 arg5 harg5 arg6 harg6 arg16 x0 x3 x4)) (k0_pay65 ((ldsA c arg2 harg2 arg3 harg3 arg4 harg4 arg5 harg5 arg6 harg6 arg7 harg7 arg8 harg8 arg9 harg9 arg10 harg10 arg16 arg17 arg19 x0 x1 x2 x3 x4 x5 x6 x7 x8).st 1)) (k0_pay72 (kernelRun0_A.sl.r_11 (F := Ideal) c arg4 harg4 arg7 harg7 arg8 harg8 x2 x5 x6) k0_pay29) (k0_pay77 (kernelRun0_A.sl.r_11 (F := Ideal) c arg4 harg4 arg7 harg7 arg8 harg8 x2 x5 x6) k0_pay29) (k0_pay84 (kernelRun0_A.sl.r_11 (F := Ideal) c arg4 harg4 arg7 harg7 arg8 harg8 x2 x5 x6) k0_pay29) (kernelRun0_A.sl.v667 (F := Ideal) c arg2 harg2 arg4 harg4 arg5 harg5 arg6 harg6 arg7 harg7 arg8 harg8 arg16 arg19 x0 x2 x3 x4 x5 x6)⟩ ::
        ⟨Rect.unit ![0, 0, 0] S1x128x512.size (inb_s 0 (by omega)), k0_pay60 (kernelRun0_A.sl.r_11 (F := Ideal) c arg4 harg4 arg7 harg7 arg8 harg8 x2 x5 x6) k0_pay29 (k0_pay33 (k0_pay30 (kernelRun0_A.sl.r_4 (F := Ideal) c arg2 harg2 arg5 harg5 arg6 harg6 arg16 x0 x3 x4))) (k0_pay34 ((ldsA c arg2 harg2 arg3 harg3 arg4 harg4 arg5 harg5 arg6 harg6 arg7 harg7 arg8 harg8 arg9 harg9 arg10 harg10 arg16 arg17 arg19 x0 x1 x2 x3 x4 x5 x6 x7 x8).st 0)) (k0_pay41 (kernelRun0_A.sl.r_11 (F := Ideal) c arg4 harg4 arg7 harg7 arg8 harg8 x2 x5 x6) k0_pay29) (k0_pay48 (kernelRun0_A.sl.r_11 (F := Ideal) c arg4 harg4 arg7 harg7 arg8 harg8 x2 x5 x6) k0_pay29) (k0_pay54 (kernelRun0_A.sl.r_11 (F := Ideal) c arg4 harg4 arg7 harg7 arg8 harg8 x2 x5 x6) k0_pay29) (kernelRun0_A.sl.v388 (F := Ideal) c arg2 harg2 arg4 harg4 arg5 harg5 arg6 harg6 arg7 harg7 arg8 harg8 arg16 arg19 x0 x2 x3 x4 x5 x6)⟩ :: [⟨Rect.unit ![0, 0, 0] S4x128x512.size inb_S4x128x512_S4x128x512_0_0_0, k0_pay5 (F := Ideal)⟩] := id rfl
  simp only [xsA c arg2 harg2 arg3 harg3 arg4 harg4 arg5 harg5 arg6 harg6 arg7 harg7 arg8 harg8 arg9 harg9 arg10 harg10 arg16 arg17 arg19 x0 x1 x2 x3 x4 x5 x6 x7 x8, bmA c arg2 harg2 arg3 harg3 arg4 harg4 arg5 harg5 arg6 harg6 arg7 harg7 arg8 harg8 arg9 harg9 arg10 harg10 arg16 arg17 arg19 x0 x1 x2 x3 x4 x5 x6 x7 x8, cmA c arg2 harg2 arg3 harg3 arg4 harg4 arg5 harg5 arg6 harg6 arg7 harg7 arg8 harg8 arg9 harg9 arg10 harg10 arg16 arg17 arg19 x0 x1 x2 x3 x4 x5 x6 x7 x8, dtA c arg2 harg2 arg3 harg3 arg4 harg4 arg5 harg5 arg6 harg6 arg7 harg7 arg8 harg8 arg9 harg9 arg10 harg10 arg16 arg17 arg19 x0 x1 x2 x3 x4 x5 x6 x7 x8, acsA c arg2 harg2 arg3 harg3 arg4 harg4 arg5 harg5 arg6 harg6 arg7 harg7 arg8 harg8 arg9 harg9 arg10 harg10 arg16 arg17 arg19 x0 x1 x2 x3 x4 x5 x6 x7 x8, acsTA c arg2 harg2 arg3 harg3 arg4 harg4 arg5 harg5 arg6 harg6 arg7 harg7 arg8 harg8 arg9 harg9 arg10 harg10 arg16 arg17 arg19 x0 x1 x2 x3 x4 x5 x6 x7 x8, eacsA c arg2 harg2 arg3 harg3 arg4 harg4 arg5 harg5 arg6 harg6 arg7 harg7 arg8 harg8 arg9 harg9 arg10 harg10 arg16 arg17 arg19 x0 x1 x2 x3 x4 x5 x6 x7 x8, dteA c arg2 harg2 arg3 harg3 arg4 harg4 arg5 harg5 arg6 harg6 arg7 harg7 arg8 harg8 arg9 harg9 arg10 harg10 arg16 arg17 arg19 x0 x1 x2 x3 x4 x5 x6 x7 x8, cdecA c arg2 harg2 arg3 harg3 arg4 harg4 arg5 harg5 arg6 harg6 arg7 harg7 arg8 harg8 arg9 harg9 arg10 harg10 arg16 arg17 arg19 x0 x1 x2 x3 x4 x5 x6 x7 x8, v388A c arg2 harg2 arg3 harg3 arg4 harg4 arg5 harg5 arg6 harg6 arg7 harg7 arg8 harg8 arg9 harg9 arg10 harg10 arg16 arg17 arg19 x0 x1 x2 x3 x4 x5 x6 x7 x8, v667A c arg2 harg2 arg3 harg3 arg4 harg4 arg5 harg5 arg6 harg6 arg7 harg7 arg8 harg8 arg9 harg9 arg10 harg10 arg16 arg17 arg19 x0 x1 x2 x3 x4 x5 x6 x7 x8, v946A c arg2 harg2 arg3 harg3 arg4 harg4 arg5 harg5 arg6 harg6 arg7 harg7 arg8 harg8 arg9 harg9 arg10 harg10 arg16 arg17 arg19 x0 x1 x2 x3 x4 x5 x6 x7 x8, v1225A c arg2 harg2 arg3 harg3 arg4 harg4 arg5 harg5 arg6 harg6 arg7 harg7 arg8 harg8 arg9 harg9 arg10 harg10 arg16 arg17 arg19 x0 x1 x2 x3 x4 x5 x6 x7 x8] at h
  rw [h, pay_s3, pay_s2, pay_s1, pay_s0]

theorem padA :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.1 =
      ⟨Rect.unit ![2, 0] S1x3072.size inb_S8x3072_S1x3072_2_0, shapeCast S1x3072 (extractStridedSlice S1x3072 ![127, 0] (c2 (ldsA c arg2 harg2 arg3 harg3 arg4 harg4 arg5 harg5 arg6 harg6 arg7 harg7 arg8 harg8 arg9 harg9 arg10 harg10 arg16 arg17 arg19 x0 x1 x2 x3 x4 x5 x6 x7 x8)) slices_S128x3072_o127_0_S1x3072) shapeCasts_S1x3072_S1x3072⟩ ::
        ⟨Rect.unit ![1, 0] S1x3072.size inb_S8x3072_S1x3072_1_0, shapeCast S1x3072 (extractStridedSlice S1x3072 ![127, 0] (c1 (ldsA c arg2 harg2 arg3 harg3 arg4 harg4 arg5 harg5 arg6 harg6 arg7 harg7 arg8 harg8 arg9 harg9 arg10 harg10 arg16 arg17 arg19 x0 x1 x2 x3 x4 x5 x6 x7 x8)) slices_S128x3072_o127_0_S1x3072) shapeCasts_S1x3072_S1x3072⟩ ::
        ⟨Rect.unit ![0, 0] S1x3072.size inb_S8x3072_S1x3072_0_0, shapeCast S1x3072 (extractStridedSlice S1x3072 ![127, 0] (c0 (ldsA c arg2 harg2 arg3 harg3 arg4 harg4 arg5 harg5 arg6 harg6 arg7 harg7 arg8 harg8 arg9 harg9 arg10 harg10 arg16 arg17 arg19 x0 x1 x2 x3 x4 x5 x6 x7 x8)) slices_S128x3072_o127_0_S1x3072) shapeCasts_S1x3072_S1x3072⟩ :: [⟨Rect.unit ![0, 0] S8x3072.size inb_S8x3072_S8x3072_0_0, k0_pay4 (F := Ideal)⟩] := by
  exact id rfl

end

end SsdBody

end
-- ==== Proof.SsdRunB.lean ====
module

public import proofs.«01_k».proof.Proof.SsdPay
public import proofs.«01_k».proof.Proof.Gen.KernelIdeal.Frame

/-! The body's run at a point that is not a row's first, its stores spelled with the stages of `SsdBody`. -/

@[expose] public section

set_option maxRecDepth 16384

noncomputable section

namespace SsdBody

open Cert.KernelIdeal Cert.KernelIdeal.Gen Idealize.ShloMosaic Idealize.ShloMosaic.TcCoe

section

variable (c : Dev nD) (i : Cert.KernelIdeal.grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x128x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S8x3072 .f32) (harg16 : arg16.IsWhole) (arg17 : Memref sig .tc .vmem S4x128x512 .f32) (harg17 : arg17.IsWhole) (arg18 : Memref sig .tc .vmem S128x2048 .f32) (harg18 : arg18.IsWhole) (arg19 : Memref sig .tc .vmem S128x512 .bf16) (harg19 : arg19.IsWhole) (hc0 : ¬cond0_0 i)
  (x0 : Vec Ideal S1x128x3072 .bf16) (x1 : Vec Ideal S1x128x2048 .bf16) (x2 : Vec Ideal S1x128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S512x1024 .f32) (x10 : Vec Ideal S512x1024 .f32) (xs0 : Vec Ideal S8x3072 .f32) (xs1 : Vec Ideal S4x128x512 .f32)

/-- What the point loads. -/
def ldsB : Lds where
  x := View.readAt (Elt Ideal) arg2.view (Rect.unit (s := S1x128x3072) ![0, 0, 0] S1x128x3072.size inb_S1x128x3072_S1x128x3072_0_0_0).toLoadRect (harg2.unread x0)
  w0 := View.readAt (Elt Ideal) arg5.view (Rect.unit (s := S4x3072) ![0, 0] S1x3072.size inb_S4x3072_S1x3072_0_0).toLoadRect (harg5.unread x3)
  w1 := View.readAt (Elt Ideal) arg5.view (Rect.unit (s := S4x3072) ![1, 0] S1x3072.size inb_S4x3072_S1x3072_1_0).toLoadRect (harg5.unread x3)
  w2 := View.readAt (Elt Ideal) arg5.view (Rect.unit (s := S4x3072) ![2, 0] S1x3072.size inb_S4x3072_S1x3072_2_0).toLoadRect (harg5.unread x3)
  w3 := View.readAt (Elt Ideal) arg5.view (Rect.unit (s := S4x3072) ![3, 0] S1x3072.size inb_S4x3072_S1x3072_3_0).toLoadRect (harg5.unread x3)
  cb := View.readAt (Elt Ideal) arg6.view (Rect.unit (s := S1x3072) ![0, 0] S1x3072.size inb_S1x3072_S1x3072_0_0).toLoadRect (harg6.unread x4)
  r0 := View.readAt (Elt Ideal) arg16.view (Rect.unit (s := S8x3072) ![0, 0] S1x3072.size inb_S8x3072_S1x3072_0_0).toLoadRect (harg16.unread xs0)
  r1 := View.readAt (Elt Ideal) arg16.view (Rect.unit (s := S8x3072) ![1, 0] S1x3072.size inb_S8x3072_S1x3072_1_0).toLoadRect (harg16.unread xs0)
  r2 := View.readAt (Elt Ideal) arg16.view (Rect.unit (s := S8x3072) ![2, 0] S1x3072.size inb_S8x3072_S1x3072_2_0).toLoadRect (harg16.unread xs0)
  d := View.readAt (Elt Ideal) arg4.view (Rect.unit (s := S1x128x128) ![0, 0, 0] S1x128x128.size inb_S1x128x128_S1x128x128_0_0_0).toLoadRect (harg4.unread x2)
  db := View.readAt (Elt Ideal) arg7.view (Rect.unit (s := S1x128) ![0, 0] S1x128.size inb_S1x128_S1x128_0_0).toLoadRect (harg7.unread x5)
  al := View.readAt (Elt Ideal) arg8.view (Rect.unit (s := S1x128) ![0, 0] S1x128.size inb_S1x128_S1x128_0_0).toLoadRect (harg8.unread x6)
  df := View.readAt (Elt Ideal) arg9.view (Rect.unit (s := S1x2048) ![0, 0] S1x2048.size inb_S1x2048_S1x2048_0_0).toLoadRect (harg9.unread x7)
  z := View.readAt (Elt Ideal) arg3.view (Rect.unit (s := S1x128x2048) ![0, 0, 0] S1x128x2048.size inb_S1x128x2048_S1x128x2048_0_0_0).toLoadRect (harg3.unread x1)
  st := ![View.readAt (Elt Ideal) arg17.view (Rect.unit (s := S4x128x512) ![0, 0, 0] S1x128x512.size inb_S4x128x512_S1x128x512_0_0_0).toLoadRect (harg17.unread xs1),
    View.readAt (Elt Ideal) arg17.view (Rect.unit (s := S4x128x512) ![1, 0, 0] S1x128x512.size inb_S4x128x512_S1x128x512_1_0_0).toLoadRect (harg17.unread xs1),
    View.readAt (Elt Ideal) arg17.view (Rect.unit (s := S4x128x512) ![2, 0, 0] S1x128x512.size inb_S4x128x512_S1x128x512_2_0_0).toLoadRect (harg17.unread xs1),
    View.readAt (Elt Ideal) arg17.view (Rect.unit (s := S4x128x512) ![3, 0, 0] S1x128x512.size inb_S4x128x512_S1x128x512_3_0_0).toLoadRect (harg17.unread xs1)]
  nw := ![View.readAt (Elt Ideal) arg10.view (Rect.unit (s := S1x2048) ![0, 0] S1x512.size inb_S1x2048_S1x512_0_0).toLoadRect (harg10.unread x8),
    View.readAt (Elt Ideal) arg10.view (Rect.unit (s := S1x2048) ![0, 512] S1x512.size inb_S1x2048_S1x512_0_512).toLoadRect (harg10.unread x8),
    View.readAt (Elt Ideal) arg10.view (Rect.unit (s := S1x2048) ![0, 1024] S1x512.size inb_S1x2048_S1x512_0_1024).toLoadRect (harg10.unread x8),
    View.readAt (Elt Ideal) arg10.view (Rect.unit (s := S1x2048) ![0, 1536] S1x512.size inb_S1x2048_S1x512_0_1536).toLoadRect (harg10.unread x8)]

theorem xsB : (kernelRun0_B.sl.r_3 (F := Ideal) c arg2 harg2 arg5 harg5 arg6 harg6 arg16 harg16 x0 x3 x4 xs0) = xs (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem bmB : (kernelRun0_B.sl.r_4 (F := Ideal) c arg2 harg2 arg5 harg5 arg6 harg6 arg16 harg16 x0 x3 x4 xs0) = bm (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem cmB : (kernelRun0_B.sl.r_5 (F := Ideal) c arg2 harg2 arg5 harg5 arg6 harg6 arg16 harg16 x0 x3 x4 xs0) = cm (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem dtB : (kernelRun0_B.sl.r_6 (F := Ideal) c arg4 harg4 arg7 harg7 x2 x5) = dt (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem acsB : (kernelRun0_B.sl.r_7 (F := Ideal) c arg4 harg4 arg7 harg7 arg8 harg8 x2 x5 x6) = acs (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem acsTB : (kernelRun0_B.sl.r_8 (F := Ideal) c arg4 harg4 arg7 harg7 arg8 harg8 x2 x5 x6) = acsT (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem eacsB : (kernelRun0_B.sl.r_9 (F := Ideal) c arg4 harg4 arg7 harg7 arg8 harg8 x2 x5 x6) = eacs (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem dteB : (kernelRun0_B.sl.r_10 (F := Ideal) c arg4 harg4 arg7 harg7 arg8 harg8 x2 x5 x6) = dte (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem cdecB : (kernelRun0_B.sl.r_11 (F := Ideal) c arg4 harg4 arg7 harg7 arg8 harg8 x2 x5 x6) = cdec (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by exact id rfl

theorem yB : (kernelRun0_B.sl.HS2_16 (F := Ideal) c arg2 harg2 arg4 harg4 arg5 harg5 arg6 harg6 arg7 harg7 arg8 harg8 arg16 harg16 arg17 harg17 x0 x2 x3 x4 x5 x6 xs0 xs1) = yL (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by
  have h : (kernelRun0_B.sl.HS2_16 (F := Ideal) c arg2 harg2 arg4 harg4 arg5 harg5 arg6 harg6 arg7 harg7 arg8 harg8 arg16 harg16 arg17 harg17 x0 x2 x3 x4 x5 x6 xs0 xs1) =
    [⟨Rect.unit ![0, 1920] S128x128.size (inb_y 1920 (by omega)),
        k0_pay159 k0_pay21 (kernelRun0_B.sl.r_9 (F := Ideal) c arg4 harg4 arg7 harg7 arg8 harg8 x2 x5 x6) k0_pay28 (k0_pay129 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay132 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 3)) (k0_pay156 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay157 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay129 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0))) (k0_pay158 (kernelRun0_B.sl.r_7 (F := Ideal) c arg4 harg4 arg7 harg7 arg8 harg8 x2 x5 x6) (kernelRun0_B.sl.r_8 (F := Ideal) c arg4 harg4 arg7 harg7 arg8 harg8 x2 x5 x6))⟩,
      ⟨Rect.unit ![0, 1792] S128x128.size (inb_y 1792 (by omega)),
        k0_pay152 k0_pay28 (k0_pay132 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 3)) (k0_pay149 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay129 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0))) (k0_pay150 (kernelRun0_B.sl.r_9 (F := Ideal) c arg4 harg4 arg7 harg7 arg8 harg8 x2 x5 x6)) (k0_pay151 (kernelRun0_B.sl.r_9 (F := Ideal) c arg4 harg4 arg7 harg7 arg8 harg8 x2 x5 x6))⟩,
      ⟨Rect.unit ![0, 1664] S128x128.size (inb_y 1664 (by omega)),
        k0_pay143 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay129 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay132 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 3))⟩,
      ⟨Rect.unit ![0, 1536] S128x128.size (inb_y 1536 (by omega)),
        k0_pay137 k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay129 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay132 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 3)) (k0_pay134 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay135 (kernelRun0_B.sl.r_8 (F := Ideal) c arg4 harg4 arg7 harg7 arg8 harg8 x2 x5 x6)) (k0_pay136 (kernelRun0_B.sl.r_7 (F := Ideal) c arg4 harg4 arg7 harg7 arg8 harg8 x2 x5 x6))⟩,
      ⟨Rect.unit ![0, 1408] S128x128.size (inb_y 1408 (by omega)),
        k0_pay122 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay95 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay98 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 2))⟩,
      ⟨Rect.unit ![0, 1280] S128x128.size (inb_y 1280 (by omega)),
        k0_pay116 k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay95 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay98 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 2)) (k0_pay113 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay114 (kernelRun0_B.sl.r_7 (F := Ideal) c arg4 harg4 arg7 harg7 arg8 harg8 x2 x5 x6)) (k0_pay115 (kernelRun0_B.sl.r_8 (F := Ideal) c arg4 harg4 arg7 harg7 arg8 harg8 x2 x5 x6))⟩,
      ⟨Rect.unit ![0, 1152] S128x128.size (inb_y 1152 (by omega)),
        k0_pay109 k0_pay21 (kernelRun0_B.sl.r_9 (F := Ideal) c arg4 harg4 arg7 harg7 arg8 harg8 x2 x5 x6) k0_pay28 (k0_pay95 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay98 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 2)) (k0_pay106 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay107 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay95 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0))) (k0_pay108 (kernelRun0_B.sl.r_7 (F := Ideal) c arg4 harg4 arg7 harg7 arg8 harg8 x2 x5 x6) (kernelRun0_B.sl.r_8 (F := Ideal) c arg4 harg4 arg7 harg7 arg8 harg8 x2 x5 x6)) (FloatOps.ofBits FTy.f32 4286578688#32)⟩,
      ⟨Rect.unit ![0, 1024] S128x128.size (inb_y 1024 (by omega)),
        k0_pay102 (k0_pay98 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 2)) (k0_pay100 (kernelRun0_B.sl.r_3 (F := Ideal) c arg2 harg2 arg5 harg5 arg6 harg6 arg16 harg16 x0 x3 x4 xs0) (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28) (k0_pay101 (kernelRun0_B.sl.r_9 (F := Ideal) c arg4 harg4 arg7 harg7 arg8 harg8 x2 x5 x6) k0_pay28)⟩,
      ⟨Rect.unit ![0, 896] S128x128.size (inb_y 896 (by omega)),
        k0_pay90 k0_pay21 (kernelRun0_B.sl.r_9 (F := Ideal) c arg4 harg4 arg7 harg7 arg8 harg8 x2 x5 x6) k0_pay28 (k0_pay63 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay66 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 1)) (k0_pay86 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay87 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay63 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0))) (k0_pay88 (kernelRun0_B.sl.r_7 (F := Ideal) c arg4 harg4 arg7 harg7 arg8 harg8 x2 x5 x6) (kernelRun0_B.sl.r_8 (F := Ideal) c arg4 harg4 arg7 harg7 arg8 harg8 x2 x5 x6)) k0_pay89⟩,
      ⟨Rect.unit ![0, 768] S128x128.size (inb_y 768 (by omega)),
        k0_pay82 (k0_pay79 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay63 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0))) (k0_pay80 (kernelRun0_B.sl.r_9 (F := Ideal) c arg4 harg4 arg7 harg7 arg8 harg8 x2 x5 x6) k0_pay28) (k0_pay81 (k0_pay66 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 1)))⟩,
      ⟨Rect.unit ![0, 640] S128x128.size (inb_y 640 (by omega)),
        k0_pay74 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay63 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay66 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 1))⟩,
      ⟨Rect.unit ![0, 512] S128x128.size (inb_y 512 (by omega)),
        k0_pay70 k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay63 (kernelRun0_B.sl.r_4 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0)) (k0_pay66 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 1)) (k0_pay68 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay69 (kernelRun0_B.sl.r_7 (F := Ideal) c arg4 harg4 arg7 harg7 arg8 harg8 x2 x5 x6) (kernelRun0_B.sl.r_8 (F := Ideal) c arg4 harg4 arg7 harg7 arg8 harg8 x2 x5 x6))⟩,
      ⟨Rect.unit ![0, 384] S128x128.size (inb_y 384 (by omega)),
        k0_pay57 (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay32 (kernelRun0_B.sl.r_5 (F := Ideal) c arg2 harg2 arg5 harg5 arg6 harg6 arg16 harg16 x0 x3 x4 xs0) (k0_pay30 (kernelRun0_B.sl.r_4 (F := Ideal) c arg2 harg2 arg5 harg5 arg6 harg6 arg16 harg16 x0 x3 x4 xs0))) (k0_pay35 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 0)) (k0_pay55 (kernelRun0_B.sl.r_3 (F := Ideal) c arg2 harg2 arg5 harg5 arg6 harg6 arg16 harg16 x0 x3 x4 xs0))⟩,
      ⟨Rect.unit ![0, 256] S128x128.size (inb_y 256 (by omega)),
        k0_pay52 k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) (kernelRun0_B.sl.r_9 (F := Ideal) c arg4 harg4 arg7 harg7 arg8 harg8 x2 x5 x6) k0_pay28 (k0_pay32 (kernelRun0_B.sl.r_5 (F := Ideal) c arg2 harg2 arg5 harg5 arg6 harg6 arg16 harg16 x0 x3 x4 xs0) (k0_pay30 (kernelRun0_B.sl.r_4 (F := Ideal) c arg2 harg2 arg5 harg5 arg6 harg6 arg16 harg16 x0 x3 x4 xs0))) (k0_pay35 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 0)) (k0_pay50 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay51 (kernelRun0_B.sl.r_7 (F := Ideal) c arg4 harg4 arg7 harg7 arg8 harg8 x2 x5 x6) (kernelRun0_B.sl.r_8 (F := Ideal) c arg4 harg4 arg7 harg7 arg8 harg8 x2 x5 x6)) (FloatOps.ofBits FTy.f32 4286578688#32)⟩,
      ⟨Rect.unit ![0, 128] S128x128.size (inb_y 128 (by omega)),
        k0_pay46 (kernelRun0_B.sl.r_9 (F := Ideal) c arg4 harg4 arg7 harg7 arg8 harg8 x2 x5 x6) k0_pay28 (k0_pay32 (kernelRun0_B.sl.r_5 (F := Ideal) c arg2 harg2 arg5 harg5 arg6 harg6 arg16 harg16 x0 x3 x4 xs0) (k0_pay30 (kernelRun0_B.sl.r_4 (F := Ideal) c arg2 harg2 arg5 harg5 arg6 harg6 arg16 harg16 x0 x3 x4 xs0))) (k0_pay35 (kernelRun0_B.sl.r_5 (F := Ideal) c arg2 harg2 arg5 harg5 arg6 harg6 arg16 harg16 x0 x3 x4 xs0) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 0)) (k0_pay43 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay44 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay32 (kernelRun0_B.sl.r_5 (F := Ideal) c arg2 harg2 arg5 harg5 arg6 harg6 arg16 harg16 x0 x3 x4 xs0) (k0_pay30 (kernelRun0_B.sl.r_4 (F := Ideal) c arg2 harg2 arg5 harg5 arg6 harg6 arg16 harg16 x0 x3 x4 xs0)))) (k0_pay45 k0_pay21 (kernelRun0_B.sl.r_7 (F := Ideal) c arg4 harg4 arg7 harg7 arg8 harg8 x2 x5 x6) (kernelRun0_B.sl.r_8 (F := Ideal) c arg4 harg4 arg7 harg7 arg8 harg8 x2 x5 x6))⟩,
      ⟨Rect.unit ![0, 0] S128x128.size (inb_y 0 (by omega)),
        k0_pay39 (k0_pay37 (kernelRun0_B.sl.r_3 (F := Ideal) c arg2 harg2 arg5 harg5 arg6 harg6 arg16 harg16 x0 x3 x4 xs0) (kernelRun0_B.sl.r_5 (F := Ideal) c arg2 harg2 arg5 harg5 arg6 harg6 arg16 harg16 x0 x3 x4 xs0) (kernelRun0_B.sl.r_6 (F := Ideal) c arg4 harg4 arg7 harg7 x2 x5) k0_pay21 (kernelRun0_B.sl.r_7 (F := Ideal) c arg4 harg4 arg7 harg7 arg8 harg8 x2 x5 x6) (kernelRun0_B.sl.r_8 (F := Ideal) c arg4 harg4 arg7 harg7 arg8 harg8 x2 x5 x6) k0_pay28 (k0_pay30 (kernelRun0_B.sl.r_4 (F := Ideal) c arg2 harg2 arg5 harg5 arg6 harg6 arg16 harg16 x0 x3 x4 xs0))) (k0_pay38 (kernelRun0_B.sl.r_5 (F := Ideal) c arg2 harg2 arg5 harg5 arg6 harg6 arg16 harg16 x0 x3 x4 xs0) (kernelRun0_B.sl.r_9 (F := Ideal) c arg4 harg4 arg7 harg7 arg8 harg8 x2 x5 x6) k0_pay28 ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 0))⟩] := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1] at h
  rw [h, pay_y15, pay_y14, pay_y13, pay_y12, pay_y11, pay_y10, pay_y9, pay_y8, pay_y7, pay_y6, pay_y5, pay_y4, pay_y3, pay_y2, pay_y1, pay_y0]
  rfl

theorem w4B : (kernelRun0_B.sl.HS3_4 (F := Ideal) c arg2 harg2 arg4 harg4 arg5 harg5 arg6 harg6 arg7 harg7 arg8 harg8 arg16 harg16 x0 x2 x3 x4 x5 x6 xs0) = wL4 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by
  have h : (kernelRun0_B.sl.HS3_4 (F := Ideal) c arg2 harg2 arg4 harg4 arg5 harg5 arg6 harg6 arg7 harg7 arg8 harg8 arg16 harg16 x0 x2 x3 x4 x5 x6 xs0) =
    ⟨Rect.unit ![0, 384] S128x128.size (inb_w 384 (by omega)),
        k0_pay59 (k0_pay58 (kernelRun0_B.sl.r_6 (F := Ideal) c arg4 harg4 arg7 harg7 x2 x5) (kernelRun0_B.sl.r_10 (F := Ideal) c arg4 harg4 arg7 harg7 arg8 harg8 x2 x5 x6) k0_pay28 (k0_pay55 (kernelRun0_B.sl.r_3 (F := Ideal) c arg2 harg2 arg5 harg5 arg6 harg6 arg16 harg16 x0 x3 x4 xs0)))⟩ ::
      ⟨Rect.unit ![0, 256] S128x128.size (inb_w 256 (by omega)),
        k0_pay53 (kernelRun0_B.sl.r_10 (F := Ideal) c arg4 harg4 arg7 harg7 arg8 harg8 x2 x5 x6) k0_pay28 (k0_pay49 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 128] S128x128.size (inb_w 128 (by omega)),
        k0_pay47 (kernelRun0_B.sl.r_10 (F := Ideal) c arg4 harg4 arg7 harg7 arg8 harg8 x2 x5 x6) k0_pay28 (k0_pay42 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 0] S128x128.size (inb_w 0 (by omega)),
        k0_pay40 (kernelRun0_B.sl.r_10 (F := Ideal) c arg4 harg4 arg7 harg7 arg8 harg8 x2 x5 x6) k0_pay28 (k0_pay36 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ :: [] := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1] at h
  rw [h, pay_w3, pay_w2, pay_w1, pay_w0]
  rfl

theorem w8B : (kernelRun0_B.sl.HS3_8 (F := Ideal) c arg2 harg2 arg4 harg4 arg5 harg5 arg6 harg6 arg7 harg7 arg8 harg8 arg16 harg16 x0 x2 x3 x4 x5 x6 xs0) = wL8 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by
  have h : (kernelRun0_B.sl.HS3_8 (F := Ideal) c arg2 harg2 arg4 harg4 arg5 harg5 arg6 harg6 arg7 harg7 arg8 harg8 arg16 harg16 x0 x2 x3 x4 x5 x6 xs0) =
    ⟨Rect.unit ![0, 384] S128x128.size (inb_w 384 (by omega)),
        k0_pay91 (kernelRun0_B.sl.r_10 (F := Ideal) c arg4 harg4 arg7 harg7 arg8 harg8 x2 x5 x6) k0_pay28 (k0_pay85 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 256] S128x128.size (inb_w 256 (by omega)),
        k0_pay83 (kernelRun0_B.sl.r_10 (F := Ideal) c arg4 harg4 arg7 harg7 arg8 harg8 x2 x5 x6) k0_pay28 (k0_pay78 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 128] S128x128.size (inb_w 128 (by omega)),
        k0_pay76 (k0_pay73 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay75 (kernelRun0_B.sl.r_10 (F := Ideal) c arg4 harg4 arg7 harg7 arg8 harg8 x2 x5 x6) k0_pay28)⟩ ::
      ⟨Rect.unit ![0, 0] S128x128.size (inb_w 0 (by omega)),
        k0_pay71 (kernelRun0_B.sl.r_10 (F := Ideal) c arg4 harg4 arg7 harg7 arg8 harg8 x2 x5 x6) k0_pay28 (k0_pay67 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ :: (kernelRun0_B.sl.HS3_4 (F := Ideal) c arg2 harg2 arg4 harg4 arg5 harg5 arg6 harg6 arg7 harg7 arg8 harg8 arg16 harg16 x0 x2 x3 x4 x5 x6 xs0) := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1] at h
  rw [h, pay_w7, pay_w6, pay_w5, pay_w4, w4B]
  rfl

theorem w12B : (kernelRun0_B.sl.HS3_12 (F := Ideal) c arg2 harg2 arg4 harg4 arg5 harg5 arg6 harg6 arg7 harg7 arg8 harg8 arg16 harg16 x0 x2 x3 x4 x5 x6 xs0) = wL12 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by
  have h : (kernelRun0_B.sl.HS3_12 (F := Ideal) c arg2 harg2 arg4 harg4 arg5 harg5 arg6 harg6 arg7 harg7 arg8 harg8 arg16 harg16 x0 x2 x3 x4 x5 x6 xs0) =
    ⟨Rect.unit ![0, 384] S128x128.size (inb_w 384 (by omega)),
        k0_pay125 k0_pay28 (k0_pay121 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay123 (kernelRun0_B.sl.r_10 (F := Ideal) c arg4 harg4 arg7 harg7 arg8 harg8 x2 x5 x6)) (k0_pay124 (kernelRun0_B.sl.r_10 (F := Ideal) c arg4 harg4 arg7 harg7 arg8 harg8 x2 x5 x6))⟩ ::
      ⟨Rect.unit ![0, 256] S128x128.size (inb_w 256 (by omega)),
        k0_pay117 (kernelRun0_B.sl.r_10 (F := Ideal) c arg4 harg4 arg7 harg7 arg8 harg8 x2 x5 x6) k0_pay28 (k0_pay112 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 128] S128x128.size (inb_w 128 (by omega)),
        k0_pay110 (kernelRun0_B.sl.r_10 (F := Ideal) c arg4 harg4 arg7 harg7 arg8 harg8 x2 x5 x6) k0_pay28 (k0_pay105 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 0] S128x128.size (inb_w 0 (by omega)),
        k0_pay103 (kernelRun0_B.sl.r_10 (F := Ideal) c arg4 harg4 arg7 harg7 arg8 harg8 x2 x5 x6) k0_pay28 (k0_pay99 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ :: (kernelRun0_B.sl.HS3_8 (F := Ideal) c arg2 harg2 arg4 harg4 arg5 harg5 arg6 harg6 arg7 harg7 arg8 harg8 arg16 harg16 x0 x2 x3 x4 x5 x6 xs0) := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1] at h
  rw [h, pay_w11, pay_w10, pay_w9, pay_w8, w8B]
  rfl

theorem w16B : (kernelRun0_B.sl.HS3_16 (F := Ideal) c arg2 harg2 arg4 harg4 arg5 harg5 arg6 harg6 arg7 harg7 arg8 harg8 arg16 harg16 x0 x2 x3 x4 x5 x6 xs0) = wL16 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) := by
  have h : (kernelRun0_B.sl.HS3_16 (F := Ideal) c arg2 harg2 arg4 harg4 arg5 harg5 arg6 harg6 arg7 harg7 arg8 harg8 arg16 harg16 x0 x2 x3 x4 x5 x6 xs0) =
    ⟨Rect.unit ![0, 384] S128x128.size (inb_w 384 (by omega)),
        k0_pay160 (kernelRun0_B.sl.r_10 (F := Ideal) c arg4 harg4 arg7 harg7 arg8 harg8 x2 x5 x6) k0_pay28 (k0_pay155 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 256] S128x128.size (inb_w 256 (by omega)),
        k0_pay153 (kernelRun0_B.sl.r_10 (F := Ideal) c arg4 harg4 arg7 harg7 arg8 harg8 x2 x5 x6) k0_pay28 (k0_pay148 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ ::
      ⟨Rect.unit ![0, 128] S128x128.size (inb_w 128 (by omega)),
        k0_pay146 k0_pay28 (k0_pay142 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28) (k0_pay144 (kernelRun0_B.sl.r_10 (F := Ideal) c arg4 harg4 arg7 harg7 arg8 harg8 x2 x5 x6)) (k0_pay145 (kernelRun0_B.sl.r_10 (F := Ideal) c arg4 harg4 arg7 harg7 arg8 harg8 x2 x5 x6))⟩ ::
      ⟨Rect.unit ![0, 0] S128x128.size (inb_w 0 (by omega)),
        k0_pay138 (kernelRun0_B.sl.r_10 (F := Ideal) c arg4 harg4 arg7 harg7 arg8 harg8 x2 x5 x6) k0_pay28 (k0_pay133 (kernelRun0_B.sl.r_3 (F := Ideal) c arg2 harg2 arg5 harg5 arg6 harg6 arg16 harg16 x0 x3 x4 xs0) (kernelRun0_B.sl.r_6 (F := Ideal) c arg4 harg4 arg7 harg7 x2 x5) k0_pay28)⟩ :: (kernelRun0_B.sl.HS3_12 (F := Ideal) c arg2 harg2 arg4 harg4 arg5 harg5 arg6 harg6 arg7 harg7 arg8 harg8 arg16 harg16 x0 x2 x3 x4 x5 x6 xs0) := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1] at h
  rw [h, pay_w15, pay_w14, pay_w13, pay_w12, w12B]
  rfl

theorem v1231B : (kernelRun0_B.sl.v1231 (F := Ideal) c arg2 harg2 arg4 harg4 arg5 harg5 arg6 harg6 arg7 harg7 arg8 harg8 arg16 harg16 arg17 harg17 arg18 x0 x2 x3 x4 x5 x6 xs0 xs1) = (arg18.view.readCov (yL (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x2048.size inb_S128x2048_S128x2048_0_0).toLoadRect) := by
  rw [← yB]; rfl
theorem v388B : (kernelRun0_B.sl.v388 (F := Ideal) c arg2 harg2 arg4 harg4 arg5 harg5 arg6 harg6 arg7 harg7 arg8 harg8 arg16 harg16 arg19 x0 x2 x3 x4 x5 x6 xs0) = (arg19.view.readCov (wL4 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect) := by
  rw [← w4B]; rfl
theorem v667B : (kernelRun0_B.sl.v667 (F := Ideal) c arg2 harg2 arg4 harg4 arg5 harg5 arg6 harg6 arg7 harg7 arg8 harg8 arg16 harg16 arg19 x0 x2 x3 x4 x5 x6 xs0) = (arg19.view.readCov (wL8 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect) := by
  rw [← w8B]; rfl
theorem v946B : (kernelRun0_B.sl.v946 (F := Ideal) c arg2 harg2 arg4 harg4 arg5 harg5 arg6 harg6 arg7 harg7 arg8 harg8 arg16 harg16 arg19 x0 x2 x3 x4 x5 x6 xs0) = (arg19.view.readCov (wL12 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect) := by
  rw [← w12B]; rfl
theorem v1225B : (kernelRun0_B.sl.v1225 (F := Ideal) c arg2 harg2 arg4 harg4 arg5 harg5 arg6 harg6 arg7 harg7 arg8 harg8 arg16 harg16 arg19 x0 x2 x3 x4 x5 x6 xs0) = (arg19.view.readCov (wL16 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect) := by
  rw [← w16B]; rfl

theorem outB :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).1 =
      [⟨Rect.unit ![0, 0, 1536] S1x128x512.size (inb_o 1536 (by omega)), outG (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) (arg18.view.readCov (yL (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x2048.size inb_S128x2048_S128x2048_0_0).toLoadRect) 3 1536 (by omega)⟩,
        ⟨Rect.unit ![0, 0, 1024] S1x128x512.size (inb_o 1024 (by omega)), outG (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) (arg18.view.readCov (yL (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x2048.size inb_S128x2048_S128x2048_0_0).toLoadRect) 2 1024 (by omega)⟩,
        ⟨Rect.unit ![0, 0, 512] S1x128x512.size (inb_o 512 (by omega)), outG (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) (arg18.view.readCov (yL (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x2048.size inb_S128x2048_S128x2048_0_0).toLoadRect) 1 512 (by omega)⟩,
        ⟨Rect.unit ![0, 0, 0] S1x128x512.size (inb_o 0 (by omega)), outG (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) (arg18.view.readCov (yL (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x2048.size inb_S128x2048_S128x2048_0_0).toLoadRect) 0 0 (by omega)⟩] := by
  have h : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).1 =
      [⟨Rect.unit ![0, 0, 1536] S1x128x512.size (inb_o 1536 (by omega)), k0_pay1 (k0_pay170 (k0_pay163 (kernelRun0_B.sl.r_3 (F := Ideal) c arg2 harg2 arg5 harg5 arg6 harg6 arg16 harg16 x0 x3 x4 xs0) (kernelRun0_B.sl.v1231 (F := Ideal) c arg2 harg2 arg4 harg4 arg5 harg5 arg6 harg6 arg7 harg7 arg8 harg8 arg16 harg16 arg17 harg17 arg18 x0 x2 x3 x4 x5 x6 xs0 xs1) (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).df (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).z)) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).nw 3)⟩,
        ⟨Rect.unit ![0, 0, 1024] S1x128x512.size (inb_o 1024 (by omega)), k0_pay169 (k0_pay163 (kernelRun0_B.sl.r_3 (F := Ideal) c arg2 harg2 arg5 harg5 arg6 harg6 arg16 harg16 x0 x3 x4 xs0) (kernelRun0_B.sl.v1231 (F := Ideal) c arg2 harg2 arg4 harg4 arg5 harg5 arg6 harg6 arg7 harg7 arg8 harg8 arg16 harg16 arg17 harg17 arg18 x0 x2 x3 x4 x5 x6 xs0 xs1) (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).df (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).z) ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).nw 2)⟩,
        ⟨Rect.unit ![0, 0, 512] S1x128x512.size (inb_o 512 (by omega)), k0_pay168 (k0_pay165 (kernelRun0_B.sl.r_3 (F := Ideal) c arg2 harg2 arg5 harg5 arg6 harg6 arg16 harg16 x0 x3 x4 xs0) (kernelRun0_B.sl.v1231 (F := Ideal) c arg2 harg2 arg4 harg4 arg5 harg5 arg6 harg6 arg7 harg7 arg8 harg8 arg16 harg16 arg17 harg17 arg18 x0 x2 x3 x4 x5 x6 xs0 xs1) (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).df (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).z) (k0_pay166 (kernelRun0_B.sl.r_3 (F := Ideal) c arg2 harg2 arg5 harg5 arg6 harg6 arg16 harg16 x0 x3 x4 xs0) (kernelRun0_B.sl.v1231 (F := Ideal) c arg2 harg2 arg4 harg4 arg5 harg5 arg6 harg6 arg7 harg7 arg8 harg8 arg16 harg16 arg17 harg17 arg18 x0 x2 x3 x4 x5 x6 xs0 xs1) (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).df (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).z) k0_pay167 ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).nw 1)⟩,
        ⟨Rect.unit ![0, 0, 0] S1x128x512.size (inb_o 0 (by omega)), k0_pay164 (kernelRun0_B.sl.r_3 (F := Ideal) c arg2 harg2 arg5 harg5 arg6 harg6 arg16 harg16 x0 x3 x4 xs0) (kernelRun0_B.sl.v1231 (F := Ideal) c arg2 harg2 arg4 harg4 arg5 harg5 arg6 harg6 arg7 harg7 arg8 harg8 arg16 harg16 arg17 harg17 arg18 x0 x2 x3 x4 x5 x6 xs0 xs1) (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).df (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).z ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).nw 0)⟩] := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, v1231B c arg2 harg2 arg3 harg3 arg4 harg4 arg5 harg5 arg6 harg6 arg7 harg7 arg8 harg8 arg9 harg9 arg10 harg10 arg16 harg16 arg17 harg17 arg18 x0 x1 x2 x3 x4 x5 x6 x7 x8 xs0 xs1] at h
  rw [h, pay_out3, pay_out2, pay_out1, pay_out0]

theorem stB :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).2.2.2.2.1 =
      ⟨Rect.unit ![3, 0, 0] S1x128x512.size (inb_s 3 (by omega)), stNew (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) 3 384 (by omega) 24 (by omega) (arg19.view.readCov (wL16 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect)⟩ ::
        ⟨Rect.unit ![2, 0, 0] S1x128x512.size (inb_s 2 (by omega)), stNew (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) 2 256 (by omega) 16 (by omega) (arg19.view.readCov (wL12 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect)⟩ ::
        ⟨Rect.unit ![1, 0, 0] S1x128x512.size (inb_s 1 (by omega)), stNew (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) 1 128 (by omega) 8 (by omega) (arg19.view.readCov (wL8 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect)⟩ ::
        ⟨Rect.unit ![0, 0, 0] S1x128x512.size (inb_s 0 (by omega)), stNew (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) 0 0 (by omega) 0 (by omega) (arg19.view.readCov (wL4 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) (Rect.unit ![0, 0] S128x512.size inb_S128x512_S128x512_0_0).toLoadRect)⟩ :: [] := by
  have h : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).2.2.2.2.1 =
      ⟨Rect.unit ![3, 0, 0] S1x128x512.size (inb_s 3 (by omega)), k0_pay162 (k0_pay161 (kernelRun0_B.sl.r_11 (F := Ideal) c arg4 harg4 arg7 harg7 arg8 harg8 x2 x5 x6) k0_pay29 (k0_pay130 (kernelRun0_B.sl.r_4 (F := Ideal) c arg2 harg2 arg5 harg5 arg6 harg6 arg16 harg16 x0 x3 x4 xs0)) (k0_pay131 ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 3)) (k0_pay141 k0_pay29 (k0_pay139 (kernelRun0_B.sl.r_11 (F := Ideal) c arg4 harg4 arg7 harg7 arg8 harg8 x2 x5 x6)) (k0_pay140 (kernelRun0_B.sl.r_11 (F := Ideal) c arg4 harg4 arg7 harg7 arg8 harg8 x2 x5 x6))) (k0_pay147 (kernelRun0_B.sl.r_11 (F := Ideal) c arg4 harg4 arg7 harg7 arg8 harg8 x2 x5 x6) k0_pay29) (k0_pay154 (kernelRun0_B.sl.r_11 (F := Ideal) c arg4 harg4 arg7 harg7 arg8 harg8 x2 x5 x6) k0_pay29) (kernelRun0_B.sl.v1225 (F := Ideal) c arg2 harg2 arg4 harg4 arg5 harg5 arg6 harg6 arg7 harg7 arg8 harg8 arg16 harg16 arg19 x0 x2 x3 x4 x5 x6 xs0))⟩ ::
        ⟨Rect.unit ![2, 0, 0] S1x128x512.size (inb_s 2 (by omega)), k0_pay126 (kernelRun0_B.sl.r_11 (F := Ideal) c arg4 harg4 arg7 harg7 arg8 harg8 x2 x5 x6) k0_pay29 (k0_pay96 (kernelRun0_B.sl.r_4 (F := Ideal) c arg2 harg2 arg5 harg5 arg6 harg6 arg16 harg16 x0 x3 x4 xs0)) (k0_pay97 ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 2)) (k0_pay104 (kernelRun0_B.sl.r_11 (F := Ideal) c arg4 harg4 arg7 harg7 arg8 harg8 x2 x5 x6) k0_pay29) (k0_pay111 (kernelRun0_B.sl.r_11 (F := Ideal) c arg4 harg4 arg7 harg7 arg8 harg8 x2 x5 x6) k0_pay29) (k0_pay120 k0_pay29 (k0_pay118 (kernelRun0_B.sl.r_11 (F := Ideal) c arg4 harg4 arg7 harg7 arg8 harg8 x2 x5 x6)) (k0_pay119 (kernelRun0_B.sl.r_11 (F := Ideal) c arg4 harg4 arg7 harg7 arg8 harg8 x2 x5 x6))) (kernelRun0_B.sl.v946 (F := Ideal) c arg2 harg2 arg4 harg4 arg5 harg5 arg6 harg6 arg7 harg7 arg8 harg8 arg16 harg16 arg19 x0 x2 x3 x4 x5 x6 xs0)⟩ ::
        ⟨Rect.unit ![1, 0, 0] S1x128x512.size (inb_s 1 (by omega)), k0_pay92 (kernelRun0_B.sl.r_11 (F := Ideal) c arg4 harg4 arg7 harg7 arg8 harg8 x2 x5 x6) k0_pay29 (k0_pay64 (kernelRun0_B.sl.r_4 (F := Ideal) c arg2 harg2 arg5 harg5 arg6 harg6 arg16 harg16 x0 x3 x4 xs0)) (k0_pay65 ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 1)) (k0_pay72 (kernelRun0_B.sl.r_11 (F := Ideal) c arg4 harg4 arg7 harg7 arg8 harg8 x2 x5 x6) k0_pay29) (k0_pay77 (kernelRun0_B.sl.r_11 (F := Ideal) c arg4 harg4 arg7 harg7 arg8 harg8 x2 x5 x6) k0_pay29) (k0_pay84 (kernelRun0_B.sl.r_11 (F := Ideal) c arg4 harg4 arg7 harg7 arg8 harg8 x2 x5 x6) k0_pay29) (kernelRun0_B.sl.v667 (F := Ideal) c arg2 harg2 arg4 harg4 arg5 harg5 arg6 harg6 arg7 harg7 arg8 harg8 arg16 harg16 arg19 x0 x2 x3 x4 x5 x6 xs0)⟩ ::
        ⟨Rect.unit ![0, 0, 0] S1x128x512.size (inb_s 0 (by omega)), k0_pay60 (kernelRun0_B.sl.r_11 (F := Ideal) c arg4 harg4 arg7 harg7 arg8 harg8 x2 x5 x6) k0_pay29 (k0_pay33 (k0_pay30 (kernelRun0_B.sl.r_4 (F := Ideal) c arg2 harg2 arg5 harg5 arg6 harg6 arg16 harg16 x0 x3 x4 xs0))) (k0_pay34 ((ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st 0)) (k0_pay41 (kernelRun0_B.sl.r_11 (F := Ideal) c arg4 harg4 arg7 harg7 arg8 harg8 x2 x5 x6) k0_pay29) (k0_pay48 (kernelRun0_B.sl.r_11 (F := Ideal) c arg4 harg4 arg7 harg7 arg8 harg8 x2 x5 x6) k0_pay29) (k0_pay54 (kernelRun0_B.sl.r_11 (F := Ideal) c arg4 harg4 arg7 harg7 arg8 harg8 x2 x5 x6) k0_pay29) (kernelRun0_B.sl.v388 (F := Ideal) c arg2 harg2 arg4 harg4 arg5 harg5 arg6 harg6 arg7 harg7 arg8 harg8 arg16 harg16 arg19 x0 x2 x3 x4 x5 x6 xs0)⟩ :: [] := id rfl
  simp only [xsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, bmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cmB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dtB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, acsTB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, eacsB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, dteB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, cdecB c arg2 harg2 arg3 harg3 arg4 harg4 arg5 harg5 arg6 harg6 arg7 harg7 arg8 harg8 arg9 harg9 arg10 harg10 arg16 harg16 arg17 harg17 x0 x1 x2 x3 x4 x5 x6 x7 x8 xs0 xs1, v388B c arg2 harg2 arg3 harg3 arg4 harg4 arg5 harg5 arg6 harg6 arg7 harg7 arg8 harg8 arg9 harg9 arg10 harg10 arg16 harg16 arg17 harg17 arg19 x0 x1 x2 x3 x4 x5 x6 x7 x8 xs0 xs1, v667B c arg2 harg2 arg3 harg3 arg4 harg4 arg5 harg5 arg6 harg6 arg7 harg7 arg8 harg8 arg9 harg9 arg10 harg10 arg16 harg16 arg17 harg17 arg19 x0 x1 x2 x3 x4 x5 x6 x7 x8 xs0 xs1, v946B c arg2 harg2 arg3 harg3 arg4 harg4 arg5 harg5 arg6 harg6 arg7 harg7 arg8 harg8 arg9 harg9 arg10 harg10 arg16 harg16 arg17 harg17 arg19 x0 x1 x2 x3 x4 x5 x6 x7 x8 xs0 xs1, v1225B c arg2 harg2 arg3 harg3 arg4 harg4 arg5 harg5 arg6 harg6 arg7 harg7 arg8 harg8 arg9 harg9 arg10 harg10 arg16 harg16 arg17 harg17 arg19 x0 x1 x2 x3 x4 x5 x6 x7 x8 xs0 xs1] at h
  rw [h, pay_s3, pay_s2, pay_s1, pay_s0]

theorem padB :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).2.2.2.1 =
      ⟨Rect.unit ![2, 0] S1x3072.size inb_S8x3072_S1x3072_2_0, shapeCast S1x3072 (extractStridedSlice S1x3072 ![127, 0] (c2 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) slices_S128x3072_o127_0_S1x3072) shapeCasts_S1x3072_S1x3072⟩ ::
        ⟨Rect.unit ![1, 0] S1x3072.size inb_S8x3072_S1x3072_1_0, shapeCast S1x3072 (extractStridedSlice S1x3072 ![127, 0] (c1 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) slices_S128x3072_o127_0_S1x3072) shapeCasts_S1x3072_S1x3072⟩ ::
        ⟨Rect.unit ![0, 0] S1x3072.size inb_S8x3072_S1x3072_0_0, shapeCast S1x3072 (extractStridedSlice S1x3072 ![127, 0] (c0 (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1)) slices_S128x3072_o127_0_S1x3072) shapeCasts_S1x3072_S1x3072⟩ :: [] := by
  exact id rfl

end

end SsdBody

end
-- ==== Proof.SsdPoint.lean ====
module

public import proofs.«01_k».proof.Proof.SsdStep
public import proofs.«01_k».proof.Proof.SsdRunA
public import proofs.«01_k».proof.Proof.SsdRunB

/-! One grid point: what its windows and carried scratch hold after the body, in terms of the sequence's data. -/

@[expose] public section

set_option maxRecDepth 16384

noncomputable section

namespace SsdBody

open Cert.KernelIdeal Cert.KernelIdeal.Gen Idealize.ShloMosaic Idealize.ShloMosaic.TcCoe SsdSpec

/-- The input blocks of chunk `cc` of a sequence. -/
structure Blocks (x0 : Vec Ideal S1x128x3072 .bf16) (x1 : Vec Ideal S1x128x2048 .bf16) (x2 : Vec Ideal S1x128x128 .f32)
    (x3 : Vec Ideal S4x3072 .f32) (x4 : Vec Ideal S1x3072 .f32) (x5 : Vec Ideal S1x128 .f32) (x6 : Vec Ideal S1x128 .f32)
    (x7 : Vec Ideal S1x2048 .f32) (x8 : Vec Ideal S1x2048 .f32) (Q : Seq) (cc : ℕ) : Prop where
  x0 : ∀ (s : Fin 128) (j : Fin 3072), x0 (ix3 0 s j) = Q.X j (128 * cc + s.val)
  x1 : ∀ (s : Fin 128) (j : Fin 2048), x1 (ix3 0 s j) = Q.Z j (128 * cc + s.val)
  x2 : ∀ (s : Fin 128) (h : Fin 32), x2 (ix3 0 s (lane h)) = Q.T h (128 * cc + s.val)
  x3 : ∀ (k : Fin 4) (j : Fin 3072), x3 (ix2 k j) = Q.W j k
  x4 : ∀ j : Fin 3072, x4 (ix2 0 j) = Q.B j
  x5 : ∀ h : Fin 32, x5 (ix2 0 (lane h)) = Q.tb h
  x6 : ∀ h : Fin 32, x6 (ix2 0 (lane h)) = Q.al h
  x7 : ∀ j : Fin 2048, x7 (ix2 0 j) = Q.sk (hd j)
  x8 : ∀ j : Fin 2048, x8 (ix2 0 j) = Q.nw j

/-- What is carried into chunk `cc`: the kept rows and the state. -/
structure Carried (xs0 : Vec Ideal S8x3072 .f32) (xs1 : Vec Ideal S4x128x512 .f32) (Q : Seq) (cc : ℕ) : Prop where
  rows : ∀ (k : Fin 8), k.val ≤ 2 → ∀ j : Fin 3072, xs0 (ix2 k j) = keep Q cc k j
  st : ∀ (g : Fin 4) (n : Fin 128) (q : Fin 512), xs1 (ix3 g n q) = Q.S cc n (gcol g q)

section B

variable (c : Dev nD) (i : Cert.KernelIdeal.grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x128x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S8x3072 .f32) (harg16 : arg16.IsWhole) (arg17 : Memref sig .tc .vmem S4x128x512 .f32) (harg17 : arg17.IsWhole) (arg18 : Memref sig .tc .vmem S128x2048 .f32) (harg18 : arg18.IsWhole) (arg19 : Memref sig .tc .vmem S128x512 .bf16) (harg19 : arg19.IsWhole) (hc0 : ¬cond0_0 i)
  (x0 : Vec Ideal S1x128x3072 .bf16) (x1 : Vec Ideal S1x128x2048 .bf16) (x2 : Vec Ideal S1x128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S512x1024 .f32) (x10 : Vec Ideal S512x1024 .f32) (xs0 : Vec Ideal S8x3072 .f32) (xs1 : Vec Ideal S4x128x512 .f32)
  {Q : Seq} {cc : ℕ} (I : Blocks x0 x1 x2 x3 x4 x5 x6 x7 x8 Q cc) (P : Carried xs0 xs1 Q cc) (hcc : cc ≠ 0)

include I P hcc

theorem gB_x (s : Fin 128) (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).x (ix3 0 s j) = Q.X j (128 * cc + s.val) := (ld3 harg2 x0 _ 0 s j 0 s j rfl (by omega) (by omega)).trans (I.x0 s j)
theorem gB_w0 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).w0 (ix2 0 j) = Q.W j 0 := (ld2 harg5 x3 _ 0 j 0 j rfl (by omega)).trans (I.x3 0 j)
theorem gB_w1 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).w1 (ix2 0 j) = Q.W j 1 := (ld2 harg5 x3 _ 0 j 1 j rfl (by omega)).trans (I.x3 1 j)
theorem gB_w2 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).w2 (ix2 0 j) = Q.W j 2 := (ld2 harg5 x3 _ 0 j 2 j rfl (by omega)).trans (I.x3 2 j)
theorem gB_w3 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).w3 (ix2 0 j) = Q.W j 3 := (ld2 harg5 x3 _ 0 j 3 j rfl (by omega)).trans (I.x3 3 j)
theorem gB_cb (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).cb (ix2 0 j) = Q.B j := (ld2 harg6 x4 _ 0 j 0 j rfl (by omega)).trans (I.x4 j)
theorem gB_r0 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).r0 (ix2 0 j) = if cc = 0 then 0 else conv0 (Q.X j) (Q.W j) (128 * cc - 1) := ((ld2 harg16 xs0 _ 0 j 0 j rfl (by omega)).trans (P.rows 0 (by decide) j)).trans (if_neg hcc).symm
theorem gB_r1 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).r1 (ix2 0 j) = if cc = 0 then 0 else conv1 (Q.X j) (Q.W j) (128 * cc - 1) := ((ld2 harg16 xs0 _ 0 j 1 j rfl (by omega)).trans (P.rows 1 (by decide) j)).trans (if_neg hcc).symm
theorem gB_r2 (j : Fin 3072) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).r2 (ix2 0 j) = if cc = 0 then 0 else conv2 (Q.X j) (Q.W j) (128 * cc - 1) := ((ld2 harg16 xs0 _ 0 j 2 j rfl (by omega)).trans (P.rows 2 (by decide) j)).trans (if_neg hcc).symm
theorem gB_d (s : Fin 128) (h : Fin 32) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).d (ix3 0 s (lane h)) = Q.T h (128 * cc + s.val) := (ld3 harg4 x2 _ 0 s (lane h) 0 s (lane h) rfl (by omega) (by omega)).trans (I.x2 s h)
theorem gB_db (h : Fin 32) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).db (ix2 0 (lane h)) = Q.tb h := (ld2 harg7 x5 _ 0 (lane h) 0 (lane h) rfl (by omega)).trans (I.x5 h)
theorem gB_al (h : Fin 32) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).al (ix2 0 (lane h)) = Q.al h := (ld2 harg8 x6 _ 0 (lane h) 0 (lane h) rfl (by omega)).trans (I.x6 h)
theorem gB_df (j : Fin 2048) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).df (ix2 0 j) = Q.sk (hd j) := (ld2 harg9 x7 _ 0 j 0 j rfl (by omega)).trans (I.x7 j)
theorem gB_z (s : Fin 128) (j : Fin 2048) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).z (ix3 0 s j) = Q.Z j (128 * cc + s.val) := (ld3 harg3 x1 _ 0 s j 0 s j rfl (by omega) (by omega)).trans (I.x1 s j)
theorem gB_nw (g : Fin 4) (q : Fin 512) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).nw g (ix2 0 q) = Q.nw (gcol g q) := by
    fin_cases g
    · exact (ld2 harg10 x8 _ 0 q 0 (gcol 0 q) rfl (by simp only [gcol]; simp)).trans (I.x8 _)
    · exact (ld2 harg10 x8 _ 0 q 0 (gcol 1 q) rfl (by simp only [gcol]; simp)).trans (I.x8 _)
    · exact (ld2 harg10 x8 _ 0 q 0 (gcol 2 q) rfl (by simp only [gcol]; simp)).trans (I.x8 _)
    · exact (ld2 harg10 x8 _ 0 q 0 (gcol 3 q) rfl (by simp only [gcol]; simp)).trans (I.x8 _)
theorem gB_st (g : Fin 4) (n : Fin 128) (q : Fin 512) : (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1).st g (ix3 0 n q) = Q.S cc n (gcol g q) := by
    fin_cases g
    · exact (ld3 harg17 xs1 _ 0 n q 0 n q rfl (by omega) (by omega)).trans (P.st 0 n q)
    · exact (ld3 harg17 xs1 _ 0 n q 1 n q rfl (by omega) (by omega)).trans (P.st 1 n q)
    · exact (ld3 harg17 xs1 _ 0 n q 2 n q rfl (by omega) (by omega)).trans (P.st 2 n q)
    · exact (ld3 harg17 xs1 _ 0 n q 3 n q rfl (by omega) (by omega)).trans (P.st 3 n q)

theorem givenB : Given (ldsB arg2 harg2 arg3 harg3 arg4 harg4 arg5 harg5 arg6 harg6 arg7 harg7 arg8 harg8 arg9 harg9 arg10 harg10 arg16 harg16 arg17 harg17 x0 x1 x2 x3 x4 x5 x6 x7 x8 xs0 xs1) Q cc where
  feed := {
    x s j := gB_x arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc s j
    w0 j := gB_w0 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    w1 j := gB_w1 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    w2 j := gB_w2 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    w3 j := gB_w3 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    cb j := gB_cb arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    r0 j := gB_r0 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    r1 j := gB_r1 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
    r2 j := gB_r2 arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j }
  d s h := gB_d arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc s h
  db h := gB_db arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc h
  al h := gB_al arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc h
  df j := gB_df arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc j
  z s j := gB_z arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc s j
  nw g q := gB_nw arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc g q
  st g n q := gB_st arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc g n q

theorem outB_at (s : Fin 128) (j : Fin 2048) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 (ix3 0 s j) = Q.out cc s j := by
  unfold out0_B_11
  rw [View.read_writes_junk_eq_canon, outB]
  exact step_out (givenB arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc) arg18.view s j

theorem stB_at (g : Fin 4) (n : Fin 128) (q : Fin 512) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 (ix3 g n q) = Q.S (cc + 1) n (gcol g q) := by
  unfold sout0_B_1
  rw [View.read_writes_junk_eq_canon, stB]
  exact step_st (givenB arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc) arg19.view arg19.view arg19.view arg19.view [] g n q

theorem padB_at (k : Fin 8) (hk : k.val ≤ 2) (j : Fin 3072) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 (ix2 k j) = keep Q (cc + 1) k j := by
  unfold sout0_B_0
  rw [padB]
  exact step_pad_over (givenB arg2 harg2 arg3 harg3 arg4 harg4 arg5 harg5 arg6 harg6 arg7 harg7 arg8 harg8 arg9 harg9 arg10 harg10 arg16 harg16 arg17 harg17 x0 x1 x2 x3 x4 x5 x6 x7 x8 xs0 xs1 I P hcc) arg16 (harg16.unread xs0) k hk j

theorem carriedB : Carried (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1) Q (cc + 1) where
  rows k hk j := padB_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 I P hcc k hk j
  st g n q := stB_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 I P hcc g n q

end B

section A

variable (c : Dev nD) (i : Cert.KernelIdeal.grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x128x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S8x3072 .f32) (harg16 : arg16.IsWhole) (arg17 : Memref sig .tc .vmem S4x128x512 .f32) (harg17 : arg17.IsWhole) (arg18 : Memref sig .tc .vmem S128x2048 .f32) (harg18 : arg18.IsWhole) (arg19 : Memref sig .tc .vmem S128x512 .bf16) (harg19 : arg19.IsWhole) (hc0 : cond0_0 i)
  (x0 : Vec Ideal S1x128x3072 .bf16) (x1 : Vec Ideal S1x128x2048 .bf16) (x2 : Vec Ideal S1x128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S512x1024 .f32) (x10 : Vec Ideal S512x1024 .f32)
  {Q : Seq}

theorem r0A (j : Fin 3072) : kernelRun0_A.sl.v20 (F := Ideal) c arg16 (ix2 0 j) = (0 : EReal) :=
  zero_row arg16.view [] 0 inb_S8x3072_S1x3072_0_0 j (by simp)
theorem r1A (j : Fin 3072) : kernelRun0_A.sl.v33 (F := Ideal) c arg2 harg2 arg5 harg5 arg16 x0 x3 (ix2 0 j) = (0 : EReal) :=
  zero_row arg16.view [⟨Rect.unit (s := S8x3072) ![0, 0] S1x3072.size inb_S8x3072_S1x3072_0_0, _⟩] 1 inb_S8x3072_S1x3072_1_0 j (by simp [S1x3072])
theorem r2A (j : Fin 3072) : kernelRun0_A.sl.v46 (F := Ideal) c arg2 harg2 arg5 harg5 arg16 x0 x3 (ix2 0 j) = (0 : EReal) :=
  zero_row arg16.view [⟨Rect.unit (s := S8x3072) ![1, 0] S1x3072.size inb_S8x3072_S1x3072_1_0, _⟩, ⟨Rect.unit (s := S8x3072) ![0, 0] S1x3072.size inb_S8x3072_S1x3072_0_0, _⟩] 2 inb_S8x3072_S1x3072_2_0 j (by simp [S1x3072])
theorem s0A (n : Fin 128) (q : Fin 512) : kernelRun0_A.sl.v121 (F := Ideal) c arg17 (ix3 0 n q) = (0 : EReal) :=
  zero_grp arg17.view [] 0 inb_S4x128x512_S1x128x512_0_0_0 n q (by simp [S1x128x512])
theorem s1A (n : Fin 128) (q : Fin 512) : kernelRun0_A.sl.v400 (F := Ideal) c arg2 harg2 arg4 harg4 arg5 harg5 arg6 harg6 arg7 harg7 arg8 harg8 arg16 arg17 arg19 x0 x2 x3 x4 x5 x6 (ix3 0 n q) = (0 : EReal) :=
  zero_grp arg17.view [⟨Rect.unit (s := S4x128x512) ![0, 0, 0] S1x128x512.size (inb_s 0 (by omega)), _⟩] 1 inb_S4x128x512_S1x128x512_1_0_0 n q (by simp [S1x128x512])
theorem s2A (n : Fin 128) (q : Fin 512) : kernelRun0_A.sl.v679 (F := Ideal) c arg2 harg2 arg4 harg4 arg5 harg5 arg6 harg6 arg7 harg7 arg8 harg8 arg16 arg17 arg19 x0 x2 x3 x4 x5 x6 (ix3 0 n q) = (0 : EReal) :=
  zero_grp arg17.view [⟨Rect.unit (s := S4x128x512) ![1, 0, 0] S1x128x512.size (inb_s 1 (by omega)), _⟩, ⟨Rect.unit (s := S4x128x512) ![0, 0, 0] S1x128x512.size (inb_s 0 (by omega)), _⟩] 2 inb_S4x128x512_S1x128x512_2_0_0 n q (by simp [S1x128x512])
theorem s3A (n : Fin 128) (q : Fin 512) : kernelRun0_A.sl.v958 (F := Ideal) c arg2 harg2 arg4 harg4 arg5 harg5 arg6 harg6 arg7 harg7 arg8 harg8 arg16 arg17 arg19 x0 x2 x3 x4 x5 x6 (ix3 0 n q) = (0 : EReal) :=
  zero_grp arg17.view [⟨Rect.unit (s := S4x128x512) ![2, 0, 0] S1x128x512.size (inb_s 2 (by omega)), _⟩, ⟨Rect.unit (s := S4x128x512) ![1, 0, 0] S1x128x512.size (inb_s 1 (by omega)), _⟩, ⟨Rect.unit (s := S4x128x512) ![0, 0, 0] S1x128x512.size (inb_s 0 (by omega)), _⟩] 3 inb_S4x128x512_S1x128x512_3_0_0 n q (by simp [S1x128x512])

variable (I : Blocks x0 x1 x2 x3 x4 x5 x6 x7 x8 Q 0)

include I

theorem gA_x (s : Fin 128) (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).x (ix3 0 s j) = Q.X j (128 * 0 + s.val) := (ld3 harg2 x0 _ 0 s j 0 s j rfl (by omega) (by omega)).trans (I.x0 s j)
theorem gA_w0 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).w0 (ix2 0 j) = Q.W j 0 := (ld2 harg5 x3 _ 0 j 0 j rfl (by omega)).trans (I.x3 0 j)
theorem gA_w1 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).w1 (ix2 0 j) = Q.W j 1 := (ld2 harg5 x3 _ 0 j 1 j rfl (by omega)).trans (I.x3 1 j)
theorem gA_w2 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).w2 (ix2 0 j) = Q.W j 2 := (ld2 harg5 x3 _ 0 j 2 j rfl (by omega)).trans (I.x3 2 j)
theorem gA_w3 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).w3 (ix2 0 j) = Q.W j 3 := (ld2 harg5 x3 _ 0 j 3 j rfl (by omega)).trans (I.x3 3 j)
theorem gA_cb (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).cb (ix2 0 j) = Q.B j := (ld2 harg6 x4 _ 0 j 0 j rfl (by omega)).trans (I.x4 j)
theorem gA_r0 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).r0 (ix2 0 j) = if 0 = 0 then 0 else conv0 (Q.X j) (Q.W j) (128 * 0 - 1) := (r0A c arg16 j).trans (if_pos rfl).symm
theorem gA_r1 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).r1 (ix2 0 j) = if 0 = 0 then 0 else conv1 (Q.X j) (Q.W j) (128 * 0 - 1) := (r1A c arg2 harg2 arg5 harg5 arg16 x0 x3 j).trans (if_pos rfl).symm
theorem gA_r2 (j : Fin 3072) : (ldsA c arg2 harg2 arg3 harg3 arg4 harg4 arg5 harg5 arg6 harg6 arg7 harg7 arg8 harg8 arg9 harg9 arg10 harg10 arg16 arg17 arg19 x0 x1 x2 x3 x4 x5 x6 x7 x8).r2 (ix2 0 j) = if 0 = 0 then 0 else conv2 (Q.X j) (Q.W j) (128 * 0 - 1) := (r2A c arg2 harg2 arg5 harg5 arg16 x0 x3 j).trans (if_pos rfl).symm
theorem gA_d (s : Fin 128) (h : Fin 32) : (ldsA c arg2 harg2 arg3 harg3 arg4 harg4 arg5 harg5 arg6 harg6 arg7 harg7 arg8 harg8 arg9 harg9 arg10 harg10 arg16 arg17 arg19 x0 x1 x2 x3 x4 x5 x6 x7 x8).d (ix3 0 s (lane h)) = Q.T h (128 * 0 + s.val) := (ld3 harg4 x2 _ 0 s (lane h) 0 s (lane h) rfl (by omega) (by omega)).trans (I.x2 s h)
theorem gA_db (h : Fin 32) : (ldsA c arg2 harg2 arg3 harg3 arg4 harg4 arg5 harg5 arg6 harg6 arg7 harg7 arg8 harg8 arg9 harg9 arg10 harg10 arg16 arg17 arg19 x0 x1 x2 x3 x4 x5 x6 x7 x8).db (ix2 0 (lane h)) = Q.tb h := (ld2 harg7 x5 _ 0 (lane h) 0 (lane h) rfl (by omega)).trans (I.x5 h)
theorem gA_al (h : Fin 32) : (ldsA c arg2 harg2 arg3 harg3 arg4 harg4 arg5 harg5 arg6 harg6 arg7 harg7 arg8 harg8 arg9 harg9 arg10 harg10 arg16 arg17 arg19 x0 x1 x2 x3 x4 x5 x6 x7 x8).al (ix2 0 (lane h)) = Q.al h := (ld2 harg8 x6 _ 0 (lane h) 0 (lane h) rfl (by omega)).trans (I.x6 h)
theorem gA_df (j : Fin 2048) : (ldsA c arg2 harg2 arg3 harg3 arg4 harg4 arg5 harg5 arg6 harg6 arg7 harg7 arg8 harg8 arg9 harg9 arg10 harg10 arg16 arg17 arg19 x0 x1 x2 x3 x4 x5 x6 x7 x8).df (ix2 0 j) = Q.sk (hd j) := (ld2 harg9 x7 _ 0 j 0 j rfl (by omega)).trans (I.x7 j)
theorem gA_z (s : Fin 128) (j : Fin 2048) : (ldsA c arg2 harg2 arg3 harg3 arg4 harg4 arg5 harg5 arg6 harg6 arg7 harg7 arg8 harg8 arg9 harg9 arg10 harg10 arg16 arg17 arg19 x0 x1 x2 x3 x4 x5 x6 x7 x8).z (ix3 0 s j) = Q.Z j (128 * 0 + s.val) := (ld3 harg3 x1 _ 0 s j 0 s j rfl (by omega) (by omega)).trans (I.x1 s j)
theorem gA_nw (g : Fin 4) (q : Fin 512) : (ldsA c arg2 harg2 arg3 harg3 arg4 harg4 arg5 harg5 arg6 harg6 arg7 harg7 arg8 harg8 arg9 harg9 arg10 harg10 arg16 arg17 arg19 x0 x1 x2 x3 x4 x5 x6 x7 x8).nw g (ix2 0 q) = Q.nw (gcol g q) := by
    fin_cases g
    · exact (ld2 harg10 x8 _ 0 q 0 (gcol 0 q) rfl (by simp only [gcol]; simp)).trans (I.x8 _)
    · exact (ld2 harg10 x8 _ 0 q 0 (gcol 1 q) rfl (by simp only [gcol]; simp)).trans (I.x8 _)
    · exact (ld2 harg10 x8 _ 0 q 0 (gcol 2 q) rfl (by simp only [gcol]; simp)).trans (I.x8 _)
    · exact (ld2 harg10 x8 _ 0 q 0 (gcol 3 q) rfl (by simp only [gcol]; simp)).trans (I.x8 _)
theorem gA_st (g : Fin 4) (n : Fin 128) (q : Fin 512) : (ldsA c arg2 harg2 arg3 harg3 arg4 harg4 arg5 harg5 arg6 harg6 arg7 harg7 arg8 harg8 arg9 harg9 arg10 harg10 arg16 arg17 arg19 x0 x1 x2 x3 x4 x5 x6 x7 x8).st g (ix3 0 n q) = Q.S 0 n (gcol g q) := by
    fin_cases g
    · exact s0A c arg17 n q
    · exact s1A c arg2 harg2 arg4 harg4 arg5 harg5 arg6 harg6 arg7 harg7 arg8 harg8 arg16 arg17 arg19 x0 x2 x3 x4 x5 x6 n q
    · exact s2A c arg2 harg2 arg4 harg4 arg5 harg5 arg6 harg6 arg7 harg7 arg8 harg8 arg16 arg17 arg19 x0 x2 x3 x4 x5 x6 n q
    · exact s3A c arg2 harg2 arg4 harg4 arg5 harg5 arg6 harg6 arg7 harg7 arg8 harg8 arg16 arg17 arg19 x0 x2 x3 x4 x5 x6 n q

theorem givenA : Given (ldsA c arg2 harg2 arg3 harg3 arg4 harg4 arg5 harg5 arg6 harg6 arg7 harg7 arg8 harg8 arg9 harg9 arg10 harg10 arg16 arg17 arg19 x0 x1 x2 x3 x4 x5 x6 x7 x8) Q 0 where
  feed := {
    x s j := gA_x c arg2 harg2 arg3 harg3 arg4 harg4 arg5 harg5 arg6 harg6 arg7 harg7 arg8 harg8 arg9 harg9 arg10 harg10 arg16 arg17 arg19 x0 x1 x2 x3 x4 x5 x6 x7 x8 I s j
    w0 j := gA_w0 c arg2 harg2 arg3 harg3 arg4 harg4 arg5 harg5 arg6 harg6 arg7 harg7 arg8 harg8 arg9 harg9 arg10 harg10 arg16 arg17 arg19 x0 x1 x2 x3 x4 x5 x6 x7 x8 I j
    w1 j := gA_w1 c arg2 harg2 arg3 harg3 arg4 harg4 arg5 harg5 arg6 harg6 arg7 harg7 arg8 harg8 arg9 harg9 arg10 harg10 arg16 arg17 arg19 x0 x1 x2 x3 x4 x5 x6 x7 x8 I j
    w2 j := gA_w2 c arg2 harg2 arg3 harg3 arg4 harg4 arg5 harg5 arg6 harg6 arg7 harg7 arg8 harg8 arg9 harg9 arg10 harg10 arg16 arg17 arg19 x0 x1 x2 x3 x4 x5 x6 x7 x8 I j
    w3 j := gA_w3 c arg2 harg2 arg3 harg3 arg4 harg4 arg5 harg5 arg6 harg6 arg7 harg7 arg8 harg8 arg9 harg9 arg10 harg10 arg16 arg17 arg19 x0 x1 x2 x3 x4 x5 x6 x7 x8 I j
    cb j := gA_cb c arg2 harg2 arg3 harg3 arg4 harg4 arg5 harg5 arg6 harg6 arg7 harg7 arg8 harg8 arg9 harg9 arg10 harg10 arg16 arg17 arg19 x0 x1 x2 x3 x4 x5 x6 x7 x8 I j
    r0 j := gA_r0 c arg2 harg2 arg3 harg3 arg4 harg4 arg5 harg5 arg6 harg6 arg7 harg7 arg8 harg8 arg9 harg9 arg10 harg10 arg16 arg17 arg19 x0 x1 x2 x3 x4 x5 x6 x7 x8 I j
    r1 j := gA_r1 c arg2 harg2 arg3 harg3 arg4 harg4 arg5 harg5 arg6 harg6 arg7 harg7 arg8 harg8 arg9 harg9 arg10 harg10 arg16 arg17 arg19 x0 x1 x2 x3 x4 x5 x6 x7 x8 I j
    r2 j := gA_r2 c arg2 harg2 arg3 harg3 arg4 harg4 arg5 harg5 arg6 harg6 arg7 harg7 arg8 harg8 arg9 harg9 arg10 harg10 arg16 arg17 arg19 x0 x1 x2 x3 x4 x5 x6 x7 x8 I j }
  d s h := gA_d c arg2 harg2 arg3 harg3 arg4 harg4 arg5 harg5 arg6 harg6 arg7 harg7 arg8 harg8 arg9 harg9 arg10 harg10 arg16 arg17 arg19 x0 x1 x2 x3 x4 x5 x6 x7 x8 I s h
  db h := gA_db c arg2 harg2 arg3 harg3 arg4 harg4 arg5 harg5 arg6 harg6 arg7 harg7 arg8 harg8 arg9 harg9 arg10 harg10 arg16 arg17 arg19 x0 x1 x2 x3 x4 x5 x6 x7 x8 I h
  al h := gA_al c arg2 harg2 arg3 harg3 arg4 harg4 arg5 harg5 arg6 harg6 arg7 harg7 arg8 harg8 arg9 harg9 arg10 harg10 arg16 arg17 arg19 x0 x1 x2 x3 x4 x5 x6 x7 x8 I h
  df j := gA_df c arg2 harg2 arg3 harg3 arg4 harg4 arg5 harg5 arg6 harg6 arg7 harg7 arg8 harg8 arg9 harg9 arg10 harg10 arg16 arg17 arg19 x0 x1 x2 x3 x4 x5 x6 x7 x8 I j
  z s j := gA_z c arg2 harg2 arg3 harg3 arg4 harg4 arg5 harg5 arg6 harg6 arg7 harg7 arg8 harg8 arg9 harg9 arg10 harg10 arg16 arg17 arg19 x0 x1 x2 x3 x4 x5 x6 x7 x8 I s j
  nw g q := gA_nw c arg2 harg2 arg3 harg3 arg4 harg4 arg5 harg5 arg6 harg6 arg7 harg7 arg8 harg8 arg9 harg9 arg10 harg10 arg16 arg17 arg19 x0 x1 x2 x3 x4 x5 x6 x7 x8 I g q
  st g n q := gA_st c arg2 harg2 arg3 harg3 arg4 harg4 arg5 harg5 arg6 harg6 arg7 harg7 arg8 harg8 arg9 harg9 arg10 harg10 arg16 arg17 arg19 x0 x1 x2 x3 x4 x5 x6 x7 x8 I g n q

theorem outA_at (s : Fin 128) (j : Fin 2048) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 0 s j) = Q.out 0 s j := by
  unfold out0_A_11
  rw [View.read_writes_junk_eq_canon, outA]
  exact step_out (givenA c arg2 harg2 arg3 harg3 arg4 harg4 arg5 harg5 arg6 harg6 arg7 harg7 arg8 harg8 arg9 harg9 arg10 harg10 arg16 arg17 arg19 x0 x1 x2 x3 x4 x5 x6 x7 x8 I) arg18.view s j

theorem stA_at (g : Fin 4) (n : Fin 128) (q : Fin 512) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 g n q) = Q.S (0 + 1) n (gcol g q) := by
  unfold sout0_A_1
  rw [View.read_writes_junk_eq_canon, stA]
  exact step_st (givenA c arg2 harg2 arg3 harg3 arg4 harg4 arg5 harg5 arg6 harg6 arg7 harg7 arg8 harg8 arg9 harg9 arg10 harg10 arg16 arg17 arg19 x0 x1 x2 x3 x4 x5 x6 x7 x8 I) arg19.view arg19.view arg19.view arg19.view [⟨Rect.unit (s := S4x128x512) ![0, 0, 0] S4x128x512.size inb_S4x128x512_S4x128x512_0_0_0, k0_pay5 (F := Ideal)⟩] g n q

theorem padA_at (k : Fin 8) (hk : k.val ≤ 2) (j : Fin 3072) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 k j) = keep Q (0 + 1) k j := by
  unfold sout0_A_0
  rw [View.read_writes_junk_eq_canon, padA]
  exact step_pad_front (givenA c arg2 harg2 arg3 harg3 arg4 harg4 arg5 harg5 arg6 harg6 arg7 harg7 arg8 harg8 arg9 harg9 arg10 harg10 arg16 arg17 arg19 x0 x1 x2 x3 x4 x5 x6 x7 x8 I) [⟨Rect.unit (s := S8x3072) ![0, 0] S8x3072.size inb_S8x3072_S8x3072_0_0, k0_pay4 (F := Ideal)⟩] k hk j

theorem carriedA : Carried (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10) Q (0 + 1) where
  rows k hk j := padA_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 I k hk j
  st g n q := stA_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 I g n q

end A

end SsdBody

end
-- ==== Proof.SsdHost.lean ====
module
public import proofs.«01_k».proof.Proof.SsdPoint
public import proofs.«01_k».proof.Proof.Gen.KernelIdeal.Value
public import Idealize.ShloMosaic.Lib.StableHlo.RunRead
@[expose] public section
set_option maxRecDepth 16384
noncomputable section

namespace SsdBody

open Cert.KernelIdeal Cert.KernelIdeal.Gen Idealize.ShloMosaic Idealize.ShloMosaic.TcCoe SsdSpec

variable (m : (ℓ : Loc nD τ sig) → Buf (Elt Ideal) ℓ) (c : Dev nD)

theorem V_v0 : V m c main_v0 = shapeCast S65536x1024 (m ((c : Thread nD τ).loc main_arg8)) shapeCasts_S32x2048x1024_S65536x1024 := by
  unfold V
  simp only [hostOps0, hostOps0_1, hostOps0_2, hostOps0_3, hostOps0_4, List.flatten_cons, List.flatten_nil, List.append_nil, List.cons_append, List.nil_append]
  after_reads_simp
  rfl

theorem V_v1 : V m c main_v1 = shapeCast S65536x1024 (m ((c : Thread nD τ).loc main_arg9)) shapeCasts_S32x2048x1024_S65536x1024 := by
  unfold V
  simp only [hostOps0, hostOps0_1, hostOps0_2, hostOps0_3, hostOps0_4, List.flatten_cons, List.flatten_nil, List.append_nil, List.cons_append, List.nil_append]
  after_reads_simp
  rfl

theorem V_v3 : V m c main_v3 = shapeCast S1x128 (pad S128 ![0] ![96] ![0] (m ((c : Thread nD τ).loc main_arg4)) (sitofp (F := Ideal) .f32 (constantI S_ 32 0#32)) pads_S32_S128_0960 h_S_) shapeCasts_S128_S1x128 := by
  unfold V
  simp only [hostOps0, hostOps0_1, hostOps0_2, hostOps0_3, hostOps0_4, List.flatten_cons, List.flatten_nil, List.append_nil, List.cons_append, List.nil_append]
  after_reads_simp
  rfl

theorem V_v5 : V m c main_v5 = shapeCast S1x128 (pad S128 ![0] ![96] ![0] (m ((c : Thread nD τ).loc main_arg5)) (sitofp (F := Ideal) .f32 (constantI S_ 32 0#32)) pads_S32_S128_0960 h_S_) shapeCasts_S128_S1x128 := by
  unfold V
  simp only [hostOps0, hostOps0_1, hostOps0_2, hostOps0_3, hostOps0_4, List.flatten_cons, List.flatten_nil, List.append_nil, List.cons_append, List.nil_append]
  after_reads_simp
  rfl

theorem V_v8 : V m c main_v8 = shapeCast S1x2048 (shapeCast S2048 (broadcastInDim S32x64 ![0] bcast_S32_S32x64_0 (m ((c : Thread nD τ).loc main_arg6))) shapeCasts_S32x64_S2048) shapeCasts_S2048_S1x2048 := by
  unfold V
  simp only [hostOps0, hostOps0_1, hostOps0_2, hostOps0_3, hostOps0_4, List.flatten_cons, List.flatten_nil, List.append_nil, List.cons_append, List.nil_append]
  after_reads_simp
  rfl

theorem V_v9 : V m c main_v9 = shapeCast S1x3072 (m ((c : Thread nD τ).loc main_arg3)) shapeCasts_S3072_S1x3072 := by
  unfold V
  simp only [hostOps0, hostOps0_1, hostOps0_2, hostOps0_3, hostOps0_4, List.flatten_cons, List.flatten_nil, List.append_nil, List.cons_append, List.nil_append]
  after_reads_simp
  rfl

theorem V_v10 : V m c main_v10 = shapeCast S1x2048 (m ((c : Thread nD τ).loc main_arg7)) shapeCasts_S2048_S1x2048 := by
  unfold V
  simp only [hostOps0, hostOps0_1, hostOps0_2, hostOps0_3, hostOps0_4, List.flatten_cons, List.flatten_nil, List.append_nil, List.cons_append, List.nil_append]
  after_reads_simp
  rfl

theorem v3_at (h : Fin 32) : (V m c main_v3 : Vec Ideal S1x128 .f32) (ix2 0 (lane h)) = (m ((c : Thread nD τ).loc main_arg4) : Vec Ideal S32 .f32) (ix1 h) := by
  rw [V_v3]
  pointwise []
  have hx : ∀ a : Fin 1, ((ix1 (lane h) : S128.Idx) a).val < S32.size a := fun a => by
    fin_cases a; show (lane h).val < 32; rw [lane]; exact h.isLt
  refine (dif_pos hx).trans ?_
  congr 1
theorem v5_at (h : Fin 32) : (V m c main_v5 : Vec Ideal S1x128 .f32) (ix2 0 (lane h)) = (m ((c : Thread nD τ).loc main_arg5) : Vec Ideal S32 .f32) (ix1 h) := by
  rw [V_v5]
  pointwise []
  have hx : ∀ a : Fin 1, ((ix1 (lane h) : S128.Idx) a).val < S32.size a := fun a => by
    fin_cases a; show (lane h).val < 32; rw [lane]; exact h.isLt
  refine (dif_pos hx).trans ?_
  congr 1
theorem v8_at (j : Fin 2048) : (V m c main_v8 : Vec Ideal S1x2048 .f32) (ix2 0 j) = (m ((c : Thread nD τ).loc main_arg6) : Vec Ideal S32 .f32) (ix1 (hd j)) := by
  rw [V_v8]
  pointwise []
  rfl
theorem v9_at (j : Fin 3072) : (V m c main_v9 : Vec Ideal S1x3072 .f32) (ix2 0 j) = m ((c : Thread nD τ).loc main_arg3) (ix1 j) := by
  rw [V_v9]
  pointwise []
theorem v10_at (j : Fin 2048) : (V m c main_v10 : Vec Ideal S1x2048 .f32) (ix2 0 j) = m ((c : Thread nD τ).loc main_arg7) (ix1 j) := by
  rw [V_v10]
  pointwise []

theorem ix_w0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem ix_w1 : ∀ t : Fin cfg0.N, win0_1.index t (0 : Fin 3) = t.val / 16 ∧ win0_1.index t (1 : Fin 3) = t.val % 16 ∧ win0_1.index t (2 : Fin 3) = 2 :=
  (by decide +kernel : ∀ t : Fin grid0.N, _)
theorem ix_w2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)
theorem ix_w3 : ∀ t : Fin cfg0.N, win0_3.index t (0 : Fin 2) = 0 ∧ win0_3.index t (1 : Fin 2) = 0 :=
  (by decide +kernel : ∀ t : Fin grid0.N, _)
theorem ix_w4 : ∀ t : Fin cfg0.N, win0_4.index t (0 : Fin 2) = 0 ∧ win0_4.index t (1 : Fin 2) = 0 :=
  (by decide +kernel : ∀ t : Fin grid0.N, _)
theorem ix_w5 : ∀ t : Fin cfg0.N, win0_5.index t (0 : Fin 2) = 0 ∧ win0_5.index t (1 : Fin 2) = 0 :=
  (by decide +kernel : ∀ t : Fin grid0.N, _)
theorem ix_w6 : ∀ t : Fin cfg0.N, win0_6.index t (0 : Fin 2) = 0 ∧ win0_6.index t (1 : Fin 2) = 0 :=
  (by decide +kernel : ∀ t : Fin grid0.N, _)
theorem ix_w7 : ∀ t : Fin cfg0.N, win0_7.index t (0 : Fin 2) = 0 ∧ win0_7.index t (1 : Fin 2) = 0 :=
  (by decide +kernel : ∀ t : Fin grid0.N, _)
theorem ix_w8 : ∀ t : Fin cfg0.N, win0_8.index t (0 : Fin 2) = 0 ∧ win0_8.index t (1 : Fin 2) = 0 :=
  (by decide +kernel : ∀ t : Fin grid0.N, _)
theorem ix_w9 : ∀ t : Fin cfg0.N, win0_9.index t (0 : Fin 2) = t.val ∧ win0_9.index t (1 : Fin 2) = 0 :=
  (by decide +kernel : ∀ t : Fin grid0.N, _)
theorem ix_w10 : ∀ t : Fin cfg0.N, win0_10.index t (0 : Fin 2) = t.val ∧ win0_10.index t (1 : Fin 2) = 0 :=
  (by decide +kernel : ∀ t : Fin grid0.N, _)

theorem blk0 (t : Fin cfg0.N) (b : Fin 8) (k : Fin 2048) (s : Fin 128) (j : Fin 3072) (hb : b.val = t.val / 16) (hk : k.val = 128 * (t.val % 16) + s.val) :
    (iblk m c 0 t : Vec Ideal S1x128x3072 .bf16) (ix3 0 s j) = (m ((c : Thread nD τ).loc main_arg0) : Vec Ideal S8x2048x6144 .bf16) (ix3 b k ⟨0 + j.val, by omega⟩) := by
  obtain ⟨e0, e1, e2⟩ := ix_w0 t
  unfold iblk
  rw [View.read_apply]
  show V m c main_arg0 _ = m (c.tc.loc main_arg0) _
  rw [V_main_arg0]
  congr 1
  funext x
  apply Fin.ext
  match x with
  | ⟨0, _⟩ => show win0_0.index t 0 * 1 + 1 * (0 : Fin 1).val = b.val; rw [e0]; simp; omega
  | ⟨1, _⟩ => show win0_0.index t 1 * 128 + 1 * s.val = k.val; rw [e1]; omega
  | ⟨2, _⟩ => show win0_0.index t 2 * 3072 + 1 * j.val = _; rw [e2]; simp [ix3]; try omega

theorem blk1 (t : Fin cfg0.N) (b : Fin 8) (k : Fin 2048) (s : Fin 128) (j : Fin 2048) (hb : b.val = t.val / 16) (hk : k.val = 128 * (t.val % 16) + s.val) :
    (iblk m c 1 t : Vec Ideal S1x128x2048 .bf16) (ix3 0 s j) = (m ((c : Thread nD τ).loc main_arg0) : Vec Ideal S8x2048x6144 .bf16) (ix3 b k ⟨4096 + j.val, by omega⟩) := by
  obtain ⟨e0, e1, e2⟩ := ix_w1 t
  unfold iblk
  rw [View.read_apply]
  show V m c main_arg0 _ = m (c.tc.loc main_arg0) _
  rw [V_main_arg0]
  congr 1
  funext x
  apply Fin.ext
  match x with
  | ⟨0, _⟩ => show win0_1.index t 0 * 1 + 1 * (0 : Fin 1).val = b.val; rw [e0]; simp; omega
  | ⟨1, _⟩ => show win0_1.index t 1 * 128 + 1 * s.val = k.val; rw [e1]; omega
  | ⟨2, _⟩ => show win0_1.index t 2 * 2048 + 1 * j.val = _; rw [e2]; simp [ix3]; try omega

theorem blk2 (t : Fin cfg0.N) (b : Fin 8) (k : Fin 2048) (s : Fin 128) (j : Fin 128) (hb : b.val = t.val / 16) (hk : k.val = 128 * (t.val % 16) + s.val) :
    (iblk m c 2 t : Vec Ideal S1x128x128 .f32) (ix3 0 s j) = (m ((c : Thread nD τ).loc main_arg1) : Vec Ideal S8x2048x128 .f32) (ix3 b k j) := by
  obtain ⟨e0, e1, e2⟩ := ix_w2 t
  unfold iblk
  rw [View.read_apply]
  show V m c main_arg1 _ = m (c.tc.loc main_arg1) _
  rw [V_main_arg1]
  congr 1
  funext x
  apply Fin.ext
  match x with
  | ⟨0, _⟩ => show win0_2.index t 0 * 1 + 1 * (0 : Fin 1).val = b.val; rw [e0]; simp; omega
  | ⟨1, _⟩ => show win0_2.index t 1 * 128 + 1 * s.val = k.val; rw [e1]; omega
  | ⟨2, _⟩ => show win0_2.index t 2 * 128 + 1 * j.val = _; rw [e2]; simp [ix3]

theorem blk3 (t : Fin cfg0.N) : (iblk m c 3 t : Vec Ideal S4x3072 .f32) = V m c main_arg2 := by
  obtain ⟨e0, e1⟩ := ix_w3 t
  funext i
  unfold iblk
  rw [View.read_apply]
  show V m c main_arg2 _ = V m c main_arg2 _
  congr 1
  funext x
  apply Fin.ext
  match x with
  | ⟨0, _⟩ => show win0_3.index t 0 * 4 + 1 * (i 0).val = (i 0).val; rw [e0]; omega
  | ⟨1, _⟩ => show win0_3.index t 1 * 3072 + 1 * (i 1).val = (i 1).val; rw [e1]; omega

theorem blk4 (t : Fin cfg0.N) : (iblk m c 4 t : Vec Ideal S1x3072 .f32) = V m c main_v9 := by
  obtain ⟨e0, e1⟩ := ix_w4 t
  funext i
  unfold iblk
  rw [View.read_apply]
  show V m c main_v9 _ = V m c main_v9 _
  congr 1
  funext x
  apply Fin.ext
  match x with
  | ⟨0, _⟩ => show win0_4.index t 0 * 1 + 1 * (i 0).val = (i 0).val; rw [e0]; omega
  | ⟨1, _⟩ => show win0_4.index t 1 * 3072 + 1 * (i 1).val = (i 1).val; rw [e1]; omega

theorem blk5 (t : Fin cfg0.N) : (iblk m c 5 t : Vec Ideal S1x128 .f32) = V m c main_v3 := by
  obtain ⟨e0, e1⟩ := ix_w5 t
  funext i
  unfold iblk
  rw [View.read_apply]
  show V m c main_v3 _ = V m c main_v3 _
  congr 1
  funext x
  apply Fin.ext
  match x with
  | ⟨0, _⟩ => show win0_5.index t 0 * 1 + 1 * (i 0).val = (i 0).val; rw [e0]; omega
  | ⟨1, _⟩ => show win0_5.index t 1 * 128 + 1 * (i 1).val = (i 1).val; rw [e1]; omega

theorem blk6 (t : Fin cfg0.N) : (iblk m c 6 t : Vec Ideal S1x128 .f32) = V m c main_v5 := by
  obtain ⟨e0, e1⟩ := ix_w6 t
  funext i
  unfold iblk
  rw [View.read_apply]
  show V m c main_v5 _ = V m c main_v5 _
  congr 1
  funext x
  apply Fin.ext
  match x with
  | ⟨0, _⟩ => show win0_6.index t 0 * 1 + 1 * (i 0).val = (i 0).val; rw [e0]; omega
  | ⟨1, _⟩ => show win0_6.index t 1 * 128 + 1 * (i 1).val = (i 1).val; rw [e1]; omega

theorem blk7 (t : Fin cfg0.N) : (iblk m c 7 t : Vec Ideal S1x2048 .f32) = V m c main_v8 := by
  obtain ⟨e0, e1⟩ := ix_w7 t
  funext i
  unfold iblk
  rw [View.read_apply]
  show V m c main_v8 _ = V m c main_v8 _
  congr 1
  funext x
  apply Fin.ext
  match x with
  | ⟨0, _⟩ => show win0_7.index t 0 * 1 + 1 * (i 0).val = (i 0).val; rw [e0]; omega
  | ⟨1, _⟩ => show win0_7.index t 1 * 2048 + 1 * (i 1).val = (i 1).val; rw [e1]; omega

theorem blk8 (t : Fin cfg0.N) : (iblk m c 8 t : Vec Ideal S1x2048 .f32) = V m c main_v10 := by
  obtain ⟨e0, e1⟩ := ix_w8 t
  funext i
  unfold iblk
  rw [View.read_apply]
  show V m c main_v10 _ = V m c main_v10 _
  congr 1
  funext x
  apply Fin.ext
  match x with
  | ⟨0, _⟩ => show win0_8.index t 0 * 1 + 1 * (i 0).val = (i 0).val; rw [e0]; omega
  | ⟨1, _⟩ => show win0_8.index t 1 * 2048 + 1 * (i 1).val = (i 1).val; rw [e1]; omega

theorem blk9 (t : Fin cfg0.N) (p : Fin 512) (q : Fin 1024) :
    (iblk m c 9 t : Vec Ideal S512x1024 .f32) (ix2 p q) = (V m c main_v0 : Vec Ideal S65536x1024 .f32) (ix2 ⟨512 * t.val + p.val, by have := lt_of_lt_of_eq t.isLt N_0; omega⟩ q) := by
  obtain ⟨e0, e1⟩ := ix_w9 t
  unfold iblk
  rw [View.read_apply]
  show V m c main_v0 _ = V m c main_v0 _
  congr 1
  funext x
  apply Fin.ext
  match x with
  | ⟨0, _⟩ => show win0_9.index t 0 * 512 + 1 * p.val = 512 * t.val + p.val; rw [e0]; omega
  | ⟨1, _⟩ => show win0_9.index t 1 * 1024 + 1 * q.val = q.val; rw [e1]; omega

theorem blk10 (t : Fin cfg0.N) (p : Fin 512) (q : Fin 1024) :
    (iblk m c 10 t : Vec Ideal S512x1024 .f32) (ix2 p q) = (V m c main_v1 : Vec Ideal S65536x1024 .f32) (ix2 ⟨512 * t.val + p.val, by have := lt_of_lt_of_eq t.isLt N_0; omega⟩ q) := by
  obtain ⟨e0, e1⟩ := ix_w10 t
  unfold iblk
  rw [View.read_apply]
  show V m c main_v1 _ = V m c main_v1 _
  congr 1
  funext x
  apply Fin.ext
  match x with
  | ⟨0, _⟩ => show win0_10.index t 0 * 512 + 1 * p.val = 512 * t.val + p.val; rw [e0]; omega
  | ⟨1, _⟩ => show win0_10.index t 1 * 1024 + 1 * q.val = q.val; rw [e1]; omega

end SsdBody
-- ==== Proof.SsdFold.lean ====
module

public import proofs.«01_k».proof.Proof.SsdHost

/-! The grid: what each result array holds after the run, in terms of the argument arrays. -/

@[expose] public section

set_option maxRecDepth 16384

noncomputable section

namespace SsdBody

open Cert.KernelIdeal Cert.KernelIdeal.Gen Idealize.ShloMosaic Idealize.ShloMosaic.TcCoe SsdSpec

/-- One whole store of a cast of one whole load leaves what was loaded. -/
theorem cast_back (v : View sig .tc .vmem S512x1024 .bf16) (a : Memref sig .tc .vmem S512x1024 .f32) (ha : a.IsWhole) (x : Vec Ideal S512x1024 .f32)
    (pay : Vec Ideal S512x1024 .f32 → FVec Ideal S512x1024 .bf16) (hp : ∀ y i, pay y i = y i) (inb1 inb2) (p : Fin 512) (q : Fin 1024) :
    v.read (Elt Ideal) (v.writes (Elt Ideal) v.junk [⟨Rect.unit (s := S512x1024) ![0, 0] S512x1024.size inb1,
      pay (View.readAt (Elt Ideal) a.view (Rect.unit (s := S512x1024) ![0, 0] S512x1024.size inb2).toLoadRect (ha.unread x))⟩]) (ix2 p q) = x (ix2 p q) := by
  rw [View.read_writes_junk_eq_canon]
  refine Eq.trans ?_ ((hp _ (ix2 p q)).trans (ld2 ha x inb2 p q p q (by omega) (by omega)))
  have e : ((Rect.unit (s := S512x1024) ![0, 0] S512x1024.size inb1).emb (ix2 p q) : S512x1024.Idx) = ix2 p q := by
    funext k; fin_cases k
    · apply Fin.ext; show 0 + 1 * p.val = p.val; omega
    · apply Fin.ext; show 0 + 1 * q.val = q.val; omega
  exact (congrArg _ e.symm).trans (View.canon_cons_emb _ _ _ _)

theorem pay2_at (y : Vec Ideal S512x1024 .f32) (i : S512x1024.Idx) : k0_pay2 y i = y i := by
  rw [eq_ix2 i]; pointwise [k0_pay2]
theorem pay3_at (y : Vec Ideal S512x1024 .f32) (i : S512x1024.Idx) : k0_pay3 y i = y i := by
  rw [eq_ix2 i]; pointwise [k0_pay3]

section

variable (c : Dev nD) (i : Cert.KernelIdeal.grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x128x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S8x3072 .f32) (harg16 : arg16.IsWhole) (arg17 : Memref sig .tc .vmem S4x128x512 .f32) (harg17 : arg17.IsWhole) (arg18 : Memref sig .tc .vmem S128x2048 .f32) (harg18 : arg18.IsWhole) (arg19 : Memref sig .tc .vmem S128x512 .bf16) (harg19 : arg19.IsWhole) (hc0 : cond0_0 i)
  (x0 : Vec Ideal S1x128x3072 .bf16) (x1 : Vec Ideal S1x128x2048 .bf16) (x2 : Vec Ideal S1x128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S512x1024 .f32) (x10 : Vec Ideal S512x1024 .f32)

theorem wl12A : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1 = [⟨Rect.unit (s := S512x1024) ![0, 0] S512x1024.size inb_S512x1024_S512x1024_0_0,
    k0_pay2 (View.readAt (Elt Ideal) arg11.view (Rect.unit (s := S512x1024) ![0, 0] S512x1024.size inb_S512x1024_S512x1024_0_0).toLoadRect (harg11.unread x9))⟩] := by
  exact id rfl

theorem wc12A (p : Fin 512) (q : Fin 1024) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 p q) = x9 (ix2 p q) := by
  unfold out0_A_12
  rw [wl12A]
  exact cast_back _ arg11 harg11 x9 _ pay2_at _ _ p q

theorem wl13A : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1 = [⟨Rect.unit (s := S512x1024) ![0, 0] S512x1024.size inb_S512x1024_S512x1024_0_0,
    k0_pay3 (View.readAt (Elt Ideal) arg12.view (Rect.unit (s := S512x1024) ![0, 0] S512x1024.size inb_S512x1024_S512x1024_0_0).toLoadRect (harg12.unread x10))⟩] := by
  exact id rfl

theorem wc13A (p : Fin 512) (q : Fin 1024) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 p q) = x10 (ix2 p q) := by
  unfold out0_A_13
  rw [wl13A]
  exact cast_back _ arg12 harg12 x10 _ pay3_at _ _ p q

end

section

variable (c : Dev nD) (i : Cert.KernelIdeal.grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x128x2048 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S8x3072 .f32) (harg16 : arg16.IsWhole) (arg17 : Memref sig .tc .vmem S4x128x512 .f32) (harg17 : arg17.IsWhole) (arg18 : Memref sig .tc .vmem S128x2048 .f32) (harg18 : arg18.IsWhole) (arg19 : Memref sig .tc .vmem S128x512 .bf16) (harg19 : arg19.IsWhole) (hc0 : ¬cond0_0 i)
  (x0 : Vec Ideal S1x128x3072 .bf16) (x1 : Vec Ideal S1x128x2048 .bf16) (x2 : Vec Ideal S1x128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S512x1024 .f32) (x10 : Vec Ideal S512x1024 .f32) (xs0 : Vec Ideal S8x3072 .f32) (xs1 : Vec Ideal S4x128x512 .f32)

theorem wl12B : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).2.1 = [⟨Rect.unit (s := S512x1024) ![0, 0] S512x1024.size inb_S512x1024_S512x1024_0_0,
    k0_pay2 (View.readAt (Elt Ideal) arg11.view (Rect.unit (s := S512x1024) ![0, 0] S512x1024.size inb_S512x1024_S512x1024_0_0).toLoadRect (harg11.unread x9))⟩] := by
  exact id rfl

theorem wc12B (p : Fin 512) (q : Fin 1024) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 (ix2 p q) = x9 (ix2 p q) := by
  unfold out0_B_12
  rw [wl12B]
  exact cast_back _ arg11 harg11 x9 _ pay2_at _ _ p q

theorem wl13B : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1).2.2.1 = [⟨Rect.unit (s := S512x1024) ![0, 0] S512x1024.size inb_S512x1024_S512x1024_0_0,
    k0_pay3 (View.readAt (Elt Ideal) arg12.view (Rect.unit (s := S512x1024) ![0, 0] S512x1024.size inb_S512x1024_S512x1024_0_0).toLoadRect (harg12.unread x10))⟩] := by
  exact id rfl

theorem wc13B (p : Fin 512) (q : Fin 1024) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 (ix2 p q) = x10 (ix2 p q) := by
  unfold out0_B_13
  rw [wl13B]
  exact cast_back _ arg12 harg12 x10 _ pay3_at _ _ p q

end

/-- One sequence of the batch, from the argument arrays. -/
def seqOf (a0 : Vec Ideal S8x2048x6144 .bf16) (a1 : Vec Ideal S8x2048x128 .f32) (a2 : Vec Ideal S4x3072 .f32) (a3 : Vec Ideal S3072 .f32)
    (a4 a5 a6 : Vec Ideal S32 .f32) (a7 : Vec Ideal S2048 .f32) (b : Fin 8) : Seq where
  X j t := if h : t < 2048 then a0 (ix3 b ⟨t, h⟩ ⟨0 + j.val, by omega⟩) else 0
  W j k := a2 (ix2 k j)
  B j := a3 (ix1 j)
  T h t := if ht : t < 2048 then a1 (ix3 b ⟨t, ht⟩ (lane h)) else 0
  tb h := a4 (ix1 h)
  al h := a5 (ix1 h)
  sk h := a6 (ix1 h)
  Z j t := if h : t < 2048 then a0 (ix3 b ⟨t, h⟩ ⟨4096 + j.val, by omega⟩) else 0
  nw j := a7 (ix1 j)

variable (m : (ℓ : Loc nD τ sig) → Buf (Elt Ideal) ℓ) (c : Dev nD)

/-- The sequence of the batch a memory's arguments hold. -/
abbrev seqM (b : Fin 8) : Seq :=
  seqOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b

theorem blocks (t : Fin cfg0.N) (b : Fin 8) (hb : b.val = t.val / 16) :
    Blocks (iblk m c 0 t) (iblk m c 1 t) (iblk m c 2 t) (iblk m c 3 t) (iblk m c 4 t) (iblk m c 5 t) (iblk m c 6 t) (iblk m c 7 t) (iblk m c 8 t)
      (seqM m c b) (t.val % 16) where
  x0 s j := by
    rw [blk0 m c t b ⟨128 * (t.val % 16) + s.val, by omega⟩ s j hb rfl]
    simp only [seqOf]
    rw [dif_pos (by omega : 128 * (t.val % 16) + s.val < 2048)]
  x1 s j := by
    rw [blk1 m c t b ⟨128 * (t.val % 16) + s.val, by omega⟩ s j hb rfl]
    simp only [seqOf]
    rw [dif_pos (by omega : 128 * (t.val % 16) + s.val < 2048)]
  x2 s h := by
    rw [blk2 m c t b ⟨128 * (t.val % 16) + s.val, by omega⟩ s (lane h) hb rfl]
    simp only [seqOf]
    rw [dif_pos (by omega : 128 * (t.val % 16) + s.val < 2048)]
  x3 k j := by rw [blk3, V_main_arg2]; rfl
  x4 j := by rw [blk4]; exact v9_at m c j
  x5 h := by rw [blk5]; exact v3_at m c h
  x6 h := by rw [blk6]; exact v5_at m c h
  x7 j := by rw [blk7]; exact v8_at m c j
  x8 j := by rw [blk8]; exact v10_at m c j

section tuple
variable {α β γ : Type} {A : Type} {B : Type}
theorem tup1 {o : α × β × γ × A × B} {p1 p2 p3 q1 q2} (e : o = (p1, p2, p3, q1, q2)) : o.1 = p1 := by rw [e]
theorem tup2 {o : α × β × γ × A × B} {p1 p2 p3 q1 q2} (e : o = (p1, p2, p3, q1, q2)) : o.2.1 = p2 := by rw [e]
theorem tup3 {o : α × β × γ × A × B} {p1 p2 p3 q1 q2} (e : o = (p1, p2, p3, q1, q2)) : o.2.2.1 = p3 := by rw [e]
theorem tup4 {o : α × β × γ × A × B} {p1 p2 p3 q1 q2} (e : o = (p1, p2, p3, q1, q2)) : o.2.2.2.1 = q1 := by rw [e]
theorem tup5 {o : α × β × γ × A × B} {p1 p2 p3 q1 q2} (e : o = (p1, p2, p3, q1, q2)) : o.2.2.2.2 = q2 := by rw [e]
end tuple

theorem Carried.of_eq {xs0 ys0 : Vec Ideal S8x3072 .f32} {xs1 ys1 : Vec Ideal S4x128x512 .f32} {Q : Seq} {k : ℕ} (h : Carried ys0 ys1 Q k)
    (e0 : xs0 = ys0) (e1 : xs1 = ys1) : Carried xs0 xs1 Q k := by
  rw [e0, e1]; exact h

theorem o1A (t : Fin cfg0.N) (h0 : t.val % 16 = 0) : (outsAt0 m c t.val t.isLt).1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  tup1 (outsAt0_A m c t h0)
theorem o2A (t : Fin cfg0.N) (h0 : t.val % 16 = 0) : (outsAt0 m c t.val t.isLt).2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  tup2 (outsAt0_A m c t h0)
theorem o3A (t : Fin cfg0.N) (h0 : t.val % 16 = 0) : (outsAt0 m c t.val t.isLt).2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  tup3 (outsAt0_A m c t h0)
theorem o4A (t : Fin cfg0.N) (h0 : t.val % 16 = 0) : (outsAt0 m c t.val t.isLt).2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  tup4 (outsAt0_A m c t h0)
theorem o5A (t : Fin cfg0.N) (h0 : t.val % 16 = 0) : (outsAt0 m c t.val t.isLt).2.2.2.2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  tup5 (outsAt0_A m c t h0)
theorem o1B (t : Fin cfg0.N) (h0 : ¬t.val % 16 = 0) : (outsAt0 m c t.val t.isLt).1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 :=
  tup1 (outsAt0_B m c t h0)
theorem o2B (t : Fin cfg0.N) (h0 : ¬t.val % 16 = 0) : (outsAt0 m c t.val t.isLt).2.1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 :=
  tup2 (outsAt0_B m c t h0)
theorem o3B (t : Fin cfg0.N) (h0 : ¬t.val % 16 = 0) : (outsAt0 m c t.val t.isLt).2.2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 :=
  tup3 (outsAt0_B m c t h0)
theorem o4B (t : Fin cfg0.N) (h0 : ¬t.val % 16 = 0) : (outsAt0 m c t.val t.isLt).2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 :=
  tup4 (outsAt0_B m c t h0)
theorem o5B (t : Fin cfg0.N) (h0 : ¬t.val % 16 = 0) : (outsAt0 m c t.val t.isLt).2.2.2.2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 :=
  tup5 (outsAt0_B m c t h0)

theorem carriedA_t (t : Fin cfg0.N) (h0 : t.val % 16 = 0) (b : Fin 8) (hb : b.val = t.val / 16) :
    Carried (outsAt0 m c t.val t.isLt).2.2.2.1 (outsAt0 m c t.val t.isLt).2.2.2.2 (seqM m c b) (0 + 1) := by
  have I := blocks m c t b hb
  rw [h0] at I
  exact (carriedA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) I).of_eq (o4A m c t h0) (o5A m c t h0)

theorem carriedB_t (t : Fin cfg0.N) (h0 : ¬t.val % 16 = 0) (b : Fin 8) (hb : b.val = t.val / 16)
    (P : Carried (outsAt0 m c (t.val - 1) (Nat.lt_of_le_of_lt (Nat.sub_le _ _) t.isLt)).2.2.2.1 (outsAt0 m c (t.val - 1) (Nat.lt_of_le_of_lt (Nat.sub_le _ _) t.isLt)).2.2.2.2 (seqM m c b) (t.val % 16)) :
    Carried (outsAt0 m c t.val t.isLt).2.2.2.1 (outsAt0 m c t.val t.isLt).2.2.2.2 (seqM m c b) (t.val % 16 + 1) :=
  (carriedB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks m c t b hb) P h0).of_eq (o4B m c t h0) (o5B m c t h0)

theorem carried : ∀ (n : ℕ) (hn : n < cfg0.N) (b : Fin 8), b.val = n / 16 →
    Carried (outsAt0 m c n hn).2.2.2.1 (outsAt0 m c n hn).2.2.2.2 (seqM m c b) (n % 16 + 1) := by
  intro n
  induction n with
  | zero =>
    intro hn b hb
    exact carriedA_t m c ⟨0, hn⟩ rfl b hb
  | succ n ih =>
    intro hn b hb
    by_cases h0 : (n + 1) % 16 = 0
    · have C := carriedA_t m c ⟨n + 1, hn⟩ h0 b hb
      rw [h0]
      exact C
    · have P := ih (Nat.lt_of_succ_lt hn) b (by omega)
      rw [show n % 16 + 1 = (n + 1) % 16 by omega] at P
      exact carriedB_t m c ⟨n + 1, hn⟩ h0 b hb P

theorem outA_t (t : Fin cfg0.N) (h0 : t.val % 16 = 0) (b : Fin 8) (hb : b.val = t.val / 16) (s : Fin 128) (j : Fin 2048) :
    (outsAt0 m c t.val t.isLt).1 (ix3 0 s j) = (seqM m c b).out 0 s j := by
  have I := blocks m c t b hb
  rw [h0] at I
  rw [o1A m c t h0]
  exact outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) I s j

theorem outB_t (t : Fin cfg0.N) (h0 : ¬t.val % 16 = 0) (b : Fin 8) (hb : b.val = t.val / 16) (s : Fin 128) (j : Fin 2048)
    (P : Carried (outsAt0 m c (t.val - 1) (Nat.lt_of_le_of_lt (Nat.sub_le _ _) t.isLt)).2.2.2.1 (outsAt0 m c (t.val - 1) (Nat.lt_of_le_of_lt (Nat.sub_le _ _) t.isLt)).2.2.2.2 (seqM m c b) (t.val % 16)) :
    (outsAt0 m c t.val t.isLt).1 (ix3 0 s j) = (seqM m c b).out (t.val % 16) s j := by
  rw [o1B m c t h0]
  exact outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks m c t b hb) P h0 s j

theorem out_at (n : ℕ) (hn : n < cfg0.N) (b : Fin 8) (hb : b.val = n / 16) (s : Fin 128) (j : Fin 2048) :
    (outsAt0 m c n hn).1 (ix3 0 s j) = (seqM m c b).out (n % 16) s j := by
  by_cases h0 : n % 16 = 0
  · have C := outA_t m c ⟨n, hn⟩ h0 b hb s j
    rw [h0]
    exact C
  · have P := carried m c (n - 1) (Nat.lt_of_le_of_lt (Nat.sub_le _ _) hn) b (by omega)
    rw [show (n - 1) % 16 + 1 = n % 16 by omega] at P
    exact outB_t m c ⟨n, hn⟩ h0 b hb s j P

theorem cast12_at (t : Fin cfg0.N) (p : Fin 512) (q : Fin 1024) :
    (outsAt0 m c t.val t.isLt).2.1 (ix2 p q) = (iblk m c 9 t : Vec Ideal S512x1024 .f32) (ix2 p q) := by
  by_cases h0 : t.val % 16 = 0
  · rw [o2A m c t h0]
    exact wc12A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) p q
  · rw [o2B m c t h0]
    exact wc12B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 p q

theorem cast13_at (t : Fin cfg0.N) (p : Fin 512) (q : Fin 1024) :
    (outsAt0 m c t.val t.isLt).2.2.1 (ix2 p q) = (iblk m c 10 t : Vec Ideal S512x1024 .f32) (ix2 p q) := by
  by_cases h0 : t.val % 16 = 0
  · rw [o3A m c t h0]
    exact wc13A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) p q
  · rw [o3B m c t h0]
    exact wc13B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 p q

/-- The first result at row `t` of sequence `b`. -/
theorem G11_at (b : Fin 8) (t j : Fin 2048) :
    (Value.G11 m c : Vec Ideal S8x2048x2048 .bf16) (ix3 b t j) = (seqM m c b).out (t.val / 128) ⟨t.val % 128, by omega⟩ j := by
  have hp : Value.pt11Of (ix3 b t j) = 16 * b.val + t.val / 128 := by
    show 16 * (b.val / 1 - 0) + 1 * (t.val / 128 - 0) + 1 * (j.val / 2048 - 0) = _
    omega
  have hN : Value.pt11Of (ix3 b t j) < cfg0.N := by rw [hp]; refine lt_of_lt_of_eq ?_ (show cfg0.N = 128 from N_0).symm; omega
  unfold Value.G11
  rw [dif_pos hN, ← Value.outsAt0_sweep m c _ hN]
  have hl : Value.loc11Of (ix3 b t j) = ix3 0 ⟨t.val % 128, by omega⟩ j := by
    funext a
    fin_cases a
    · apply Fin.ext; show b.val % 1 = 0; omega
    · apply Fin.ext; show t.val % 128 = t.val % 128; rfl
    · apply Fin.ext; show j.val % 2048 = j.val; omega
  rw [hl, out_at m c _ hN b (by rw [hp]; omega)]
  congr 1
  rw [hp]; omega

/-- A cast weight array is the argument, reshaped. -/
theorem G12_at (i : Fin 65536) (q : Fin 1024) :
    (Value.G12 m c : Vec Ideal S65536x1024 .bf16) (ix2 i q) =
      shapeCast S65536x1024 (m ((c : Thread nD τ).loc main_arg8) : Vec Ideal S32x2048x1024 .f32) shapeCasts_S32x2048x1024_S65536x1024 (ix2 i q) := by
  have hp : Value.pt12Of (ix2 i q) = i.val / 512 := by
    show 1 * (i.val / 512 - 0) + 1 * (q.val / 1024 - 0) = _
    omega
  have hN : Value.pt12Of (ix2 i q) < cfg0.N := by rw [hp]; refine lt_of_lt_of_eq ?_ (show cfg0.N = 128 from N_0).symm; omega
  unfold Value.G12
  rw [dif_pos hN, ← Value.outsAt0_sweep m c _ hN]
  have hl : Value.loc12Of (ix2 i q) = ix2 ⟨i.val % 512, by omega⟩ q := by
    funext a
    fin_cases a
    · apply Fin.ext; show i.val % 512 = i.val % 512; rfl
    · apply Fin.ext; show q.val % 1024 = q.val; omega
  rw [hl, show _ = _ from cast12_at m c ⟨_, hN⟩ _ _, blk9, V_v0]
  congr 2
  apply Fin.ext
  show 512 * Value.pt12Of (ix2 i q) + i.val % 512 = i.val
  rw [hp]; omega

/-- A cast weight array is the argument, reshaped. -/
theorem G13_at (i : Fin 65536) (q : Fin 1024) :
    (Value.G13 m c : Vec Ideal S65536x1024 .bf16) (ix2 i q) =
      shapeCast S65536x1024 (m ((c : Thread nD τ).loc main_arg9) : Vec Ideal S32x2048x1024 .f32) shapeCasts_S32x2048x1024_S65536x1024 (ix2 i q) := by
  have hp : Value.pt13Of (ix2 i q) = i.val / 512 := by
    show 1 * (i.val / 512 - 0) + 1 * (q.val / 1024 - 0) = _
    omega
  have hN : Value.pt13Of (ix2 i q) < cfg0.N := by rw [hp]; refine lt_of_lt_of_eq ?_ (show cfg0.N = 128 from N_0).symm; omega
  unfold Value.G13
  rw [dif_pos hN, ← Value.outsAt0_sweep m c _ hN]
  have hl : Value.loc13Of (ix2 i q) = ix2 ⟨i.val % 512, by omega⟩ q := by
    funext a
    fin_cases a
    · apply Fin.ext; show i.val % 512 = i.val % 512; rfl
    · apply Fin.ext; show q.val % 1024 = q.val; omega
  rw [hl, show _ = _ from cast13_at m c ⟨_, hN⟩ _ _, blk10, V_v1]
  congr 2
  apply Fin.ext
  show 512 * Value.pt13Of (ix2 i q) + i.val % 512 = i.val
  rw [hp]; omega

end SsdBody

end
-- ==== Proof.SsdRefB.lean ====
module

public import proofs.«01_k».proof.Proof.SsdFold
public import proofs.«01_k».proof.Proof.Gen.ReferenceIdeal.Read

/-! The reference's reshapes, slices, transposes and products, one at a time, at an index. -/

@[expose] public section

set_option maxRecDepth 16384

noncomputable section

namespace SsdRef

open Cert.ReferenceIdeal Cert.ReferenceIdeal.Gen Cert.ReferenceIdeal.Read Idealize.ShloMosaic Idealize.ShloMosaic.TcCoe SsdSpec SsdBody

/-- A row of the sequence from its chunk and place; a column from its head and place, and back. -/
def row (cc : Fin 16) (l : Fin 128) : Fin 2048 := ⟨cc.val * 128 + l.val, by omega⟩
def jc (h : Fin 32) (p : Fin 64) : Fin 2048 := ⟨h.val * 64 + p.val, by omega⟩
def pd (j : Fin 2048) : Fin 64 := ⟨j.val % 64, by omega⟩
def kd (j : Fin 2048) : Fin 512 := ⟨j.val % 512, by omega⟩
def zc (j : Fin 2048) : Fin 6144 := ⟨4096 + j.val, by omega⟩
theorem hd_jc (h : Fin 32) (p : Fin 64) : hd (jc h p) = h := by apply Fin.ext; simp only [hd, jc]; omega
def gh (h : Fin 32) : Fin 4 := ⟨h.val / 8, by omega⟩
theorem gr_jc (h : Fin 32) (p : Fin 64) : gr (jc h p) = gh h := by apply Fin.ext; simp only [gr, jc, gh]; omega
theorem jc_hd (j : Fin 2048) : jc (hd j) (pd j) = j := by apply Fin.ext; simp only [hd, jc, pd]; omega
theorem gcol_gr (j : Fin 2048) : gcol (gr j) (kd j) = j := by apply Fin.ext; simp only [gr, gcol, kd]; omega

theorem r56 (x1 : Vec Ideal S8x2048x128 .f32) (x4 : Vec Ideal S32 .f32) (b : Fin 8) (t : Fin 2048) (h : Fin 32) (p : Fin 64) :
    val_main_v56 (F := Ideal) x1 x4 (ix4 b t h p) = val_main_v55 (F := Ideal) x1 x4 (ix4 b t h 0) :=
  (val_main_v56_apply (F := Ideal) x1 x4 _).trans (congrArg (val_main_v55 (F := Ideal) x1 x4) (show idx_main_v56 (ix4 b t h p) = (ix4 b t h 0) from funext fun a => Fin.ext (match a with
    | ⟨0, _⟩ => by show (b.val) = b.val; omega
    | ⟨1, _⟩ => by show (t.val) = t.val; omega
    | ⟨2, _⟩ => by show (h.val) = h.val; omega
    | ⟨3, _⟩ => by show 0 = 0; omega)))

theorem r55 (x1 : Vec Ideal S8x2048x128 .f32) (x4 : Vec Ideal S32 .f32) (b : Fin 8) (t : Fin 2048) (h : Fin 32) :
    val_main_v55 (F := Ideal) x1 x4 (ix4 b t h 0) = val_main_v52 (F := Ideal) x1 x4 (ix3 b t h) :=
  (val_main_v55_apply (F := Ideal) x1 x4 _).trans (congrArg (val_main_v52 (F := Ideal) x1 x4) (show idx_main_v55 (ix4 b t h 0) = (ix3 b t h) from funext fun a => Fin.ext (match a with
    | ⟨0, _⟩ => by show (b.val) = b.val; omega
    | ⟨1, _⟩ => by show (t.val) = t.val; omega
    | ⟨2, _⟩ => by show (h.val) = h.val; omega)))

theorem r58 (x0 : Vec Ideal S8x2048x6144 .bf16) (x1 : Vec Ideal S8x2048x128 .f32) (x2 : Vec Ideal S4x3072 .f32) (x3 : Vec Ideal S3072 .f32) (x4 : Vec Ideal S32 .f32) (b : Fin 8) (cc : Fin 16) (l : Fin 128) (h : Fin 32) (p : Fin 64) :
    val_main_v58 (F := Ideal) x0 x1 x2 x3 x4 (ix5 b cc l h p) = val_main_v57 (F := Ideal) x0 x1 x2 x3 x4 (ix4 b (row cc l) h p) :=
  (val_main_v58_apply (F := Ideal) x0 x1 x2 x3 x4 _).trans (congrArg (val_main_v57 (F := Ideal) x0 x1 x2 x3 x4) (show idx_main_v58 (ix5 b cc l h p) = (ix4 b (row cc l) h p) from funext fun a => Fin.ext (match a with
    | ⟨0, _⟩ => by show (((((b.val) * 16 + (cc.val)) * 128 + (l.val)) * 32 + (h.val)) * 64 + (p.val)) / 4194304 = b.val; omega
    | ⟨1, _⟩ => by show (((((b.val) * 16 + (cc.val)) * 128 + (l.val)) * 32 + (h.val)) * 64 + (p.val)) / 2048 % 2048 = cc.val * 128 + l.val; omega
    | ⟨2, _⟩ => by show (((((b.val) * 16 + (cc.val)) * 128 + (l.val)) * 32 + (h.val)) * 64 + (p.val)) / 64 % 32 = h.val; omega
    | ⟨3, _⟩ => by show (((((b.val) * 16 + (cc.val)) * 128 + (l.val)) * 32 + (h.val)) * 64 + (p.val)) % 64 = p.val; omega)))

theorem r74 (x0 : Vec Ideal S8x2048x6144 .bf16) (x2 : Vec Ideal S4x3072 .f32) (x3 : Vec Ideal S3072 .f32) (b : Fin 8) (cc : Fin 16) (h : Fin 32) (l : Fin 128) (s : Fin 128) :
    val_main_v74 (F := Ideal) x0 x2 x3 (ix5 b cc h l s) = ∑ n : Fin 128, val_main_v47 (F := Ideal) x0 x2 x3 (ix5 b cc l h n) * val_main_v42 (F := Ideal) x0 x2 x3 (ix5 b cc s h n) := by
  rw [val_main_v74_apply]
  refine Finset.sum_congr rfl fun n _ => ?_
  rw [(show lidx_main_v74 (ix5 b cc h l s) n = (ix5 b cc l h n) from funext fun a => Fin.ext (match a with
    | ⟨0, _⟩ => by show (b.val) = b.val; omega
    | ⟨1, _⟩ => by show (cc.val) = cc.val; omega
    | ⟨2, _⟩ => by show (l.val) = l.val; omega
    | ⟨3, _⟩ => by show (h.val) = h.val; omega
    | ⟨4, _⟩ => by show n.val = n.val; omega)), (show ridx_main_v74 (ix5 b cc h l s) n = (ix5 b cc s h n) from funext fun a => Fin.ext (match a with
    | ⟨0, _⟩ => by show (b.val) = b.val; omega
    | ⟨1, _⟩ => by show (cc.val) = cc.val; omega
    | ⟨2, _⟩ => by show (s.val) = s.val; omega
    | ⟨3, _⟩ => by show (h.val) = h.val; omega
    | ⟨4, _⟩ => by show n.val = n.val; omega))]

theorem r76 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (cc : Fin 16) (h : Fin 32) (p : Fin 64) (l : Fin 128) :
    val_main_v76 (F := Ideal) x0 x1 x2 x3 x4 x5 (ix5 b cc h p l) = ∑ s : Fin 128, val_main_v58 (F := Ideal) x0 x1 x2 x3 x4 (ix5 b cc s h p) * val_main_v75 (F := Ideal) x0 x1 x2 x3 x4 x5 (ix5 b cc h l s) := by
  rw [val_main_v76_apply]
  refine Finset.sum_congr rfl fun s _ => ?_
  rw [(show lidx_main_v76 (ix5 b cc h p l) s = (ix5 b cc s h p) from funext fun a => Fin.ext (match a with
    | ⟨0, _⟩ => by show (b.val) = b.val; omega
    | ⟨1, _⟩ => by show (cc.val) = cc.val; omega
    | ⟨2, _⟩ => by show s.val = s.val; omega
    | ⟨3, _⟩ => by show (h.val) = h.val; omega
    | ⟨4, _⟩ => by show (p.val) = p.val; omega)), (show ridx_main_v76 (ix5 b cc h p l) s = (ix5 b cc h l s) from funext fun a => Fin.ext (match a with
    | ⟨0, _⟩ => by show (b.val) = b.val; omega
    | ⟨1, _⟩ => by show (cc.val) = cc.val; omega
    | ⟨2, _⟩ => by show (h.val) = h.val; omega
    | ⟨3, _⟩ => by show (l.val) = l.val; omega
    | ⟨4, _⟩ => by show s.val = s.val; omega))]

theorem r77 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (cc : Fin 16) (l : Fin 128) (h : Fin 32) (p : Fin 64) :
    val_main_v77 (F := Ideal) x0 x1 x2 x3 x4 x5 (ix5 b cc l h p) = val_main_v76 (F := Ideal) x0 x1 x2 x3 x4 x5 (ix5 b cc h p l) :=
  (val_main_v77_apply (F := Ideal) x0 x1 x2 x3 x4 x5 _).trans (congrArg (val_main_v76 (F := Ideal) x0 x1 x2 x3 x4 x5) (show idx_main_v77 (ix5 b cc l h p) = (ix5 b cc h p l) from funext fun a => Fin.ext (match a with
    | ⟨0, _⟩ => by show (b.val) = b.val; omega
    | ⟨1, _⟩ => by show (cc.val) = cc.val; omega
    | ⟨2, _⟩ => by show (h.val) = h.val; omega
    | ⟨3, _⟩ => by show (p.val) = p.val; omega
    | ⟨4, _⟩ => by show (l.val) = l.val; omega)))

theorem r79 (x1 : Vec Ideal S8x2048x128 .f32) (x4 : Vec Ideal S32 .f32) (x5 : Vec Ideal S32 .f32) (b : Fin 8) (cc : Fin 16) (h : Fin 32) (s : Fin 128) :
    val_main_v79 (F := Ideal) x1 x4 x5 (ix4 b cc h s) = val_main_v78 (F := Ideal) x1 x4 x5 (ix4 b cc h 0) :=
  (val_main_v79_apply (F := Ideal) x1 x4 x5 _).trans (congrArg (val_main_v78 (F := Ideal) x1 x4 x5) (show idx_main_v79 (ix4 b cc h s) = (ix4 b cc h 0) from funext fun a => Fin.ext (match a with
    | ⟨0, _⟩ => by show (b.val) = b.val; omega
    | ⟨1, _⟩ => by show (cc.val) = cc.val; omega
    | ⟨2, _⟩ => by show (h.val) = h.val; omega
    | ⟨3, _⟩ => by show 0 = 0; omega)))

theorem r78 (x1 : Vec Ideal S8x2048x128 .f32) (x4 : Vec Ideal S32 .f32) (x5 : Vec Ideal S32 .f32) (b : Fin 8) (cc : Fin 16) (h : Fin 32) :
    val_main_v78 (F := Ideal) x1 x4 x5 (ix4 b cc h 0) = val_main_v64 (F := Ideal) x1 x4 x5 (ix4 b cc h 127) :=
  (val_main_v78_apply (F := Ideal) x1 x4 x5 _).trans (congrArg (val_main_v64 (F := Ideal) x1 x4 x5) (show idx_main_v78 (ix4 b cc h 0) = (ix4 b cc h 127) from funext fun a => Fin.ext (match a with
    | ⟨0, _⟩ => by show (b.val) = b.val; omega
    | ⟨1, _⟩ => by show (cc.val) = cc.val; omega
    | ⟨2, _⟩ => by show (h.val) = h.val; omega
    | ⟨3, _⟩ => by show 127 + (0) = 127; omega)))

theorem r82 (x1 : Vec Ideal S8x2048x128 .f32) (x4 : Vec Ideal S32 .f32) (x5 : Vec Ideal S32 .f32) (b : Fin 8) (cc : Fin 16) (l : Fin 128) (h : Fin 32) :
    val_main_v82 (F := Ideal) x1 x4 x5 (ix4 b cc l h) = val_main_v81 (F := Ideal) x1 x4 x5 (ix4 b cc h l) :=
  (val_main_v82_apply (F := Ideal) x1 x4 x5 _).trans (congrArg (val_main_v81 (F := Ideal) x1 x4 x5) (show idx_main_v82 (ix4 b cc l h) = (ix4 b cc h l) from funext fun a => Fin.ext (match a with
    | ⟨0, _⟩ => by show (b.val) = b.val; omega
    | ⟨1, _⟩ => by show (cc.val) = cc.val; omega
    | ⟨2, _⟩ => by show (h.val) = h.val; omega
    | ⟨3, _⟩ => by show (l.val) = l.val; omega)))

theorem r83 (x1 : Vec Ideal S8x2048x128 .f32) (x4 : Vec Ideal S32 .f32) (x5 : Vec Ideal S32 .f32) (b : Fin 8) (cc : Fin 16) (l : Fin 128) (h : Fin 32) :
    val_main_v83 (F := Ideal) x1 x4 x5 (ix5 b cc l h 0) = val_main_v82 (F := Ideal) x1 x4 x5 (ix4 b cc l h) :=
  (val_main_v83_apply (F := Ideal) x1 x4 x5 _).trans (congrArg (val_main_v82 (F := Ideal) x1 x4 x5) (show idx_main_v83 (ix5 b cc l h 0) = (ix4 b cc l h) from funext fun a => Fin.ext (match a with
    | ⟨0, _⟩ => by show (b.val) = b.val; omega
    | ⟨1, _⟩ => by show (cc.val) = cc.val; omega
    | ⟨2, _⟩ => by show (l.val) = l.val; omega
    | ⟨3, _⟩ => by show (h.val) = h.val; omega)))

theorem r84 (x1 : Vec Ideal S8x2048x128 .f32) (x4 : Vec Ideal S32 .f32) (x5 : Vec Ideal S32 .f32) (b : Fin 8) (cc : Fin 16) (l : Fin 128) (h : Fin 32) (p : Fin 64) :
    val_main_v84 (F := Ideal) x1 x4 x5 (ix5 b cc l h p) = val_main_v83 (F := Ideal) x1 x4 x5 (ix5 b cc l h 0) :=
  (val_main_v84_apply (F := Ideal) x1 x4 x5 _).trans (congrArg (val_main_v83 (F := Ideal) x1 x4 x5) (show idx_main_v84 (ix5 b cc l h p) = (ix5 b cc l h 0) from funext fun a => Fin.ext (match a with
    | ⟨0, _⟩ => by show (b.val) = b.val; omega
    | ⟨1, _⟩ => by show (cc.val) = cc.val; omega
    | ⟨2, _⟩ => by show (l.val) = l.val; omega
    | ⟨3, _⟩ => by show (h.val) = h.val; omega
    | ⟨4, _⟩ => by show 0 = 0; omega)))

theorem r86 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (cc : Fin 16) (h : Fin 32) (p : Fin 64) (n : Fin 128) :
    val_main_v86 (F := Ideal) x0 x1 x2 x3 x4 x5 (ix5 b cc h p n) = ∑ s : Fin 128, val_main_v85 (F := Ideal) x0 x1 x2 x3 x4 x5 (ix5 b cc s h p) * val_main_v42 (F := Ideal) x0 x2 x3 (ix5 b cc s h n) := by
  rw [val_main_v86_apply]
  refine Finset.sum_congr rfl fun s _ => ?_
  rw [(show lidx_main_v86 (ix5 b cc h p n) s = (ix5 b cc s h p) from funext fun a => Fin.ext (match a with
    | ⟨0, _⟩ => by show (b.val) = b.val; omega
    | ⟨1, _⟩ => by show (cc.val) = cc.val; omega
    | ⟨2, _⟩ => by show s.val = s.val; omega
    | ⟨3, _⟩ => by show (h.val) = h.val; omega
    | ⟨4, _⟩ => by show (p.val) = p.val; omega)), (show ridx_main_v86 (ix5 b cc h p n) s = (ix5 b cc s h n) from funext fun a => Fin.ext (match a with
    | ⟨0, _⟩ => by show (b.val) = b.val; omega
    | ⟨1, _⟩ => by show (cc.val) = cc.val; omega
    | ⟨2, _⟩ => by show s.val = s.val; omega
    | ⟨3, _⟩ => by show (h.val) = h.val; omega
    | ⟨4, _⟩ => by show (n.val) = n.val; omega))]

theorem r87 (x1 : Vec Ideal S8x2048x128 .f32) (x4 : Vec Ideal S32 .f32) (x5 : Vec Ideal S32 .f32) (b : Fin 8) (cc : Fin 16) (h : Fin 32) :
    val_main_v87 (F := Ideal) x1 x4 x5 (ix4 b cc h 0) = val_main_v64 (F := Ideal) x1 x4 x5 (ix4 b cc h 127) :=
  (val_main_v87_apply (F := Ideal) x1 x4 x5 _).trans (congrArg (val_main_v64 (F := Ideal) x1 x4 x5) (show idx_main_v87 (ix4 b cc h 0) = (ix4 b cc h 127) from funext fun a => Fin.ext (match a with
    | ⟨0, _⟩ => by show (b.val) = b.val; omega
    | ⟨1, _⟩ => by show (cc.val) = cc.val; omega
    | ⟨2, _⟩ => by show (h.val) = h.val; omega
    | ⟨3, _⟩ => by show 127 + (0) = 127; omega)))

theorem r88 (x1 : Vec Ideal S8x2048x128 .f32) (x4 : Vec Ideal S32 .f32) (x5 : Vec Ideal S32 .f32) (b : Fin 8) (cc : Fin 16) (h : Fin 32) :
    val_main_v88 (F := Ideal) x1 x4 x5 (ix3 b cc h) = val_main_v87 (F := Ideal) x1 x4 x5 (ix4 b cc h 0) :=
  (val_main_v88_apply (F := Ideal) x1 x4 x5 _).trans (congrArg (val_main_v87 (F := Ideal) x1 x4 x5) (show idx_main_v88 (ix3 b cc h) = (ix4 b cc h 0) from funext fun a => Fin.ext (match a with
    | ⟨0, _⟩ => by show (((b.val) * 16 + (cc.val)) * 32 + (h.val)) / 512 = b.val; omega
    | ⟨1, _⟩ => by show (((b.val) * 16 + (cc.val)) * 32 + (h.val)) / 32 % 16 = cc.val; omega
    | ⟨2, _⟩ => by show (((b.val) * 16 + (cc.val)) * 32 + (h.val)) / 1 % 32 = h.val; omega
    | ⟨3, _⟩ => by show 0 = 0; omega)))

theorem r91 (x1 : Vec Ideal S8x2048x128 .f32) (x4 : Vec Ideal S32 .f32) (x5 : Vec Ideal S32 .f32) (b : Fin 8) (h : Fin 32) :
    val_main_v91 (F := Ideal) x1 x4 x5 (ix3 b 0 h) = val_main_v89 (F := Ideal) x1 x4 x5 (ix3 b 0 h) :=
  (val_main_v91_apply (F := Ideal) x1 x4 x5 _).trans (congrArg (val_main_v89 (F := Ideal) x1 x4 x5) (show idx_main_v91 (ix3 b 0 h) = (ix3 b 0 h) from funext fun a => Fin.ext (match a with
    | ⟨0, _⟩ => by show (b.val) = b.val; omega
    | ⟨1, _⟩ => by show (0) = 0; omega
    | ⟨2, _⟩ => by show (h.val) = h.val; omega)))

theorem r92 (x1 : Vec Ideal S8x2048x128 .f32) (x4 : Vec Ideal S32 .f32) (x5 : Vec Ideal S32 .f32) (b : Fin 8) (h : Fin 32) :
    val_main_v92 (F := Ideal) x1 x4 x5 (ix2 b h) = val_main_v91 (F := Ideal) x1 x4 x5 (ix3 b 0 h) :=
  (val_main_v92_apply (F := Ideal) x1 x4 x5 _).trans (congrArg (val_main_v91 (F := Ideal) x1 x4 x5) (show idx_main_v92 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r93 (x1 : Vec Ideal S8x2048x128 .f32) (x4 : Vec Ideal S32 .f32) (x5 : Vec Ideal S32 .f32) (b : Fin 8) (h : Fin 32) :
    val_main_v93 (F := Ideal) x1 x4 x5 (ix4 b h 0 0) = val_main_v92 (F := Ideal) x1 x4 x5 (ix2 b h) :=
  (val_main_v93_apply (F := Ideal) x1 x4 x5 _).trans (congrArg (val_main_v92 (F := Ideal) x1 x4 x5) (show idx_main_v93 (ix4 b h 0 0) = (ix2 b h) from funext fun a => Fin.ext (match a with
    | ⟨0, _⟩ => by show (b.val) = b.val; omega
    | ⟨1, _⟩ => by show (h.val) = h.val; omega)))

theorem r94 (x1 : Vec Ideal S8x2048x128 .f32) (x4 : Vec Ideal S32 .f32) (x5 : Vec Ideal S32 .f32) (b : Fin 8) (h : Fin 32) (p : Fin 64) (n : Fin 128) :
    val_main_v94 (F := Ideal) x1 x4 x5 (ix4 b h p n) = val_main_v93 (F := Ideal) x1 x4 x5 (ix4 b h 0 0) :=
  (val_main_v94_apply (F := Ideal) x1 x4 x5 _).trans (congrArg (val_main_v93 (F := Ideal) x1 x4 x5) (show idx_main_v94 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r96 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v96 (F := Ideal) x0 x1 x2 x3 x4 x5 (ix5 b 0 h p n) = val_main_v86 (F := Ideal) x0 x1 x2 x3 x4 x5 (ix5 b 0 h p n) :=
  (val_main_v96_apply (F := Ideal) x0 x1 x2 x3 x4 x5 _).trans (congrArg (val_main_v86 (F := Ideal) x0 x1 x2 x3 x4 x5) (show idx_main_v96 (ix5 b 0 h p n) = (ix5 b 0 h p n) from funext fun a => Fin.ext (match a with
    | ⟨0, _⟩ => by show (b.val) = b.val; omega
    | ⟨1, _⟩ => by show (0) = 0; omega
    | ⟨2, _⟩ => by show (h.val) = h.val; omega
    | ⟨3, _⟩ => by show (p.val) = p.val; omega
    | ⟨4, _⟩ => by show (n.val) = n.val; omega)))

theorem r97 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v97 (F := Ideal) x0 x1 x2 x3 x4 x5 (ix4 b h p n) = val_main_v96 (F := Ideal) x0 x1 x2 x3 x4 x5 (ix5 b 0 h p n) :=
  (val_main_v97_apply (F := Ideal) x0 x1 x2 x3 x4 x5 _).trans (congrArg (val_main_v96 (F := Ideal) x0 x1 x2 x3 x4 x5) (show idx_main_v97 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r99 (x1 : Vec Ideal S8x2048x128 .f32) (x4 : Vec Ideal S32 .f32) (x5 : Vec Ideal S32 .f32) (b : Fin 8) (h : Fin 32) :
    val_main_v99 (F := Ideal) x1 x4 x5 (ix3 b 0 h) = val_main_v89 (F := Ideal) x1 x4 x5 (ix3 b 1 h) :=
  (val_main_v99_apply (F := Ideal) x1 x4 x5 _).trans (congrArg (val_main_v89 (F := Ideal) x1 x4 x5) (show idx_main_v99 (ix3 b 0 h) = (ix3 b 1 h) from funext fun a => Fin.ext (match a with
    | ⟨0, _⟩ => by show (b.val) = b.val; omega
    | ⟨1, _⟩ => by show 1 + (0) = 1; omega
    | ⟨2, _⟩ => by show (h.val) = h.val; omega)))

theorem r100 (x1 : Vec Ideal S8x2048x128 .f32) (x4 : Vec Ideal S32 .f32) (x5 : Vec Ideal S32 .f32) (b : Fin 8) (h : Fin 32) :
    val_main_v100 (F := Ideal) x1 x4 x5 (ix2 b h) = val_main_v99 (F := Ideal) x1 x4 x5 (ix3 b 0 h) :=
  (val_main_v100_apply (F := Ideal) x1 x4 x5 _).trans (congrArg (val_main_v99 (F := Ideal) x1 x4 x5) (show idx_main_v100 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r101 (x1 : Vec Ideal S8x2048x128 .f32) (x4 : Vec Ideal S32 .f32) (x5 : Vec Ideal S32 .f32) (b : Fin 8) (h : Fin 32) :
    val_main_v101 (F := Ideal) x1 x4 x5 (ix4 b h 0 0) = val_main_v100 (F := Ideal) x1 x4 x5 (ix2 b h) :=
  (val_main_v101_apply (F := Ideal) x1 x4 x5 _).trans (congrArg (val_main_v100 (F := Ideal) x1 x4 x5) (show idx_main_v101 (ix4 b h 0 0) = (ix2 b h) from funext fun a => Fin.ext (match a with
    | ⟨0, _⟩ => by show (b.val) = b.val; omega
    | ⟨1, _⟩ => by show (h.val) = h.val; omega)))

theorem r102 (x1 : Vec Ideal S8x2048x128 .f32) (x4 : Vec Ideal S32 .f32) (x5 : Vec Ideal S32 .f32) (b : Fin 8) (h : Fin 32) (p : Fin 64) (n : Fin 128) :
    val_main_v102 (F := Ideal) x1 x4 x5 (ix4 b h p n) = val_main_v101 (F := Ideal) x1 x4 x5 (ix4 b h 0 0) :=
  (val_main_v102_apply (F := Ideal) x1 x4 x5 _).trans (congrArg (val_main_v101 (F := Ideal) x1 x4 x5) (show idx_main_v102 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r104 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v104 (F := Ideal) x0 x1 x2 x3 x4 x5 (ix5 b 0 h p n) = val_main_v86 (F := Ideal) x0 x1 x2 x3 x4 x5 (ix5 b 1 h p n) :=
  (val_main_v104_apply (F := Ideal) x0 x1 x2 x3 x4 x5 _).trans (congrArg (val_main_v86 (F := Ideal) x0 x1 x2 x3 x4 x5) (show idx_main_v104 (ix5 b 0 h p n) = (ix5 b 1 h p n) from funext fun a => Fin.ext (match a with
    | ⟨0, _⟩ => by show (b.val) = b.val; omega
    | ⟨1, _⟩ => by show 1 + (0) = 1; omega
    | ⟨2, _⟩ => by show (h.val) = h.val; omega
    | ⟨3, _⟩ => by show (p.val) = p.val; omega
    | ⟨4, _⟩ => by show (n.val) = n.val; omega)))

theorem r105 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v105 (F := Ideal) x0 x1 x2 x3 x4 x5 (ix4 b h p n) = val_main_v104 (F := Ideal) x0 x1 x2 x3 x4 x5 (ix5 b 0 h p n) :=
  (val_main_v105_apply (F := Ideal) x0 x1 x2 x3 x4 x5 _).trans (congrArg (val_main_v104 (F := Ideal) x0 x1 x2 x3 x4 x5) (show idx_main_v105 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r107 (x1 : Vec Ideal S8x2048x128 .f32) (x4 : Vec Ideal S32 .f32) (x5 : Vec Ideal S32 .f32) (b : Fin 8) (h : Fin 32) :
    val_main_v107 (F := Ideal) x1 x4 x5 (ix3 b 0 h) = val_main_v89 (F := Ideal) x1 x4 x5 (ix3 b 2 h) :=
  (val_main_v107_apply (F := Ideal) x1 x4 x5 _).trans (congrArg (val_main_v89 (F := Ideal) x1 x4 x5) (show idx_main_v107 (ix3 b 0 h) = (ix3 b 2 h) from funext fun a => Fin.ext (match a with
    | ⟨0, _⟩ => by show (b.val) = b.val; omega
    | ⟨1, _⟩ => by show 2 + (0) = 2; omega
    | ⟨2, _⟩ => by show (h.val) = h.val; omega)))

theorem r108 (x1 : Vec Ideal S8x2048x128 .f32) (x4 : Vec Ideal S32 .f32) (x5 : Vec Ideal S32 .f32) (b : Fin 8) (h : Fin 32) :
    val_main_v108 (F := Ideal) x1 x4 x5 (ix2 b h) = val_main_v107 (F := Ideal) x1 x4 x5 (ix3 b 0 h) :=
  (val_main_v108_apply (F := Ideal) x1 x4 x5 _).trans (congrArg (val_main_v107 (F := Ideal) x1 x4 x5) (show idx_main_v108 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r109 (x1 : Vec Ideal S8x2048x128 .f32) (x4 : Vec Ideal S32 .f32) (x5 : Vec Ideal S32 .f32) (b : Fin 8) (h : Fin 32) :
    val_main_v109 (F := Ideal) x1 x4 x5 (ix4 b h 0 0) = val_main_v108 (F := Ideal) x1 x4 x5 (ix2 b h) :=
  (val_main_v109_apply (F := Ideal) x1 x4 x5 _).trans (congrArg (val_main_v108 (F := Ideal) x1 x4 x5) (show idx_main_v109 (ix4 b h 0 0) = (ix2 b h) from funext fun a => Fin.ext (match a with
    | ⟨0, _⟩ => by show (b.val) = b.val; omega
    | ⟨1, _⟩ => by show (h.val) = h.val; omega)))

theorem r110 (x1 : Vec Ideal S8x2048x128 .f32) (x4 : Vec Ideal S32 .f32) (x5 : Vec Ideal S32 .f32) (b : Fin 8) (h : Fin 32) (p : Fin 64) (n : Fin 128) :
    val_main_v110 (F := Ideal) x1 x4 x5 (ix4 b h p n) = val_main_v109 (F := Ideal) x1 x4 x5 (ix4 b h 0 0) :=
  (val_main_v110_apply (F := Ideal) x1 x4 x5 _).trans (congrArg (val_main_v109 (F := Ideal) x1 x4 x5) (show idx_main_v110 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r112 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v112 (F := Ideal) x0 x1 x2 x3 x4 x5 (ix5 b 0 h p n) = val_main_v86 (F := Ideal) x0 x1 x2 x3 x4 x5 (ix5 b 2 h p n) :=
  (val_main_v112_apply (F := Ideal) x0 x1 x2 x3 x4 x5 _).trans (congrArg (val_main_v86 (F := Ideal) x0 x1 x2 x3 x4 x5) (show idx_main_v112 (ix5 b 0 h p n) = (ix5 b 2 h p n) from funext fun a => Fin.ext (match a with
    | ⟨0, _⟩ => by show (b.val) = b.val; omega
    | ⟨1, _⟩ => by show 2 + (0) = 2; omega
    | ⟨2, _⟩ => by show (h.val) = h.val; omega
    | ⟨3, _⟩ => by show (p.val) = p.val; omega
    | ⟨4, _⟩ => by show (n.val) = n.val; omega)))

theorem r113 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v113 (F := Ideal) x0 x1 x2 x3 x4 x5 (ix4 b h p n) = val_main_v112 (F := Ideal) x0 x1 x2 x3 x4 x5 (ix5 b 0 h p n) :=
  (val_main_v113_apply (F := Ideal) x0 x1 x2 x3 x4 x5 _).trans (congrArg (val_main_v112 (F := Ideal) x0 x1 x2 x3 x4 x5) (show idx_main_v113 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r115 (x1 : Vec Ideal S8x2048x128 .f32) (x4 : Vec Ideal S32 .f32) (x5 : Vec Ideal S32 .f32) (b : Fin 8) (h : Fin 32) :
    val_main_v115 (F := Ideal) x1 x4 x5 (ix3 b 0 h) = val_main_v89 (F := Ideal) x1 x4 x5 (ix3 b 3 h) :=
  (val_main_v115_apply (F := Ideal) x1 x4 x5 _).trans (congrArg (val_main_v89 (F := Ideal) x1 x4 x5) (show idx_main_v115 (ix3 b 0 h) = (ix3 b 3 h) from funext fun a => Fin.ext (match a with
    | ⟨0, _⟩ => by show (b.val) = b.val; omega
    | ⟨1, _⟩ => by show 3 + (0) = 3; omega
    | ⟨2, _⟩ => by show (h.val) = h.val; omega)))

theorem r116 (x1 : Vec Ideal S8x2048x128 .f32) (x4 : Vec Ideal S32 .f32) (x5 : Vec Ideal S32 .f32) (b : Fin 8) (h : Fin 32) :
    val_main_v116 (F := Ideal) x1 x4 x5 (ix2 b h) = val_main_v115 (F := Ideal) x1 x4 x5 (ix3 b 0 h) :=
  (val_main_v116_apply (F := Ideal) x1 x4 x5 _).trans (congrArg (val_main_v115 (F := Ideal) x1 x4 x5) (show idx_main_v116 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r117 (x1 : Vec Ideal S8x2048x128 .f32) (x4 : Vec Ideal S32 .f32) (x5 : Vec Ideal S32 .f32) (b : Fin 8) (h : Fin 32) :
    val_main_v117 (F := Ideal) x1 x4 x5 (ix4 b h 0 0) = val_main_v116 (F := Ideal) x1 x4 x5 (ix2 b h) :=
  (val_main_v117_apply (F := Ideal) x1 x4 x5 _).trans (congrArg (val_main_v116 (F := Ideal) x1 x4 x5) (show idx_main_v117 (ix4 b h 0 0) = (ix2 b h) from funext fun a => Fin.ext (match a with
    | ⟨0, _⟩ => by show (b.val) = b.val; omega
    | ⟨1, _⟩ => by show (h.val) = h.val; omega)))

theorem r118 (x1 : Vec Ideal S8x2048x128 .f32) (x4 : Vec Ideal S32 .f32) (x5 : Vec Ideal S32 .f32) (b : Fin 8) (h : Fin 32) (p : Fin 64) (n : Fin 128) :
    val_main_v118 (F := Ideal) x1 x4 x5 (ix4 b h p n) = val_main_v117 (F := Ideal) x1 x4 x5 (ix4 b h 0 0) :=
  (val_main_v118_apply (F := Ideal) x1 x4 x5 _).trans (congrArg (val_main_v117 (F := Ideal) x1 x4 x5) (show idx_main_v118 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r120 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v120 (F := Ideal) x0 x1 x2 x3 x4 x5 (ix5 b 0 h p n) = val_main_v86 (F := Ideal) x0 x1 x2 x3 x4 x5 (ix5 b 3 h p n) :=
  (val_main_v120_apply (F := Ideal) x0 x1 x2 x3 x4 x5 _).trans (congrArg (val_main_v86 (F := Ideal) x0 x1 x2 x3 x4 x5) (show idx_main_v120 (ix5 b 0 h p n) = (ix5 b 3 h p n) from funext fun a => Fin.ext (match a with
    | ⟨0, _⟩ => by show (b.val) = b.val; omega
    | ⟨1, _⟩ => by show 3 + (0) = 3; omega
    | ⟨2, _⟩ => by show (h.val) = h.val; omega
    | ⟨3, _⟩ => by show (p.val) = p.val; omega
    | ⟨4, _⟩ => by show (n.val) = n.val; omega)))

theorem r121 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v121 (F := Ideal) x0 x1 x2 x3 x4 x5 (ix4 b h p n) = val_main_v120 (F := Ideal) x0 x1 x2 x3 x4 x5 (ix5 b 0 h p n) :=
  (val_main_v121_apply (F := Ideal) x0 x1 x2 x3 x4 x5 _).trans (congrArg (val_main_v120 (F := Ideal) x0 x1 x2 x3 x4 x5) (show idx_main_v121 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r123 (x1 : Vec Ideal S8x2048x128 .f32) (x4 : Vec Ideal S32 .f32) (x5 : Vec Ideal S32 .f32) (b : Fin 8) (h : Fin 32) :
    val_main_v123 (F := Ideal) x1 x4 x5 (ix3 b 0 h) = val_main_v89 (F := Ideal) x1 x4 x5 (ix3 b 4 h) :=
  (val_main_v123_apply (F := Ideal) x1 x4 x5 _).trans (congrArg (val_main_v89 (F := Ideal) x1 x4 x5) (show idx_main_v123 (ix3 b 0 h) = (ix3 b 4 h) from funext fun a => Fin.ext (match a with
    | ⟨0, _⟩ => by show (b.val) = b.val; omega
    | ⟨1, _⟩ => by show 4 + (0) = 4; omega
    | ⟨2, _⟩ => by show (h.val) = h.val; omega)))

theorem r124 (x1 : Vec Ideal S8x2048x128 .f32) (x4 : Vec Ideal S32 .f32) (x5 : Vec Ideal S32 .f32) (b : Fin 8) (h : Fin 32) :
    val_main_v124 (F := Ideal) x1 x4 x5 (ix2 b h) = val_main_v123 (F := Ideal) x1 x4 x5 (ix3 b 0 h) :=
  (val_main_v124_apply (F := Ideal) x1 x4 x5 _).trans (congrArg (val_main_v123 (F := Ideal) x1 x4 x5) (show idx_main_v124 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r125 (x1 : Vec Ideal S8x2048x128 .f32) (x4 : Vec Ideal S32 .f32) (x5 : Vec Ideal S32 .f32) (b : Fin 8) (h : Fin 32) :
    val_main_v125 (F := Ideal) x1 x4 x5 (ix4 b h 0 0) = val_main_v124 (F := Ideal) x1 x4 x5 (ix2 b h) :=
  (val_main_v125_apply (F := Ideal) x1 x4 x5 _).trans (congrArg (val_main_v124 (F := Ideal) x1 x4 x5) (show idx_main_v125 (ix4 b h 0 0) = (ix2 b h) from funext fun a => Fin.ext (match a with
    | ⟨0, _⟩ => by show (b.val) = b.val; omega
    | ⟨1, _⟩ => by show (h.val) = h.val; omega)))

theorem r126 (x1 : Vec Ideal S8x2048x128 .f32) (x4 : Vec Ideal S32 .f32) (x5 : Vec Ideal S32 .f32) (b : Fin 8) (h : Fin 32) (p : Fin 64) (n : Fin 128) :
    val_main_v126 (F := Ideal) x1 x4 x5 (ix4 b h p n) = val_main_v125 (F := Ideal) x1 x4 x5 (ix4 b h 0 0) :=
  (val_main_v126_apply (F := Ideal) x1 x4 x5 _).trans (congrArg (val_main_v125 (F := Ideal) x1 x4 x5) (show idx_main_v126 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r128 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v128 (F := Ideal) x0 x1 x2 x3 x4 x5 (ix5 b 0 h p n) = val_main_v86 (F := Ideal) x0 x1 x2 x3 x4 x5 (ix5 b 4 h p n) :=
  (val_main_v128_apply (F := Ideal) x0 x1 x2 x3 x4 x5 _).trans (congrArg (val_main_v86 (F := Ideal) x0 x1 x2 x3 x4 x5) (show idx_main_v128 (ix5 b 0 h p n) = (ix5 b 4 h p n) from funext fun a => Fin.ext (match a with
    | ⟨0, _⟩ => by show (b.val) = b.val; omega
    | ⟨1, _⟩ => by show 4 + (0) = 4; omega
    | ⟨2, _⟩ => by show (h.val) = h.val; omega
    | ⟨3, _⟩ => by show (p.val) = p.val; omega
    | ⟨4, _⟩ => by show (n.val) = n.val; omega)))

theorem r129 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v129 (F := Ideal) x0 x1 x2 x3 x4 x5 (ix4 b h p n) = val_main_v128 (F := Ideal) x0 x1 x2 x3 x4 x5 (ix5 b 0 h p n) :=
  (val_main_v129_apply (F := Ideal) x0 x1 x2 x3 x4 x5 _).trans (congrArg (val_main_v128 (F := Ideal) x0 x1 x2 x3 x4 x5) (show idx_main_v129 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r131 (x1 : Vec Ideal S8x2048x128 .f32) (x4 : Vec Ideal S32 .f32) (x5 : Vec Ideal S32 .f32) (b : Fin 8) (h : Fin 32) :
    val_main_v131 (F := Ideal) x1 x4 x5 (ix3 b 0 h) = val_main_v89 (F := Ideal) x1 x4 x5 (ix3 b 5 h) :=
  (val_main_v131_apply (F := Ideal) x1 x4 x5 _).trans (congrArg (val_main_v89 (F := Ideal) x1 x4 x5) (show idx_main_v131 (ix3 b 0 h) = (ix3 b 5 h) from funext fun a => Fin.ext (match a with
    | ⟨0, _⟩ => by show (b.val) = b.val; omega
    | ⟨1, _⟩ => by show 5 + (0) = 5; omega
    | ⟨2, _⟩ => by show (h.val) = h.val; omega)))

theorem r132 (x1 : Vec Ideal S8x2048x128 .f32) (x4 : Vec Ideal S32 .f32) (x5 : Vec Ideal S32 .f32) (b : Fin 8) (h : Fin 32) :
    val_main_v132 (F := Ideal) x1 x4 x5 (ix2 b h) = val_main_v131 (F := Ideal) x1 x4 x5 (ix3 b 0 h) :=
  (val_main_v132_apply (F := Ideal) x1 x4 x5 _).trans (congrArg (val_main_v131 (F := Ideal) x1 x4 x5) (show idx_main_v132 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r133 (x1 : Vec Ideal S8x2048x128 .f32) (x4 : Vec Ideal S32 .f32) (x5 : Vec Ideal S32 .f32) (b : Fin 8) (h : Fin 32) :
    val_main_v133 (F := Ideal) x1 x4 x5 (ix4 b h 0 0) = val_main_v132 (F := Ideal) x1 x4 x5 (ix2 b h) :=
  (val_main_v133_apply (F := Ideal) x1 x4 x5 _).trans (congrArg (val_main_v132 (F := Ideal) x1 x4 x5) (show idx_main_v133 (ix4 b h 0 0) = (ix2 b h) from funext fun a => Fin.ext (match a with
    | ⟨0, _⟩ => by show (b.val) = b.val; omega
    | ⟨1, _⟩ => by show (h.val) = h.val; omega)))

theorem r134 (x1 : Vec Ideal S8x2048x128 .f32) (x4 : Vec Ideal S32 .f32) (x5 : Vec Ideal S32 .f32) (b : Fin 8) (h : Fin 32) (p : Fin 64) (n : Fin 128) :
    val_main_v134 (F := Ideal) x1 x4 x5 (ix4 b h p n) = val_main_v133 (F := Ideal) x1 x4 x5 (ix4 b h 0 0) :=
  (val_main_v134_apply (F := Ideal) x1 x4 x5 _).trans (congrArg (val_main_v133 (F := Ideal) x1 x4 x5) (show idx_main_v134 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r136 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v136 (F := Ideal) x0 x1 x2 x3 x4 x5 (ix5 b 0 h p n) = val_main_v86 (F := Ideal) x0 x1 x2 x3 x4 x5 (ix5 b 5 h p n) :=
  (val_main_v136_apply (F := Ideal) x0 x1 x2 x3 x4 x5 _).trans (congrArg (val_main_v86 (F := Ideal) x0 x1 x2 x3 x4 x5) (show idx_main_v136 (ix5 b 0 h p n) = (ix5 b 5 h p n) from funext fun a => Fin.ext (match a with
    | ⟨0, _⟩ => by show (b.val) = b.val; omega
    | ⟨1, _⟩ => by show 5 + (0) = 5; omega
    | ⟨2, _⟩ => by show (h.val) = h.val; omega
    | ⟨3, _⟩ => by show (p.val) = p.val; omega
    | ⟨4, _⟩ => by show (n.val) = n.val; omega)))

theorem r137 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v137 (F := Ideal) x0 x1 x2 x3 x4 x5 (ix4 b h p n) = val_main_v136 (F := Ideal) x0 x1 x2 x3 x4 x5 (ix5 b 0 h p n) :=
  (val_main_v137_apply (F := Ideal) x0 x1 x2 x3 x4 x5 _).trans (congrArg (val_main_v136 (F := Ideal) x0 x1 x2 x3 x4 x5) (show idx_main_v137 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r139 (x1 : Vec Ideal S8x2048x128 .f32) (x4 : Vec Ideal S32 .f32) (x5 : Vec Ideal S32 .f32) (b : Fin 8) (h : Fin 32) :
    val_main_v139 (F := Ideal) x1 x4 x5 (ix3 b 0 h) = val_main_v89 (F := Ideal) x1 x4 x5 (ix3 b 6 h) :=
  (val_main_v139_apply (F := Ideal) x1 x4 x5 _).trans (congrArg (val_main_v89 (F := Ideal) x1 x4 x5) (show idx_main_v139 (ix3 b 0 h) = (ix3 b 6 h) from funext fun a => Fin.ext (match a with
    | ⟨0, _⟩ => by show (b.val) = b.val; omega
    | ⟨1, _⟩ => by show 6 + (0) = 6; omega
    | ⟨2, _⟩ => by show (h.val) = h.val; omega)))

theorem r140 (x1 : Vec Ideal S8x2048x128 .f32) (x4 : Vec Ideal S32 .f32) (x5 : Vec Ideal S32 .f32) (b : Fin 8) (h : Fin 32) :
    val_main_v140 (F := Ideal) x1 x4 x5 (ix2 b h) = val_main_v139 (F := Ideal) x1 x4 x5 (ix3 b 0 h) :=
  (val_main_v140_apply (F := Ideal) x1 x4 x5 _).trans (congrArg (val_main_v139 (F := Ideal) x1 x4 x5) (show idx_main_v140 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r141 (x1 : Vec Ideal S8x2048x128 .f32) (x4 : Vec Ideal S32 .f32) (x5 : Vec Ideal S32 .f32) (b : Fin 8) (h : Fin 32) :
    val_main_v141 (F := Ideal) x1 x4 x5 (ix4 b h 0 0) = val_main_v140 (F := Ideal) x1 x4 x5 (ix2 b h) :=
  (val_main_v141_apply (F := Ideal) x1 x4 x5 _).trans (congrArg (val_main_v140 (F := Ideal) x1 x4 x5) (show idx_main_v141 (ix4 b h 0 0) = (ix2 b h) from funext fun a => Fin.ext (match a with
    | ⟨0, _⟩ => by show (b.val) = b.val; omega
    | ⟨1, _⟩ => by show (h.val) = h.val; omega)))

theorem r142 (x1 : Vec Ideal S8x2048x128 .f32) (x4 : Vec Ideal S32 .f32) (x5 : Vec Ideal S32 .f32) (b : Fin 8) (h : Fin 32) (p : Fin 64) (n : Fin 128) :
    val_main_v142 (F := Ideal) x1 x4 x5 (ix4 b h p n) = val_main_v141 (F := Ideal) x1 x4 x5 (ix4 b h 0 0) :=
  (val_main_v142_apply (F := Ideal) x1 x4 x5 _).trans (congrArg (val_main_v141 (F := Ideal) x1 x4 x5) (show idx_main_v142 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r144 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v144 (F := Ideal) x0 x1 x2 x3 x4 x5 (ix5 b 0 h p n) = val_main_v86 (F := Ideal) x0 x1 x2 x3 x4 x5 (ix5 b 6 h p n) :=
  (val_main_v144_apply (F := Ideal) x0 x1 x2 x3 x4 x5 _).trans (congrArg (val_main_v86 (F := Ideal) x0 x1 x2 x3 x4 x5) (show idx_main_v144 (ix5 b 0 h p n) = (ix5 b 6 h p n) from funext fun a => Fin.ext (match a with
    | ⟨0, _⟩ => by show (b.val) = b.val; omega
    | ⟨1, _⟩ => by show 6 + (0) = 6; omega
    | ⟨2, _⟩ => by show (h.val) = h.val; omega
    | ⟨3, _⟩ => by show (p.val) = p.val; omega
    | ⟨4, _⟩ => by show (n.val) = n.val; omega)))

theorem r145 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v145 (F := Ideal) x0 x1 x2 x3 x4 x5 (ix4 b h p n) = val_main_v144 (F := Ideal) x0 x1 x2 x3 x4 x5 (ix5 b 0 h p n) :=
  (val_main_v145_apply (F := Ideal) x0 x1 x2 x3 x4 x5 _).trans (congrArg (val_main_v144 (F := Ideal) x0 x1 x2 x3 x4 x5) (show idx_main_v145 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r147 (x1 : Vec Ideal S8x2048x128 .f32) (x4 : Vec Ideal S32 .f32) (x5 : Vec Ideal S32 .f32) (b : Fin 8) (h : Fin 32) :
    val_main_v147 (F := Ideal) x1 x4 x5 (ix3 b 0 h) = val_main_v89 (F := Ideal) x1 x4 x5 (ix3 b 7 h) :=
  (val_main_v147_apply (F := Ideal) x1 x4 x5 _).trans (congrArg (val_main_v89 (F := Ideal) x1 x4 x5) (show idx_main_v147 (ix3 b 0 h) = (ix3 b 7 h) from funext fun a => Fin.ext (match a with
    | ⟨0, _⟩ => by show (b.val) = b.val; omega
    | ⟨1, _⟩ => by show 7 + (0) = 7; omega
    | ⟨2, _⟩ => by show (h.val) = h.val; omega)))

theorem r148 (x1 : Vec Ideal S8x2048x128 .f32) (x4 : Vec Ideal S32 .f32) (x5 : Vec Ideal S32 .f32) (b : Fin 8) (h : Fin 32) :
    val_main_v148 (F := Ideal) x1 x4 x5 (ix2 b h) = val_main_v147 (F := Ideal) x1 x4 x5 (ix3 b 0 h) :=
  (val_main_v148_apply (F := Ideal) x1 x4 x5 _).trans (congrArg (val_main_v147 (F := Ideal) x1 x4 x5) (show idx_main_v148 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r149 (x1 : Vec Ideal S8x2048x128 .f32) (x4 : Vec Ideal S32 .f32) (x5 : Vec Ideal S32 .f32) (b : Fin 8) (h : Fin 32) :
    val_main_v149 (F := Ideal) x1 x4 x5 (ix4 b h 0 0) = val_main_v148 (F := Ideal) x1 x4 x5 (ix2 b h) :=
  (val_main_v149_apply (F := Ideal) x1 x4 x5 _).trans (congrArg (val_main_v148 (F := Ideal) x1 x4 x5) (show idx_main_v149 (ix4 b h 0 0) = (ix2 b h) from funext fun a => Fin.ext (match a with
    | ⟨0, _⟩ => by show (b.val) = b.val; omega
    | ⟨1, _⟩ => by show (h.val) = h.val; omega)))

theorem r150 (x1 : Vec Ideal S8x2048x128 .f32) (x4 : Vec Ideal S32 .f32) (x5 : Vec Ideal S32 .f32) (b : Fin 8) (h : Fin 32) (p : Fin 64) (n : Fin 128) :
    val_main_v150 (F := Ideal) x1 x4 x5 (ix4 b h p n) = val_main_v149 (F := Ideal) x1 x4 x5 (ix4 b h 0 0) :=
  (val_main_v150_apply (F := Ideal) x1 x4 x5 _).trans (congrArg (val_main_v149 (F := Ideal) x1 x4 x5) (show idx_main_v150 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r152 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v152 (F := Ideal) x0 x1 x2 x3 x4 x5 (ix5 b 0 h p n) = val_main_v86 (F := Ideal) x0 x1 x2 x3 x4 x5 (ix5 b 7 h p n) :=
  (val_main_v152_apply (F := Ideal) x0 x1 x2 x3 x4 x5 _).trans (congrArg (val_main_v86 (F := Ideal) x0 x1 x2 x3 x4 x5) (show idx_main_v152 (ix5 b 0 h p n) = (ix5 b 7 h p n) from funext fun a => Fin.ext (match a with
    | ⟨0, _⟩ => by show (b.val) = b.val; omega
    | ⟨1, _⟩ => by show 7 + (0) = 7; omega
    | ⟨2, _⟩ => by show (h.val) = h.val; omega
    | ⟨3, _⟩ => by show (p.val) = p.val; omega
    | ⟨4, _⟩ => by show (n.val) = n.val; omega)))

theorem r153 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v153 (F := Ideal) x0 x1 x2 x3 x4 x5 (ix4 b h p n) = val_main_v152 (F := Ideal) x0 x1 x2 x3 x4 x5 (ix5 b 0 h p n) :=
  (val_main_v153_apply (F := Ideal) x0 x1 x2 x3 x4 x5 _).trans (congrArg (val_main_v152 (F := Ideal) x0 x1 x2 x3 x4 x5) (show idx_main_v153 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r155 (x1 : Vec Ideal S8x2048x128 .f32) (x4 : Vec Ideal S32 .f32) (x5 : Vec Ideal S32 .f32) (b : Fin 8) (h : Fin 32) :
    val_main_v155 (F := Ideal) x1 x4 x5 (ix3 b 0 h) = val_main_v89 (F := Ideal) x1 x4 x5 (ix3 b 8 h) :=
  (val_main_v155_apply (F := Ideal) x1 x4 x5 _).trans (congrArg (val_main_v89 (F := Ideal) x1 x4 x5) (show idx_main_v155 (ix3 b 0 h) = (ix3 b 8 h) from funext fun a => Fin.ext (match a with
    | ⟨0, _⟩ => by show (b.val) = b.val; omega
    | ⟨1, _⟩ => by show 8 + (0) = 8; omega
    | ⟨2, _⟩ => by show (h.val) = h.val; omega)))

theorem r156 (x1 : Vec Ideal S8x2048x128 .f32) (x4 : Vec Ideal S32 .f32) (x5 : Vec Ideal S32 .f32) (b : Fin 8) (h : Fin 32) :
    val_main_v156 (F := Ideal) x1 x4 x5 (ix2 b h) = val_main_v155 (F := Ideal) x1 x4 x5 (ix3 b 0 h) :=
  (val_main_v156_apply (F := Ideal) x1 x4 x5 _).trans (congrArg (val_main_v155 (F := Ideal) x1 x4 x5) (show idx_main_v156 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r157 (x1 : Vec Ideal S8x2048x128 .f32) (x4 : Vec Ideal S32 .f32) (x5 : Vec Ideal S32 .f32) (b : Fin 8) (h : Fin 32) :
    val_main_v157 (F := Ideal) x1 x4 x5 (ix4 b h 0 0) = val_main_v156 (F := Ideal) x1 x4 x5 (ix2 b h) :=
  (val_main_v157_apply (F := Ideal) x1 x4 x5 _).trans (congrArg (val_main_v156 (F := Ideal) x1 x4 x5) (show idx_main_v157 (ix4 b h 0 0) = (ix2 b h) from funext fun a => Fin.ext (match a with
    | ⟨0, _⟩ => by show (b.val) = b.val; omega
    | ⟨1, _⟩ => by show (h.val) = h.val; omega)))

theorem r158 (x1 : Vec Ideal S8x2048x128 .f32) (x4 : Vec Ideal S32 .f32) (x5 : Vec Ideal S32 .f32) (b : Fin 8) (h : Fin 32) (p : Fin 64) (n : Fin 128) :
    val_main_v158 (F := Ideal) x1 x4 x5 (ix4 b h p n) = val_main_v157 (F := Ideal) x1 x4 x5 (ix4 b h 0 0) :=
  (val_main_v158_apply (F := Ideal) x1 x4 x5 _).trans (congrArg (val_main_v157 (F := Ideal) x1 x4 x5) (show idx_main_v158 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r160 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v160 (F := Ideal) x0 x1 x2 x3 x4 x5 (ix5 b 0 h p n) = val_main_v86 (F := Ideal) x0 x1 x2 x3 x4 x5 (ix5 b 8 h p n) :=
  (val_main_v160_apply (F := Ideal) x0 x1 x2 x3 x4 x5 _).trans (congrArg (val_main_v86 (F := Ideal) x0 x1 x2 x3 x4 x5) (show idx_main_v160 (ix5 b 0 h p n) = (ix5 b 8 h p n) from funext fun a => Fin.ext (match a with
    | ⟨0, _⟩ => by show (b.val) = b.val; omega
    | ⟨1, _⟩ => by show 8 + (0) = 8; omega
    | ⟨2, _⟩ => by show (h.val) = h.val; omega
    | ⟨3, _⟩ => by show (p.val) = p.val; omega
    | ⟨4, _⟩ => by show (n.val) = n.val; omega)))

theorem r161 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v161 (F := Ideal) x0 x1 x2 x3 x4 x5 (ix4 b h p n) = val_main_v160 (F := Ideal) x0 x1 x2 x3 x4 x5 (ix5 b 0 h p n) :=
  (val_main_v161_apply (F := Ideal) x0 x1 x2 x3 x4 x5 _).trans (congrArg (val_main_v160 (F := Ideal) x0 x1 x2 x3 x4 x5) (show idx_main_v161 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r163 (x1 : Vec Ideal S8x2048x128 .f32) (x4 : Vec Ideal S32 .f32) (x5 : Vec Ideal S32 .f32) (b : Fin 8) (h : Fin 32) :
    val_main_v163 (F := Ideal) x1 x4 x5 (ix3 b 0 h) = val_main_v89 (F := Ideal) x1 x4 x5 (ix3 b 9 h) :=
  (val_main_v163_apply (F := Ideal) x1 x4 x5 _).trans (congrArg (val_main_v89 (F := Ideal) x1 x4 x5) (show idx_main_v163 (ix3 b 0 h) = (ix3 b 9 h) from funext fun a => Fin.ext (match a with
    | ⟨0, _⟩ => by show (b.val) = b.val; omega
    | ⟨1, _⟩ => by show 9 + (0) = 9; omega
    | ⟨2, _⟩ => by show (h.val) = h.val; omega)))

theorem r164 (x1 : Vec Ideal S8x2048x128 .f32) (x4 : Vec Ideal S32 .f32) (x5 : Vec Ideal S32 .f32) (b : Fin 8) (h : Fin 32) :
    val_main_v164 (F := Ideal) x1 x4 x5 (ix2 b h) = val_main_v163 (F := Ideal) x1 x4 x5 (ix3 b 0 h) :=
  (val_main_v164_apply (F := Ideal) x1 x4 x5 _).trans (congrArg (val_main_v163 (F := Ideal) x1 x4 x5) (show idx_main_v164 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r165 (x1 : Vec Ideal S8x2048x128 .f32) (x4 : Vec Ideal S32 .f32) (x5 : Vec Ideal S32 .f32) (b : Fin 8) (h : Fin 32) :
    val_main_v165 (F := Ideal) x1 x4 x5 (ix4 b h 0 0) = val_main_v164 (F := Ideal) x1 x4 x5 (ix2 b h) :=
  (val_main_v165_apply (F := Ideal) x1 x4 x5 _).trans (congrArg (val_main_v164 (F := Ideal) x1 x4 x5) (show idx_main_v165 (ix4 b h 0 0) = (ix2 b h) from funext fun a => Fin.ext (match a with
    | ⟨0, _⟩ => by show (b.val) = b.val; omega
    | ⟨1, _⟩ => by show (h.val) = h.val; omega)))

theorem r166 (x1 : Vec Ideal S8x2048x128 .f32) (x4 : Vec Ideal S32 .f32) (x5 : Vec Ideal S32 .f32) (b : Fin 8) (h : Fin 32) (p : Fin 64) (n : Fin 128) :
    val_main_v166 (F := Ideal) x1 x4 x5 (ix4 b h p n) = val_main_v165 (F := Ideal) x1 x4 x5 (ix4 b h 0 0) :=
  (val_main_v166_apply (F := Ideal) x1 x4 x5 _).trans (congrArg (val_main_v165 (F := Ideal) x1 x4 x5) (show idx_main_v166 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r168 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v168 (F := Ideal) x0 x1 x2 x3 x4 x5 (ix5 b 0 h p n) = val_main_v86 (F := Ideal) x0 x1 x2 x3 x4 x5 (ix5 b 9 h p n) :=
  (val_main_v168_apply (F := Ideal) x0 x1 x2 x3 x4 x5 _).trans (congrArg (val_main_v86 (F := Ideal) x0 x1 x2 x3 x4 x5) (show idx_main_v168 (ix5 b 0 h p n) = (ix5 b 9 h p n) from funext fun a => Fin.ext (match a with
    | ⟨0, _⟩ => by show (b.val) = b.val; omega
    | ⟨1, _⟩ => by show 9 + (0) = 9; omega
    | ⟨2, _⟩ => by show (h.val) = h.val; omega
    | ⟨3, _⟩ => by show (p.val) = p.val; omega
    | ⟨4, _⟩ => by show (n.val) = n.val; omega)))

theorem r169 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v169 (F := Ideal) x0 x1 x2 x3 x4 x5 (ix4 b h p n) = val_main_v168 (F := Ideal) x0 x1 x2 x3 x4 x5 (ix5 b 0 h p n) :=
  (val_main_v169_apply (F := Ideal) x0 x1 x2 x3 x4 x5 _).trans (congrArg (val_main_v168 (F := Ideal) x0 x1 x2 x3 x4 x5) (show idx_main_v169 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r171 (x1 : Vec Ideal S8x2048x128 .f32) (x4 : Vec Ideal S32 .f32) (x5 : Vec Ideal S32 .f32) (b : Fin 8) (h : Fin 32) :
    val_main_v171 (F := Ideal) x1 x4 x5 (ix3 b 0 h) = val_main_v89 (F := Ideal) x1 x4 x5 (ix3 b 10 h) :=
  (val_main_v171_apply (F := Ideal) x1 x4 x5 _).trans (congrArg (val_main_v89 (F := Ideal) x1 x4 x5) (show idx_main_v171 (ix3 b 0 h) = (ix3 b 10 h) from funext fun a => Fin.ext (match a with
    | ⟨0, _⟩ => by show (b.val) = b.val; omega
    | ⟨1, _⟩ => by show 10 + (0) = 10; omega
    | ⟨2, _⟩ => by show (h.val) = h.val; omega)))

theorem r172 (x1 : Vec Ideal S8x2048x128 .f32) (x4 : Vec Ideal S32 .f32) (x5 : Vec Ideal S32 .f32) (b : Fin 8) (h : Fin 32) :
    val_main_v172 (F := Ideal) x1 x4 x5 (ix2 b h) = val_main_v171 (F := Ideal) x1 x4 x5 (ix3 b 0 h) :=
  (val_main_v172_apply (F := Ideal) x1 x4 x5 _).trans (congrArg (val_main_v171 (F := Ideal) x1 x4 x5) (show idx_main_v172 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r173 (x1 : Vec Ideal S8x2048x128 .f32) (x4 : Vec Ideal S32 .f32) (x5 : Vec Ideal S32 .f32) (b : Fin 8) (h : Fin 32) :
    val_main_v173 (F := Ideal) x1 x4 x5 (ix4 b h 0 0) = val_main_v172 (F := Ideal) x1 x4 x5 (ix2 b h) :=
  (val_main_v173_apply (F := Ideal) x1 x4 x5 _).trans (congrArg (val_main_v172 (F := Ideal) x1 x4 x5) (show idx_main_v173 (ix4 b h 0 0) = (ix2 b h) from funext fun a => Fin.ext (match a with
    | ⟨0, _⟩ => by show (b.val) = b.val; omega
    | ⟨1, _⟩ => by show (h.val) = h.val; omega)))

theorem r174 (x1 : Vec Ideal S8x2048x128 .f32) (x4 : Vec Ideal S32 .f32) (x5 : Vec Ideal S32 .f32) (b : Fin 8) (h : Fin 32) (p : Fin 64) (n : Fin 128) :
    val_main_v174 (F := Ideal) x1 x4 x5 (ix4 b h p n) = val_main_v173 (F := Ideal) x1 x4 x5 (ix4 b h 0 0) :=
  (val_main_v174_apply (F := Ideal) x1 x4 x5 _).trans (congrArg (val_main_v173 (F := Ideal) x1 x4 x5) (show idx_main_v174 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r176 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v176 (F := Ideal) x0 x1 x2 x3 x4 x5 (ix5 b 0 h p n) = val_main_v86 (F := Ideal) x0 x1 x2 x3 x4 x5 (ix5 b 10 h p n) :=
  (val_main_v176_apply (F := Ideal) x0 x1 x2 x3 x4 x5 _).trans (congrArg (val_main_v86 (F := Ideal) x0 x1 x2 x3 x4 x5) (show idx_main_v176 (ix5 b 0 h p n) = (ix5 b 10 h p n) from funext fun a => Fin.ext (match a with
    | ⟨0, _⟩ => by show (b.val) = b.val; omega
    | ⟨1, _⟩ => by show 10 + (0) = 10; omega
    | ⟨2, _⟩ => by show (h.val) = h.val; omega
    | ⟨3, _⟩ => by show (p.val) = p.val; omega
    | ⟨4, _⟩ => by show (n.val) = n.val; omega)))

theorem r177 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v177 (F := Ideal) x0 x1 x2 x3 x4 x5 (ix4 b h p n) = val_main_v176 (F := Ideal) x0 x1 x2 x3 x4 x5 (ix5 b 0 h p n) :=
  (val_main_v177_apply (F := Ideal) x0 x1 x2 x3 x4 x5 _).trans (congrArg (val_main_v176 (F := Ideal) x0 x1 x2 x3 x4 x5) (show idx_main_v177 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r179 (x1 : Vec Ideal S8x2048x128 .f32) (x4 : Vec Ideal S32 .f32) (x5 : Vec Ideal S32 .f32) (b : Fin 8) (h : Fin 32) :
    val_main_v179 (F := Ideal) x1 x4 x5 (ix3 b 0 h) = val_main_v89 (F := Ideal) x1 x4 x5 (ix3 b 11 h) :=
  (val_main_v179_apply (F := Ideal) x1 x4 x5 _).trans (congrArg (val_main_v89 (F := Ideal) x1 x4 x5) (show idx_main_v179 (ix3 b 0 h) = (ix3 b 11 h) from funext fun a => Fin.ext (match a with
    | ⟨0, _⟩ => by show (b.val) = b.val; omega
    | ⟨1, _⟩ => by show 11 + (0) = 11; omega
    | ⟨2, _⟩ => by show (h.val) = h.val; omega)))

theorem r180 (x1 : Vec Ideal S8x2048x128 .f32) (x4 : Vec Ideal S32 .f32) (x5 : Vec Ideal S32 .f32) (b : Fin 8) (h : Fin 32) :
    val_main_v180 (F := Ideal) x1 x4 x5 (ix2 b h) = val_main_v179 (F := Ideal) x1 x4 x5 (ix3 b 0 h) :=
  (val_main_v180_apply (F := Ideal) x1 x4 x5 _).trans (congrArg (val_main_v179 (F := Ideal) x1 x4 x5) (show idx_main_v180 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r181 (x1 : Vec Ideal S8x2048x128 .f32) (x4 : Vec Ideal S32 .f32) (x5 : Vec Ideal S32 .f32) (b : Fin 8) (h : Fin 32) :
    val_main_v181 (F := Ideal) x1 x4 x5 (ix4 b h 0 0) = val_main_v180 (F := Ideal) x1 x4 x5 (ix2 b h) :=
  (val_main_v181_apply (F := Ideal) x1 x4 x5 _).trans (congrArg (val_main_v180 (F := Ideal) x1 x4 x5) (show idx_main_v181 (ix4 b h 0 0) = (ix2 b h) from funext fun a => Fin.ext (match a with
    | ⟨0, _⟩ => by show (b.val) = b.val; omega
    | ⟨1, _⟩ => by show (h.val) = h.val; omega)))

theorem r182 (x1 : Vec Ideal S8x2048x128 .f32) (x4 : Vec Ideal S32 .f32) (x5 : Vec Ideal S32 .f32) (b : Fin 8) (h : Fin 32) (p : Fin 64) (n : Fin 128) :
    val_main_v182 (F := Ideal) x1 x4 x5 (ix4 b h p n) = val_main_v181 (F := Ideal) x1 x4 x5 (ix4 b h 0 0) :=
  (val_main_v182_apply (F := Ideal) x1 x4 x5 _).trans (congrArg (val_main_v181 (F := Ideal) x1 x4 x5) (show idx_main_v182 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r184 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v184 (F := Ideal) x0 x1 x2 x3 x4 x5 (ix5 b 0 h p n) = val_main_v86 (F := Ideal) x0 x1 x2 x3 x4 x5 (ix5 b 11 h p n) :=
  (val_main_v184_apply (F := Ideal) x0 x1 x2 x3 x4 x5 _).trans (congrArg (val_main_v86 (F := Ideal) x0 x1 x2 x3 x4 x5) (show idx_main_v184 (ix5 b 0 h p n) = (ix5 b 11 h p n) from funext fun a => Fin.ext (match a with
    | ⟨0, _⟩ => by show (b.val) = b.val; omega
    | ⟨1, _⟩ => by show 11 + (0) = 11; omega
    | ⟨2, _⟩ => by show (h.val) = h.val; omega
    | ⟨3, _⟩ => by show (p.val) = p.val; omega
    | ⟨4, _⟩ => by show (n.val) = n.val; omega)))

theorem r185 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v185 (F := Ideal) x0 x1 x2 x3 x4 x5 (ix4 b h p n) = val_main_v184 (F := Ideal) x0 x1 x2 x3 x4 x5 (ix5 b 0 h p n) :=
  (val_main_v185_apply (F := Ideal) x0 x1 x2 x3 x4 x5 _).trans (congrArg (val_main_v184 (F := Ideal) x0 x1 x2 x3 x4 x5) (show idx_main_v185 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r187 (x1 : Vec Ideal S8x2048x128 .f32) (x4 : Vec Ideal S32 .f32) (x5 : Vec Ideal S32 .f32) (b : Fin 8) (h : Fin 32) :
    val_main_v187 (F := Ideal) x1 x4 x5 (ix3 b 0 h) = val_main_v89 (F := Ideal) x1 x4 x5 (ix3 b 12 h) :=
  (val_main_v187_apply (F := Ideal) x1 x4 x5 _).trans (congrArg (val_main_v89 (F := Ideal) x1 x4 x5) (show idx_main_v187 (ix3 b 0 h) = (ix3 b 12 h) from funext fun a => Fin.ext (match a with
    | ⟨0, _⟩ => by show (b.val) = b.val; omega
    | ⟨1, _⟩ => by show 12 + (0) = 12; omega
    | ⟨2, _⟩ => by show (h.val) = h.val; omega)))

theorem r188 (x1 : Vec Ideal S8x2048x128 .f32) (x4 : Vec Ideal S32 .f32) (x5 : Vec Ideal S32 .f32) (b : Fin 8) (h : Fin 32) :
    val_main_v188 (F := Ideal) x1 x4 x5 (ix2 b h) = val_main_v187 (F := Ideal) x1 x4 x5 (ix3 b 0 h) :=
  (val_main_v188_apply (F := Ideal) x1 x4 x5 _).trans (congrArg (val_main_v187 (F := Ideal) x1 x4 x5) (show idx_main_v188 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r189 (x1 : Vec Ideal S8x2048x128 .f32) (x4 : Vec Ideal S32 .f32) (x5 : Vec Ideal S32 .f32) (b : Fin 8) (h : Fin 32) :
    val_main_v189 (F := Ideal) x1 x4 x5 (ix4 b h 0 0) = val_main_v188 (F := Ideal) x1 x4 x5 (ix2 b h) :=
  (val_main_v189_apply (F := Ideal) x1 x4 x5 _).trans (congrArg (val_main_v188 (F := Ideal) x1 x4 x5) (show idx_main_v189 (ix4 b h 0 0) = (ix2 b h) from funext fun a => Fin.ext (match a with
    | ⟨0, _⟩ => by show (b.val) = b.val; omega
    | ⟨1, _⟩ => by show (h.val) = h.val; omega)))

theorem r190 (x1 : Vec Ideal S8x2048x128 .f32) (x4 : Vec Ideal S32 .f32) (x5 : Vec Ideal S32 .f32) (b : Fin 8) (h : Fin 32) (p : Fin 64) (n : Fin 128) :
    val_main_v190 (F := Ideal) x1 x4 x5 (ix4 b h p n) = val_main_v189 (F := Ideal) x1 x4 x5 (ix4 b h 0 0) :=
  (val_main_v190_apply (F := Ideal) x1 x4 x5 _).trans (congrArg (val_main_v189 (F := Ideal) x1 x4 x5) (show idx_main_v190 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r192 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v192 (F := Ideal) x0 x1 x2 x3 x4 x5 (ix5 b 0 h p n) = val_main_v86 (F := Ideal) x0 x1 x2 x3 x4 x5 (ix5 b 12 h p n) :=
  (val_main_v192_apply (F := Ideal) x0 x1 x2 x3 x4 x5 _).trans (congrArg (val_main_v86 (F := Ideal) x0 x1 x2 x3 x4 x5) (show idx_main_v192 (ix5 b 0 h p n) = (ix5 b 12 h p n) from funext fun a => Fin.ext (match a with
    | ⟨0, _⟩ => by show (b.val) = b.val; omega
    | ⟨1, _⟩ => by show 12 + (0) = 12; omega
    | ⟨2, _⟩ => by show (h.val) = h.val; omega
    | ⟨3, _⟩ => by show (p.val) = p.val; omega
    | ⟨4, _⟩ => by show (n.val) = n.val; omega)))

theorem r193 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v193 (F := Ideal) x0 x1 x2 x3 x4 x5 (ix4 b h p n) = val_main_v192 (F := Ideal) x0 x1 x2 x3 x4 x5 (ix5 b 0 h p n) :=
  (val_main_v193_apply (F := Ideal) x0 x1 x2 x3 x4 x5 _).trans (congrArg (val_main_v192 (F := Ideal) x0 x1 x2 x3 x4 x5) (show idx_main_v193 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r195 (x1 : Vec Ideal S8x2048x128 .f32) (x4 : Vec Ideal S32 .f32) (x5 : Vec Ideal S32 .f32) (b : Fin 8) (h : Fin 32) :
    val_main_v195 (F := Ideal) x1 x4 x5 (ix3 b 0 h) = val_main_v89 (F := Ideal) x1 x4 x5 (ix3 b 13 h) :=
  (val_main_v195_apply (F := Ideal) x1 x4 x5 _).trans (congrArg (val_main_v89 (F := Ideal) x1 x4 x5) (show idx_main_v195 (ix3 b 0 h) = (ix3 b 13 h) from funext fun a => Fin.ext (match a with
    | ⟨0, _⟩ => by show (b.val) = b.val; omega
    | ⟨1, _⟩ => by show 13 + (0) = 13; omega
    | ⟨2, _⟩ => by show (h.val) = h.val; omega)))

theorem r196 (x1 : Vec Ideal S8x2048x128 .f32) (x4 : Vec Ideal S32 .f32) (x5 : Vec Ideal S32 .f32) (b : Fin 8) (h : Fin 32) :
    val_main_v196 (F := Ideal) x1 x4 x5 (ix2 b h) = val_main_v195 (F := Ideal) x1 x4 x5 (ix3 b 0 h) :=
  (val_main_v196_apply (F := Ideal) x1 x4 x5 _).trans (congrArg (val_main_v195 (F := Ideal) x1 x4 x5) (show idx_main_v196 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r197 (x1 : Vec Ideal S8x2048x128 .f32) (x4 : Vec Ideal S32 .f32) (x5 : Vec Ideal S32 .f32) (b : Fin 8) (h : Fin 32) :
    val_main_v197 (F := Ideal) x1 x4 x5 (ix4 b h 0 0) = val_main_v196 (F := Ideal) x1 x4 x5 (ix2 b h) :=
  (val_main_v197_apply (F := Ideal) x1 x4 x5 _).trans (congrArg (val_main_v196 (F := Ideal) x1 x4 x5) (show idx_main_v197 (ix4 b h 0 0) = (ix2 b h) from funext fun a => Fin.ext (match a with
    | ⟨0, _⟩ => by show (b.val) = b.val; omega
    | ⟨1, _⟩ => by show (h.val) = h.val; omega)))

theorem r198 (x1 : Vec Ideal S8x2048x128 .f32) (x4 : Vec Ideal S32 .f32) (x5 : Vec Ideal S32 .f32) (b : Fin 8) (h : Fin 32) (p : Fin 64) (n : Fin 128) :
    val_main_v198 (F := Ideal) x1 x4 x5 (ix4 b h p n) = val_main_v197 (F := Ideal) x1 x4 x5 (ix4 b h 0 0) :=
  (val_main_v198_apply (F := Ideal) x1 x4 x5 _).trans (congrArg (val_main_v197 (F := Ideal) x1 x4 x5) (show idx_main_v198 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r200 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v200 (F := Ideal) x0 x1 x2 x3 x4 x5 (ix5 b 0 h p n) = val_main_v86 (F := Ideal) x0 x1 x2 x3 x4 x5 (ix5 b 13 h p n) :=
  (val_main_v200_apply (F := Ideal) x0 x1 x2 x3 x4 x5 _).trans (congrArg (val_main_v86 (F := Ideal) x0 x1 x2 x3 x4 x5) (show idx_main_v200 (ix5 b 0 h p n) = (ix5 b 13 h p n) from funext fun a => Fin.ext (match a with
    | ⟨0, _⟩ => by show (b.val) = b.val; omega
    | ⟨1, _⟩ => by show 13 + (0) = 13; omega
    | ⟨2, _⟩ => by show (h.val) = h.val; omega
    | ⟨3, _⟩ => by show (p.val) = p.val; omega
    | ⟨4, _⟩ => by show (n.val) = n.val; omega)))

theorem r201 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v201 (F := Ideal) x0 x1 x2 x3 x4 x5 (ix4 b h p n) = val_main_v200 (F := Ideal) x0 x1 x2 x3 x4 x5 (ix5 b 0 h p n) :=
  (val_main_v201_apply (F := Ideal) x0 x1 x2 x3 x4 x5 _).trans (congrArg (val_main_v200 (F := Ideal) x0 x1 x2 x3 x4 x5) (show idx_main_v201 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r203 (x1 : Vec Ideal S8x2048x128 .f32) (x4 : Vec Ideal S32 .f32) (x5 : Vec Ideal S32 .f32) (b : Fin 8) (h : Fin 32) :
    val_main_v203 (F := Ideal) x1 x4 x5 (ix3 b 0 h) = val_main_v89 (F := Ideal) x1 x4 x5 (ix3 b 14 h) :=
  (val_main_v203_apply (F := Ideal) x1 x4 x5 _).trans (congrArg (val_main_v89 (F := Ideal) x1 x4 x5) (show idx_main_v203 (ix3 b 0 h) = (ix3 b 14 h) from funext fun a => Fin.ext (match a with
    | ⟨0, _⟩ => by show (b.val) = b.val; omega
    | ⟨1, _⟩ => by show 14 + (0) = 14; omega
    | ⟨2, _⟩ => by show (h.val) = h.val; omega)))

theorem r204 (x1 : Vec Ideal S8x2048x128 .f32) (x4 : Vec Ideal S32 .f32) (x5 : Vec Ideal S32 .f32) (b : Fin 8) (h : Fin 32) :
    val_main_v204 (F := Ideal) x1 x4 x5 (ix2 b h) = val_main_v203 (F := Ideal) x1 x4 x5 (ix3 b 0 h) :=
  (val_main_v204_apply (F := Ideal) x1 x4 x5 _).trans (congrArg (val_main_v203 (F := Ideal) x1 x4 x5) (show idx_main_v204 (ix2 b h) = (ix3 b 0 h) from funext fun a => Fin.ext (match a with
    | ⟨0, _⟩ => by show ((b.val) * 32 + (h.val)) / 32 = b.val; omega
    | ⟨1, _⟩ => by show 0 = 0; omega
    | ⟨2, _⟩ => by show ((b.val) * 32 + (h.val)) % 32 = h.val; omega)))

theorem r205 (x1 : Vec Ideal S8x2048x128 .f32) (x4 : Vec Ideal S32 .f32) (x5 : Vec Ideal S32 .f32) (b : Fin 8) (h : Fin 32) :
    val_main_v205 (F := Ideal) x1 x4 x5 (ix4 b h 0 0) = val_main_v204 (F := Ideal) x1 x4 x5 (ix2 b h) :=
  (val_main_v205_apply (F := Ideal) x1 x4 x5 _).trans (congrArg (val_main_v204 (F := Ideal) x1 x4 x5) (show idx_main_v205 (ix4 b h 0 0) = (ix2 b h) from funext fun a => Fin.ext (match a with
    | ⟨0, _⟩ => by show (b.val) = b.val; omega
    | ⟨1, _⟩ => by show (h.val) = h.val; omega)))

theorem r206 (x1 : Vec Ideal S8x2048x128 .f32) (x4 : Vec Ideal S32 .f32) (x5 : Vec Ideal S32 .f32) (b : Fin 8) (h : Fin 32) (p : Fin 64) (n : Fin 128) :
    val_main_v206 (F := Ideal) x1 x4 x5 (ix4 b h p n) = val_main_v205 (F := Ideal) x1 x4 x5 (ix4 b h 0 0) :=
  (val_main_v206_apply (F := Ideal) x1 x4 x5 _).trans (congrArg (val_main_v205 (F := Ideal) x1 x4 x5) (show idx_main_v206 (ix4 b h p n) = (ix4 b h 0 0) from funext fun a => Fin.ext (match a with
    | ⟨0, _⟩ => by show (b.val) = b.val; omega
    | ⟨1, _⟩ => by show (h.val) = h.val; omega
    | ⟨2, _⟩ => by show 0 = 0; omega
    | ⟨3, _⟩ => by show 0 = 0; omega)))

theorem r208 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v208 (F := Ideal) x0 x1 x2 x3 x4 x5 (ix5 b 0 h p n) = val_main_v86 (F := Ideal) x0 x1 x2 x3 x4 x5 (ix5 b 14 h p n) :=
  (val_main_v208_apply (F := Ideal) x0 x1 x2 x3 x4 x5 _).trans (congrArg (val_main_v86 (F := Ideal) x0 x1 x2 x3 x4 x5) (show idx_main_v208 (ix5 b 0 h p n) = (ix5 b 14 h p n) from funext fun a => Fin.ext (match a with
    | ⟨0, _⟩ => by show (b.val) = b.val; omega
    | ⟨1, _⟩ => by show 14 + (0) = 14; omega
    | ⟨2, _⟩ => by show (h.val) = h.val; omega
    | ⟨3, _⟩ => by show (p.val) = p.val; omega
    | ⟨4, _⟩ => by show (n.val) = n.val; omega)))

theorem r209 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v209 (F := Ideal) x0 x1 x2 x3 x4 x5 (ix4 b h p n) = val_main_v208 (F := Ideal) x0 x1 x2 x3 x4 x5 (ix5 b 0 h p n) :=
  (val_main_v209_apply (F := Ideal) x0 x1 x2 x3 x4 x5 _).trans (congrArg (val_main_v208 (F := Ideal) x0 x1 x2 x3 x4 x5) (show idx_main_v209 (ix4 b h p n) = (ix5 b 0 h p n) from funext fun a => Fin.ext (match a with
    | ⟨0, _⟩ => by show ((((b.val) * 32 + (h.val)) * 64 + (p.val)) * 128 + (n.val)) / 262144 = b.val; omega
    | ⟨1, _⟩ => by show 0 = 0; omega
    | ⟨2, _⟩ => by show ((((b.val) * 32 + (h.val)) * 64 + (p.val)) * 128 + (n.val)) / 8192 % 32 = h.val; omega
    | ⟨3, _⟩ => by show ((((b.val) * 32 + (h.val)) * 64 + (p.val)) * 128 + (n.val)) / 128 % 64 = p.val; omega
    | ⟨4, _⟩ => by show ((((b.val) * 32 + (h.val)) * 64 + (p.val)) * 128 + (n.val)) % 128 = n.val; omega)))

theorem r219  (b : Fin 8) (h : Fin 32) (p : Fin 64) (n : Fin 128) :
    val_main_v219 (F := Ideal)  (ix5 b 0 h p n) = val_main_v90 (F := Ideal) (ix4 b h p n) :=
  (val_main_v219_apply (F := Ideal)  _).trans (congrArg (val_main_v90 (F := Ideal)) (show idx_main_v219 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r220 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v220 (F := Ideal) x0 x1 x2 x3 x4 x5 (ix5 b 0 h p n) = val_main_v98 (F := Ideal) x0 x1 x2 x3 x4 x5 (ix4 b h p n) :=
  (val_main_v220_apply (F := Ideal) x0 x1 x2 x3 x4 x5 _).trans (congrArg (val_main_v98 (F := Ideal) x0 x1 x2 x3 x4 x5) (show idx_main_v220 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r221 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v221 (F := Ideal) x0 x1 x2 x3 x4 x5 (ix5 b 0 h p n) = val_main_v106 (F := Ideal) x0 x1 x2 x3 x4 x5 (ix4 b h p n) :=
  (val_main_v221_apply (F := Ideal) x0 x1 x2 x3 x4 x5 _).trans (congrArg (val_main_v106 (F := Ideal) x0 x1 x2 x3 x4 x5) (show idx_main_v221 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r222 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v222 (F := Ideal) x0 x1 x2 x3 x4 x5 (ix5 b 0 h p n) = val_main_v114 (F := Ideal) x0 x1 x2 x3 x4 x5 (ix4 b h p n) :=
  (val_main_v222_apply (F := Ideal) x0 x1 x2 x3 x4 x5 _).trans (congrArg (val_main_v114 (F := Ideal) x0 x1 x2 x3 x4 x5) (show idx_main_v222 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r223 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v223 (F := Ideal) x0 x1 x2 x3 x4 x5 (ix5 b 0 h p n) = val_main_v122 (F := Ideal) x0 x1 x2 x3 x4 x5 (ix4 b h p n) :=
  (val_main_v223_apply (F := Ideal) x0 x1 x2 x3 x4 x5 _).trans (congrArg (val_main_v122 (F := Ideal) x0 x1 x2 x3 x4 x5) (show idx_main_v223 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r224 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v224 (F := Ideal) x0 x1 x2 x3 x4 x5 (ix5 b 0 h p n) = val_main_v130 (F := Ideal) x0 x1 x2 x3 x4 x5 (ix4 b h p n) :=
  (val_main_v224_apply (F := Ideal) x0 x1 x2 x3 x4 x5 _).trans (congrArg (val_main_v130 (F := Ideal) x0 x1 x2 x3 x4 x5) (show idx_main_v224 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r225 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v225 (F := Ideal) x0 x1 x2 x3 x4 x5 (ix5 b 0 h p n) = val_main_v138 (F := Ideal) x0 x1 x2 x3 x4 x5 (ix4 b h p n) :=
  (val_main_v225_apply (F := Ideal) x0 x1 x2 x3 x4 x5 _).trans (congrArg (val_main_v138 (F := Ideal) x0 x1 x2 x3 x4 x5) (show idx_main_v225 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r226 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v226 (F := Ideal) x0 x1 x2 x3 x4 x5 (ix5 b 0 h p n) = val_main_v146 (F := Ideal) x0 x1 x2 x3 x4 x5 (ix4 b h p n) :=
  (val_main_v226_apply (F := Ideal) x0 x1 x2 x3 x4 x5 _).trans (congrArg (val_main_v146 (F := Ideal) x0 x1 x2 x3 x4 x5) (show idx_main_v226 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r227 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v227 (F := Ideal) x0 x1 x2 x3 x4 x5 (ix5 b 0 h p n) = val_main_v154 (F := Ideal) x0 x1 x2 x3 x4 x5 (ix4 b h p n) :=
  (val_main_v227_apply (F := Ideal) x0 x1 x2 x3 x4 x5 _).trans (congrArg (val_main_v154 (F := Ideal) x0 x1 x2 x3 x4 x5) (show idx_main_v227 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r228 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v228 (F := Ideal) x0 x1 x2 x3 x4 x5 (ix5 b 0 h p n) = val_main_v162 (F := Ideal) x0 x1 x2 x3 x4 x5 (ix4 b h p n) :=
  (val_main_v228_apply (F := Ideal) x0 x1 x2 x3 x4 x5 _).trans (congrArg (val_main_v162 (F := Ideal) x0 x1 x2 x3 x4 x5) (show idx_main_v228 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r229 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v229 (F := Ideal) x0 x1 x2 x3 x4 x5 (ix5 b 0 h p n) = val_main_v170 (F := Ideal) x0 x1 x2 x3 x4 x5 (ix4 b h p n) :=
  (val_main_v229_apply (F := Ideal) x0 x1 x2 x3 x4 x5 _).trans (congrArg (val_main_v170 (F := Ideal) x0 x1 x2 x3 x4 x5) (show idx_main_v229 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r230 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v230 (F := Ideal) x0 x1 x2 x3 x4 x5 (ix5 b 0 h p n) = val_main_v178 (F := Ideal) x0 x1 x2 x3 x4 x5 (ix4 b h p n) :=
  (val_main_v230_apply (F := Ideal) x0 x1 x2 x3 x4 x5 _).trans (congrArg (val_main_v178 (F := Ideal) x0 x1 x2 x3 x4 x5) (show idx_main_v230 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r231 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v231 (F := Ideal) x0 x1 x2 x3 x4 x5 (ix5 b 0 h p n) = val_main_v186 (F := Ideal) x0 x1 x2 x3 x4 x5 (ix4 b h p n) :=
  (val_main_v231_apply (F := Ideal) x0 x1 x2 x3 x4 x5 _).trans (congrArg (val_main_v186 (F := Ideal) x0 x1 x2 x3 x4 x5) (show idx_main_v231 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r232 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v232 (F := Ideal) x0 x1 x2 x3 x4 x5 (ix5 b 0 h p n) = val_main_v194 (F := Ideal) x0 x1 x2 x3 x4 x5 (ix4 b h p n) :=
  (val_main_v232_apply (F := Ideal) x0 x1 x2 x3 x4 x5 _).trans (congrArg (val_main_v194 (F := Ideal) x0 x1 x2 x3 x4 x5) (show idx_main_v232 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r233 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v233 (F := Ideal) x0 x1 x2 x3 x4 x5 (ix5 b 0 h p n) = val_main_v202 (F := Ideal) x0 x1 x2 x3 x4 x5 (ix4 b h p n) :=
  (val_main_v233_apply (F := Ideal) x0 x1 x2 x3 x4 x5 _).trans (congrArg (val_main_v202 (F := Ideal) x0 x1 x2 x3 x4 x5) (show idx_main_v233 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r234 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (h : Fin 32) (p : Fin 64) (n : Fin 128) :
    val_main_v234 (F := Ideal) x0 x1 x2 x3 x4 x5 (ix5 b 0 h p n) = val_main_v210 (F := Ideal) x0 x1 x2 x3 x4 x5 (ix4 b h p n) :=
  (val_main_v234_apply (F := Ideal) x0 x1 x2 x3 x4 x5 _).trans (congrArg (val_main_v210 (F := Ideal) x0 x1 x2 x3 x4 x5) (show idx_main_v234 (ix5 b 0 h p n) = (ix4 b h p n) from funext fun a => Fin.ext (match a with
    | ⟨0, _⟩ => by show (b.val) = b.val; omega
    | ⟨1, _⟩ => by show (h.val) = h.val; omega
    | ⟨2, _⟩ => by show (p.val) = p.val; omega
    | ⟨3, _⟩ => by show (n.val) = n.val; omega)))

theorem r236 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (cc : Fin 16) (h : Fin 32) (p : Fin 64) (l : Fin 128) :
    val_main_v236 (F := Ideal) x0 x1 x2 x3 x4 x5 (ix5 b cc h p l) = ∑ n : Fin 128, val_main_v235 (F := Ideal) x0 x1 x2 x3 x4 x5 (ix5 b cc h p n) * val_main_v47 (F := Ideal) x0 x2 x3 (ix5 b cc l h n) := by
  rw [val_main_v236_apply]
  refine Finset.sum_congr rfl fun n _ => ?_
  rw [(show lidx_main_v236 (ix5 b cc h p l) n = (ix5 b cc h p n) from funext fun a => Fin.ext (match a with
    | ⟨0, _⟩ => by show (b.val) = b.val; omega
    | ⟨1, _⟩ => by show (cc.val) = cc.val; omega
    | ⟨2, _⟩ => by show (h.val) = h.val; omega
    | ⟨3, _⟩ => by show (p.val) = p.val; omega
    | ⟨4, _⟩ => by show n.val = n.val; omega)), (show ridx_main_v236 (ix5 b cc h p l) n = (ix5 b cc l h n) from funext fun a => Fin.ext (match a with
    | ⟨0, _⟩ => by show (b.val) = b.val; omega
    | ⟨1, _⟩ => by show (cc.val) = cc.val; omega
    | ⟨2, _⟩ => by show (l.val) = l.val; omega
    | ⟨3, _⟩ => by show (h.val) = h.val; omega
    | ⟨4, _⟩ => by show n.val = n.val; omega))]

theorem r237 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (cc : Fin 16) (l : Fin 128) (h : Fin 32) (p : Fin 64) :
    val_main_v237 (F := Ideal) x0 x1 x2 x3 x4 x5 (ix5 b cc l h p) = val_main_v236 (F := Ideal) x0 x1 x2 x3 x4 x5 (ix5 b cc h p l) :=
  (val_main_v237_apply (F := Ideal) x0 x1 x2 x3 x4 x5 _).trans (congrArg (val_main_v236 (F := Ideal) x0 x1 x2 x3 x4 x5) (show idx_main_v237 (ix5 b cc l h p) = (ix5 b cc h p l) from funext fun a => Fin.ext (match a with
    | ⟨0, _⟩ => by show (b.val) = b.val; omega
    | ⟨1, _⟩ => by show (cc.val) = cc.val; omega
    | ⟨2, _⟩ => by show (h.val) = h.val; omega
    | ⟨3, _⟩ => by show (p.val) = p.val; omega
    | ⟨4, _⟩ => by show (l.val) = l.val; omega)))

theorem r239 (x1 : Vec Ideal S8x2048x128 .f32) (x4 : Vec Ideal S32 .f32) (x5 : Vec Ideal S32 .f32) (b : Fin 8) (cc : Fin 16) (l : Fin 128) (h : Fin 32) :
    val_main_v239 (F := Ideal) x1 x4 x5 (ix4 b cc l h) = val_main_v238 (F := Ideal) x1 x4 x5 (ix4 b cc h l) :=
  (val_main_v239_apply (F := Ideal) x1 x4 x5 _).trans (congrArg (val_main_v238 (F := Ideal) x1 x4 x5) (show idx_main_v239 (ix4 b cc l h) = (ix4 b cc h l) from funext fun a => Fin.ext (match a with
    | ⟨0, _⟩ => by show (b.val) = b.val; omega
    | ⟨1, _⟩ => by show (cc.val) = cc.val; omega
    | ⟨2, _⟩ => by show (h.val) = h.val; omega
    | ⟨3, _⟩ => by show (l.val) = l.val; omega)))

theorem r240 (x1 : Vec Ideal S8x2048x128 .f32) (x4 : Vec Ideal S32 .f32) (x5 : Vec Ideal S32 .f32) (b : Fin 8) (cc : Fin 16) (l : Fin 128) (h : Fin 32) :
    val_main_v240 (F := Ideal) x1 x4 x5 (ix5 b cc l h 0) = val_main_v239 (F := Ideal) x1 x4 x5 (ix4 b cc l h) :=
  (val_main_v240_apply (F := Ideal) x1 x4 x5 _).trans (congrArg (val_main_v239 (F := Ideal) x1 x4 x5) (show idx_main_v240 (ix5 b cc l h 0) = (ix4 b cc l h) from funext fun a => Fin.ext (match a with
    | ⟨0, _⟩ => by show (b.val) = b.val; omega
    | ⟨1, _⟩ => by show (cc.val) = cc.val; omega
    | ⟨2, _⟩ => by show (l.val) = l.val; omega
    | ⟨3, _⟩ => by show (h.val) = h.val; omega)))

theorem r241 (x1 : Vec Ideal S8x2048x128 .f32) (x4 : Vec Ideal S32 .f32) (x5 : Vec Ideal S32 .f32) (b : Fin 8) (cc : Fin 16) (l : Fin 128) (h : Fin 32) (p : Fin 64) :
    val_main_v241 (F := Ideal) x1 x4 x5 (ix5 b cc l h p) = val_main_v240 (F := Ideal) x1 x4 x5 (ix5 b cc l h 0) :=
  (val_main_v241_apply (F := Ideal) x1 x4 x5 _).trans (congrArg (val_main_v240 (F := Ideal) x1 x4 x5) (show idx_main_v241 (ix5 b cc l h p) = (ix5 b cc l h 0) from funext fun a => Fin.ext (match a with
    | ⟨0, _⟩ => by show (b.val) = b.val; omega
    | ⟨1, _⟩ => by show (cc.val) = cc.val; omega
    | ⟨2, _⟩ => by show (l.val) = l.val; omega
    | ⟨3, _⟩ => by show (h.val) = h.val; omega
    | ⟨4, _⟩ => by show 0 = 0; omega)))

theorem r244 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (b : Fin 8) (cc : Fin 16) (l : Fin 128) (h : Fin 32) (p : Fin 64) :
    val_main_v244 (F := Ideal) x0 x1 x2 x3 x4 x5 (ix4 b (row cc l) h p) = val_main_v243 (F := Ideal) x0 x1 x2 x3 x4 x5 (ix5 b cc l h p) :=
  (val_main_v244_apply (F := Ideal) x0 x1 x2 x3 x4 x5 _).trans (congrArg (val_main_v243 (F := Ideal) x0 x1 x2 x3 x4 x5) (show idx_main_v244 (ix4 b (row cc l) h p) = (ix5 b cc l h p) from funext fun a => Fin.ext (match a with
    | ⟨0, _⟩ => by show ((((b.val) * 2048 + (cc.val * 128 + l.val)) * 32 + (h.val)) * 64 + (p.val)) / 4194304 = b.val; omega
    | ⟨1, _⟩ => by show ((((b.val) * 2048 + (cc.val * 128 + l.val)) * 32 + (h.val)) * 64 + (p.val)) / 262144 % 16 = cc.val; omega
    | ⟨2, _⟩ => by show ((((b.val) * 2048 + (cc.val * 128 + l.val)) * 32 + (h.val)) * 64 + (p.val)) / 2048 % 128 = l.val; omega
    | ⟨3, _⟩ => by show ((((b.val) * 2048 + (cc.val * 128 + l.val)) * 32 + (h.val)) * 64 + (p.val)) / 64 % 32 = h.val; omega
    | ⟨4, _⟩ => by show ((((b.val) * 2048 + (cc.val * 128 + l.val)) * 32 + (h.val)) * 64 + (p.val)) % 64 = p.val; omega)))

theorem r245 (x6 : Vec Ideal S32 .f32) (h : Fin 32) :
    val_main_v245 (F := Ideal) x6 (ix2 h 0) = x6 (ix1 h) :=
  (val_main_v245_apply (F := Ideal) x6 _).trans (congrArg (x6) (show idx_main_v245 (ix2 h 0) = (ix1 h) from funext fun a => Fin.ext (match a with
    | ⟨0, _⟩ => by show (h.val) = h.val; omega)))

theorem r246 (x6 : Vec Ideal S32 .f32) (h : Fin 32) :
    val_main_v246 (F := Ideal) x6 (ix4 0 0 h 0) = val_main_v245 (F := Ideal) x6 (ix2 h 0) :=
  (val_main_v246_apply (F := Ideal) x6 _).trans (congrArg (val_main_v245 (F := Ideal) x6) (show idx_main_v246 (ix4 0 0 h 0) = (ix2 h 0) from funext fun a => Fin.ext (match a with
    | ⟨0, _⟩ => by show (h.val) = h.val; omega
    | ⟨1, _⟩ => by show 0 = 0; omega)))

theorem r247 (x6 : Vec Ideal S32 .f32) (b : Fin 8) (t : Fin 2048) (h : Fin 32) (p : Fin 64) :
    val_main_v247 (F := Ideal) x6 (ix4 b t h p) = val_main_v246 (F := Ideal) x6 (ix4 0 0 h 0) :=
  (val_main_v247_apply (F := Ideal) x6 _).trans (congrArg (val_main_v246 (F := Ideal) x6) (show idx_main_v247 (ix4 b t h p) = (ix4 0 0 h 0) from funext fun a => Fin.ext (match a with
    | ⟨0, _⟩ => by show 0 = 0; omega
    | ⟨1, _⟩ => by show 0 = 0; omega
    | ⟨2, _⟩ => by show (h.val) = h.val; omega
    | ⟨3, _⟩ => by show 0 = 0; omega)))

theorem r250 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (x6 : Vec Ideal S32 .f32) (b : Fin 8) (t : Fin 2048) (j : Fin 2048) :
    val_main_v250 (F := Ideal) x0 x1 x2 x3 x4 x5 x6 (ix3 b t j) = val_main_v249 (F := Ideal) x0 x1 x2 x3 x4 x5 x6 (ix4 b t (hd j) (pd j)) :=
  (val_main_v250_apply (F := Ideal) x0 x1 x2 x3 x4 x5 x6 _).trans (congrArg (val_main_v249 (F := Ideal) x0 x1 x2 x3 x4 x5 x6) (show idx_main_v250 (ix3 b t j) = (ix4 b t (hd j) (pd j)) from funext fun a => Fin.ext (match a with
    | ⟨0, _⟩ => by show (((b.val) * 2048 + (t.val)) * 2048 + (j.val)) / 4194304 = b.val; omega
    | ⟨1, _⟩ => by show (((b.val) * 2048 + (t.val)) * 2048 + (j.val)) / 2048 % 2048 = t.val; omega
    | ⟨2, _⟩ => by show (((b.val) * 2048 + (t.val)) * 2048 + (j.val)) / 64 % 32 = j.val / 64; omega
    | ⟨3, _⟩ => by show (((b.val) * 2048 + (t.val)) * 2048 + (j.val)) % 64 = j.val % 64; omega)))

theorem r0 (x0 : Vec Ideal S8x2048x6144 .bf16) (b : Fin 8) (t : Fin 2048) (j : Fin 2048) :
    val_main_v0 (F := Ideal) x0 (ix3 b t j) = x0 (ix3 b t (zc j)) :=
  (val_main_v0_apply (F := Ideal) x0 _).trans (congrArg (x0) (show idx_main_v0 (ix3 b t j) = (ix3 b t (zc j)) from funext fun a => Fin.ext (match a with
    | ⟨0, _⟩ => by show (b.val) = b.val; omega
    | ⟨1, _⟩ => by show (t.val) = t.val; omega
    | ⟨2, _⟩ => by show 4096 + (j.val) = 4096 + j.val; omega)))

theorem r253 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (x6 : Vec Ideal S32 .f32) (b : Fin 8) (t : Fin 2048) (g : Fin 4) (k : Fin 512) :
    val_main_v253 (F := Ideal) x0 x1 x2 x3 x4 x5 x6 (ix4 b t g k) = val_main_v252 (F := Ideal) x0 x1 x2 x3 x4 x5 x6 (ix3 b t (gcol g k)) :=
  (val_main_v253_apply (F := Ideal) x0 x1 x2 x3 x4 x5 x6 _).trans (congrArg (val_main_v252 (F := Ideal) x0 x1 x2 x3 x4 x5 x6) (show idx_main_v253 (ix4 b t g k) = (ix3 b t (gcol g k)) from funext fun a => Fin.ext (match a with
    | ⟨0, _⟩ => by show ((((b.val) * 2048 + (t.val)) * 4 + (g.val)) * 512 + (k.val)) / 4194304 = b.val; omega
    | ⟨1, _⟩ => by show ((((b.val) * 2048 + (t.val)) * 4 + (g.val)) * 512 + (k.val)) / 2048 % 2048 = t.val; omega
    | ⟨2, _⟩ => by show ((((b.val) * 2048 + (t.val)) * 4 + (g.val)) * 512 + (k.val)) % 2048 = 512 * g.val + k.val; omega)))

theorem r256 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (x6 : Vec Ideal S32 .f32) (b : Fin 8) (t : Fin 2048) (g : Fin 4) :
    val_main_v256 (F := Ideal) x0 x1 x2 x3 x4 x5 x6 (ix4 b t g 0) = val_main_v255 (F := Ideal) x0 x1 x2 x3 x4 x5 x6 (ix3 b t g) :=
  (val_main_v256_apply (F := Ideal) x0 x1 x2 x3 x4 x5 x6 _).trans (congrArg (val_main_v255 (F := Ideal) x0 x1 x2 x3 x4 x5 x6) (show idx_main_v256 (ix4 b t g 0) = (ix3 b t g) from funext fun a => Fin.ext (match a with
    | ⟨0, _⟩ => by show (b.val) = b.val; omega
    | ⟨1, _⟩ => by show (t.val) = t.val; omega
    | ⟨2, _⟩ => by show (g.val) = g.val; omega)))

theorem r262 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (x6 : Vec Ideal S32 .f32) (b : Fin 8) (t : Fin 2048) (g : Fin 4) (k : Fin 512) :
    val_main_v262 (F := Ideal) x0 x1 x2 x3 x4 x5 x6 (ix4 b t g k) = val_main_v261 (F := Ideal) x0 x1 x2 x3 x4 x5 x6 (ix4 b t g 0) :=
  (val_main_v262_apply (F := Ideal) x0 x1 x2 x3 x4 x5 x6 _).trans (congrArg (val_main_v261 (F := Ideal) x0 x1 x2 x3 x4 x5 x6) (show idx_main_v262 (ix4 b t g k) = (ix4 b t g 0) from funext fun a => Fin.ext (match a with
    | ⟨0, _⟩ => by show (b.val) = b.val; omega
    | ⟨1, _⟩ => by show (t.val) = t.val; omega
    | ⟨2, _⟩ => by show (g.val) = g.val; omega
    | ⟨3, _⟩ => by show 0 = 0; omega)))

theorem r264 (x0 : Vec Ideal S8x2048x6144 .bf16) (x1 : Vec Ideal S8x2048x128 .f32) (x2 : Vec Ideal S4x3072 .f32) (x3 : Vec Ideal S3072 .f32) (x4 : Vec Ideal S32 .f32) (x5 : Vec Ideal S32 .f32) (x6 : Vec Ideal S32 .f32) (b : Fin 8) (t : Fin 2048) (j : Fin 2048) :
    val_main_v264 (F := Ideal) x0 x1 x2 x3 x4 x5 x6 (ix3 b t j) = val_main_v263 (F := Ideal) x0 x1 x2 x3 x4 x5 x6 (ix4 b t (gr j) (kd j)) :=
  (val_main_v264_apply (F := Ideal) x0 x1 x2 x3 x4 x5 x6 _).trans (congrArg (val_main_v263 (F := Ideal) x0 x1 x2 x3 x4 x5 x6) (show idx_main_v264 (ix3 b t j) = (ix4 b t (gr j) (kd j)) from funext fun a => Fin.ext (match a with
    | ⟨0, _⟩ => by show (((b.val) * 2048 + (t.val)) * 2048 + (j.val)) / 4194304 = b.val; omega
    | ⟨1, _⟩ => by show (((b.val) * 2048 + (t.val)) * 2048 + (j.val)) / 2048 % 2048 = t.val; omega
    | ⟨2, _⟩ => by show (((b.val) * 2048 + (t.val)) * 2048 + (j.val)) / 512 % 4 = j.val / 512; omega
    | ⟨3, _⟩ => by show (((b.val) * 2048 + (t.val)) * 2048 + (j.val)) % 512 = j.val % 512; omega)))

theorem r265 (x7 : Vec Ideal S2048 .f32) (j : Fin 2048) :
    val_main_v265 (F := Ideal) x7 (ix3 0 0 j) = x7 (ix1 j) :=
  (val_main_v265_apply (F := Ideal) x7 _).trans (congrArg (x7) (show idx_main_v265 (ix3 0 0 j) = (ix1 j) from funext fun a => Fin.ext (match a with
    | ⟨0, _⟩ => by show (j.val) = j.val; omega)))

theorem r266 (x7 : Vec Ideal S2048 .f32) (b : Fin 8) (t : Fin 2048) (j : Fin 2048) :
    val_main_v266 (F := Ideal) x7 (ix3 b t j) = val_main_v265 (F := Ideal) x7 (ix3 0 0 j) :=
  (val_main_v266_apply (F := Ideal) x7 _).trans (congrArg (val_main_v265 (F := Ideal) x7) (show idx_main_v266 (ix3 b t j) = (ix3 0 0 j) from funext fun a => Fin.ext (match a with
    | ⟨0, _⟩ => by show 0 = 0; omega
    | ⟨1, _⟩ => by show 0 = 0; omega
    | ⟨2, _⟩ => by show (j.val) = j.val; omega)))

end SsdRef

end
-- ==== Proof.SsdRefA.lean ====
module

public import proofs.«01_k».proof.Proof.SsdRefB
public import proofs.«01_k».proof.Proof.Gen.ReferenceIdeal.Read

/-! The reference's first stages and its running sums, at an index. -/

@[expose] public section

set_option maxRecDepth 16384

noncomputable section

namespace SsdRef

open Cert.ReferenceIdeal Cert.ReferenceIdeal.Gen Cert.ReferenceIdeal.Read Idealize.ShloMosaic Idealize.ShloMosaic.TcCoe SsdSpec SsdBody

/-! ## Sums over a window -/

theorem fold_add {n : ℕ} (g : Fin n → EReal) (v : EReal) : (List.finRange n).foldl (fun r k => r + g k) v = v + ∑ k, g k := by
  rw [Fin.sum_univ_def]
  generalize List.finRange n = L
  induction L generalizing v with
  | nil => simp
  | cons x L ih => rw [List.foldl_cons, ih, List.map_cons, List.sum_cons, add_assoc]

abbrev WS : Shape := ⟨4, ![1, 1, 1, 128]⟩

theorem ws_numel : WS.numel = 128 := by decide +kernel
theorem ws_at : ∀ n : Fin WS.numel, (WS.rowMajor.symm n 3).val = n.val := by decide +kernel

theorem prefix_sum (f : Fin 128 → EReal) (l : Fin 128) :
    (∑ n : Fin WS.numel, if h : 127 ≤ l.val + n.val ∧ l.val + n.val - 127 < 128 then f ⟨l.val + n.val - 127, h.2⟩ else 0) =
      ∑ k : Fin 128, if k ≤ l then f k else 0 := by
  symm
  refine Fintype.sum_equiv ((Equiv.addRight (⟨127 - l.val, by omega⟩ : Fin 128)).trans (finCongr ws_numel.symm)) _ _ fun k => ?_
  have hv : (((Equiv.addRight (⟨127 - l.val, by omega⟩ : Fin 128)).trans (finCongr ws_numel.symm)) k).val = (k.val + (127 - l.val)) % 128 := rfl
  by_cases hk : k ≤ l
  · have hk' : k.val ≤ l.val := hk
    rw [if_pos hk, dif_pos (by rw [hv]; omega)]
    congr 1
    apply Fin.ext
    show k.val = l.val + _ - 127
    rw [hv]; omega
  · have hk' : ¬ k.val ≤ l.val := hk
    rw [if_neg hk, dif_neg (by rw [hv]; omega)]

theorem cumsum_at (x : Vec Ideal S8x16x32x128 .f32) (init : Vec Ideal S_ .f32) (hi : ∀ i, init i = (0 : EReal)) (h hu) (b : Fin 8) (cc : Fin 16) (hh : Fin 32) (l : Fin 128) :
    Host.reduceWindowAdd (F := Ideal) (φ := .f32) (s := S8x16x32x128) (t := S8x16x32x128) ![1, 1, 1, 128] ![1, 1, 1, 1] ![0, 0, 0, 127] ![0, 0, 0, 0] x init h hu (ix4 b cc hh l) =
      ∑ k : Fin 128, if k ≤ l then x (ix4 b cc hh k) else (0 : EReal) := by
  rw [← prefix_sum]
  refine Eq.trans (b := (0 : EReal) + _) ?_ (zero_add _)
  rw [← fold_add]
  unfold Host.reduceWindowAdd
  show Host.reduceWindow (s := S8x16x32x128) (t := S8x16x32x128) (fun (a b : EReal) => a + b) ![1, 1, 1, 128] ![1, 1, 1, 1] ![0, 0, 0, 127] ![0, 0, 0, 0] x (fun _ : (⟨0, ![]⟩ : Shape).Idx => init (Shape.Idx.first hu)) h (show 0 < (⟨0, ![]⟩ : Shape).numel by decide) (ix4 b cc hh l) = _
  unfold Host.reduceWindow
  simp only [hi]
  congr 1
  funext r n
  congr 1
  have h0 : (WS.rowMajor.symm n 0).val = 0 := by have : (WS.rowMajor.symm n 0).val < 1 := (WS.rowMajor.symm n 0).isLt; omega
  have h1 : (WS.rowMajor.symm n 1).val = 0 := by have : (WS.rowMajor.symm n 1).val < 1 := (WS.rowMajor.symm n 1).isLt; omega
  have h2 : (WS.rowMajor.symm n 2).val = 0 := by have : (WS.rowMajor.symm n 2).val < 1 := (WS.rowMajor.symm n 2).isLt; omega
  have h3 := ws_at n
  by_cases hc : 127 ≤ l.val + n.val ∧ l.val + n.val - 127 < 128
  · rw [dif_pos hc]
    refine (dif_pos (fun a => ?_)).trans (congrArg x (funext fun a => Fin.ext ?_))
    · match a with
      | ⟨0, _⟩ => show 0 ≤ b.val * 1 + (WS.rowMajor.symm n 0).val ∧ b.val * 1 + (WS.rowMajor.symm n 0).val - 0 < 8; omega
      | ⟨1, _⟩ => show 0 ≤ cc.val * 1 + (WS.rowMajor.symm n 1).val ∧ cc.val * 1 + (WS.rowMajor.symm n 1).val - 0 < 16; omega
      | ⟨2, _⟩ => show 0 ≤ hh.val * 1 + (WS.rowMajor.symm n 2).val ∧ hh.val * 1 + (WS.rowMajor.symm n 2).val - 0 < 32; omega
      | ⟨3, _⟩ => show 127 ≤ l.val * 1 + (WS.rowMajor.symm n 3).val ∧ l.val * 1 + (WS.rowMajor.symm n 3).val - 127 < 128; omega
    · match a with
      | ⟨0, _⟩ => show b.val * 1 + (WS.rowMajor.symm n 0).val - 0 = b.val; omega
      | ⟨1, _⟩ => show cc.val * 1 + (WS.rowMajor.symm n 1).val - 0 = cc.val; omega
      | ⟨2, _⟩ => show hh.val * 1 + (WS.rowMajor.symm n 2).val - 0 = hh.val; omega
      | ⟨3, _⟩ => show l.val * 1 + (WS.rowMajor.symm n 3).val - 127 = l.val + n.val - 127; omega
  · rw [dif_neg hc]
    refine dif_neg (fun hin => hc ?_)
    have := hin 3
    change 127 ≤ l.val * 1 + (WS.rowMajor.symm n 3).val ∧ l.val * 1 + (WS.rowMajor.symm n 3).val - 127 < 128 at this
    omega

/-! ## The stages -/

variable (x0 : Vec Ideal S8x2048x6144 .bf16) (x1 : Vec Ideal S8x2048x128 .f32) (x2 : Vec Ideal S4x3072 .f32) (x3 : Vec Ideal S3072 .f32)
    (x4 x5 x6 : Vec Ideal S32 .f32) (x7 : Vec Ideal S2048 .f32) (b : Fin 8)

theorem sitofp0 : (FloatOps.sitofp (F := Ideal) FTy.f32 (0#32) : EReal) = 0 := by
  show (((0#32 : BitVec 32).toInt : ℝ) : EReal) = 0
  simp

theorem pad_at (s : Fin 2051) (j : Fin 3072) :
    val_main_v4 (F := Ideal) x0 (ix3 b s j) = if s.val < 3 then 0 else (seqOf x0 x1 x2 x3 x4 x5 x6 x7 b).X j (s.val - 3) := by
  pointwise [val_main_v4, val_main_v3, val_main_v2, val_main_call0_v0, val_main_c]
  simp only [seqOf]
  by_cases h1 : s.val < 3
  · rw [if_pos h1]
    refine (dif_neg (by omega)).trans sitofp0
  · rw [if_neg h1, dif_pos (by omega : s.val - 3 < 2048)]
    refine (dif_pos (by omega)).trans (congrArg x0 (funext fun a => Fin.ext ?_))
    match a with
    | ⟨0, _⟩ => rfl
    | ⟨1, _⟩ => rfl
    | ⟨2, _⟩ => show j.val = 0 + j.val; omega

theorem glue (X : ℕ → EReal) (W : Fin 4 → EReal) (t : ℕ) (p0 p1 p2 p3 w0 w1 w2 w3 bb bb' : EReal) (h0 : p0 = if t < 3 then 0 else X (t - 3))
    (h1 : p1 = if 1 + t < 3 then 0 else X (1 + t - 3)) (h2 : p2 = if 2 + t < 3 then 0 else X (2 + t - 3)) (h3 : p3 = if 3 + t < 3 then 0 else X (3 + t - 3))
    (e0 : w0 = W 0) (e1 : w1 = W 1) (e2 : w2 = W 2) (e3 : w3 = W 3) (eb : bb = bb') :
    p0 * w0 + p1 * w1 + p2 * w2 + p3 * w3 + bb = conv3 X W t + bb' := by
  rw [conv3_eq, h0, h1, h2, h3, if_neg (by omega : ¬ 3 + t < 3), show 3 + t - 3 = t by omega, e0, e1, e2, e3, eb, Nat.add_comm t 1, Nat.add_comm t 2]

theorem v34_at (t : Fin 2048) (j : Fin 3072) :
    val_main_v34 (F := Ideal) x0 x2 x3 (ix3 b t j) = conv3 ((seqOf x0 x1 x2 x3 x4 x5 x6 x7 b).X j) ((seqOf x0 x1 x2 x3 x4 x5 x6 x7 b).W j) t.val + (seqOf x0 x1 x2 x3 x4 x5 x6 x7 b).B j := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  exact glue ((seqOf x0 x1 x2 x3 x4 x5 x6 x7 b).X j) ((seqOf x0 x1 x2 x3 x4 x5 x6 x7 b).W j) t.val _ _ _ _ _ _ _ _ _ _ (pad_at x0 x1 x2 x3 x4 x5 x6 x7 b _ j) (pad_at x0 x1 x2 x3 x4 x5 x6 x7 b _ j) (pad_at x0 x1 x2 x3 x4 x5 x6 x7 b _ j) (pad_at x0 x1 x2 x3 x4 x5 x6 x7 b _ j) rfl rfl rfl rfl rfl

theorem v35_at (t : Fin 2048) (j : Fin 3072) :
    val_main_v35 (F := Ideal) x0 x2 x3 (ix3 b t j) = actAt ((seqOf x0 x1 x2 x3 x4 x5 x6 x7 b).X j) ((seqOf x0 x1 x2 x3 x4 x5 x6 x7 b).W j) ((seqOf x0 x1 x2 x3 x4 x5 x6 x7 b).B j) t.val := by
  pointwise [val_main_v35, val_main_call1_v5, val_main_call1_v4, val_main_call1_v3, val_main_call1_v2, val_main_call1_v1, val_main_call1_v0, val_main_call1_cst, val_main_call1_cst_0]
  rw [v34_at x0 x1 x2 x3 x4 x5 x6 x7 b]
  rfl

theorem v35_row (cc : Fin 16) (l : Fin 128) (j : Fin 3072) : val_main_v35 (F := Ideal) x0 x2 x3 (ix3 b (row cc l) j) = (seqOf x0 x1 x2 x3 x4 x5 x6 x7 b).A cc.val l j := by
  rw [v35_at x0 x1 x2 x3 x4 x5 x6 x7 b]
  exact congrArg (actAt _ _ _) (show cc.val * 128 + l.val = 128 * cc.val + l.val by omega)

theorem v52_at (t : Fin 2048) (h : Fin 32) : val_main_v52 (F := Ideal) x1 x4 (ix3 b t h) = softp ((seqOf x0 x1 x2 x3 x4 x5 x6 x7 b).T h t.val + (seqOf x0 x1 x2 x3 x4 x5 x6 x7 b).tb h) := by
  pointwise [val_main_v52, val_main_v51, val_main_v50, val_main_v49, val_main_v48, val_main_call2_cst, val_main_call2_v0, val_main_call2_v1, val_main_call2_v2, val_main_call2_v3, val_main_call2_v4, val_main_call2_v5, val_main_call2_v6, val_main_call2_v7, val_main_call2_v8, val_main_call2_v9, val_main_call2_v10, val_main_call2_v11]
  rw [if_neg (fun h => h rfl)]
  simp only [seqOf]
  rw [dif_pos t.isLt, softp, zero_sub']
  rfl

theorem v52_row (cc : Fin 16) (l : Fin 128) (h : Fin 32) : val_main_v52 (F := Ideal) x1 x4 (ix3 b (row cc l) h) = (seqOf x0 x1 x2 x3 x4 x5 x6 x7 b).D cc.val l h := by
  rw [v52_at x0 x1 x2 x3 x4 x5 x6 x7 b]
  exact congrArg (fun t => softp ((seqOf x0 x1 x2 x3 x4 x5 x6 x7 b).T h t + (seqOf x0 x1 x2 x3 x4 x5 x6 x7 b).tb h)) (show cc.val * 128 + l.val = 128 * cc.val + l.val by omega)

theorem v54_at (h : Fin 32) : val_main_v54 (F := Ideal) x5 (ix1 h) = (seqOf x0 x1 x2 x3 x4 x5 x6 x7 b).a h := by
  pointwise [val_main_v54, val_main_v53]
  rfl

theorem v47_at (cc : Fin 16) (l : Fin 128) (h : Fin 32) (n : Fin 128) :
    val_main_v47 (F := Ideal) x0 x2 x3 (ix5 b cc l h n) = (seqOf x0 x1 x2 x3 x4 x5 x6 x7 b).A cc.val l (ccol (gh h) n) := by
  pointwise [val_main_v47, val_main_v46, val_main_v45, val_main_v44, val_main_v43]
  refine Eq.trans ?_ (v35_row x0 x1 x2 x3 x4 x5 x6 x7 b cc l _)
  congr 2
  apply Fin.ext; show 2560 + (h.val / 8 * 128 + n.val) = 2560 + (128 * (h.val / 8) + n.val); omega

theorem v42_at (cc : Fin 16) (l : Fin 128) (h : Fin 32) (n : Fin 128) :
    val_main_v42 (F := Ideal) x0 x2 x3 (ix5 b cc l h n) = (seqOf x0 x1 x2 x3 x4 x5 x6 x7 b).A cc.val l (bcol (gh h) n) := by
  pointwise [val_main_v42, val_main_v41, val_main_v40, val_main_v39, val_main_v38]
  refine Eq.trans ?_ (v35_row x0 x1 x2 x3 x4 x5 x6 x7 b cc l _)
  congr 2
  apply Fin.ext; show 2048 + (h.val / 8 * 128 + n.val) = 2048 + (128 * (h.val / 8) + n.val); omega

theorem v37_row (cc : Fin 16) (l : Fin 128) (h : Fin 32) (p : Fin 64) :
    val_main_v37 (F := Ideal) x0 x2 x3 (ix4 b (row cc l) h p) = (seqOf x0 x1 x2 x3 x4 x5 x6 x7 b).A cc.val l (xcol (jc h p)) := by
  pointwise [val_main_v37, val_main_v36]
  exact v35_row x0 x1 x2 x3 x4 x5 x6 x7 b cc l _

theorem v63_at (cc : Fin 16) (h : Fin 32) (l : Fin 128) :
    val_main_v63 (F := Ideal) x1 x4 x5 (ix4 b cc h l) = (seqOf x0 x1 x2 x3 x4 x5 x6 x7 b).D cc.val l h * (seqOf x0 x1 x2 x3 x4 x5 x6 x7 b).a h := by
  pointwise [val_main_v63, val_main_v62, val_main_v61, val_main_v60, val_main_v59]
  exact congrArg₂ (fun (a b : EReal) => a * b) (v52_row x0 x1 x2 x3 x4 x5 x6 x7 b cc l h) (v54_at x0 x1 x2 x3 x4 x5 x6 x7 b h)

theorem v64_at (cc : Fin 16) (h : Fin 32) (l : Fin 128) :
    val_main_v64 (F := Ideal) x1 x4 x5 (ix4 b cc h l) = cs ((seqOf x0 x1 x2 x3 x4 x5 x6 x7 b).D cc.val) (seqOf x0 x1 x2 x3 x4 x5 x6 x7 b).a l h := by
  unfold val_main_v64
  rw [cumsum_at _ _ (fun i => by rw [show i = ix0 from funext fun a => a.elim0]; pointwise [val_main_call3_call0_v0, val_main_call3_call0_cst])]
  refine Finset.sum_congr rfl fun k _ => ?_
  rw [v63_at x0 x1 x2 x3 x4 x5 x6 x7 b]

theorem causal (l s : Fin 128) (x y : EReal) : Scalar.select
        (Scalar.select (IntOp.cmpi CmpIPredicate.sge (IntOp.addi (BitVec.ofNat 32 ↑l) 0#32) (BitVec.ofNat 32 ↑s)) 1#1 0#1) x y =
      if s ≤ l then x else y := by
  have h : ∀ l s : Fin 128, Scalar.select (IntOp.cmpi CmpIPredicate.sge (IntOp.addi (BitVec.ofNat 32 ↑l) 0#32) (BitVec.ofNat 32 ↑s)) 1#1 0#1 =
      BitVec.ofBool (decide (s ≤ l)) := by
    decide +kernel
  rw [h]
  by_cases hj : s ≤ l <;> simp [Scalar.select, hj]

theorem v73_at (cc : Fin 16) (h : Fin 32) (l s : Fin 128) :
    val_main_v73 (F := Ideal) x1 x4 x5 (ix5 b cc h l s) =
      Ideal.exp (if s ≤ l then cs ((seqOf x0 x1 x2 x3 x4 x5 x6 x7 b).D cc.val) (seqOf x0 x1 x2 x3 x4 x5 x6 x7 b).a l h - cs ((seqOf x0 x1 x2 x3 x4 x5 x6 x7 b).D cc.val) (seqOf x0 x1 x2 x3 x4 x5 x6 x7 b).a s h else ⊥) := by
  pointwise [val_main_v73, val_main_v72, val_main_v71, val_main_v70, val_main_v69, val_main_v68, val_main_v67, val_main_v66, val_main_v65, val_main_c_0, val_main_cst, val_main_call4_v0, val_main_call4_c, val_main_call4_v1, val_main_call4_v2, val_main_call4_v3, val_main_call4_v4, val_main_call4_c_0, val_main_call4_v5, val_main_call5_v0, val_main_call5_v1, val_main_call5_v2]
  rw [causal, v64_at x0 x1 x2 x3 x4 x5 x6 x7 b, v64_at x0 x1 x2 x3 x4 x5 x6 x7 b]
  exact congrArg (fun w => Ideal.exp (if s ≤ l then _ else w)) neg_inf

end SsdRef

end
-- ==== Proof.SsdRefC.lean ====
module

public import proofs.«01_k».proof.Proof.SsdRefA
public import Idealize.ShloMosaic.Lib.Pipeline.ValueKit.Tiles
public import proofs.«01_k».proof.Proof.Gen.ReferenceIdeal.Read

/-! The reference's states, its gated output and its norm, at an index. -/

@[expose] public section

set_option maxRecDepth 16384

noncomputable section

namespace SsdRef

open Cert.ReferenceIdeal Cert.ReferenceIdeal.Gen Cert.ReferenceIdeal.Read Idealize.ShloMosaic Idealize.ShloMosaic.TcCoe SsdSpec SsdBody

variable (x0 : Vec Ideal S8x2048x6144 .bf16) (x1 : Vec Ideal S8x2048x128 .f32) (x2 : Vec Ideal S4x3072 .f32) (x3 : Vec Ideal S3072 .f32)
    (x4 x5 x6 : Vec Ideal S32 .f32) (x7 : Vec Ideal S2048 .f32) (b : Fin 8)

theorem v58_at (cc : Fin 16) (l : Fin 128) (h : Fin 32) (p : Fin 64) :
    val_main_v58 (F := Ideal) x0 x1 x2 x3 x4 (ix5 b cc l h p) = (seqOf x0 x1 x2 x3 x4 x5 x6 x7 b).A cc.val l (xcol (jc h p)) * (seqOf x0 x1 x2 x3 x4 x5 x6 x7 b).D cc.val l h := by
  rw [r58, val_main_v57_apply, r56, r55, v37_row x0 x1 x2 x3 x4 x5 x6 x7 b, v52_row x0 x1 x2 x3 x4 x5 x6 x7 b]
  rfl

theorem v77_at (cc : Fin 16) (l : Fin 128) (h : Fin 32) (p : Fin 64) :
    val_main_v77 (F := Ideal) x0 x1 x2 x3 x4 x5 (ix5 b cc l h p) = yDiag ((seqOf x0 x1 x2 x3 x4 x5 x6 x7 b).A cc.val) ((seqOf x0 x1 x2 x3 x4 x5 x6 x7 b).D cc.val) (seqOf x0 x1 x2 x3 x4 x5 x6 x7 b).a l (jc h p) := by
  rw [r77, r76]
  unfold yDiag
  rw [hd_jc, gr_jc]
  refine Finset.sum_congr rfl fun s _ => ?_
  rw [val_main_v75_apply, r74, v58_at x0 x1 x2 x3 x4 x5 x6 x7 b, v73_at x0 x1 x2 x3 x4 x5 x6 x7 b]
  refine (mul_comm _ _).trans (congrArg (fun u => u * _ * _) ?_)
  refine Finset.sum_congr rfl fun n _ => ?_
  rw [v47_at x0 x1 x2 x3 x4 x5 x6 x7 b, v42_at x0 x1 x2 x3 x4 x5 x6 x7 b]

theorem v86_at (cc : Fin 16) (h : Fin 32) (p : Fin 64) (n : Fin 128) :
    val_main_v86 (F := Ideal) x0 x1 x2 x3 x4 x5 (ix5 b cc h p n) = stAdd ((seqOf x0 x1 x2 x3 x4 x5 x6 x7 b).A cc.val) ((seqOf x0 x1 x2 x3 x4 x5 x6 x7 b).D cc.val) (seqOf x0 x1 x2 x3 x4 x5 x6 x7 b).a n (jc h p) := by
  rw [r86]
  unfold stAdd
  rw [hd_jc, gr_jc]
  refine Finset.sum_congr rfl fun s _ => ?_
  rw [val_main_v85_apply, v58_at x0 x1 x2 x3 x4 x5 x6 x7 b, v42_at x0 x1 x2 x3 x4 x5 x6 x7 b, r84, r83, r82, val_main_v81_apply, val_main_v80_apply, r79, r78, v64_at x0 x1 x2 x3 x4 x5 x6 x7 b, v64_at x0 x1 x2 x3 x4 x5 x6 x7 b]
  exact mul_comm _ _

theorem v89_at (cc : Fin 16) (h : Fin 32) :
    val_main_v89 (F := Ideal) x1 x4 x5 (ix3 b cc h) = Ideal.exp (cs ((seqOf x0 x1 x2 x3 x4 x5 x6 x7 b).D cc.val) (seqOf x0 x1 x2 x3 x4 x5 x6 x7 b).a 127 h) := by
  rw [val_main_v89_apply, r88, r87, v64_at x0 x1 x2 x3 x4 x5 x6 x7 b]
  rfl

theorem next_at (k : ℕ) (h : Fin 32) (p : Fin 64) (n : Fin 128) (s d w : EReal) (cc : Fin 16) (hc : cc.val = k) (es : s = (seqOf x0 x1 x2 x3 x4 x5 x6 x7 b).S k n (jc h p))
    (ed : d = Ideal.exp (cs ((seqOf x0 x1 x2 x3 x4 x5 x6 x7 b).D cc.val) (seqOf x0 x1 x2 x3 x4 x5 x6 x7 b).a 127 h)) (ew : w = stAdd ((seqOf x0 x1 x2 x3 x4 x5 x6 x7 b).A cc.val) ((seqOf x0 x1 x2 x3 x4 x5 x6 x7 b).D cc.val) (seqOf x0 x1 x2 x3 x4 x5 x6 x7 b).a n (jc h p)) :
    s * d + w = (seqOf x0 x1 x2 x3 x4 x5 x6 x7 b).S (k + 1) n (jc h p) := by
  subst hc
  rw [es, ed, ew]
  show _ = stNext _ _ _ _ n (jc h p)
  rw [stNext, hd_jc]
  rfl

theorem s0_at (h : Fin 32) (p : Fin 64) (n : Fin 128) : val_main_v90 (F := Ideal) (ix4 b h p n) = (seqOf x0 x1 x2 x3 x4 x5 x6 x7 b).S 0 n (jc h p) := by
  pointwise [val_main_v90, val_main_cst_1]
  rfl

theorem s1_at (h : Fin 32) (p : Fin 64) (n : Fin 128) : val_main_v98 (F := Ideal) x0 x1 x2 x3 x4 x5 (ix4 b h p n) = (seqOf x0 x1 x2 x3 x4 x5 x6 x7 b).S 1 n (jc h p) := by
  rw [val_main_v98_apply, val_main_v95_apply, r94, r93, r92, r91, r97, r96]
  exact next_at x0 x1 x2 x3 x4 x5 x6 x7 b 0 h p n _ _ _ 0 rfl (s0_at x0 x1 x2 x3 x4 x5 x6 x7 b h p n) (v89_at x0 x1 x2 x3 x4 x5 x6 x7 b 0 h) (v86_at x0 x1 x2 x3 x4 x5 x6 x7 b 0 h p n)

theorem s2_at (h : Fin 32) (p : Fin 64) (n : Fin 128) : val_main_v106 (F := Ideal) x0 x1 x2 x3 x4 x5 (ix4 b h p n) = (seqOf x0 x1 x2 x3 x4 x5 x6 x7 b).S 2 n (jc h p) := by
  rw [val_main_v106_apply, val_main_v103_apply, r102, r101, r100, r99, r105, r104]
  exact next_at x0 x1 x2 x3 x4 x5 x6 x7 b 1 h p n _ _ _ 1 rfl (s1_at x0 x1 x2 x3 x4 x5 x6 x7 b h p n) (v89_at x0 x1 x2 x3 x4 x5 x6 x7 b 1 h) (v86_at x0 x1 x2 x3 x4 x5 x6 x7 b 1 h p n)

theorem s3_at (h : Fin 32) (p : Fin 64) (n : Fin 128) : val_main_v114 (F := Ideal) x0 x1 x2 x3 x4 x5 (ix4 b h p n) = (seqOf x0 x1 x2 x3 x4 x5 x6 x7 b).S 3 n (jc h p) := by
  rw [val_main_v114_apply, val_main_v111_apply, r110, r109, r108, r107, r113, r112]
  exact next_at x0 x1 x2 x3 x4 x5 x6 x7 b 2 h p n _ _ _ 2 rfl (s2_at x0 x1 x2 x3 x4 x5 x6 x7 b h p n) (v89_at x0 x1 x2 x3 x4 x5 x6 x7 b 2 h) (v86_at x0 x1 x2 x3 x4 x5 x6 x7 b 2 h p n)

theorem s4_at (h : Fin 32) (p : Fin 64) (n : Fin 128) : val_main_v122 (F := Ideal) x0 x1 x2 x3 x4 x5 (ix4 b h p n) = (seqOf x0 x1 x2 x3 x4 x5 x6 x7 b).S 4 n (jc h p) := by
  rw [val_main_v122_apply, val_main_v119_apply, r118, r117, r116, r115, r121, r120]
  exact next_at x0 x1 x2 x3 x4 x5 x6 x7 b 3 h p n _ _ _ 3 rfl (s3_at x0 x1 x2 x3 x4 x5 x6 x7 b h p n) (v89_at x0 x1 x2 x3 x4 x5 x6 x7 b 3 h) (v86_at x0 x1 x2 x3 x4 x5 x6 x7 b 3 h p n)

theorem s5_at (h : Fin 32) (p : Fin 64) (n : Fin 128) : val_main_v130 (F := Ideal) x0 x1 x2 x3 x4 x5 (ix4 b h p n) = (seqOf x0 x1 x2 x3 x4 x5 x6 x7 b).S 5 n (jc h p) := by
  rw [val_main_v130_apply, val_main_v127_apply, r126, r125, r124, r123, r129, r128]
  exact next_at x0 x1 x2 x3 x4 x5 x6 x7 b 4 h p n _ _ _ 4 rfl (s4_at x0 x1 x2 x3 x4 x5 x6 x7 b h p n) (v89_at x0 x1 x2 x3 x4 x5 x6 x7 b 4 h) (v86_at x0 x1 x2 x3 x4 x5 x6 x7 b 4 h p n)

theorem s6_at (h : Fin 32) (p : Fin 64) (n : Fin 128) : val_main_v138 (F := Ideal) x0 x1 x2 x3 x4 x5 (ix4 b h p n) = (seqOf x0 x1 x2 x3 x4 x5 x6 x7 b).S 6 n (jc h p) := by
  rw [val_main_v138_apply, val_main_v135_apply, r134, r133, r132, r131, r137, r136]
  exact next_at x0 x1 x2 x3 x4 x5 x6 x7 b 5 h p n _ _ _ 5 rfl (s5_at x0 x1 x2 x3 x4 x5 x6 x7 b h p n) (v89_at x0 x1 x2 x3 x4 x5 x6 x7 b 5 h) (v86_at x0 x1 x2 x3 x4 x5 x6 x7 b 5 h p n)

theorem s7_at (h : Fin 32) (p : Fin 64) (n : Fin 128) : val_main_v146 (F := Ideal) x0 x1 x2 x3 x4 x5 (ix4 b h p n) = (seqOf x0 x1 x2 x3 x4 x5 x6 x7 b).S 7 n (jc h p) := by
  rw [val_main_v146_apply, val_main_v143_apply, r142, r141, r140, r139, r145, r144]
  exact next_at x0 x1 x2 x3 x4 x5 x6 x7 b 6 h p n _ _ _ 6 rfl (s6_at x0 x1 x2 x3 x4 x5 x6 x7 b h p n) (v89_at x0 x1 x2 x3 x4 x5 x6 x7 b 6 h) (v86_at x0 x1 x2 x3 x4 x5 x6 x7 b 6 h p n)

theorem s8_at (h : Fin 32) (p : Fin 64) (n : Fin 128) : val_main_v154 (F := Ideal) x0 x1 x2 x3 x4 x5 (ix4 b h p n) = (seqOf x0 x1 x2 x3 x4 x5 x6 x7 b).S 8 n (jc h p) := by
  rw [val_main_v154_apply, val_main_v151_apply, r150, r149, r148, r147, r153, r152]
  exact next_at x0 x1 x2 x3 x4 x5 x6 x7 b 7 h p n _ _ _ 7 rfl (s7_at x0 x1 x2 x3 x4 x5 x6 x7 b h p n) (v89_at x0 x1 x2 x3 x4 x5 x6 x7 b 7 h) (v86_at x0 x1 x2 x3 x4 x5 x6 x7 b 7 h p n)

theorem s9_at (h : Fin 32) (p : Fin 64) (n : Fin 128) : val_main_v162 (F := Ideal) x0 x1 x2 x3 x4 x5 (ix4 b h p n) = (seqOf x0 x1 x2 x3 x4 x5 x6 x7 b).S 9 n (jc h p) := by
  rw [val_main_v162_apply, val_main_v159_apply, r158, r157, r156, r155, r161, r160]
  exact next_at x0 x1 x2 x3 x4 x5 x6 x7 b 8 h p n _ _ _ 8 rfl (s8_at x0 x1 x2 x3 x4 x5 x6 x7 b h p n) (v89_at x0 x1 x2 x3 x4 x5 x6 x7 b 8 h) (v86_at x0 x1 x2 x3 x4 x5 x6 x7 b 8 h p n)

theorem s10_at (h : Fin 32) (p : Fin 64) (n : Fin 128) : val_main_v170 (F := Ideal) x0 x1 x2 x3 x4 x5 (ix4 b h p n) = (seqOf x0 x1 x2 x3 x4 x5 x6 x7 b).S 10 n (jc h p) := by
  rw [val_main_v170_apply, val_main_v167_apply, r166, r165, r164, r163, r169, r168]
  exact next_at x0 x1 x2 x3 x4 x5 x6 x7 b 9 h p n _ _ _ 9 rfl (s9_at x0 x1 x2 x3 x4 x5 x6 x7 b h p n) (v89_at x0 x1 x2 x3 x4 x5 x6 x7 b 9 h) (v86_at x0 x1 x2 x3 x4 x5 x6 x7 b 9 h p n)

theorem s11_at (h : Fin 32) (p : Fin 64) (n : Fin 128) : val_main_v178 (F := Ideal) x0 x1 x2 x3 x4 x5 (ix4 b h p n) = (seqOf x0 x1 x2 x3 x4 x5 x6 x7 b).S 11 n (jc h p) := by
  rw [val_main_v178_apply, val_main_v175_apply, r174, r173, r172, r171, r177, r176]
  exact next_at x0 x1 x2 x3 x4 x5 x6 x7 b 10 h p n _ _ _ 10 rfl (s10_at x0 x1 x2 x3 x4 x5 x6 x7 b h p n) (v89_at x0 x1 x2 x3 x4 x5 x6 x7 b 10 h) (v86_at x0 x1 x2 x3 x4 x5 x6 x7 b 10 h p n)

theorem s12_at (h : Fin 32) (p : Fin 64) (n : Fin 128) : val_main_v186 (F := Ideal) x0 x1 x2 x3 x4 x5 (ix4 b h p n) = (seqOf x0 x1 x2 x3 x4 x5 x6 x7 b).S 12 n (jc h p) := by
  rw [val_main_v186_apply, val_main_v183_apply, r182, r181, r180, r179, r185, r184]
  exact next_at x0 x1 x2 x3 x4 x5 x6 x7 b 11 h p n _ _ _ 11 rfl (s11_at x0 x1 x2 x3 x4 x5 x6 x7 b h p n) (v89_at x0 x1 x2 x3 x4 x5 x6 x7 b 11 h) (v86_at x0 x1 x2 x3 x4 x5 x6 x7 b 11 h p n)

theorem s13_at (h : Fin 32) (p : Fin 64) (n : Fin 128) : val_main_v194 (F := Ideal) x0 x1 x2 x3 x4 x5 (ix4 b h p n) = (seqOf x0 x1 x2 x3 x4 x5 x6 x7 b).S 13 n (jc h p) := by
  rw [val_main_v194_apply, val_main_v191_apply, r190, r189, r188, r187, r193, r192]
  exact next_at x0 x1 x2 x3 x4 x5 x6 x7 b 12 h p n _ _ _ 12 rfl (s12_at x0 x1 x2 x3 x4 x5 x6 x7 b h p n) (v89_at x0 x1 x2 x3 x4 x5 x6 x7 b 12 h) (v86_at x0 x1 x2 x3 x4 x5 x6 x7 b 12 h p n)

theorem s14_at (h : Fin 32) (p : Fin 64) (n : Fin 128) : val_main_v202 (F := Ideal) x0 x1 x2 x3 x4 x5 (ix4 b h p n) = (seqOf x0 x1 x2 x3 x4 x5 x6 x7 b).S 14 n (jc h p) := by
  rw [val_main_v202_apply, val_main_v199_apply, r198, r197, r196, r195, r201, r200]
  exact next_at x0 x1 x2 x3 x4 x5 x6 x7 b 13 h p n _ _ _ 13 rfl (s13_at x0 x1 x2 x3 x4 x5 x6 x7 b h p n) (v89_at x0 x1 x2 x3 x4 x5 x6 x7 b 13 h) (v86_at x0 x1 x2 x3 x4 x5 x6 x7 b 13 h p n)

theorem s15_at (h : Fin 32) (p : Fin 64) (n : Fin 128) : val_main_v210 (F := Ideal) x0 x1 x2 x3 x4 x5 (ix4 b h p n) = (seqOf x0 x1 x2 x3 x4 x5 x6 x7 b).S 15 n (jc h p) := by
  rw [val_main_v210_apply, val_main_v207_apply, r206, r205, r204, r203, r209, r208]
  exact next_at x0 x1 x2 x3 x4 x5 x6 x7 b 14 h p n _ _ _ 14 rfl (s14_at x0 x1 x2 x3 x4 x5 x6 x7 b h p n) (v89_at x0 x1 x2 x3 x4 x5 x6 x7 b 14 h) (v86_at x0 x1 x2 x3 x4 x5 x6 x7 b 14 h p n)

theorem piece (cc : Fin 16) (h : Fin 32) (p : Fin 64) (n : Fin 128) (f : S8x1x32x64x128.Idx → EReal) (k : ℕ) (v : ℕ → EReal)
    (hf : f (ix5 b 0 h p n) = v k) :
    PieceAt (t := S8x16x32x64x128) 1 (ix5 b cc h p n) (v cc.val) S8x1x32x64x128 f k := by
  intro hk hr i h0 hb
  have hi : i = ix5 b 0 h p n := funext fun a => Fin.ext (match a with
    | ⟨0, _⟩ => hb 0 (by decide)
    | ⟨1, _⟩ => h0
    | ⟨2, _⟩ => hb 2 (by decide)
    | ⟨3, _⟩ => hb 3 (by decide)
    | ⟨4, _⟩ => hb 4 (by decide))
  rw [hi, hf]
  exact congrArg v hk.symm

theorem v235_at (cc : Fin 16) (h : Fin 32) (p : Fin 64) (n : Fin 128) :
    val_main_v235 (F := Ideal) x0 x1 x2 x3 x4 x5 (ix5 b cc h p n) = (seqOf x0 x1 x2 x3 x4 x5 x6 x7 b).S cc.val n (jc h p) := by
  unfold val_main_v235
  refine concatenate_unit_eq 1 _ _ _ _ rfl ⟨piece b cc h p n _ 0 (fun c => (seqOf x0 x1 x2 x3 x4 x5 x6 x7 b).S c n (jc h p)) ((r219 b h p n).trans (s0_at x0 x1 x2 x3 x4 x5 x6 x7 b h p n)), piece b cc h p n _ 1 (fun c => (seqOf x0 x1 x2 x3 x4 x5 x6 x7 b).S c n (jc h p)) ((r220 x0 x1 x2 x3 x4 x5 b h p n).trans (s1_at x0 x1 x2 x3 x4 x5 x6 x7 b h p n)), piece b cc h p n _ 2 (fun c => (seqOf x0 x1 x2 x3 x4 x5 x6 x7 b).S c n (jc h p)) ((r221 x0 x1 x2 x3 x4 x5 b h p n).trans (s2_at x0 x1 x2 x3 x4 x5 x6 x7 b h p n)), piece b cc h p n _ 3 (fun c => (seqOf x0 x1 x2 x3 x4 x5 x6 x7 b).S c n (jc h p)) ((r222 x0 x1 x2 x3 x4 x5 b h p n).trans (s3_at x0 x1 x2 x3 x4 x5 x6 x7 b h p n)), piece b cc h p n _ 4 (fun c => (seqOf x0 x1 x2 x3 x4 x5 x6 x7 b).S c n (jc h p)) ((r223 x0 x1 x2 x3 x4 x5 b h p n).trans (s4_at x0 x1 x2 x3 x4 x5 x6 x7 b h p n)), piece b cc h p n _ 5 (fun c => (seqOf x0 x1 x2 x3 x4 x5 x6 x7 b).S c n (jc h p)) ((r224 x0 x1 x2 x3 x4 x5 b h p n).trans (s5_at x0 x1 x2 x3 x4 x5 x6 x7 b h p n)), piece b cc h p n _ 6 (fun c => (seqOf x0 x1 x2 x3 x4 x5 x6 x7 b).S c n (jc h p)) ((r225 x0 x1 x2 x3 x4 x5 b h p n).trans (s6_at x0 x1 x2 x3 x4 x5 x6 x7 b h p n)), piece b cc h p n _ 7 (fun c => (seqOf x0 x1 x2 x3 x4 x5 x6 x7 b).S c n (jc h p)) ((r226 x0 x1 x2 x3 x4 x5 b h p n).trans (s7_at x0 x1 x2 x3 x4 x5 x6 x7 b h p n)), piece b cc h p n _ 8 (fun c => (seqOf x0 x1 x2 x3 x4 x5 x6 x7 b).S c n (jc h p)) ((r227 x0 x1 x2 x3 x4 x5 b h p n).trans (s8_at x0 x1 x2 x3 x4 x5 x6 x7 b h p n)), piece b cc h p n _ 9 (fun c => (seqOf x0 x1 x2 x3 x4 x5 x6 x7 b).S c n (jc h p)) ((r228 x0 x1 x2 x3 x4 x5 b h p n).trans (s9_at x0 x1 x2 x3 x4 x5 x6 x7 b h p n)), piece b cc h p n _ 10 (fun c => (seqOf x0 x1 x2 x3 x4 x5 x6 x7 b).S c n (jc h p)) ((r229 x0 x1 x2 x3 x4 x5 b h p n).trans (s10_at x0 x1 x2 x3 x4 x5 x6 x7 b h p n)), piece b cc h p n _ 11 (fun c => (seqOf x0 x1 x2 x3 x4 x5 x6 x7 b).S c n (jc h p)) ((r230 x0 x1 x2 x3 x4 x5 b h p n).trans (s11_at x0 x1 x2 x3 x4 x5 x6 x7 b h p n)), piece b cc h p n _ 12 (fun c => (seqOf x0 x1 x2 x3 x4 x5 x6 x7 b).S c n (jc h p)) ((r231 x0 x1 x2 x3 x4 x5 b h p n).trans (s12_at x0 x1 x2 x3 x4 x5 x6 x7 b h p n)), piece b cc h p n _ 13 (fun c => (seqOf x0 x1 x2 x3 x4 x5 x6 x7 b).S c n (jc h p)) ((r232 x0 x1 x2 x3 x4 x5 b h p n).trans (s13_at x0 x1 x2 x3 x4 x5 x6 x7 b h p n)), piece b cc h p n _ 14 (fun c => (seqOf x0 x1 x2 x3 x4 x5 x6 x7 b).S c n (jc h p)) ((r233 x0 x1 x2 x3 x4 x5 b h p n).trans (s14_at x0 x1 x2 x3 x4 x5 x6 x7 b h p n)), piece b cc h p n _ 15 (fun c => (seqOf x0 x1 x2 x3 x4 x5 x6 x7 b).S c n (jc h p)) ((r234 x0 x1 x2 x3 x4 x5 b h p n).trans (s15_at x0 x1 x2 x3 x4 x5 x6 x7 b h p n)), trivial⟩

theorem v243_at (cc : Fin 16) (l : Fin 128) (h : Fin 32) (p : Fin 64) :
    val_main_v243 (F := Ideal) x0 x1 x2 x3 x4 x5 (ix5 b cc l h p) = yAll ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) l (jc h p) := by
  rw [val_main_v243_apply, val_main_v242_apply, v77_at x0 x1 x2 x3 x4 x5 x6 x7 b, r237, r236, r241, r240, r239, val_main_v238_apply, v64_at x0 x1 x2 x3 x4 x5 x6 x7 b]
  unfold yAll
  rw [hd_jc, gr_jc]
  refine congrArg (fun u => _ + u * _) (Finset.sum_congr rfl fun n _ => ?_)
  rw [v235_at x0 x1 x2 x3 x4 x5 x6 x7 b, v47_at x0 x1 x2 x3 x4 x5 x6 x7 b, mul_comm]

theorem v249_at (cc : Fin 16) (l : Fin 128) (h : Fin 32) (p : Fin 64) :
    val_main_v249 (F := Ideal) x0 x1 x2 x3 x4 x5 x6 (ix4 b (row cc l) h p) =
      yAll ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) l (jc h p) + (seqOf x0 x1 x2 x3 x4 x5 x6 x7 b).A cc.val l (xcol (jc h p)) * (seqOf x0 x1 x2 x3 x4 x5 x6 x7 b).sk h := by
  rw [val_main_v249_apply, r244, v243_at x0 x1 x2 x3 x4 x5 x6 x7 b, val_main_v248_apply, v37_row x0 x1 x2 x3 x4 x5 x6 x7 b, r247, r246, r245]
  rfl

theorem v250_at (cc : Fin 16) (l : Fin 128) (j : Fin 2048) :
    val_main_v250 (F := Ideal) x0 x1 x2 x3 x4 x5 x6 (ix3 b (row cc l) j) =
      yAll ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) l j + (seqOf x0 x1 x2 x3 x4 x5 x6 x7 b).A cc.val l (xcol j) * (seqOf x0 x1 x2 x3 x4 x5 x6 x7 b).sk (hd j) := by
  rw [r250, v249_at x0 x1 x2 x3 x4 x5 x6 x7 b, jc_hd]

theorem v0_row (cc : Fin 16) (l : Fin 128) (j : Fin 2048) : val_main_v0 (F := Ideal) x0 (ix3 b (row cc l) j) = (seqOf x0 x1 x2 x3 x4 x5 x6 x7 b).z cc.val l j := by
  rw [r0]
  unfold Seq.z
  simp only [seqOf]
  rw [dif_pos (by omega : 128 * cc.val + l.val < 2048)]
  refine congrArg x0 (funext fun a => Fin.ext ?_)
  match a with
  | ⟨0, _⟩ => rfl
  | ⟨1, _⟩ => show cc.val * 128 + l.val = 128 * cc.val + l.val; omega
  | ⟨2, _⟩ => rfl

theorem v251_at (cc : Fin 16) (l : Fin 128) (j : Fin 2048) :
    val_main_v251 (F := Ideal) x0 (ix3 b (row cc l) j) = (seqOf x0 x1 x2 x3 x4 x5 x6 x7 b).z cc.val l j * Ideal.logistic ((seqOf x0 x1 x2 x3 x4 x5 x6 x7 b).z cc.val l j) := by
  pointwise [val_main_v251, val_main_call6_v5, val_main_call6_v4, val_main_call6_v3, val_main_call6_v2, val_main_call6_v1, val_main_call6_v0, val_main_call6_cst, val_main_call6_cst_0, val_main_v1]
  rw [v0_row x0 x1 x2 x3 x4 x5 x6 x7 b]
  rfl

theorem v252_at (cc : Fin 16) (l : Fin 128) (j : Fin 2048) :
    val_main_v252 (F := Ideal) x0 x1 x2 x3 x4 x5 x6 (ix3 b (row cc l) j) =
      gate ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) (seqOf x0 x1 x2 x3 x4 x5 x6 x7 b).sk ((seqOf x0 x1 x2 x3 x4 x5 x6 x7 b).z cc.val) l j := by
  rw [val_main_v252_apply, v250_at x0 x1 x2 x3 x4 x5 x6 x7 b, v251_at x0 x1 x2 x3 x4 x5 x6 x7 b]
  rfl

theorem v254_at (cc : Fin 16) (l : Fin 128) (g : Fin 4) (k : Fin 512) :
    val_main_v254 (F := Ideal) x0 x1 x2 x3 x4 x5 x6 (ix4 b (row cc l) g k) =
      gate ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) (seqOf x0 x1 x2 x3 x4 x5 x6 x7 b).sk ((seqOf x0 x1 x2 x3 x4 x5 x6 x7 b).z cc.val) l (gcol g k) *
        gate ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) (seqOf x0 x1 x2 x3 x4 x5 x6 x7 b).sk ((seqOf x0 x1 x2 x3 x4 x5 x6 x7 b).z cc.val) l (gcol g k) := by
  rw [val_main_v254_apply, r253, v252_at x0 x1 x2 x3 x4 x5 x6 x7 b]
  rfl

theorem zero_init (i : S_.Idx) : val_main_cst_2 (F := Ideal) i = (0 : EReal) := by
  rw [show i = ix0 from funext fun a => a.elim0]
  pointwise [val_main_cst_2]

theorem v255_at (cc : Fin 16) (l : Fin 128) (g : Fin 4) :
    val_main_v255 (F := Ideal) x0 x1 x2 x3 x4 x5 x6 (ix3 b (row cc l) g) =
      ∑ k : Fin 512, gate ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) (seqOf x0 x1 x2 x3 x4 x5 x6 x7 b).sk ((seqOf x0 x1 x2 x3 x4 x5 x6 x7 b).z cc.val) l (gcol g k) *
        gate ((seqOf x0 x1 x2 x3 x4 x5 x6 x7 b).A cc.val) ((seqOf x0 x1 x2 x3 x4 x5 x6 x7 b).D cc.val) (seqOf x0 x1 x2 x3 x4 x5 x6 x7 b).a ((seqOf x0 x1 x2 x3 x4 x5 x6 x7 b).S cc.val) (seqOf x0 x1 x2 x3 x4 x5 x6 x7 b).sk ((seqOf x0 x1 x2 x3 x4 x5 x6 x7 b).z cc.val) l (gcol g k) := by
  rw [val_main_v255_apply, zero_init, zero_add]
  refine Finset.sum_congr rfl fun k _ => ?_
  rw [show idx_main_v255 (ix3 b (row cc l) g) k = ix4 b (row cc l) g k from funext fun a => match a with
    | ⟨0, _⟩ => rfl
    | ⟨1, _⟩ => rfl
    | ⟨2, _⟩ => rfl
    | ⟨3, _⟩ => rfl]
  exact v254_at x0 x1 x2 x3 x4 x5 x6 x7 b cc l g k

theorem c257 (t : Fin 2048) (g : Fin 4) : val_main_v257 (F := Ideal) (ix4 b t g 0) = Ideal.ofBits .f32 0x44000000#32 := by
  pointwise [val_main_v257, val_main_cst_3]

theorem c259 (t : Fin 2048) (g : Fin 4) : val_main_v259 (F := Ideal) (ix4 b t g 0) = Ideal.ofBits .f32 0x358637BD#32 := by
  pointwise [val_main_v259, val_main_cst_4]

theorem v268_row (cc : Fin 16) (l : Fin 128) (j : Fin 2048) :
    val_main_v268 (F := Ideal) x0 x1 x2 x3 x4 x5 x6 x7 (ix3 b (row cc l) j) = (seqOf x0 x1 x2 x3 x4 x5 x6 x7 b).out cc.val l j := by
  rw [val_main_v268_apply, val_main_v267_apply, r266, r265, r264, val_main_v263_apply, r253, gcol_gr, v252_at x0 x1 x2 x3 x4 x5 x6 x7 b, r262, val_main_v261_apply, val_main_v260_apply,
    c259, val_main_v258_apply, c257, r256, v255_at x0 x1 x2 x3 x4 x5 x6 x7 b]
  rfl

theorem v268_at (t j : Fin 2048) :
    val_main_v268 (F := Ideal) x0 x1 x2 x3 x4 x5 x6 x7 (ix3 b t j) = (seqOf x0 x1 x2 x3 x4 x5 x6 x7 b).out (t.val / 128) ⟨t.val % 128, Nat.mod_lt _ (by decide)⟩ j := by
  have h := v268_row x0 x1 x2 x3 x4 x5 x6 x7 b ⟨t.val / 128, by omega⟩ ⟨t.val % 128, Nat.mod_lt _ (by decide)⟩ j
  rw [show row ⟨t.val / 128, by omega⟩ ⟨t.val % 128, Nat.mod_lt _ (by decide)⟩ = t from Fin.ext (show t.val / 128 * 128 + t.val % 128 = t.val by omega)] at h
  exact h

end SsdRef

end
-- ==== Proof.SsdClaims.lean ====
module

public import proofs.«01_k».proof.Defs
public import proofs.«01_k».proof.Proof.SsdRefC
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

/-! The five claims about the state space call. -/

@[expose] public section

set_option maxRecDepth 16384

noncomputable section

open Idealize.ShloMosaic Idealize.ShloMosaic.TcCoe Idealize.SL.Sem SsdBody

namespace SsdClaims

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "log2e" .f32 0x3FB8AA3B#32 (((Real.log 2)⁻¹ : ℝ) : EReal) rfl

variable (m : (ℓ : Loc Cert.KernelIdeal.nD Cert.KernelIdeal.τ Cert.KernelIdeal.sig) → Buf (Elt Ideal) ℓ) (c : Dev Cert.KernelIdeal.nD)

/-- The gated output is the reference's, as whole arrays. -/
theorem out_eq : Cert.ReferenceIdeal.Read.val_main_v268 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) (m ((c : Thread Cert.KernelIdeal.nD Cert.KernelIdeal.τ).loc Cert.KernelIdeal.main_arg7)) =
    (Cert.KernelIdeal.Value.G11 m c : Vec Ideal Cert.KernelIdeal.S8x2048x2048 .bf16) := by
  funext i
  have hi : i = ix3 (i 0 : Fin 8) (i 1 : Fin 2048) (i 2 : Fin 2048) := funext fun a => match a with
    | ⟨0, _⟩ => rfl
    | ⟨1, _⟩ => rfl
    | ⟨2, _⟩ => rfl
  rw [hi]
  exact (SsdRef.v268_at _ _ _ _ _ _ _ _ _ _ _).trans (G11_at m c _ _ _).symm

theorem gate_eq : Cert.ReferenceIdeal.Read.val_main_v270 (F := Ideal)
      (m ((c : Thread Cert.KernelIdeal.nD Cert.KernelIdeal.τ).loc Cert.KernelIdeal.main_arg8)) =
    (Cert.KernelIdeal.Value.G12 m c : Vec Ideal Cert.KernelIdeal.S65536x1024 .bf16) := by
  funext i
  have hi : i = ix2 (i 0 : Fin 65536) (i 1 : Fin 1024) := funext fun a => match a with
    | ⟨0, _⟩ => rfl
    | ⟨1, _⟩ => rfl
  rw [hi]
  exact (G12_at m c _ _).symm

theorem up_eq : Cert.ReferenceIdeal.Read.val_main_v272 (F := Ideal)
      (m ((c : Thread Cert.KernelIdeal.nD Cert.KernelIdeal.τ).loc Cert.KernelIdeal.main_arg9)) =
    (Cert.KernelIdeal.Value.G13 m c : Vec Ideal Cert.KernelIdeal.S65536x1024 .bf16) := by
  funext i
  have hi : i = ix2 (i 0 : Fin 65536) (i 1 : Fin 1024) := funext fun a => match a with
    | ⟨0, _⟩ => rfl
    | ⟨1, _⟩ => rfl
  rw [hi]
  exact (G13_at m c _ _).symm

theorem algebraic : Cert.algebraic_KernelIdeal_ReferenceIdeal := by
  intro m ρ m' ρ' _ hagree
  refine ⟨_, _, _, Cert.KernelIdeal.Value.run (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v268_eq _).trans ?_
    obtain ⟨h0, h1, h2, h3, h4, h5, h6, h7, h8, h9⟩ := hagree c
    rw [StableHlo.launchContents_devRef, StableHlo.launchContents_devRef, StableHlo.launchContents_devRef, StableHlo.launchContents_devRef,
      StableHlo.launchContents_devRef, StableHlo.launchContents_devRef, StableHlo.launchContents_devRef, StableHlo.launchContents_devRef,
      h0, h1, h2, h3, h4, h5, h6, h7]
    exact out_eq m c
  · refine (Cert.ReferenceIdeal.Read.val_main_v270_eq _).trans ?_
    obtain ⟨h0, h1, h2, h3, h4, h5, h6, h7, h8, h9⟩ := hagree c
    rw [StableHlo.launchContents_devRef, h8]
    exact gate_eq m c
  · refine (Cert.ReferenceIdeal.Read.val_main_v272_eq _).trans ?_
    obtain ⟨h0, h1, h2, h3, h4, h5, h6, h7, h8, h9⟩ := hagree c
    rw [StableHlo.launchContents_devRef, h9]
    exact up_eq m c

end SsdClaims

end
-- ==== Proof.InProj.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.StableHlo.RunRead
public import Idealize.ShloMosaic.Lib.Pointwise
public import Idealize.ShloMosaic.Lib.WholeRead
public import Idealize.ShloMosaic.Lib.Pipeline.ValueKit.Basic

/-! The input projection without its first columns: each tile of 1024 columns is four products of 256 columns,
stored in the order in which the later calls read them; beside it, the output projection's weights cast. -/

@[expose] public section

set_option maxRecDepth 16384

noncomputable section

namespace InProj

open Cert.Kernel2Ideal Cert.Kernel2Ideal.Gen Cert.Kernel2Ideal.Value Idealize.ShloMosaic Idealize.ShloMosaic.TcCoe Idealize.SL.Sem

/-- Loading a rectangle of a whole buffer. -/
theorem ld2 {a b a' b' p q : ℕ} {e : EltTy} {m : Memref sig .tc .vmem ⟨2, ![a, b]⟩ e} (h : m.IsWhole)
    (X : (⟨2, ![a, b]⟩ : Shape).Idx → Elt Ideal e) (inb) (l : Fin a') (j : Fin b') (l' : Fin a) (j' : Fin b)
    (el : l'.val = p + l.val) (ej : j'.val = q + j.val) :
    View.readAt (Elt Ideal) m.view (Rect.unit (s := ⟨2, ![a, b]⟩) ![p, q] (⟨2, ![a', b']⟩ : Shape).size inb).toLoadRect (h.unread X) (ix2 l j) =
      X (ix2 l' j') := by
  refine (Memref.IsWhole.readAt_unread h X _ _).trans (congrArg X (funext fun k => ?_))
  fin_cases k
  · apply Fin.ext; show p + 1 * l.val = l'.val; omega
  · apply Fin.ext; show q + 1 * j.val = j'.val; omega

/-! ## A point's products -/

theorem pay1_apply (u : Vec Ideal S1024x2048 .bf16) (w : Vec Ideal S256x2048 .bf16) (r : Fin 1024) (n : Fin 256) :
    k0_pay1 (F := Ideal) u (k0_pay6 w) (ix2 r n) = ∑ k : Fin 2048, u (ix2 r k) * w (ix2 n k) := by
  pointwise [k0_pay1, k0_pay6]
theorem pay3_apply (u : Vec Ideal S1024x2048 .bf16) (w : Vec Ideal S256x2048 .bf16) (r : Fin 1024) (n : Fin 256) :
    k0_pay3 (F := Ideal) u w (ix2 r n) = ∑ k : Fin 2048, u (ix2 r k) * w (ix2 n k) := by
  pointwise [k0_pay3]
theorem pay4_apply (u : Vec Ideal S1024x2048 .bf16) (w : Vec Ideal S256x2048 .bf16) (r : Fin 1024) (n : Fin 256) :
    k0_pay4 (F := Ideal) u w (ix2 r n) = ∑ k : Fin 2048, u (ix2 r k) * w (ix2 n k) := by
  pointwise [k0_pay4]
theorem pay5_apply (u : Vec Ideal S1024x2048 .bf16) (w : Vec Ideal S256x2048 .bf16) (r : Fin 1024) (n : Fin 256) :
    k0_pay5 (F := Ideal) u w (ix2 r n) = ∑ k : Fin 2048, u (ix2 r k) * w (ix2 n k) := by
  pointwise [k0_pay5]
theorem pay2_apply (y : Vec Ideal S32x2048 .f32) (i : S32x2048.Idx) : k0_pay2 (F := Ideal) y i = y i := by
  rw [eq_ix2 i]; pointwise [k0_pay2]

section

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S32x2048 .f32) (harg4 : arg4.IsWhole) (arg5 : Memref sig .tc .vmem S1024x1024 .bf16) (harg5 : arg5.IsWhole) (arg6 : Memref sig .tc .vmem S32x2048 .bf16) (harg6 : arg6.IsWhole)
  (x0 : Vec Ideal S1024x2048 .bf16) (x1 : Vec Ideal S1024x2048 .bf16) (x2 : Vec Ideal S32x2048 .f32)

/-- The tile's entry: the product of a row of the input and a row of the weight's tile. -/
def tile (y : S1024x1024.Idx) : EReal := ∑ k : Fin 2048, x0 (ix2 (y 0 : Fin 1024) k) * x1 (ix2 (y 1 : Fin 1024) k)

theorem stores3 : (kernelRun0_A (F := Ideal) c i arg2 harg2 arg3 harg3 arg4 harg4 arg5 harg5 arg6 harg6 x0 x1 x2).1 =
    [⟨Rect.unit (s := S1024x1024) ![0, 768] S1024x256.size inb_S1024x1024_S1024x256_0_768, k0_pay1 (View.readAt (Elt Ideal) arg2.view (Rect.unit (s := S1024x2048) ![0, 0] S1024x2048.size inb_S1024x2048_S1024x2048_0_0).toLoadRect (harg2.unread x0)) (k0_pay6 (View.readAt (Elt Ideal) arg3.view (Rect.unit (s := S1024x2048) ![768, 0] S256x2048.size inb_S1024x2048_S256x2048_768_0).toLoadRect (harg3.unread x1)))⟩,
      ⟨Rect.unit (s := S1024x1024) ![0, 512] S1024x256.size inb_S1024x1024_S1024x256_0_512, k0_pay5 (View.readAt (Elt Ideal) arg2.view (Rect.unit (s := S1024x2048) ![0, 0] S1024x2048.size inb_S1024x2048_S1024x2048_0_0).toLoadRect (harg2.unread x0)) (View.readAt (Elt Ideal) arg3.view (Rect.unit (s := S1024x2048) ![512, 0] S256x2048.size inb_S1024x2048_S256x2048_512_0).toLoadRect (harg3.unread x1))⟩,
      ⟨Rect.unit (s := S1024x1024) ![0, 256] S1024x256.size inb_S1024x1024_S1024x256_0_256, k0_pay4 (View.readAt (Elt Ideal) arg2.view (Rect.unit (s := S1024x2048) ![0, 0] S1024x2048.size inb_S1024x2048_S1024x2048_0_0).toLoadRect (harg2.unread x0)) (View.readAt (Elt Ideal) arg3.view (Rect.unit (s := S1024x2048) ![256, 0] S256x2048.size inb_S1024x2048_S256x2048_256_0).toLoadRect (harg3.unread x1))⟩,
      ⟨Rect.unit (s := S1024x1024) ![0, 0] S1024x256.size inb_S1024x1024_S1024x256_0_0, k0_pay3 (View.readAt (Elt Ideal) arg2.view (Rect.unit (s := S1024x2048) ![0, 0] S1024x2048.size inb_S1024x2048_S1024x2048_0_0).toLoadRect (harg2.unread x0)) (View.readAt (Elt Ideal) arg3.view (Rect.unit (s := S1024x2048) ![0, 0] S256x2048.size inb_S1024x2048_S256x2048_0_0).toLoadRect (harg3.unread x1))⟩] := by
  exact id rfl

theorem stores4 : (kernelRun0_A (F := Ideal) c i arg2 harg2 arg3 harg3 arg4 harg4 arg5 harg5 arg6 harg6 x0 x1 x2).2.1 =
    [⟨Rect.unit (s := S32x2048) ![0, 0] S32x2048.size inb_S32x2048_S32x2048_0_0,
      k0_pay2 (View.readAt (Elt Ideal) arg4.view (Rect.unit (s := S32x2048) ![0, 0] S32x2048.size inb_S32x2048_S32x2048_0_0).toLoadRect (harg4.unread x2))⟩] := by
  exact id rfl

/-- A quarter's store agrees with the tile. -/
theorem quarter_ok (o : ℕ) (ho : o + 256 ≤ 1024) (pay : Vec Ideal S1024x2048 .bf16 → Vec Ideal S256x2048 .bf16 → FVec Ideal S1024x256 .bf16)
    (hp : ∀ u w (r : Fin 1024) (n : Fin 256), pay u w (ix2 r n) = ∑ k : Fin 2048, u (ix2 r k) * w (ix2 n k)) (inb1) (inb2) (inb3)
    (x : S1024x256.Idx) :
    pay (View.readAt (Elt Ideal) arg2.view (Rect.unit (s := S1024x2048) ![0, 0] S1024x2048.size inb1).toLoadRect (harg2.unread x0))
      (View.readAt (Elt Ideal) arg3.view (Rect.unit (s := S1024x2048) ![o, 0] S256x2048.size inb2).toLoadRect (harg3.unread x1)) x =
    tile x0 x1 ((Rect.unit (s := S1024x1024) ![0, o] S1024x256.size inb3).emb x) := by
  rw [eq_ix2 x]
  have h1 : (x 1).val < 256 := (x 1).isLt
  refine (hp _ _ _ _).trans (Finset.sum_congr rfl fun k _ => congrArg₂ (· * ·) ?_ ?_)
  · refine ld2 harg2 x0 inb1 _ _ _ _ ?_ ?_
    · show 0 + 1 * (x 0).val = 0 + (x 0).val; omega
    · show k.val = 0 + k.val; omega
  · refine ld2 harg3 x1 inb2 _ _ _ _ ?_ ?_
    · show o + 1 * (x 1).val = o + (x 1).val; omega
    · show k.val = 0 + k.val; omega

theorem out3_at (y : S1024x1024.Idx) : out0_A_3 (F := Ideal) c i arg2 harg2 arg3 harg3 arg4 harg4 arg5 harg5 arg6 harg6 x0 x1 x2 y = tile x0 x1 y := by
  have hc := cover0_A_3 (F := Ideal) c i arg2 harg2 arg3 harg3 arg4 harg4 arg5 harg5 arg6 harg6 x0 x1 x2 y
  unfold out0_A_3
  rw [View.read_writes_junk_eq_canon]
  refine View.canon_apply_of_pieces (tile x0 x1) _ ?_ y hc
  intro p hp
  rw [stores3] at hp
  simp only [List.mem_cons, List.not_mem_nil, or_false] at hp
  rcases hp with h | h | h | h
  · subst h; exact quarter_ok arg2 harg2 arg3 harg3 x0 x1 768 (by omega) (fun u w => k0_pay1 u (k0_pay6 w)) pay1_apply inb_S1024x2048_S1024x2048_0_0 inb_S1024x2048_S256x2048_768_0 inb_S1024x1024_S1024x256_0_768
  · subst h; exact quarter_ok arg2 harg2 arg3 harg3 x0 x1 512 (by omega) (fun u w => k0_pay5 u w) pay5_apply inb_S1024x2048_S1024x2048_0_0 inb_S1024x2048_S256x2048_512_0 inb_S1024x1024_S1024x256_0_512
  · subst h; exact quarter_ok arg2 harg2 arg3 harg3 x0 x1 256 (by omega) (fun u w => k0_pay4 u w) pay4_apply inb_S1024x2048_S1024x2048_0_0 inb_S1024x2048_S256x2048_256_0 inb_S1024x1024_S1024x256_0_256
  · subst h; exact quarter_ok arg2 harg2 arg3 harg3 x0 x1 0 (by omega) (fun u w => k0_pay3 u w) pay3_apply inb_S1024x2048_S1024x2048_0_0 inb_S1024x2048_S256x2048_0_0 inb_S1024x1024_S1024x256_0_0

theorem out4_at (p : Fin 32) (q : Fin 2048) : out0_A_4 (F := Ideal) c i arg2 harg2 arg3 harg3 arg4 harg4 arg5 harg5 arg6 harg6 x0 x1 x2 (ix2 p q) = x2 (ix2 p q) := by
  unfold out0_A_4
  rw [View.read_writes_junk_eq_canon, stores4]
  refine Eq.trans ?_ ((pay2_apply _ (ix2 p q)).trans (ld2 harg4 x2 inb_S32x2048_S32x2048_0_0 p q p q (by omega) (by omega)))
  have e : ((Rect.unit (s := S32x2048) ![0, 0] S32x2048.size inb_S32x2048_S32x2048_0_0).emb (ix2 p q) : S32x2048.Idx) = ix2 p q := by
    funext k; fin_cases k
    · apply Fin.ext; show 0 + 1 * p.val = p.val; omega
    · apply Fin.ext; show 0 + 1 * q.val = q.val; omega
  exact (congrArg _ e.symm).trans (View.canon_cons_emb _ _ _ _)

end

variable (m : (ℓ : Loc nD τ sig) → Buf (Elt Ideal) ℓ) (c : Dev nD)

/-! ## The arrays the call reads -/

theorem V_v1 : V m c main_v1 = truncf (F := Ideal) .bf16 (transpose S8224x2048 [1, 0] (m ((c : Thread nD τ).loc main_arg1)) transposes_S2048x8224_S8224x2048_1_0) bitsLt_bf16_f32 := by
  unfold V
  simp only [hostOps0, List.flatten_cons, List.flatten_nil, List.append_nil, List.cons_append, List.nil_append]
  after_reads_simp

theorem V_v3 : V m c main_v3 = shapeCast S3072x2048 (broadcastInDim S1x3072x2048 ![1, 2] bcast_S3072x2048_S1x3072x2048_1_2 (m ((c : Thread nD τ).loc main_arg2))) shapeCasts_S1x3072x2048_S3072x2048 := by
  unfold V
  simp only [hostOps0, List.flatten_cons, List.flatten_nil, List.append_nil, List.cons_append, List.nil_append]
  after_reads_simp
  rfl

theorem V_v1_at (n : Fin 8224) (k : Fin 2048) : V m c main_v1 (ix2 n k) = m ((c : Thread nD τ).loc main_arg1) (ix2 k n) := by
  rw [V_v1]
  generalize m ((c : Thread nD τ).loc main_arg1) = y
  pointwise []

theorem V_v3_at (p : Fin 3072) (q : Fin 2048) : V m c main_v3 (ix2 p q) = m ((c : Thread nD τ).loc main_arg2) (ix2 p q) := by
  rw [V_v3]
  generalize m ((c : Thread nD τ).loc main_arg2) = y
  pointwise []

/-! ## The blocks a point reads and writes -/

theorem idx0 : ∀ t : Fin cfg0.N, win0_0.index t (0 : Fin 2) = t.val / 6 ∧ win0_0.index t (1 : Fin 2) = 0 := (by decide +kernel : ∀ t : Fin grid0.N, _)
theorem idx1 : ∀ t : Fin cfg0.N, (t.val % 6 < 3 → win0_1.index t (0 : Fin 2) = 5 + t.val % 6) ∧ (3 ≤ t.val % 6 → win0_1.index t (0 : Fin 2) = t.val % 6 - 1) ∧
    win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val / 6 ∧ win0_3.index t (1 : Fin 2) = t.val % 6 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem t_lt (t : Fin cfg0.N) : t.val < 96 := t.isLt

/-- The array row of a block's row. -/
abbrev row (t : Fin cfg0.N) (r : Fin 1024) : Fin 16384 := ⟨t.val / 6 * 1024 + r.val, by have := t_lt t; omega⟩

/-- The result's column of a block's column. -/
abbrev colOf (t : Fin cfg0.N) (n : Fin 1024) : Fin 6144 := ⟨t.val % 6 * 1024 + n.val, by omega⟩

/-- The weight's column that the result's column `n` is the product with. -/
def wcol (n : Fin 6144) : Fin 8224 := ⟨if n.val < 3072 then 5120 + n.val else n.val - 1024, by split_ifs <;> omega⟩

theorem blk0 (t : Fin cfg0.N) (r : Fin 1024) (k : Fin 2048) :
    (iblk m c 0 t : Vec Ideal S1024x2048 .bf16) (ix2 r k) = m ((c : Thread nD τ).loc main_arg0) (ix2 (row t r) k) := by
  obtain ⟨e0, e1⟩ := idx0 t
  refine (congrFun (V_main_arg0 m c) _).trans (congrArg (m ((c : Thread nD τ).loc main_arg0)) (funext fun a => Fin.ext ?_))
  match a with
  | ⟨0, _⟩ => show win0_0.index t (0 : Fin 2) * 1024 + 1 * r.val = t.val / 6 * 1024 + r.val; omega
  | ⟨1, _⟩ => show win0_0.index t (1 : Fin 2) * 2048 + 1 * k.val = k.val; omega

theorem blk1 (t : Fin cfg0.N) (n : Fin 1024) (k : Fin 2048) :
    (X0_1 m c t : Vec Ideal S1024x2048 .bf16) (ix2 n k) = m ((c : Thread nD τ).loc main_arg1) (ix2 k (wcol (colOf t n))) := by
  obtain ⟨e0, e0', e1⟩ := idx1 t
  have hn := n.isLt
  have hw : win0_1.index t (0 : Fin 2) * 1024 + n.val = (wcol (colOf t n)).val := by
    show _ = if t.val % 6 * 1024 + n.val < 3072 then 5120 + (t.val % 6 * 1024 + n.val) else t.val % 6 * 1024 + n.val - 1024
    by_cases h : t.val % 6 < 3
    · rw [if_pos (by omega), e0 h]; omega
    · rw [if_neg (by omega), e0' (by omega)]; omega
  unfold X0_1 Pipeline.Window.fill
  rw [dif_pos (moved0_1 t (ix2 n k))]
  refine Eq.trans ?_ (V_v1_at m c (wcol (colOf t n)) k)
  refine congrArg (V m c main_v1) (funext fun a => Fin.ext ?_)
  match a with
  | ⟨0, _⟩ => show win0_1.index t (0 : Fin 2) * 1024 + 1 * n.val = (wcol (colOf t n)).val; omega
  | ⟨1, _⟩ => show win0_1.index t (1 : Fin 2) * 2048 + 1 * k.val = k.val; omega

theorem blk2 (t : Fin cfg0.N) (p : Fin 32) (q : Fin 2048) :
    (iblk m c 2 t : Vec Ideal S32x2048 .f32) (ix2 p q) =
      m ((c : Thread nD τ).loc main_arg2) (ix2 (⟨t.val * 32 + p.val, by have := t_lt t; omega⟩ : Fin 3072) q) := by
  obtain ⟨e0, e1⟩ := idx2 t
  refine Eq.trans ?_ (V_v3_at m c _ q)
  refine congrArg (V m c main_v3) (funext fun a => Fin.ext ?_)
  match a with
  | ⟨0, _⟩ => show win0_2.index t (0 : Fin 2) * 32 + 1 * p.val = t.val * 32 + p.val; omega
  | ⟨1, _⟩ => show win0_2.index t (1 : Fin 2) * 2048 + 1 * q.val = q.val; omega

/-! ## The first result: the projection's columns, in the order the later calls read them -/

/-- The product of a row of the input and a column of the weight. -/
def val (u : Vec Ideal S16384x2048 .bf16) (w : Vec Ideal S2048x8224 .f32) (r : Fin 16384) (n : Fin 6144) : EReal :=
  ∑ k : Fin 2048, u (ix2 r k) * w (ix2 k (wcol n))

def G : Buf (Elt Ideal) ((c : Thread nD τ).loc main_v4_0) := fun i =>
  val (m ((c : Thread nD τ).loc main_arg0)) (m ((c : Thread nD τ).loc main_arg1)) (i 0) (i 1)

theorem flushed3_eq (t : Fin cfg0.N) :
    (dats m 0 c).flushed 3 t = ((cfg0.win 3).blk t).view.read (Elt Ideal) (G m c) := by
  rw [flushed3_A]
  obtain ⟨e0, e1⟩ := idx3 t
  funext y
  have hy0 : (y 0).val < 1024 := (y 0).isLt
  have hy1 : (y 1).val < 1024 := (y 1).isLt
  have hx : (cfg0.win 3).xinj (grid0.coords t) y = ix2 (⟨(y 0).val, hy0⟩ : Fin 1024) (⟨(y 1).val, hy1⟩ : Fin 1024) := funext fun a => match a with
    | ⟨0, _⟩ => rfl
    | ⟨1, _⟩ => rfl
  show out0_A_3 (F := Ideal) c (grid0.coords t) (ms0_0 t) (hs0_0 t) (ms0_1 t) (hs0_1 t) (ms0_2 t) (hs0_2 t) (ms0_3 t) (hs0_3 t) (ms0_4 t) (hs0_4 t)
    (iblk m c 0 t) (X0_1 m c t) (iblk m c 2 t) ((cfg0.win 3).xinj (grid0.coords t) y) = G m c (((cfg0.win 3).blk t).view.emb y)
  rw [hx]
  refine (out3_at _ _ _ _ _ _ _ _ _ _ _ _ _ _ _ _).trans ?_
  have h0 : (((cfg0.win 3).blk t).view.emb y 0 : Fin 16384) = row t ⟨(y 0).val, hy0⟩ := Fin.ext (by
    show win0_3.index t (0 : Fin 2) * 1024 + 1 * (y 0).val = t.val / 6 * 1024 + (y 0).val; omega)
  have h1 : (((cfg0.win 3).blk t).view.emb y 1 : Fin 6144) = colOf t ⟨(y 1).val, hy1⟩ := Fin.ext (by
    show win0_3.index t (1 : Fin 2) * 1024 + 1 * (y 1).val = t.val % 6 * 1024 + (y 1).val; omega)
  refine Eq.trans ?_ (congrArg₂ (val (m ((c : Thread nD τ).loc main_arg0)) (m ((c : Thread nD τ).loc main_arg1))) h0 h1).symm
  exact Finset.sum_congr rfl fun k _ => congrArg₂ (· * ·) (blk0 m c t _ _) (blk1 m c t _ _)

theorem idx_onto3 : ∀ (p : Fin 16) (q : Fin 6), ∃ t : Fin cfg0.N, (cfg0.win 3).flush t = true ∧ win0_3.index t = ![p.val, q.val] :=
  (by decide +kernel : ∀ (p : Fin 16) (q : Fin 6), ∃ t : Fin grid0.N, win0_3.flush t = true ∧ win0_3.index t = ![p.val, q.val])

theorem covered3 (i : S16384x6144.Idx) : ∃ t : Fin cfg0.N, (cfg0.win 3).flush t = true ∧ i ∈ ((cfg0.win 3).blk t).view.set := by
  have hi0 : (i 0).val < 16384 := (i 0).isLt
  have hi1 : (i 1).val < 6144 := (i 1).isLt
  obtain ⟨t, hft, ht⟩ := idx_onto3 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, hft, ?_⟩
  have h := ((cfg0.win 3).blk t).view.emb_mem_set (ix2 (⟨(i 0).val % 1024, by omega⟩ : Fin 1024) (⟨(i 1).val % 1024, by omega⟩ : Fin 1024))
  have e : ((cfg0.win 3).blk t).view.emb (ix2 (⟨(i 0).val % 1024, by omega⟩ : Fin 1024) (⟨(i 1).val % 1024, by omega⟩ : Fin 1024)) = i := funext fun a => Fin.ext (by
    match a with
    | ⟨0, _⟩ => show win0_3.index t (0 : Fin 2) * 1024 + 1 * ((i 0).val % 1024) = (i 0).val; omega
    | ⟨1, _⟩ => show win0_3.index t (1 : Fin 2) * 1024 + 1 * ((i 1).val % 1024) = (i 1).val; omega)
  rwa [e] at h

theorem final3 : (dats m 0 c).arrAt 3 cfg0.N = G m c :=
  (dats m 0 c).arrAt_eq_of_cover 3 (G m c) (fun t _ => flushed3_eq m c t) covered3

/-! ## The second result: the output projection's weights -/

def G4 : Buf (Elt Ideal) ((c : Thread nD τ).loc main_v4_1) := fun i => m ((c : Thread nD τ).loc main_arg2) (ix2 (i 0 : Fin 3072) (i 1 : Fin 2048))

theorem flushed4_eq (t : Fin cfg0.N) :
    (dats m 0 c).flushed 4 t = ((cfg0.win 4).blk t).view.read (Elt Ideal) (G4 m c) := by
  rw [flushed4_A]
  obtain ⟨e0, e1⟩ := idx4 t
  funext y
  have hy0 : (y 0).val < 32 := (y 0).isLt
  have hy1 : (y 1).val < 2048 := (y 1).isLt
  have hx : (cfg0.win 4).xinj (grid0.coords t) y = ix2 (⟨(y 0).val, hy0⟩ : Fin 32) (⟨(y 1).val, hy1⟩ : Fin 2048) := funext fun a => match a with
    | ⟨0, _⟩ => rfl
    | ⟨1, _⟩ => rfl
  show out0_A_4 (F := Ideal) c (grid0.coords t) (ms0_0 t) (hs0_0 t) (ms0_1 t) (hs0_1 t) (ms0_2 t) (hs0_2 t) (ms0_3 t) (hs0_3 t) (ms0_4 t) (hs0_4 t)
    (iblk m c 0 t) (X0_1 m c t) (iblk m c 2 t) ((cfg0.win 4).xinj (grid0.coords t) y) = G4 m c (((cfg0.win 4).blk t).view.emb y)
  rw [hx]
  refine (out4_at _ _ _ _ _ _ _ _ _ _ _ _ _ _ _ _ _).trans ((blk2 m c t _ _).trans ?_)
  refine congrArg (m ((c : Thread nD τ).loc main_arg2)) (funext fun a => Fin.ext ?_)
  match a with
  | ⟨0, _⟩ => show t.val * 32 + (y 0).val = win0_4.index t (0 : Fin 2) * 32 + 1 * (y 0).val; omega
  | ⟨1, _⟩ => show (y 1).val = win0_4.index t (1 : Fin 2) * 2048 + 1 * (y 1).val; omega

theorem idx_onto4 : ∀ p : Fin 96, ∃ t : Fin cfg0.N, (cfg0.win 4).flush t = true ∧ win0_4.index t = ![p.val, 0] :=
  (by decide +kernel : ∀ p : Fin 96, ∃ t : Fin grid0.N, win0_4.flush t = true ∧ win0_4.index t = ![p.val, 0])

theorem covered4 (i : S3072x2048.Idx) : ∃ t : Fin cfg0.N, (cfg0.win 4).flush t = true ∧ i ∈ ((cfg0.win 4).blk t).view.set := by
  have hi0 : (i 0).val < 3072 := (i 0).isLt
  have hi1 : (i 1).val < 2048 := (i 1).isLt
  obtain ⟨t, hft, ht⟩ := idx_onto4 ⟨(i 0).val / 32, by omega⟩
  have q0 : win0_4.index t (0 : Fin 2) = (i 0).val / 32 := congrFun ht 0
  have q1 : win0_4.index t (1 : Fin 2) = 0 := congrFun ht 1
  refine ⟨t, hft, ?_⟩
  have h := ((cfg0.win 4).blk t).view.emb_mem_set (ix2 (⟨(i 0).val % 32, by omega⟩ : Fin 32) (⟨(i 1).val, hi1⟩ : Fin 2048))
  have e : ((cfg0.win 4).blk t).view.emb (ix2 (⟨(i 0).val % 32, by omega⟩ : Fin 32) (⟨(i 1).val, hi1⟩ : Fin 2048)) = i := funext fun a => Fin.ext (by
    match a with
    | ⟨0, _⟩ => show win0_4.index t (0 : Fin 2) * 32 + 1 * ((i 0).val % 32) = (i 0).val; omega
    | ⟨1, _⟩ => show win0_4.index t (1 : Fin 2) * 2048 + 1 * (i 1).val = (i 1).val; omega)
  rwa [e] at h

theorem final4 : (dats m 0 c).arrAt 4 cfg0.N = G4 m c :=
  (dats m 0 c).arrAt_eq_of_cover 4 (G4 m c) (fun t _ => flushed4_eq m c t) covered4

/-! ## The reference -/

open Cert.Reference2Ideal.Read in
/-- The projection's entry. -/
theorem proj_at (u : Vec Ideal S16384x2048 .bf16) (w : Vec Ideal S2048x8224 .f32) (j : (⟨2, ![16384, 8224]⟩ : Shape).Idx) (r : Fin 16384) (n : Fin 8224)
    (h0 : (j 0).val = r.val) (h1 : (j 1).val = n.val) :
    val_main_v1 (F := Ideal) u w j = ∑ k : Fin 2048, u (ix2 r k) * w (ix2 k n) := by
  refine (val_main_v1_apply u w j).trans (Finset.sum_congr rfl fun k _ => congrArg₂ (· * ·) ?_ ?_)
  · exact congrArg u (funext fun b => Fin.ext (match b with
      | ⟨0, _⟩ => h0
      | ⟨1, _⟩ => rfl))
  · exact congrArg w (funext fun b => Fin.ext (match b with
      | ⟨0, _⟩ => rfl
      | ⟨1, _⟩ => h1))

open Cert.Reference2Ideal.Read in
theorem ref_at (u : Vec Ideal S16384x2048 .bf16) (w : Vec Ideal S2048x8224 .f32) (r : Fin 16384) (n : Fin 6144) :
    val_main_v6 (F := Ideal) u w (ix2 r n) = val u w r n := by
  show val_main_v5 (F := Ideal) u w (ix2 r n) = _
  have hn := n.isLt
  have hw : (wcol n).val = if n.val < 3072 then 5120 + n.val else n.val - 1024 := rfl
  unfold val_main_v5
  by_cases ha : n.val < 3072
  · rw [if_pos ha] at hw
    refine (concatenate_apply_piece (t := Cert.Reference2Ideal.S16384x6144) 1 _ _ (ix2 r n) 0 (by simp) Cert.Reference2Ideal.S16384x3072 (val_main_v4 (F := Ideal) u w) rfl rfl 0 rfl
      (ix2 r (⟨n.val, ha⟩ : Fin 3072)) (fun b hb => match b, hb with
        | ⟨0, _⟩, _ => rfl
        | ⟨1, _⟩, hb => absurd rfl hb) (by show 0 + n.val = n.val; omega)).trans ?_
    refine (val_main_v4_apply u w _).trans (proj_at u w _ r (wcol n) rfl ?_)
    show 5120 + n.val = _; omega
  · rw [if_neg ha] at hw
    by_cases hb : n.val < 4096
    · refine (concatenate_apply_piece (t := Cert.Reference2Ideal.S16384x6144) 1 _ _ (ix2 r n) 1 (by simp) Cert.Reference2Ideal.S16384x1024 (val_main_v2 (F := Ideal) u w) rfl rfl 3072 rfl
        (ix2 r (⟨n.val - 3072, by omega⟩ : Fin 1024)) (fun b hb => match b, hb with
          | ⟨0, _⟩, _ => rfl
          | ⟨1, _⟩, hb => absurd rfl hb) (by show 3072 + (n.val - 3072) = n.val; omega)).trans ?_
      refine (val_main_v2_apply u w _).trans (proj_at u w _ r (wcol n) rfl ?_)
      show 2048 + (n.val - 3072) = _; omega
    · refine (concatenate_apply_piece (t := Cert.Reference2Ideal.S16384x6144) 1 _ _ (ix2 r n) 2 (by simp) Cert.Reference2Ideal.S16384x2048 (val_main_v3 (F := Ideal) u w) rfl rfl 4096 rfl
        (ix2 r (⟨n.val - 4096, by omega⟩ : Fin 2048)) (fun b hb => match b, hb with
          | ⟨0, _⟩, _ => rfl
          | ⟨1, _⟩, hb => absurd rfl hb) (by show 4096 + (n.val - 4096) = n.val; omega)).trans ?_
      refine (val_main_v3_apply u w _).trans (proj_at u w _ r (wcol n) rfl ?_)
      show 3072 + (n.val - 4096) = _; omega

end InProj

end
-- ==== Proof.InClaims.lean ====
module

public import proofs.«01_k».proof.Defs
public import proofs.«01_k».proof.Proof.InProj
public import proofs.«01_k».proof.Proof.Gen.Kernel2.Frame
public import Idealize.ShloMosaic.Lib.Quiescent

/-! The five claims about the input projection without its first columns. -/

@[expose] public section

set_option maxRecDepth 16384

noncomputable section

open Idealize.ShloMosaic Idealize.ShloMosaic.TcCoe Idealize.SL.Sem

namespace InClaims

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem preserves : Cert.preserves_Kernel2_Kernel2Ideal := trivial

variable (m : (ℓ : Loc Cert.Kernel2Ideal.nD Cert.Kernel2Ideal.τ Cert.Kernel2Ideal.sig) → Buf (Elt Ideal) ℓ) (c : Dev Cert.Kernel2Ideal.nD)

/-- The first result is the reference's, as a whole array. -/
theorem out_eq : Cert.Reference2Ideal.Read.val_main_v6 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) =
    (InProj.G m c : Vec Ideal Cert.Kernel2Ideal.S16384x6144 .bf16) := by
  funext i
  have hi : i = ix2 (i 0 : Fin 16384) (i 1 : Fin 6144) := funext fun a => match a with
    | ⟨0, _⟩ => rfl
    | ⟨1, _⟩ => rfl
  rw [hi]
  exact InProj.ref_at _ _ _ _

/-- The second result is the reference's, as a whole array. -/
theorem out4_eq : Cert.Reference2Ideal.Read.val_main_v7 (F := Ideal) (m ((c : Thread Cert.Kernel2Ideal.nD Cert.Kernel2Ideal.τ).loc Cert.Kernel2Ideal.main_arg2)) =
    (InProj.G4 m c : Vec Ideal Cert.Kernel2Ideal.S3072x2048 .bf16) := by
  funext i
  show m ((c : Thread Cert.Kernel2Ideal.nD Cert.Kernel2Ideal.τ).loc Cert.Kernel2Ideal.main_arg2) i = _
  exact congrArg _ (funext fun a => match a with
    | ⟨0, _⟩ => rfl
    | ⟨1, _⟩ => rfl)

theorem algebraic : Cert.algebraic_Kernel2Ideal_Reference2Ideal := by
  intro m ρ m' ρ' _ hagree
  refine ⟨_, _, (θ_run Cert.Kernel2Ideal.defs _ _).mono (fun _ h c => ⟨(h c).1.trans (InProj.final3 m c), (h c).2.1.trans (InProj.final4 m c), (h c).2.2⟩)
    (Cert.Kernel2Ideal.Value.run_blocks (F := Ideal) m ρ), ?_⟩
  refine (θ_run Cert.Reference2Ideal.defs _ _).mono (fun _ h c => ⟨(h c).1.trans ?_, (h c).2.1.trans ?_, (h c).2.2⟩)
    (Cert.Reference2Ideal.Value.run (F := Ideal) m' ρ')
  · refine (Cert.Reference2Ideal.Read.val_main_v6_eq _ _).trans ?_
    obtain ⟨h0, h1, h2⟩ := hagree c
    rw [h0, h1]
    exact out_eq m c
  · refine (Cert.Reference2Ideal.Read.val_main_v7_eq _).trans ?_
    obtain ⟨h0, h1, h2⟩ := hagree c
    rw [h2]
    exact out4_eq m c

end InClaims

end
-- ==== Proof.OutProj.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.RunRead
public import Idealize.ShloMosaic.Lib.Pointwise

/-! The output projection: each block of rows is the residual plus the two products, and the product over
the joined columns is the sum of the two. -/

@[expose] public section

set_option maxRecDepth 16384

noncomputable section

namespace OutProj

open Cert.Kernel3Ideal Cert.Kernel3Ideal.Gen Cert.Kernel3Ideal.Value Idealize.ShloMosaic Idealize.ShloMosaic.TcCoe Idealize.SL.Sem

theorem hz : (![0, 0] : Fin 2 → Nat) = fun _ => 0 := funext fun a => by fin_cases a <;> rfl

/-- A block's value at a row and column. -/
theorem pay_apply (x : Vec Ideal S512x2048 .f32) (a : Vec Ideal S512x1024 .bf16) (wa : Vec Ideal S1024x2048 .bf16)
    (s : Vec Ideal S512x2048 .bf16) (ws : Vec Ideal S2048x2048 .bf16) (r : Fin 512) (n : Fin 2048) :
    k0_pay1 (F := Ideal) x a wa s ws (ix2 r n) =
      x (ix2 r n) + (∑ k : Fin 1024, a (ix2 r k) * wa (ix2 k n)) + ∑ k : Fin 2048, s (ix2 r k) * ws (ix2 k n) := by
  pointwise [k0_pay1]

theorem out_apply (x : Vec Ideal S512x2048 .f32) (a : Vec Ideal S512x1024 .bf16) (s : Vec Ideal S512x2048 .bf16)
    (wa : Vec Ideal S1024x2048 .bf16) (ws : Vec Ideal S2048x2048 .bf16) :
    out0_5 (F := Ideal) x a s wa ws = k0_pay1 (F := Ideal) x a wa s ws := by
  unfold out0_5
  rw [View.canon_unit_zero hz, View.ld_unit_zero hz, View.ld_unit_zero hz, View.ld_unit_zero hz, View.ld_unit_zero hz, View.ld_unit_zero hz]

variable (m : (ℓ : Loc nD τ sig) → Buf (Elt Ideal) ℓ) (c : Dev nD)

theorem V_v0 : V m c main_v0 = extractStridedSlice S1024x2048 ![0, 0] (m ((c : Thread nD τ).loc main_arg3)) slices_S3072x2048_S1024x2048_0_0 := by
  unfold V
  simp only [hostOps0, List.flatten_cons, List.flatten_nil, List.append_nil, List.cons_append, List.nil_append]
  after_reads_simp

theorem V_v1 : V m c main_v1 = extractStridedSlice S2048x2048 ![1024, 0] (m ((c : Thread nD τ).loc main_arg3)) slices_S3072x2048_S2048x2048_1024_0 := by
  unfold V
  simp only [hostOps0, List.flatten_cons, List.flatten_nil, List.append_nil, List.cons_append, List.nil_append]
  after_reads_simp

/-! ## The windows' blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem t_lt (t : Fin cfg0.N) : t.val < 32 := t.isLt

/-- The array row of a block's row. -/
abbrev row (t : Fin cfg0.N) (r : Fin 512) : Fin 16384 := ⟨t.val * 512 + r.val, by have := t_lt t; omega⟩

theorem blk0 (t : Fin cfg0.N) (r : Fin 512) (n : Fin 2048) :
    (iblk m c 0 t : Vec Ideal S512x2048 .f32) (ix2 r n) = m ((c : Thread nD τ).loc main_arg0) (ix2 (row t r) n) := by
  obtain ⟨e0, e1⟩ := idx0 t
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; omega
  | ⟨1, _⟩ => show win0_0.index t (1 : Fin 2) * 2048 + 1 * n.val = n.val; omega

theorem blk1 (t : Fin cfg0.N) (r : Fin 512) (k : Fin 1024) :
    (iblk m c 1 t : Vec Ideal S512x1024 .bf16) (ix2 r k) = m ((c : Thread nD τ).loc main_arg1) (ix2 (row t r) k) := by
  obtain ⟨e0, e1⟩ := idx1 t
  refine (congrFun (V_main_arg1 m c) _).trans (congrArg (m ((c : Thread nD τ).loc main_arg1)) (funext fun a => Fin.ext ?_))
  match a with
  | ⟨0, _⟩ => show win0_1.index t (0 : Fin 2) * 512 + 1 * r.val = t.val * 512 + r.val; omega
  | ⟨1, _⟩ => show win0_1.index t (1 : Fin 2) * 1024 + 1 * k.val = k.val; omega

theorem blk2 (t : Fin cfg0.N) (r : Fin 512) (k : Fin 2048) :
    (iblk m c 2 t : Vec Ideal S512x2048 .bf16) (ix2 r k) = m ((c : Thread nD τ).loc main_arg2) (ix2 (row t r) k) := by
  obtain ⟨e0, e1⟩ := idx2 t
  refine (congrFun (V_main_arg2 m c) _).trans (congrArg (m ((c : Thread nD τ).loc main_arg2)) (funext fun a => Fin.ext ?_))
  match a with
  | ⟨0, _⟩ => show win0_2.index t (0 : Fin 2) * 512 + 1 * r.val = t.val * 512 + r.val; omega
  | ⟨1, _⟩ => show win0_2.index t (1 : Fin 2) * 2048 + 1 * k.val = k.val; omega

theorem blk3 (t : Fin cfg0.N) (k : Fin 1024) (n : Fin 2048) :
    (iblk m c 3 t : Vec Ideal S1024x2048 .bf16) (ix2 k n) = m ((c : Thread nD τ).loc main_arg3) (ix2 (⟨k.val, by omega⟩ : Fin 3072) n) := by
  obtain ⟨e0, e1⟩ := idx3 t
  refine (congrFun (V_v0 m c) _).trans (extractStridedSlice_apply ![0, 0] _ slices_S3072x2048_S1024x2048_0_0 _ (ix2 (⟨k.val, by omega⟩ : Fin 3072) n) fun a => ?_)
  match a with
  | ⟨0, _⟩ => show k.val = 0 + (win0_3.index t (0 : Fin 2) * 1024 + 1 * k.val); omega
  | ⟨1, _⟩ => show n.val = 0 + (win0_3.index t (1 : Fin 2) * 2048 + 1 * n.val); omega

theorem blk4 (t : Fin cfg0.N) (k n : Fin 2048) :
    (iblk m c 4 t : Vec Ideal S2048x2048 .bf16) (ix2 k n) = m ((c : Thread nD τ).loc main_arg3) (ix2 (⟨1024 + k.val, by omega⟩ : Fin 3072) n) := by
  obtain ⟨e0, e1⟩ := idx4 t
  refine (congrFun (V_v1 m c) _).trans (extractStridedSlice_apply ![1024, 0] _ slices_S3072x2048_S2048x2048_1024_0 _ (ix2 (⟨1024 + k.val, by omega⟩ : Fin 3072) n) fun a => ?_)
  match a with
  | ⟨0, _⟩ => show 1024 + k.val = 1024 + (win0_4.index t (0 : Fin 2) * 2048 + 1 * k.val); omega
  | ⟨1, _⟩ => show n.val = 0 + (win0_4.index t (1 : Fin 2) * 2048 + 1 * n.val); omega

/-! ## The result array -/

/-- The residual plus the two products, at a row and column. -/
def val (x : Vec Ideal S16384x2048 .f32) (a : Vec Ideal S16384x1024 .bf16) (s : Vec Ideal S16384x2048 .bf16) (w : Vec Ideal S3072x2048 .bf16)
    (r : Fin 16384) (n : Fin 2048) : EReal :=
  x (ix2 r n) + (∑ k : Fin 1024, a (ix2 r k) * w (ix2 (⟨k.val, by omega⟩ : Fin 3072) n))
    + ∑ k : Fin 2048, s (ix2 r k) * w (ix2 (⟨1024 + k.val, by omega⟩ : Fin 3072) n)

def G : Buf (Elt Ideal) ((c : Thread nD τ).loc main_v2) := fun i =>
  val (m ((c : Thread nD τ).loc main_arg0)) (m ((c : Thread nD τ).loc main_arg1)) (m ((c : Thread nD τ).loc main_arg2))
    (m ((c : Thread nD τ).loc main_arg3)) (i 0) (i 1)

theorem flushed_eq (t : Fin cfg0.N) :
    (dats m 0 c).flushed 5 t = ((cfg0.win 5).blk t).view.read (Elt Ideal) (G m c) := by
  rw [flushed5, out_apply]
  obtain ⟨e0, e1⟩ := idx5 t
  funext y
  have hy0 : (y 0).val < 512 := (y 0).isLt
  have hy1 : (y 1).val < 2048 := (y 1).isLt
  have hx : (cfg0.win 5).xinj (grid0.coords t) y = ix2 (⟨(y 0).val, hy0⟩ : Fin 512) (⟨(y 1).val, hy1⟩ : Fin 2048) := funext fun a => match a with
    | ⟨0, _⟩ => rfl
    | ⟨1, _⟩ => rfl
  show k0_pay1 (F := Ideal) (iblk m c 0 t) (iblk m c 1 t) (iblk m c 3 t) (iblk m c 2 t) (iblk m c 4 t) ((cfg0.win 5).xinj (grid0.coords t) y) = G m c (((cfg0.win 5).blk t).view.emb y)
  rw [hx]
  refine (pay_apply _ _ _ _ _ _ _).trans ?_
  have h0 : (((cfg0.win 5).blk t).view.emb y 0 : Fin 16384) = row t ⟨(y 0).val, hy0⟩ := Fin.ext (by
    show win0_5.index t (0 : Fin 2) * 512 + 1 * (y 0).val = t.val * 512 + (y 0).val; omega)
  have h1 : (((cfg0.win 5).blk t).view.emb y 1 : Fin 2048) = ⟨(y 1).val, hy1⟩ := Fin.ext (by
    show win0_5.index t (1 : Fin 2) * 2048 + 1 * (y 1).val = (y 1).val; omega)
  refine Eq.trans ?_ (congrArg₂ (val (m ((c : Thread nD τ).loc main_arg0)) (m ((c : Thread nD τ).loc main_arg1)) (m ((c : Thread nD τ).loc main_arg2))
    (m ((c : Thread nD τ).loc main_arg3))) h0 h1).symm
  unfold val
  refine congrArg₂ (· + ·) (congrArg₂ (· + ·) (blk0 m c t _ _) ?_) ?_
  · exact Finset.sum_congr rfl fun k _ => congrArg₂ (· * ·) (blk1 m c t _ _) (blk3 m c t _ _)
  · exact Finset.sum_congr rfl fun k _ => congrArg₂ (· * ·) (blk2 m c t _ _) (blk4 m c t _ _)

theorem idx_onto : ∀ q : Fin 32, ∃ t : Fin cfg0.N, (cfg0.win 5).flush t = true ∧ win0_5.index t = ![q.val, 0] :=
  (by decide +kernel : ∀ q : Fin 32, ∃ t : Fin grid0.N, win0_5.flush t = true ∧ win0_5.index t = ![q.val, 0])

theorem covered (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, hft, ht⟩ := idx_onto ⟨(i 0).val / 512, by omega⟩
  have q0 : win0_5.index t (0 : Fin 2) = (i 0).val / 512 := congrFun ht 0
  have q1 : win0_5.index t (1 : Fin 2) = 0 := congrFun ht 1
  refine ⟨t, hft, ?_⟩
  have h := ((cfg0.win 5).blk t).view.emb_mem_set (ix2 (⟨(i 0).val % 512, by omega⟩ : Fin 512) (⟨(i 1).val, hi1⟩ : Fin 2048))
  have e : ((cfg0.win 5).blk t).view.emb (ix2 (⟨(i 0).val % 512, by omega⟩ : Fin 512) (⟨(i 1).val, hi1⟩ : Fin 2048)) = i := funext fun a => Fin.ext (by
    match a with
    | ⟨0, _⟩ => show win0_5.index t (0 : Fin 2) * 512 + 1 * ((i 0).val % 512) = (i 0).val; omega
    | ⟨1, _⟩ => show win0_5.index t (1 : Fin 2) * 2048 + 1 * (i 1).val = (i 1).val; omega)
  rwa [e] at h

theorem final : (dats m 0 c).arrAt 5 cfg0.N = G m c :=
  (dats m 0 c).arrAt_eq_of_cover 5 (G m c) (fun t _ => flushed_eq m c t) covered

/-! ## The reference -/

open Cert.Reference3Ideal.Read in
theorem v2_left (a : Vec Ideal S16384x1024 .bf16) (s : Vec Ideal S16384x2048 .bf16) (r : Fin 16384) (k : Fin 1024) :
    Cert.Reference3Ideal.Read.val_main_v2 (F := Ideal) a s (ix2 r (⟨k.val, by omega⟩ : Fin 3072)) = a (ix2 r k) := by
  unfold val_main_v2
  exact (concatenate_pair_apply_left (t := Cert.Reference3Ideal.S16384x3072) (s₁ := Cert.Reference3Ideal.S16384x1024) (s₂ := Cert.Reference3Ideal.S16384x2048)
    1 (val_main_v0 (F := Ideal) a) (val_main_v1 (F := Ideal) s) _ (ix2 r (⟨k.val, by omega⟩ : Fin 3072)) rfl (ix2 r k) (fun b => match b with
      | ⟨0, _⟩ => rfl
      | ⟨1, _⟩ => rfl)).trans rfl

open Cert.Reference3Ideal.Read in
theorem v2_right (a : Vec Ideal S16384x1024 .bf16) (s : Vec Ideal S16384x2048 .bf16) (r : Fin 16384) (k : Fin 2048) :
    Cert.Reference3Ideal.Read.val_main_v2 (F := Ideal) a s (ix2 r (⟨1024 + k.val, by omega⟩ : Fin 3072)) = s (ix2 r k) := by
  unfold val_main_v2
  exact (concatenate_pair_apply_right (t := Cert.Reference3Ideal.S16384x3072) (s₁ := Cert.Reference3Ideal.S16384x1024) (s₂ := Cert.Reference3Ideal.S16384x2048)
    1 (val_main_v0 (F := Ideal) a) (val_main_v1 (F := Ideal) s) _ (ix2 r (⟨1024 + k.val, by omega⟩ : Fin 3072)) rfl rfl (ix2 r k) (fun b hb => match b, hb with
      | ⟨0, _⟩, _ => rfl
      | ⟨1, _⟩, hb => absurd rfl hb) (by show k.val + 1024 = 1024 + k.val; omega)).trans rfl

open Cert.Reference3Ideal.Read in
theorem ref_at (x : Vec Ideal S16384x2048 .f32) (a : Vec Ideal S16384x1024 .bf16) (s : Vec Ideal S16384x2048 .bf16) (w : Vec Ideal S3072x2048 .bf16)
    (r : Fin 16384) (n : Fin 2048) :
    Cert.Reference3Ideal.Read.val_main_v5 (F := Ideal) x a s w (ix2 r n) = val x a s w r n := by
  refine (val_main_v5_apply x a s w _).trans ?_
  show x (ix2 r n) + val_main_v4 (F := Ideal) a s w (ix2 r n) = _
  rw [val_main_v4_apply]
  unfold val
  rw [add_assoc]
  refine congrArg (x (ix2 r n) + ·) ((Fin.sum_univ_add (a := 1024) (b := 2048) (fun k : Fin (1024 + 2048) =>
    val_main_v2 (F := Ideal) a s (lidx_main_v4 (ix2 r n) k) * val_main_v3 (F := Ideal) w (ridx_main_v4 (ix2 r n) k))).trans ?_)
  refine congrArg₂ (· + ·) (Finset.sum_congr rfl fun k _ => congrArg₂ (· * ·) ?_ ?_) (Finset.sum_congr rfl fun k _ => congrArg₂ (· * ·) ?_ ?_)
  · refine Eq.trans (congrArg (val_main_v2 (F := Ideal) a s) (funext fun b => ?_)) (v2_left a s r k)
    match b with
    | ⟨0, _⟩ => rfl
    | ⟨1, _⟩ => rfl
  · exact congrArg w (funext fun b => match b with
      | ⟨0, _⟩ => rfl
      | ⟨1, _⟩ => rfl)
  · refine Eq.trans (congrArg (val_main_v2 (F := Ideal) a s) (funext fun b => ?_)) (v2_right a s r k)
    match b with
    | ⟨0, _⟩ => rfl
    | ⟨1, _⟩ => rfl
  · exact congrArg w (funext fun b => match b with
      | ⟨0, _⟩ => rfl
      | ⟨1, _⟩ => rfl)

end OutProj

end
-- ==== Proof.OutClaims.lean ====
module

public import proofs.«01_k».proof.Defs
public import proofs.«01_k».proof.Proof.OutProj
public import proofs.«01_k».proof.Proof.Gen.Kernel3.Frame
public import Idealize.ShloMosaic.Lib.Quiescent

/-! The five claims about the output projection. -/

@[expose] public section

set_option maxRecDepth 16384

noncomputable section

open Idealize.ShloMosaic Idealize.ShloMosaic.TcCoe Idealize.SL.Sem

namespace OutClaims

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

variable (m : (ℓ : Loc Cert.Kernel3Ideal.nD Cert.Kernel3Ideal.τ Cert.Kernel3Ideal.sig) → Buf (Elt Ideal) ℓ) (c : Dev Cert.Kernel3Ideal.nD)

/-- The result is the reference's, as a whole array. -/
theorem out_eq : Cert.Reference3Ideal.Read.val_main_v5 (F := Ideal)
      (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) =
    (OutProj.G m c : Vec Ideal Cert.Kernel3Ideal.S16384x2048 .f32) := by
  funext i
  have hi : i = ix2 (i 0 : Fin 16384) (i 1 : Fin 2048) := funext fun a => match a with
    | ⟨0, _⟩ => rfl
    | ⟨1, _⟩ => rfl
  rw [hi]
  exact OutProj.ref_at _ _ _ _ _ _

theorem algebraic : Cert.algebraic_Kernel3Ideal_Reference3Ideal := by
  intro m ρ m' ρ' _ hagree
  refine ⟨_, (θ_run Cert.Kernel3Ideal.defs _ _).mono (fun _ h c => ⟨(h c).1.trans (OutProj.final m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  refine (Cert.Reference3Ideal.Read.val_main_v5_eq _ _ _ _).trans ?_
  obtain ⟨h0, h1, h2, h3⟩ := hagree c
  rw [h0, h1, h2, h3]
  exact out_eq m c

end OutClaims

end
-- ==== Proof.QkRun.lean ====
/- The body of the kernel `_in_proj_qk` run once on any staging buffers, in each of its two cases: the even
   points, which normalise the tile of rows and leave it for the odd point after them, and the odd points,
   which find it there. -/
module

public import proofs.«01_k».proof.Proof.Gen.Kernel4Ideal.Frame
public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InQk

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := k0_cond1 i = 1#1
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-- Whether output 8's buffer holds nothing the body stored: the odd positions hold something. -/
def freshTab0_8 : ℕ → Bool
  | 0 => true
  | n + 1 => (0xaaaaaaaa : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem liveAt0_8_A : ∀ t : Fin cfg0.N, t.val % 2 = 0 → cfg0.idle 8 (grid0.coords t) = false := by decide +kernel
theorem idleAt0_8_B : ∀ t : Fin cfg0.N, ¬t.val % 2 = 0 → cfg0.idle 8 (grid0.coords t) = true := by decide +kernel
theorem flushAt0_8_B : ∀ t : Fin cfg0.N, ¬t.val % 2 = 0 → (cfg0.win 8).flush t = true := by decide +kernel
theorem notFlushAt0_8_A : ∀ t : Fin cfg0.N, t.val % 2 = 0 → (cfg0.win 8).flush t = false := by decide +kernel
theorem notFresh0_8_B : ∀ t : Fin cfg0.N, ¬t.val % 2 = 0 → cfg0.fresh 8 t.val = false := by
  intro t; rw [fresh0_8_eq t]; revert t; decide +kernel

/-- Whether output 9's buffer holds nothing the body stored: the odd positions hold something. -/
def freshTab0_9 : ℕ → Bool
  | 0 => true
  | n + 1 => (0xaaaaaaaa : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, t.val % 2 = 0 → cfg0.idle 9 (grid0.coords t) = false := by decide +kernel
theorem idleAt0_9_B : ∀ t : Fin cfg0.N, ¬t.val % 2 = 0 → cfg0.idle 9 (grid0.coords t) = true := by decide +kernel
theorem flushAt0_9_B : ∀ t : Fin cfg0.N, ¬t.val % 2 = 0 → (cfg0.win 9).flush t = true := by decide +kernel
theorem notFlushAt0_9_A : ∀ t : Fin cfg0.N, t.val % 2 = 0 → (cfg0.win 9).flush t = false := by decide +kernel
theorem notFresh0_9_B : ∀ t : Fin cfg0.N, ¬t.val % 2 = 0 → cfg0.fresh 9 t.val = false := by
  intro t; rw [fresh0_9_eq t]; revert t; decide +kernel

abbrev VO0_7 : View sig .tc .vmem S1024x1024 .bf16 := (Memref.whole cc0_stg7_0 : Memref sig .tc .vmem S1024x1024 .bf16).view
abbrev VO0_8 : View sig .tc .vmem S1024x128 .f32 := (Memref.whole cc0_stg8_0 : Memref sig .tc .vmem S1024x128 .f32).view
abbrev VO0_9 : View sig .tc .vmem S1024x2048 .bf16 := (Memref.whole cc0_stg9_0 : Memref sig .tc .vmem S1024x2048 .bf16).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .bf16 := win0_9.stage (cfg0.slots t 9)
abbrev hs0_9 (t : Fin cfg0.N) : (ms0_9 t).IsWhole := hstage0_9 ((cfg0.slots t 9).cast nbuf0_9)

set_option maxHeartbeats 1000000 in
/-- The body at an even point on whole staging buffers: it runs, and hands back the inputs as they were
    and each output with the pieces the run writes. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) :
    Σ' (L7 : List (View.Piece (Elt F) S1024x1024 .bf16)), Σ' (L8 : List (View.Piece (Elt F) S1024x128 .f32)), { L9 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_in_proj_qk i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_in_proj_qk_eq_skeleton]; unfold cc0_in_proj_qk_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

set_option maxHeartbeats 1000000 in
/-- The body at an odd point on whole staging buffers: it runs, and hands back the inputs as they were
    and output 7 with the pieces the run writes, outputs 8 and 9 untouched. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : ¬cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) (xo8 : Vec F S1024x128 .f32) (xo9 : Vec F S1024x2048 .bf16) :
    { L7 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xo8 ∗ owns (c : Thread nD τ) arg11 fullShare xo9) -∗ K ⟨⟩))
          ⊢ wp frame (wpE (defs₀ (F := F)) Variants.none c none) E (cc0_in_proj_qk i arg2 harg2 arg3 harg3 arg4 harg4 arg5 harg5 arg6 harg6 arg7 harg7 arg8 harg8 arg9 harg9 arg10 harg10 arg11 harg11) K } := by
  refine ⟨?_, fun E K => ?run⟩
  case run =>
    simp only [cc0_in_proj_qk_eq_skeleton]; unfold cc0_in_proj_qk_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.InQk

end
-- ==== Proof.QkFrame.lean ====
/- The frame of the kernel `_in_proj_qk` and the run with its result arrays named: the odd points leave the
   second and third output's buffers as the even point before them left them, and write them back. -/
module

public import proofs.«01_k».proof.Proof.QkRun
public import Idealize.ShloMosaic.Lib.Pipeline.FrameBody
public import Idealize.ShloMosaic.Lib.Pipeline.Value
public import Idealize.ShloMosaic.Lib.Claim

@[expose] public section

set_option maxRecDepth 16384

noncomputable section

namespace Cert.InQk

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) (y : S1024x1024.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S1024x128.size (by sl_kernel_rfl) y

/-- What case A leaves in output 7's staging buffer. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) : Vec F S1024x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

theorem cover0_A_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) (y : S1024x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S1024x128.size (by sl_kernel_rfl) y

/-- What case A leaves in output 8's staging buffer. -/
def out0_A_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) : Vec F S1024x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

theorem cover0_A_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) (y : S1024x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.2.1 S1024x2048.size (by sl_kernel_rfl) y

/-- What case A leaves in output 9's staging buffer. -/
def out0_A_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) : Vec F S1024x2048 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

theorem cover0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : ¬cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) (xo8 : Vec F S1024x128 .f32) (xo9 : Vec F S1024x2048 .bf16) (y : S1024x1024.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xo8 xo9).1 S1024x128.size (by sl_kernel_rfl) y

/-- What case B leaves in output 7's staging buffer. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : ¬cond0_0 i)
    (x0 : Vec F S1024x2048 .f32) (x1 : Vec F S1x2048 .f32) (x2 : Vec F S1024x2048 .bf16) (x3 : Vec F S128x2048 .bf16) (x4 : Vec F S1024x128 .f32) (x5 : Vec F S1024x128 .f32) (x6 : Vec F S1024x128 .f32) (xo8 : Vec F S1024x128 .f32) (xo9 : Vec F S1024x2048 .bf16) : Vec F S1024x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 xo8 xo9).1)

/-- The even point at or before `t`. -/
abbrev base (t : Fin cfg0.N) : Fin cfg0.N := ⟨t.val - t.val % 2, Nat.lt_of_le_of_lt (Nat.sub_le _ _) t.isLt⟩

theorem base_mod (t : Fin cfg0.N) : (base t).val % 2 = 0 := by show (t.val - t.val % 2) % 2 = 0; omega

theorem base_prev (t : Fin cfg0.N) (h0 : ¬t.val % 2 = 0) : base ⟨t.val - 1, Nat.lt_of_le_of_lt (Nat.sub_le _ _) t.isLt⟩ = base t := by
  apply Fin.ext; show (t.val - 1) - (t.val - 1) % 2 = t.val - t.val % 2; omega

theorem base_even (t : Fin cfg0.N) (h0 : t.val % 2 = 0) : base t = t := by
  apply Fin.ext; show t.val - t.val % 2 = t.val; omega

/-- What output 8's buffer holds after the point, `t` even. -/
def dtEv (c : Dev nD) (t : Fin cfg0.N) (h0 : t.val % 2 = 0) : Vec F S1024x128 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (X0_2 m c t) (iblk m c 3 t) (iblk m c 4 t) (iblk m c 5 t) (iblk m c 6 t)

/-- What output 9's buffer holds after the point, `t` even. -/
def uEv (c : Dev nD) (t : Fin cfg0.N) (h0 : t.val % 2 = 0) : Vec F S1024x2048 .bf16 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (X0_2 m c t) (iblk m c 3 t) (iblk m c 4 t) (iblk m c 5 t) (iblk m c 6 t)

/-- What output 8's buffer holds after the point: what the even point at or before it left. -/
def dtAt (c : Dev nD) (t : Fin cfg0.N) : Vec F S1024x128 .f32 := dtEv m c (base t) (base_mod t)

/-- What output 9's buffer holds after the point: what the even point at or before it left. -/
def uAt (c : Dev nD) (t : Fin cfg0.N) : Vec F S1024x2048 .bf16 := uEv m c (base t) (base_mod t)

theorem dtEv_congr (c : Dev nD) {t t' : Fin cfg0.N} (h : t = t') (h0 : t.val % 2 = 0) (h0' : t'.val % 2 = 0) :
    dtEv m c t h0 = dtEv m c t' h0' := by subst h; rfl

theorem uEv_congr (c : Dev nD) {t t' : Fin cfg0.N} (h : t = t') (h0 : t.val % 2 = 0) (h0' : t'.val % 2 = 0) :
    uEv m c t h0 = uEv m c t' h0' := by subst h; rfl

theorem dtAt_even (c : Dev nD) (t : Fin cfg0.N) (h0 : t.val % 2 = 0) : dtAt m c t = dtEv m c t h0 :=
  dtEv_congr m c (base_even t h0) _ _

theorem uAt_even (c : Dev nD) (t : Fin cfg0.N) (h0 : t.val % 2 = 0) : uAt m c t = uEv m c t h0 :=
  uEv_congr m c (base_even t h0) _ _

theorem dtAt_prev (c : Dev nD) (t : Fin cfg0.N) (h0 : ¬t.val % 2 = 0) :
    dtAt m c ⟨t.val - 1, Nat.lt_of_le_of_lt (Nat.sub_le _ _) t.isLt⟩ = dtAt m c t :=
  dtEv_congr m c (base_prev t h0) _ _

theorem uAt_prev (c : Dev nD) (t : Fin cfg0.N) (h0 : ¬t.val % 2 = 0) :
    uAt m c ⟨t.val - 1, Nat.lt_of_le_of_lt (Nat.sub_le _ _) t.isLt⟩ = uAt m c t :=
  uEv_congr m c (base_prev t h0) _ _

/-- What output 7's buffer holds after the point. -/
def qkAt (c : Dev nD) (t : Fin cfg0.N) : Vec F S1024x1024 .bf16 :=
  if h0 : t.val % 2 = 0 then
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (X0_2 m c t) (iblk m c 3 t) (iblk m c 4 t) (iblk m c 5 t) (iblk m c 6 t)
  else
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (X0_2 m c t) (iblk m c 3 t) (iblk m c 4 t) (iblk m c 5 t) (iblk m c 6 t) (dtAt m c t) (uAt m c t)

/-- The proof data of the one pipeline on core `c`: the arrays as the region finds them (`V`); after the body at
    point `t` each input's buffer at its block and the outputs' at what is named above; the invariant the
    plain one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => qkAt m c t
    | ⟨8, _⟩ => dtAt m c t
    | ⟨9, _⟩ => uAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qkAt m c t := by dsimp only [dats]
theorem after0_8 (c : Dev nD) (t : Fin cfg0.N) : (dats m 0 c).after 8 t = dtAt m c t := by dsimp only [dats]
theorem after0_9 (c : Dev nD) (t : Fin cfg0.N) : (dats m 0 c).after 9 t = uAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents carry through the points that leave it alone. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  by_cases h0 : t.val % 2 = 0
  · rw [liveAt0_8_A t h0] at hi
    exact absurd hi Bool.false_ne_true
  · rw [after0_8, after0_8]
    exact (dtAt_prev m c t h0).symm

/-- At an odd point output 8's buffer holds what the point before left. -/
theorem before0_8_B (c : Dev nD) (t : Fin cfg0.N) (h0 : ¬t.val % 2 = 0) (d) :
    (dats m 0 c).before 8 t d = dtAt m c t := by
  rw [Dat.before_out_traj _ 8 rfl (fun _ _ => rfl) (hcarry0_8 m c) t.val t rfl d,
    if_neg (by rw [notFresh0_8_B t h0]; exact Bool.false_ne_true)]
  dsimp only [dats]
  exact dtAt_prev m c t h0

/-- Output 9's contents carry through the points that leave it alone. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  by_cases h0 : t.val % 2 = 0
  · rw [liveAt0_9_A t h0] at hi
    exact absurd hi Bool.false_ne_true
  · rw [after0_9, after0_9]
    exact (uAt_prev m c t h0).symm

/-- At an odd point output 9's buffer holds what the point before left. -/
theorem before0_9_B (c : Dev nD) (t : Fin cfg0.N) (h0 : ¬t.val % 2 = 0) (d) :
    (dats m 0 c).before 9 t d = uAt m c t := by
  rw [Dat.before_out_traj _ 9 rfl (fun _ _ => rfl) (hcarry0_9 m c) t.val t rfl d,
    if_neg (by rw [notFresh0_9_B t h0]; exact Bool.false_ne_true)]
  dsimp only [dats]
  exact uAt_prev m c t h0

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  by_cases h0 : t.val % 2 = 0
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6 t], after0_6]
    rw [show (dats m 0 c).leavesExact 7 t = owns (c : Thread nD τ) (ms0_7 t) fullShare ((dats m 0 c).after 7 t) from by
    unfold Dat.leavesExact; rw [liveAt0_7 t], after0_7]
    rw [show (dats m 0 c).leavesExact 8 t = owns (c : Thread nD τ) (ms0_8 t) fullShare ((dats m 0 c).after 8 t) from by
    unfold Dat.leavesExact; rw [liveAt0_8_A t h0], after0_8]
    rw [show (dats m 0 c).leavesExact 9 t = owns (c : Thread nD τ) (ms0_9 t) fullShare ((dats m 0 c).after 9 t) from by
    unfold Dat.leavesExact; rw [liveAt0_9_A t h0], after0_9]
    rw [dtAt_even m c t h0, uAt_even m c t h0, show qkAt m c t = _ from dif_pos h0]
    unfold dtEv uEv out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (X0_2 m c t) (iblk m c 3 t) (iblk m c 4 t) (iblk m c 5 t) (iblk m c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6 t], after0_6]
    rw [show (dats m 0 c).leavesExact 7 t = owns (c : Thread nD τ) (ms0_7 t) fullShare ((dats m 0 c).after 7 t) from by
    unfold Dat.leavesExact; rw [liveAt0_7 t], after0_7]
    rw [show (dats m 0 c).leavesExact 8 t = owns (c : Thread nD τ) (ms0_8 t) fullShare ((dats m 0 c).after 8 t) from by
    unfold Dat.leavesExact; rw [idleAt0_8_B t h0, flushAt0_8_B t h0], after0_8]
    rw [show (dats m 0 c).leavesExact 9 t = owns (c : Thread nD τ) (ms0_9 t) fullShare ((dats m 0 c).after 9 t) from by
    unfold Dat.leavesExact; rw [idleAt0_9_B t h0, flushAt0_9_B t h0], after0_9]
    rw [show qkAt m c t = _ from dif_neg h0]
    simp only [before0_8_B m c t h0, before0_9_B m c t h0]
    unfold out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (X0_2 m c t) (iblk m c 3 t) (iblk m c 4 t) (iblk m c 5 t) (iblk m c 6 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v30_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v30_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v30_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v30_0) = (dats m 0 c).arrAt 7 cfg0.N
      ∧ r.2.mem ((c : Thread nD τ).loc main_v30_1) = (dats m 0 c).arrAt 8 cfg0.N
      ∧ r.2.mem ((c : Thread nD τ).loc main_v30_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post7 m r h c,
      post8 m r h c,
      post9 m r h c,
      kept_main_arg0 m r h c,
      kept_main_arg1 m r h c,
      kept_main_arg2 m r h c⟩)
    (run_main m ρ)

end Cert.InQk

end
-- ==== Proof.QkPay.lean ====
module

public import proofs.«01_k».proof.Proof.QkFrame
public import Idealize.ShloMosaic.Lib.Pointwise
public import Idealize.ShloMosaic.Lib.KernelVsHost

/-! What a point of the call `_in_proj_qk` computes, entry by entry: the normalised row, a product, a rotation. -/

@[expose] public section

set_option maxRecDepth 16384

noncomputable section

namespace QkPay

open Cert.Kernel4Ideal Cert.Kernel4Ideal.Gen Idealize.ShloMosaic Idealize.ShloMosaic.TcCoe

/-- The normalising factor of a row whose squares sum to `s`. -/
def rs (s : EReal) : EReal :=
  Ideal.rsqrt (Ideal.div s (Ideal.ofBits .f32 0x45000000#32) + Ideal.ofBits .f32 0x358637BD#32)

/-- The normalised row. -/
def urow (x w : Fin 2048 → EReal) (k : Fin 2048) : EReal := x k * rs (∑ j : Fin 2048, x j * x j) * w k

theorem pay1_apply (x : Vec Ideal S1024x2048 .f32) (w : Vec Ideal S1x2048 .f32) (r : Fin 1024) (k : Fin 2048) :
    k0_pay1 (F := Ideal) x w (ix2 r k) = urow (fun j => x (ix2 r j)) (fun j => w (ix2 (0 : Fin 1) j)) k := by
  unfold urow rs
  pointwise [k0_pay1]

theorem pay2_apply (u : Vec Ideal S1024x2048 .bf16) (w : Vec Ideal S128x2048 .bf16) (r : Fin 1024) (n : Fin 128) :
    k0_pay2 (F := Ideal) u w (ix2 r n) = ∑ k : Fin 2048, u (ix2 r k) * w (ix2 n k) := by
  pointwise [k0_pay2]

theorem pay6_apply (u : Vec Ideal S1024x2048 .bf16) (w : Vec Ideal S256x2048 .bf16) (r : Fin 1024) (n : Fin 256) :
    k0_pay6 (F := Ideal) u w (ix2 r n) = ∑ k : Fin 2048, u (ix2 r k) * w (ix2 n k) := by
  pointwise [k0_pay6]

theorem pay3_eq (y : Vec Ideal S1024x128 .f32) : k0_pay3 (F := Ideal) y = y := by
  funext i; rw [eq_ix2 i]; pointwise [k0_pay3]

/-- The next 16 columns, around the end. -/
abbrev up (n : Fin 128) : Fin 128 := ⟨(n.val + 16) % 128, Nat.mod_lt _ (by omega)⟩
/-- The 16 columns before, around the start. -/
abbrev dn (n : Fin 128) : Fin 128 := ⟨(n.val + 112) % 128, Nat.mod_lt _ (by omega)⟩

/-- A row of 128 columns times the first table, plus its two shifts times the two others. -/
def rotv (a c s t : Fin 128 → EReal) (n : Fin 128) : EReal := a n * c n + a (up n) * s n + a (dn n) * t n

theorem rot_apply (v c s t : FVec Ideal S1024x128 .f32) (h h' : S1024x128.Rotates (1 : Fin 2) none) (r : Fin 1024) (n : Fin 128) :
    addf (addf (mulf v c) (mulf (dynamicRotate 1 112#32 none v h) s)) (mulf (dynamicRotate 1 16#32 none v h') t) (ix2 r n) =
      rotv (fun n => v (ix2 r n)) (fun n => c (ix2 r n)) (fun n => s (ix2 r n)) (fun n => t (ix2 r n)) n := by
  have e1 : dynamicRotate 1 112#32 none v h (ix2 r n) = v (ix2 r (up n)) := dynamicRotate_apply 1 112#32 v h _ _ (fun b => by
    fin_cases b
    · rfl
    · show (n.val + 16) % 128 = (n.val + 128 - 112 % 128) % 128; omega)
  have e2 : dynamicRotate 1 16#32 none v h' (ix2 r n) = v (ix2 r (dn n)) := dynamicRotate_apply 1 16#32 v h' _ _ (fun b => by
    fin_cases b
    · rfl
    · show (n.val + 112) % 128 = (n.val + 128 - 16 % 128) % 128; omega)
  show v (ix2 r n) * c (ix2 r n) + dynamicRotate 1 112#32 none v h (ix2 r n) * s (ix2 r n) + dynamicRotate 1 16#32 none v h' (ix2 r n) * t (ix2 r n) = _
  rw [e1, e2]; rfl

/-- The rotation of 128 columns of a product, from column `o` of it. -/
def pv (o : ℕ) (ho : o + 128 ≤ 256) (c s t : Vec Ideal S1024x128 .f32) (u : Vec Ideal S1024x2048 .bf16) (w : Vec Ideal S256x2048 .bf16) (r : Fin 1024) (n : Fin 128) : EReal :=
  rotv (fun n => ∑ k : Fin 2048, u (ix2 r k) * w (ix2 (⟨o + n.val, by omega⟩ : Fin 256) k)) (fun n => c (ix2 r n)) (fun n => s (ix2 r n)) (fun n => t (ix2 r n)) n

theorem pv_slice (o : ℕ) (ho : o + 128 ≤ 256) (c s t : Vec Ideal S1024x128 .f32) (u : Vec Ideal S1024x2048 .bf16) (w : Vec Ideal S256x2048 .bf16)
    (hs : Shape.Slices S1024x256 ![0, o] S1024x128) (h h' : S1024x128.Rotates (1 : Fin 2) none) (r : Fin 1024) (n : Fin 128) :
    addf (addf (mulf (extractStridedSlice S1024x128 ![0, o] (k0_pay6 (F := Ideal) u w) hs) (c : FVec Ideal S1024x128 .f32))
      (mulf (dynamicRotate 1 112#32 none (extractStridedSlice S1024x128 ![0, o] (k0_pay6 (F := Ideal) u w) hs) h) s))
      (mulf (dynamicRotate 1 16#32 none (extractStridedSlice S1024x128 ![0, o] (k0_pay6 (F := Ideal) u w) hs) h') t) (ix2 r n) = pv o ho c s t u w r n := by
  refine (rot_apply _ _ _ _ _ _ r n).trans ?_
  unfold pv
  refine congrArg (fun a => rotv a _ _ _ n) (funext fun q => ?_)
  refine (extractStridedSlice_apply ![0, o] _ hs (ix2 r q) (ix2 r (⟨o + q.val, by omega⟩ : Fin 256)) (fun a => match a with
    | ⟨0, _⟩ => by show r.val = 0 + r.val; omega
    | ⟨1, _⟩ => rfl)).trans (pay6_apply u w r _)

variable (c s t : Vec Ideal S1024x128 .f32) (u : Vec Ideal S1024x2048 .bf16) (w : Vec Ideal S256x2048 .bf16) (r : Fin 1024) (n : Fin 128)

theorem p8 : k0_pay8 (F := Ideal) c s t u w (ix2 r n) = pv 0 (by omega) c s t u w r n := by
  refine Eq.trans ?_ (pv_slice 0 (by omega) c s t u w slices_S1024x256_o0_0_S1024x128 rotates_S1024x128_d1 rotates_S1024x128_d1 r n)
  unfold k0_pay8
  rw [show k0_pay3 c = c from pay3_eq c, show k0_pay4 s = s from pay3_eq s, show k0_pay5 t = t from pay3_eq t]
  rfl
theorem p12 : k0_pay12 (F := Ideal) (k0_pay5 t) (k0_pay9 u w) (k0_pay10 c u w) (k0_pay11 s u w) (ix2 r n) = pv 128 (by omega) c s t u w r n := by
  refine Eq.trans ?_ (pv_slice 128 (by omega) c s t u w slices_S1024x256_o0_128_S1024x128 rotates_S1024x128_d1 rotates_S1024x128_d1 r n)
  unfold k0_pay12 k0_pay10 k0_pay11 k0_pay9
  rw [show k0_pay3 c = c from pay3_eq c, show k0_pay4 s = s from pay3_eq s, show k0_pay5 t = t from pay3_eq t]
  rfl
theorem pa (f : FVec Ideal S1024x128 .f32 → FVec Ideal S1024x128 .f32 → FVec Ideal S1024x128 .f32 → FVec Ideal S1024x256 .f32 → FVec Ideal S1024x128 .bf16)
    (hf : f = k0_pay14 (F := Ideal)) : f (k0_pay3 c) (k0_pay4 s) (k0_pay5 t) (k0_pay6 u w) (ix2 r n) = pv 0 (by omega) c s t u w r n := by
  subst hf
  refine Eq.trans ?_ (pv_slice 0 (by omega) c s t u w slices_S1024x256_o0_0_S1024x128 rotates_S1024x128_d1 rotates_S1024x128_d1 r n)
  rw [show k0_pay3 c = c from pay3_eq c, show k0_pay4 s = s from pay3_eq s, show k0_pay5 t = t from pay3_eq t]
  rfl
theorem pb (f : FVec Ideal S1024x128 .f32 → FVec Ideal S1024x128 .f32 → FVec Ideal S1024x128 .f32 → FVec Ideal S1024x256 .f32 → FVec Ideal S1024x128 .bf16)
    (hf : f = k0_pay15 (F := Ideal)) : f (k0_pay3 c) (k0_pay4 s) (k0_pay5 t) (k0_pay6 u w) (ix2 r n) = pv 128 (by omega) c s t u w r n := by
  subst hf
  refine Eq.trans ?_ (pv_slice 128 (by omega) c s t u w slices_S1024x256_o0_128_S1024x128 rotates_S1024x128_d1 rotates_S1024x128_d1 r n)
  rw [show k0_pay3 c = c from pay3_eq c, show k0_pay4 s = s from pay3_eq s, show k0_pay5 t = t from pay3_eq t]
  rfl

end QkPay

end
-- ==== Proof.QkTile.lean ====
module

public import proofs.«01_k».proof.Proof.QkPay
public import Idealize.ShloMosaic.Lib.WholeRead
public import Idealize.ShloMosaic.Lib.Pipeline.ValueKit.Basic

/-! What the two cases of a point of the call `_in_proj_qk` leave in the three outputs' buffers. -/

@[expose] public section

set_option maxRecDepth 16384

noncomputable section

namespace QkTile

open QkPay Cert.InQk Cert.Kernel4Ideal Cert.Kernel4Ideal.Gen Idealize.ShloMosaic Idealize.ShloMosaic.TcCoe

/-- Loading a rectangle of a whole buffer. -/
theorem ld2 {a b a' b' p q : ℕ} {e : EltTy} {m : Memref sig .tc .vmem ⟨2, ![a, b]⟩ e} (h : m.IsWhole)
    (X : (⟨2, ![a, b]⟩ : Shape).Idx → Elt Ideal e) (inb) (l : Fin a') (j : Fin b') (l' : Fin a) (j' : Fin b)
    (el : l'.val = p + l.val) (ej : j'.val = q + j.val) :
    View.readAt (Elt Ideal) m.view (Rect.unit (s := ⟨2, ![a, b]⟩) ![p, q] (⟨2, ![a', b']⟩ : Shape).size inb).toLoadRect (h.unread X) (ix2 l j) =
      X (ix2 l' j') := by
  refine (Memref.IsWhole.readAt_unread h X _ _).trans (congrArg X (funext fun k => ?_))
  fin_cases k
  · apply Fin.ext; show p + 1 * l.val = l'.val; omega
  · apply Fin.ext; show q + 1 * j.val = j'.val; omega

/-- Loading a whole buffer. -/
theorem ldw {a b : ℕ} {e : EltTy} {m : Memref sig .tc .vmem ⟨2, ![a, b]⟩ e} (h : m.IsWhole)
    (X : (⟨2, ![a, b]⟩ : Shape).Idx → Elt Ideal e) (inb) :
    View.readAt (Elt Ideal) m.view (Rect.unit (s := ⟨2, ![a, b]⟩) ![0, 0] (⟨2, ![a, b]⟩ : Shape).size inb).toLoadRect (h.unread X) = X := by
  funext y
  refine (Memref.IsWhole.readAt_unread h X _ _).trans (congrArg X (funext fun k => ?_))
  fin_cases k
  · apply Fin.ext; show 0 + 1 * (y 0).val = (y 0).val; omega
  · apply Fin.ext; show 0 + 1 * (y 1).val = (y 1).val; omega

/-- A tile's entry: its head's 128 columns of the product, rotated. -/
def tile (U : Vec Ideal S1024x2048 .bf16) (X : Vec Ideal S1024x2048 .bf16) (C S T : Vec Ideal S1024x128 .f32) (y : S1024x1024.Idx) : EReal :=
  rotv (fun n => ∑ k : Fin 2048, U (ix2 (y 0 : Fin 1024) k) * X (ix2 (⟨(y 1).val / 128 * 128 + n.val, by have h : (y 1).val < 1024 := (y 1).isLt; omega⟩ : Fin 1024) k))
    (fun n => C (ix2 (y 0 : Fin 1024) n)) (fun n => S (ix2 (y 0 : Fin 1024) n)) (fun n => T (ix2 (y 0 : Fin 1024) n)) ⟨(y 1).val % 128, Nat.mod_lt _ (by omega)⟩

section
variable (C S T : Vec Ideal S1024x128 .f32) (U : Vec Ideal S1024x2048 .bf16) (X : Vec Ideal S1024x2048 .bf16)

theorem piece_ok (W : Vec Ideal S256x2048 .bf16) (p q o : ℕ) (hp : p + 256 ≤ 1024) (hq : q + 128 ≤ 256) (hpq : p + q = o) (ho : o + 128 ≤ 1024) (hd : o % 128 = 0)
    (hw : ∀ (n : Fin 256) (k : Fin 2048), W (ix2 n k) = X (ix2 (⟨p + n.val, by omega⟩ : Fin 1024) k))
    (pay : FVec Ideal S1024x128 .bf16) (h : ∀ r n, pay (ix2 r n) = pv q hq C S T U W r n) (inb) (x : S1024x128.Idx) :
    pay x = tile U X C S T ((Rect.unit (s := S1024x1024) ![0, o] S1024x128.size inb).emb x) := by
  have h1 : (x 1).val < 128 := (x 1).isLt
  have e0 : ((Rect.unit (s := S1024x1024) ![0, o] S1024x128.size inb).emb x 0 : Fin 1024) = x 0 := Fin.ext (by show 0 + 1 * (x 0).val = (x 0).val; omega)
  have e1 : ((Rect.unit (s := S1024x1024) ![0, o] S1024x128.size inb).emb x 1).val = o + (x 1).val := by show o + 1 * (x 1).val = _; omega
  rw [eq_ix2 x]
  refine (h _ _).trans ?_
  rw [← eq_ix2 x]
  unfold tile pv
  rw [e0]
  refine congr (congrArg (fun a => rotv a _ _ _) (funext fun n => ?_)) (Fin.ext (by show (x 1).val = _ % 128; rw [e1]; omega))
  refine Finset.sum_congr rfl fun k _ => congrArg₂ (· * ·) rfl ((hw _ _).trans (congrArg (fun j => X (ix2 j k)) (Fin.ext ?_)))
  show p + (q + n.val) = _ / 128 * 128 + n.val
  rw [e1]; omega

/-- The eight stores of a point, the last one first. -/
def tileList (W0 W1 W2 W3 : Vec Ideal S256x2048 .bf16) : List (View.Piece (Elt Ideal) S1024x1024 .bf16) :=
  [⟨Rect.unit (s := S1024x1024) ![0, 896] S1024x128.size inb_S1024x1024_S1024x128_0_896, k0_pay20 (F := Ideal) (k0_pay3 C) (k0_pay4 S) (k0_pay5 T) (k0_pay16 U W3)⟩,
    ⟨Rect.unit (s := S1024x1024) ![0, 768] S1024x128.size inb_S1024x1024_S1024x128_0_768, k0_pay19 (F := Ideal) (k0_pay3 C) (k0_pay4 S) (k0_pay5 T) (k0_pay16 U W3)⟩,
    ⟨Rect.unit (s := S1024x1024) ![0, 640] S1024x128.size inb_S1024x1024_S1024x128_0_640, k0_pay18 (F := Ideal) (k0_pay3 C) (k0_pay4 S) (k0_pay5 T) (k0_pay13 U W2)⟩,
    ⟨Rect.unit (s := S1024x1024) ![0, 512] S1024x128.size inb_S1024x1024_S1024x128_0_512, k0_pay17 (F := Ideal) (k0_pay3 C) (k0_pay4 S) (k0_pay5 T) (k0_pay13 U W2)⟩,
    ⟨Rect.unit (s := S1024x1024) ![0, 384] S1024x128.size inb_S1024x1024_S1024x128_0_384, k0_pay15 (F := Ideal) (k0_pay3 C) (k0_pay4 S) (k0_pay5 T) (k0_pay7 U W1)⟩,
    ⟨Rect.unit (s := S1024x1024) ![0, 256] S1024x128.size inb_S1024x1024_S1024x128_0_256, k0_pay14 (F := Ideal) (k0_pay3 C) (k0_pay4 S) (k0_pay5 T) (k0_pay7 U W1)⟩,
    ⟨Rect.unit (s := S1024x1024) ![0, 128] S1024x128.size inb_S1024x1024_S1024x128_0_128, k0_pay12 (F := Ideal) (k0_pay5 T) (k0_pay9 U W0) (k0_pay10 C U W0) (k0_pay11 S U W0)⟩,
    ⟨Rect.unit (s := S1024x1024) ![0, 0] S1024x128.size inb_S1024x1024_S1024x128_0_0, k0_pay8 (F := Ideal) C S T U W0⟩]

theorem tileList_ok (W0 W1 W2 W3 : Vec Ideal S256x2048 .bf16) (h0 : ∀ (n : Fin 256) (k : Fin 2048), W0 (ix2 n k) = X (ix2 (⟨0 + n.val, by omega⟩ : Fin 1024) k)) (h1 : ∀ (n : Fin 256) (k : Fin 2048), W1 (ix2 n k) = X (ix2 (⟨256 + n.val, by omega⟩ : Fin 1024) k)) (h2 : ∀ (n : Fin 256) (k : Fin 2048), W2 (ix2 n k) = X (ix2 (⟨512 + n.val, by omega⟩ : Fin 1024) k)) (h3 : ∀ (n : Fin 256) (k : Fin 2048), W3 (ix2 n k) = X (ix2 (⟨768 + n.val, by omega⟩ : Fin 1024) k)) :
    ∀ p ∈ tileList C S T U W0 W1 W2 W3, ∀ x, p.2 x = tile U X C S T (p.1.emb x) := by
  intro p hp
  unfold tileList at hp
  simp only [List.mem_cons, List.not_mem_nil, or_false] at hp
  rcases hp with h | h | h | h | h | h | h | h
  · subst h; exact piece_ok C S T U X W3 768 128 896 (by omega) (by omega) (by omega) (by omega) (by omega) h3 _ (fun r n => pb C S T U W3 r n _ rfl) inb_S1024x1024_S1024x128_0_896
  · subst h; exact piece_ok C S T U X W3 768 0 768 (by omega) (by omega) (by omega) (by omega) (by omega) h3 _ (fun r n => pa C S T U W3 r n _ rfl) inb_S1024x1024_S1024x128_0_768
  · subst h; exact piece_ok C S T U X W2 512 128 640 (by omega) (by omega) (by omega) (by omega) (by omega) h2 _ (fun r n => pb C S T U W2 r n _ rfl) inb_S1024x1024_S1024x128_0_640
  · subst h; exact piece_ok C S T U X W2 512 0 512 (by omega) (by omega) (by omega) (by omega) (by omega) h2 _ (fun r n => pa C S T U W2 r n _ rfl) inb_S1024x1024_S1024x128_0_512
  · subst h; exact piece_ok C S T U X W1 256 128 384 (by omega) (by omega) (by omega) (by omega) (by omega) h1 _ (fun r n => pb C S T U W1 r n _ rfl) inb_S1024x1024_S1024x128_0_384
  · subst h; exact piece_ok C S T U X W1 256 0 256 (by omega) (by omega) (by omega) (by omega) (by omega) h1 _ (fun r n => pa C S T U W1 r n _ rfl) inb_S1024x1024_S1024x128_0_256
  · subst h; exact piece_ok C S T U X W0 0 128 128 (by omega) (by omega) (by omega) (by omega) (by omega) h0 _ (fun r n => p12 C S T U W0 r n) inb_S1024x1024_S1024x128_0_128
  · subst h; exact piece_ok C S T U X W0 0 0 0 (by omega) (by omega) (by omega) (by omega) (by omega) h0 _ (fun r n => p8 C S T U W0 r n) inb_S1024x1024_S1024x128_0_0

end

/-- The normalised block. -/
def uOf (x0 : Vec Ideal S1024x2048 .f32) (x1 : Vec Ideal S1x2048 .f32) : Vec Ideal S1024x2048 .bf16 := fun y =>
  urow (fun j => x0 (ix2 (y 0 : Fin 1024) j)) (fun j => x1 (ix2 (0 : Fin 1) j)) (y 1)

theorem pay1_eq (x0 : Vec Ideal S1024x2048 .f32) (x1 : Vec Ideal S1x2048 .f32) : k0_pay1 (F := Ideal) x0 x1 = uOf x0 x1 := by
  funext y; rw [eq_ix2 y]; exact pay1_apply x0 x1 _ _

/-- The block of dt. -/
def dtOf (u : Vec Ideal S1024x2048 .bf16) (w : Vec Ideal S128x2048 .bf16) : Vec Ideal S1024x128 .f32 := fun y =>
  ∑ k : Fin 2048, u (ix2 (y 0 : Fin 1024) k) * w (ix2 (y 1 : Fin 128) k)

theorem pay2_eq (u : Vec Ideal S1024x2048 .bf16) (w : Vec Ideal S128x2048 .bf16) : k0_pay2 (F := Ideal) u w = dtOf u w := by
  funext y; rw [eq_ix2 y]; exact pay2_apply u w _ _

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : cond0_0 i)
    (x0 : Vec Ideal S1024x2048 .f32) (x1 : Vec Ideal S1x2048 .f32) (x2 : Vec Ideal S1024x2048 .bf16) (x3 : Vec Ideal S128x2048 .bf16) (x4 : Vec Ideal S1024x128 .f32) (x5 : Vec Ideal S1024x128 .f32) (x6 : Vec Ideal S1024x128 .f32)

theorem v126_eq : (kernelRun0_A.sl.v126 (F := Ideal) c arg2 harg2 arg3 harg3 arg11 x0 x1) = uOf x0 x1 := by
  refine Eq.trans (View.readCov_cons_toLoadRect (Val := Elt Ideal) arg11.view (Rect.unit (s := S1024x2048) ![0, 0] S1024x2048.size inb_S1024x2048_S1024x2048_0_0) (k0_pay1 (F := Ideal) (View.readAt (Elt Ideal) arg2.view (Rect.unit (s := S1024x2048) ![0, 0] S1024x2048.size inb_S1024x2048_S1024x2048_0_0).toLoadRect (harg2.unread x0)) (View.readAt (Elt Ideal) arg3.view (Rect.unit (s := S1x2048) ![0, 0] S1x2048.size inb_S1x2048_S1x2048_0_0).toLoadRect (harg3.unread x1))) []) ?_
  rw [show (View.readAt (Elt Ideal) arg2.view (Rect.unit (s := S1024x2048) ![0, 0] S1024x2048.size inb_S1024x2048_S1024x2048_0_0).toLoadRect (harg2.unread x0)) = x0 from ldw harg2 x0 _, show (View.readAt (Elt Ideal) arg3.view (Rect.unit (s := S1x2048) ![0, 0] S1x2048.size inb_S1x2048_S1x2048_0_0).toLoadRect (harg3.unread x1)) = x1 from ldw harg3 x1 _]
  exact pay1_eq x0 x1

theorem stores7 : (kernelRun0_A (F := Ideal) c i arg2 harg2 arg3 harg3 arg4 harg4 arg5 harg5 arg6 harg6 arg7 harg7 arg8 harg8 arg9 harg9 arg10 harg10 arg11 harg11 hc0 x0 x1 x2 x3 x4 x5 x6).1 = tileList (View.readAt (Elt Ideal) arg6.view (Rect.unit (s := S1024x128) ![0, 0] S1024x128.size inb_S1024x128_S1024x128_0_0).toLoadRect (harg6.unread x4)) (View.readAt (Elt Ideal) arg7.view (Rect.unit (s := S1024x128) ![0, 0] S1024x128.size inb_S1024x128_S1024x128_0_0).toLoadRect (harg7.unread x5)) (View.readAt (Elt Ideal) arg8.view (Rect.unit (s := S1024x128) ![0, 0] S1024x128.size inb_S1024x128_S1024x128_0_0).toLoadRect (harg8.unread x6)) (kernelRun0_A.sl.v126 (F := Ideal) c arg2 harg2 arg3 harg3 arg11 x0 x1) (View.readAt (Elt Ideal) arg4.view (Rect.unit (s := S1024x2048) ![0, 0] S256x2048.size inb_S1024x2048_S256x2048_0_0).toLoadRect (harg4.unread x2)) (View.readAt (Elt Ideal) arg4.view (Rect.unit (s := S1024x2048) ![256, 0] S256x2048.size inb_S1024x2048_S256x2048_256_0).toLoadRect (harg4.unread x2)) (View.readAt (Elt Ideal) arg4.view (Rect.unit (s := S1024x2048) ![512, 0] S256x2048.size inb_S1024x2048_S256x2048_512_0).toLoadRect (harg4.unread x2)) (View.readAt (Elt Ideal) arg4.view (Rect.unit (s := S1024x2048) ![768, 0] S256x2048.size inb_S1024x2048_S256x2048_768_0).toLoadRect (harg4.unread x2)) := by
  exact id rfl

theorem stores8 : (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.1 = [⟨Rect.unit (s := S1024x128) ![0, 0] S1024x128.size inb_S1024x128_S1024x128_0_0, k0_pay2 (F := Ideal) (kernelRun0_A.sl.v126 (F := Ideal) c arg2 harg2 arg3 harg3 arg11 x0 x1) (View.readAt (Elt Ideal) arg5.view (Rect.unit (s := S128x2048) ![0, 0] S128x2048.size inb_S128x2048_S128x2048_0_0).toLoadRect (harg5.unread x3))⟩] := by
  exact id rfl

theorem stores9 : (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.2.1 = [⟨Rect.unit (s := S1024x2048) ![0, 0] S1024x2048.size inb_S1024x2048_S1024x2048_0_0, (k0_pay1 (F := Ideal) (View.readAt (Elt Ideal) arg2.view (Rect.unit (s := S1024x2048) ![0, 0] S1024x2048.size inb_S1024x2048_S1024x2048_0_0).toLoadRect (harg2.unread x0)) (View.readAt (Elt Ideal) arg3.view (Rect.unit (s := S1x2048) ![0, 0] S1x2048.size inb_S1x2048_S1x2048_0_0).toLoadRect (harg3.unread x1)))⟩] := by
  exact id rfl

theorem out7_A : out0_A_7 (F := Ideal) c i arg2 harg2 arg3 harg3 arg4 harg4 arg5 harg5 arg6 harg6 arg7 harg7 arg8 harg8 arg9 harg9 arg10 harg10 arg11 harg11 hc0 x0 x1 x2 x3 x4 x5 x6 = tile (uOf x0 x1) x2 x4 x5 x6 := by
  funext y
  have hc := cover0_A_7 (F := Ideal) c i arg2 harg2 arg3 harg3 arg4 harg4 arg5 harg5 arg6 harg6 arg7 harg7 arg8 harg8 arg9 harg9 arg10 harg10 arg11 harg11 hc0 x0 x1 x2 x3 x4 x5 x6 y
  unfold out0_A_7
  rw [View.read_writes_junk_eq_canon]
  refine View.canon_apply_of_pieces (tile (uOf x0 x1) x2 x4 x5 x6) _ ?_ y hc
  rw [stores7, v126_eq, show (View.readAt (Elt Ideal) arg6.view (Rect.unit (s := S1024x128) ![0, 0] S1024x128.size inb_S1024x128_S1024x128_0_0).toLoadRect (harg6.unread x4)) = x4 from ldw harg6 x4 _, show (View.readAt (Elt Ideal) arg7.view (Rect.unit (s := S1024x128) ![0, 0] S1024x128.size inb_S1024x128_S1024x128_0_0).toLoadRect (harg7.unread x5)) = x5 from ldw harg7 x5 _, show (View.readAt (Elt Ideal) arg8.view (Rect.unit (s := S1024x128) ![0, 0] S1024x128.size inb_S1024x128_S1024x128_0_0).toLoadRect (harg8.unread x6)) = x6 from ldw harg8 x6 _]
  exact tileList_ok x4 x5 x6 (uOf x0 x1) x2 _ _ _ _ (fun n k => ld2 harg4 x2 inb_S1024x2048_S256x2048_0_0 n k _ k rfl (by omega)) (fun n k => ld2 harg4 x2 inb_S1024x2048_S256x2048_256_0 n k _ k rfl (by omega)) (fun n k => ld2 harg4 x2 inb_S1024x2048_S256x2048_512_0 n k _ k rfl (by omega)) (fun n k => ld2 harg4 x2 inb_S1024x2048_S256x2048_768_0 n k _ k rfl (by omega))

theorem emb0 {a b : ℕ} (inb) (y : (⟨2, ![a, b]⟩ : Shape).Idx) : (Rect.unit (s := ⟨2, ![a, b]⟩) ![0, 0] (⟨2, ![a, b]⟩ : Shape).size inb).emb y = y := by
  funext k; fin_cases k
  · apply Fin.ext; show 0 + 1 * (y 0).val = (y 0).val; omega
  · apply Fin.ext; show 0 + 1 * (y 1).val = (y 1).val; omega

theorem out8_A : out0_A_8 (F := Ideal) c i arg2 harg2 arg3 harg3 arg4 harg4 arg5 harg5 arg6 harg6 arg7 harg7 arg8 harg8 arg9 harg9 arg10 harg10 arg11 harg11 hc0 x0 x1 x2 x3 x4 x5 x6 = dtOf (uOf x0 x1) x3 := by
  funext y
  unfold out0_A_8
  rw [View.read_writes_junk_eq_canon, stores8, v126_eq, show (View.readAt (Elt Ideal) arg5.view (Rect.unit (s := S128x2048) ![0, 0] S128x2048.size inb_S128x2048_S128x2048_0_0).toLoadRect (harg5.unread x3)) = x3 from ldw harg5 x3 _, pay2_eq]
  exact (congrArg _ (emb0 inb_S1024x128_S1024x128_0_0 y).symm).trans (View.canon_cons_emb _ _ _ _)

theorem out9_A : out0_A_9 (F := Ideal) c i arg2 harg2 arg3 harg3 arg4 harg4 arg5 harg5 arg6 harg6 arg7 harg7 arg8 harg8 arg9 harg9 arg10 harg10 arg11 harg11 hc0 x0 x1 x2 x3 x4 x5 x6 = uOf x0 x1 := by
  funext y
  unfold out0_A_9
  rw [View.read_writes_junk_eq_canon, stores9, show (View.readAt (Elt Ideal) arg2.view (Rect.unit (s := S1024x2048) ![0, 0] S1024x2048.size inb_S1024x2048_S1024x2048_0_0).toLoadRect (harg2.unread x0)) = x0 from ldw harg2 x0 _, show (View.readAt (Elt Ideal) arg3.view (Rect.unit (s := S1x2048) ![0, 0] S1x2048.size inb_S1x2048_S1x2048_0_0).toLoadRect (harg3.unread x1)) = x1 from ldw harg3 x1 _, pay1_eq]
  exact (congrArg _ (emb0 inb_S1024x2048_S1024x2048_0_0 y).symm).trans (View.canon_cons_emb _ _ _ _)

end

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S128x2048 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole) (hc0 : ¬cond0_0 i)
    (x0 : Vec Ideal S1024x2048 .f32) (x1 : Vec Ideal S1x2048 .f32) (x2 : Vec Ideal S1024x2048 .bf16) (x3 : Vec Ideal S128x2048 .bf16) (x4 : Vec Ideal S1024x128 .f32) (x5 : Vec Ideal S1024x128 .f32) (x6 : Vec Ideal S1024x128 .f32) (xo8 : Vec Ideal S1024x128 .f32) (xo9 : Vec Ideal S1024x2048 .bf16)

theorem stores7B : (kernelRun0_B (F := Ideal) c i arg2 harg2 arg3 harg3 arg4 harg4 arg5 harg5 arg6 harg6 arg7 harg7 arg8 harg8 arg9 harg9 arg10 harg10 arg11 harg11 hc0 x0 x1 x2 x3 x4 x5 x6 xo8 xo9).1 = tileList (View.readAt (Elt Ideal) arg6.view (Rect.unit (s := S1024x128) ![0, 0] S1024x128.size inb_S1024x128_S1024x128_0_0).toLoadRect (harg6.unread x4)) (View.readAt (Elt Ideal) arg7.view (Rect.unit (s := S1024x128) ![0, 0] S1024x128.size inb_S1024x128_S1024x128_0_0).toLoadRect (harg7.unread x5)) (View.readAt (Elt Ideal) arg8.view (Rect.unit (s := S1024x128) ![0, 0] S1024x128.size inb_S1024x128_S1024x128_0_0).toLoadRect (harg8.unread x6)) (View.readAt (Elt Ideal) arg11.view (Rect.unit (s := S1024x2048) ![0, 0] S1024x2048.size inb_S1024x2048_S1024x2048_0_0).toLoadRect (harg11.unread xo9)) (View.readAt (Elt Ideal) arg4.view (Rect.unit (s := S1024x2048) ![0, 0] S256x2048.size inb_S1024x2048_S256x2048_0_0).toLoadRect (harg4.unread x2)) (View.readAt (Elt Ideal) arg4.view (Rect.unit (s := S1024x2048) ![256, 0] S256x2048.size inb_S1024x2048_S256x2048_256_0).toLoadRect (harg4.unread x2)) (View.readAt (Elt Ideal) arg4.view (Rect.unit (s := S1024x2048) ![512, 0] S256x2048.size inb_S1024x2048_S256x2048_512_0).toLoadRect (harg4.unread x2)) (View.readAt (Elt Ideal) arg4.view (Rect.unit (s := S1024x2048) ![768, 0] S256x2048.size inb_S1024x2048_S256x2048_768_0).toLoadRect (harg4.unread x2)) := by
  exact id rfl

theorem out7_B : out0_B_7 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = tile xo9 x2 x4 x5 x6 := by
  funext y
  have hc := cover0_B_7 (F := Ideal) c i arg2 harg2 arg3 harg3 arg4 harg4 arg5 harg5 arg6 harg6 arg7 harg7 arg8 harg8 arg9 harg9 arg10 harg10 arg11 harg11 hc0 x0 x1 x2 x3 x4 x5 x6 xo8 xo9 y
  unfold out0_B_7
  rw [View.read_writes_junk_eq_canon]
  refine View.canon_apply_of_pieces (tile xo9 x2 x4 x5 x6) _ ?_ y hc
  rw [stores7B, show (View.readAt (Elt Ideal) arg6.view (Rect.unit (s := S1024x128) ![0, 0] S1024x128.size inb_S1024x128_S1024x128_0_0).toLoadRect (harg6.unread x4)) = x4 from ldw harg6 x4 _, show (View.readAt (Elt Ideal) arg7.view (Rect.unit (s := S1024x128) ![0, 0] S1024x128.size inb_S1024x128_S1024x128_0_0).toLoadRect (harg7.unread x5)) = x5 from ldw harg7 x5 _, show (View.readAt (Elt Ideal) arg8.view (Rect.unit (s := S1024x128) ![0, 0] S1024x128.size inb_S1024x128_S1024x128_0_0).toLoadRect (harg8.unread x6)) = x6 from ldw harg8 x6 _, show (View.readAt (Elt Ideal) arg11.view (Rect.unit (s := S1024x2048) ![0, 0] S1024x2048.size inb_S1024x2048_S1024x2048_0_0).toLoadRect (harg11.unread xo9)) = xo9 from ldw harg11 xo9 _]
  exact tileList_ok x4 x5 x6 xo9 x2 _ _ _ _ (fun n k => ld2 harg4 x2 inb_S1024x2048_S256x2048_0_0 n k _ k rfl (by omega)) (fun n k => ld2 harg4 x2 inb_S1024x2048_S256x2048_256_0 n k _ k rfl (by omega)) (fun n k => ld2 harg4 x2 inb_S1024x2048_S256x2048_512_0 n k _ k rfl (by omega)) (fun n k => ld2 harg4 x2 inb_S1024x2048_S256x2048_768_0 n k _ k rfl (by omega))

end

variable (m : (ℓ : Loc nD τ sig) → Buf (Elt Ideal) ℓ) (c : Dev nD)

theorem uAt_eq (t : Fin cfg0.N) : uAt m c t = uOf (iblk m c 0 (base t)) (iblk m c 1 (base t)) := by
  unfold uAt uEv
  exact out9_A _ _ _ _ _ _ _ _ _ _ _ _ _ _ _ _ _ _ _ _ _ _ _ _ _ _ _ _ _ _

theorem dtAt_eq (t : Fin cfg0.N) : dtAt m c t = dtOf (uOf (iblk m c 0 (base t)) (iblk m c 1 (base t))) (iblk m c 3 (base t)) := by
  unfold dtAt dtEv
  exact out8_A _ _ _ _ _ _ _ _ _ _ _ _ _ _ _ _ _ _ _ _ _ _ _ _ _ _ _ _ _ _

theorem qkAt_eq (t : Fin cfg0.N) : qkAt m c t = tile (uAt m c t) (X0_2 m c t) (iblk m c 4 t) (iblk m c 5 t) (iblk m c 6 t) := by
  unfold qkAt
  by_cases h0 : t.val % 2 = 0
  · rw [dif_pos h0, uAt_eq, base_even t h0]
    exact out7_A _ _ _ _ _ _ _ _ _ _ _ _ _ _ _ _ _ _ _ _ _ _ _ _ _ _ _ _ _ _
  · rw [dif_neg h0]
    exact out7_B _ _ _ _ _ _ _ _ _ _ _ _ _ _ _ _ _ _ _ _ _ _ _ _ _ _ _ _ _ _ _ _

end QkTile

end
-- ==== Proof.QkHost.lean ====
module

public import proofs.«01_k».proof.Proof.QkTile
public import proofs.«01_k».proof.Proof.Gen.Reference4Ideal.Read
public import Idealize.ShloMosaic.Lib.StableHlo.RunRead

/-! What the call `_in_proj_qk` reads: the arrays the operations before it leave, and its blocks at a point. -/

@[expose] public section

set_option maxRecDepth 16384

noncomputable section

namespace QkHost

open QkPay QkTile Cert.InQk Cert.Kernel4Ideal Cert.Kernel4Ideal.Gen Idealize.ShloMosaic Idealize.ShloMosaic.TcCoe

/-- The cosines of the angles. -/
def cosT (l : Fin 2048) (n : Fin 16) : EReal := Cert.Reference4Ideal.Read.val_main_v30 (F := Ideal) (ix2 l n)
/-- The sines of the angles. -/
def sinT (l : Fin 2048) (n : Fin 16) : EReal := Cert.Reference4Ideal.Read.val_main_v32 (F := Ideal) (ix2 l n)

/-- The first table: the cosines twice, then ones. -/
def tc (l : Fin 2048) (n : Fin 128) : EReal :=
  if h : n.val < 16 then cosT l ⟨n.val, h⟩ else if h' : n.val < 32 then cosT l ⟨n.val - 16, by omega⟩ else 1
/-- The second table: the sines negated, then zeros. -/
def ts (l : Fin 2048) (n : Fin 128) : EReal := if h : n.val < 16 then -sinT l ⟨n.val, h⟩ else 0
/-- The third table: zeros, the sines, zeros. -/
def tb (l : Fin 2048) (n : Fin 128) : EReal :=
  if h : n.val < 16 then 0 else if h' : n.val < 32 then sinT l ⟨n.val - 16, by omega⟩ else 0

/-- Three pieces side by side, read at a column. -/
theorem cat3 (a b : FVec Ideal S2048x16 .f32) (d : FVec Ideal S2048x96 .f32) (l : Fin 2048) (n : Fin 128) :
    concatenate S2048x128 1 [⟨S2048x16, a⟩, ⟨S2048x16, b⟩, ⟨S2048x96, d⟩] concatenates_S2048x16_S2048x16_S2048x96_S2048x128_d1 (ix2 l n) =
      if h : n.val < 16 then a (ix2 l ⟨n.val, h⟩) else if h' : n.val < 32 then b (ix2 l ⟨n.val - 16, by omega⟩) else d (ix2 l ⟨n.val - 32, by omega⟩) := by
  by_cases h : n.val < 16
  · rw [dif_pos h]
    exact concatenate_apply_piece (t := S2048x128) 1 _ _ (ix2 l n) 0 (by simp) S2048x16 a rfl rfl 0 rfl (ix2 l (⟨n.val, h⟩ : Fin 16))
      (fun q hq => match q, hq with
        | ⟨0, _⟩, _ => rfl
        | ⟨1, _⟩, hq => absurd rfl hq) (by show 0 + n.val = n.val; omega)
  · rw [dif_neg h]
    by_cases h' : n.val < 32
    · rw [dif_pos h']
      exact concatenate_apply_piece (t := S2048x128) 1 _ _ (ix2 l n) 1 (by simp) S2048x16 b rfl rfl 16 rfl (ix2 l (⟨n.val - 16, by omega⟩ : Fin 16))
        (fun q hq => match q, hq with
          | ⟨0, _⟩, _ => rfl
          | ⟨1, _⟩, hq => absurd rfl hq) (by show 16 + (n.val - 16) = n.val; omega)
    · rw [dif_neg h']
      exact concatenate_apply_piece (t := S2048x128) 1 _ _ (ix2 l n) 2 (by simp) S2048x96 d rfl rfl 32 rfl (ix2 l (⟨n.val - 32, by omega⟩ : Fin 96))
        (fun q hq => match q, hq with
          | ⟨0, _⟩, _ => rfl
          | ⟨1, _⟩, hq => absurd rfl hq) (by show 32 + (n.val - 32) = n.val; omega)

variable (m : (ℓ : Loc nD τ sig) → Buf (Elt Ideal) ℓ) (c : Dev nD)

/-! ## The arrays the call reads -/

theorem V_v1 : V m c main_v1 = truncf (F := Ideal) .bf16 (transpose S8224x2048 [1, 0] (m ((c : Thread nD τ).loc main_arg2)) transposes_S2048x8224_S8224x2048_1_0) bitsLt_bf16_f32 := by
  unfold V
  simp only [hostOps0, hostOps0_1, hostOps0_2, List.flatten_cons, List.flatten_nil, List.append_nil, List.cons_append, List.nil_append]
  after_reads_simp

theorem V_v3 : V m c main_v3 = pad S128x2048 ![0, 0] ![96, 0] ![0, 0] (extractStridedSlice S32x2048 ![8192, 0] (truncf (F := Ideal) .bf16 (transpose S8224x2048 [1, 0] (m ((c : Thread nD τ).loc main_arg2)) transposes_S2048x8224_S8224x2048_1_0) bitsLt_bf16_f32) slices_S8224x2048_S32x2048_8192_0)
    (sitofp (F := Ideal) .bf16 (constantI S_ 32 0#32)) pads_S32x2048_S128x2048_0960_000 h_S_ := by
  unfold V
  simp only [hostOps0, hostOps0_1, hostOps0_2, List.flatten_cons, List.flatten_nil, List.append_nil, List.cons_append, List.nil_append]
  after_reads_simp
  try rfl

theorem V_v4 : V m c main_v4 = shapeCast S1x2048 (m ((c : Thread nD τ).loc main_arg1)) shapeCasts_S2048_S1x2048 := by
  unfold V
  simp only [hostOps0, hostOps0_1, hostOps0_2, List.flatten_cons, List.flatten_nil, List.append_nil, List.cons_append, List.nil_append]
  after_reads_simp
  try rfl

theorem V_v26 : V m c main_v26 = concatenate S2048x128 1 [⟨S2048x16, (Cert.Reference4Ideal.Read.val_main_v30 (F := Ideal) : FVec Ideal S2048x16 .f32)⟩, ⟨S2048x16, (Cert.Reference4Ideal.Read.val_main_v30 (F := Ideal) : FVec Ideal S2048x16 .f32)⟩,
    ⟨S2048x96, (broadcastInDim S2048x96 ![] bcast_S_S2048x96 (constant (F := Ideal) S_ .f32 0x3F800000#32) : FVec Ideal S2048x96 .f32)⟩] concatenates_S2048x16_S2048x16_S2048x96_S2048x128_d1 := by
  unfold V
  simp only [hostOps0, hostOps0_1, hostOps0_2, List.flatten_cons, List.flatten_nil, List.append_nil, List.cons_append, List.nil_append]
  after_reads_simp
  rfl

theorem V_v28 : V m c main_v28 = concatenate S2048x128 1 [⟨S2048x16, (Host.negf (F := Ideal) (Cert.Reference4Ideal.Read.val_main_v32 (F := Ideal)) : FVec Ideal S2048x16 .f32)⟩, ⟨S2048x16, (broadcastInDim S2048x16 ![] bcast_S_S2048x16 (constant (F := Ideal) S_ .f32 0x00000000#32) : FVec Ideal S2048x16 .f32)⟩,
    ⟨S2048x96, (broadcastInDim S2048x96 ![] bcast_S_S2048x96 (constant (F := Ideal) S_ .f32 0x00000000#32) : FVec Ideal S2048x96 .f32)⟩] concatenates_S2048x16_S2048x16_S2048x96_S2048x128_d1 := by
  unfold V
  simp only [hostOps0, hostOps0_1, hostOps0_2, List.flatten_cons, List.flatten_nil, List.append_nil, List.cons_append, List.nil_append]
  after_reads_simp
  rfl

theorem V_v29 : V m c main_v29 = concatenate S2048x128 1 [⟨S2048x16, (broadcastInDim S2048x16 ![] bcast_S_S2048x16 (constant (F := Ideal) S_ .f32 0x00000000#32) : FVec Ideal S2048x16 .f32)⟩, ⟨S2048x16, (Cert.Reference4Ideal.Read.val_main_v32 (F := Ideal) : FVec Ideal S2048x16 .f32)⟩,
    ⟨S2048x96, (broadcastInDim S2048x96 ![] bcast_S_S2048x96 (constant (F := Ideal) S_ .f32 0x00000000#32) : FVec Ideal S2048x96 .f32)⟩] concatenates_S2048x16_S2048x16_S2048x96_S2048x128_d1 := by
  unfold V
  simp only [hostOps0, hostOps0_1, hostOps0_2, List.flatten_cons, List.flatten_nil, List.append_nil, List.cons_append, List.nil_append]
  after_reads_simp
  rfl

theorem V_v1_at (n : Fin 8224) (k : Fin 2048) : V m c main_v1 (ix2 n k) = m ((c : Thread nD τ).loc main_arg2) (ix2 k n) := by
  rw [V_v1]
  generalize m ((c : Thread nD τ).loc main_arg2) = y
  pointwise []

/-- The weight's row for a column of dt: the weight's last 32 columns, then zeros. -/
def wdt (y : Vec Ideal S2048x8224 .f32) (n : Fin 128) (k : Fin 2048) : EReal :=
  if h : n.val < 32 then y (ix2 k ⟨8192 + n.val, by omega⟩) else 0

theorem V_v3_at (n : Fin 128) (k : Fin 2048) : V m c main_v3 (ix2 n k) = wdt (m ((c : Thread nD τ).loc main_arg2)) n k := by
  rw [V_v3]
  generalize m ((c : Thread nD τ).loc main_arg2) = y
  unfold wdt
  by_cases h : n.val < 32
  · rw [dif_pos h]
    refine (pad_apply_of_inside ![0, 0] ![96, 0] ![0, 0] _ _ pads_S32x2048_S128x2048_0960_000 h_S_ (ix2 n k) (ix2 (⟨n.val, h⟩ : Fin 32) k) (fun a => match a with
      | ⟨0, _⟩ => by show n.val = 0 + n.val * (0 + 1); omega
      | ⟨1, _⟩ => by show k.val = 0 + k.val * (0 + 1); omega)).trans ?_
    pointwise []
  · rw [dif_neg h]
    refine (pad_apply_of_not_inside (s := S32x2048) (t := S128x2048) ![0, 0] ![96, 0] ![0, 0] _ _ pads_S32x2048_S128x2048_0960_000 h_S_ (ix2 n k) (0 : Fin 2) (fun hh => ?_)).trans ?_
    · have h3 := hh.2.2
      have h4 : (n.val - 0) / (0 + 1) < 32 := h3
      omega
    · show (((0#32 : BitVec 32).toInt : ℝ) : EReal) = 0
      simp

theorem V_v4_at (k : Fin 2048) : V m c main_v4 (ix2 (0 : Fin 1) k) = m ((c : Thread nD τ).loc main_arg1) (ix1 k) := by
  rw [V_v4]
  generalize m ((c : Thread nD τ).loc main_arg1) = y
  pointwise []

theorem one_at (i : S2048x96.Idx) : (broadcastInDim S2048x96 ![] bcast_S_S2048x96 (constant (F := Ideal) S_ .f32 0x3F800000#32) : FVec Ideal S2048x96 .f32) i = 1 := by
  rw [eq_ix2 i]; pointwise []
theorem zero_at (i : S2048x96.Idx) : (broadcastInDim S2048x96 ![] bcast_S_S2048x96 (constant (F := Ideal) S_ .f32 0x00000000#32) : FVec Ideal S2048x96 .f32) i = 0 := by
  rw [eq_ix2 i]; pointwise []
theorem zero16_at (i : S2048x16.Idx) : (broadcastInDim S2048x16 ![] bcast_S_S2048x16 (constant (F := Ideal) S_ .f32 0x00000000#32) : FVec Ideal S2048x16 .f32) i = 0 := by
  rw [eq_ix2 i]; pointwise []

theorem V_v26_at (l : Fin 2048) (n : Fin 128) : V m c main_v26 (ix2 l n) = tc l n := by
  rw [V_v26]
  refine (cat3 _ _ _ l n).trans ?_
  unfold tc
  by_cases h : n.val < 16
  · rw [dif_pos h, dif_pos h]; rfl
  · rw [dif_neg h, dif_neg h]
    by_cases h' : n.val < 32
    · rw [dif_pos h', dif_pos h']; rfl
    · rw [dif_neg h', dif_neg h']; exact one_at _
theorem V_v28_at (l : Fin 2048) (n : Fin 128) : V m c main_v28 (ix2 l n) = ts l n := by
  rw [V_v28]
  refine (cat3 _ _ _ l n).trans ?_
  unfold ts
  by_cases h : n.val < 16
  · rw [dif_pos h, dif_pos h]; rfl
  · rw [dif_neg h, dif_neg h]
    by_cases h' : n.val < 32
    · rw [dif_pos h']; exact zero16_at _
    · rw [dif_neg h']; exact zero_at _
theorem V_v29_at (l : Fin 2048) (n : Fin 128) : V m c main_v29 (ix2 l n) = tb l n := by
  rw [V_v29]
  refine (cat3 _ _ _ l n).trans ?_
  unfold tb
  by_cases h : n.val < 16
  · rw [dif_pos h, dif_pos h]; exact zero16_at _
  · rw [dif_neg h, dif_neg h]
    by_cases h' : n.val < 32
    · rw [dif_pos h', dif_pos h']; rfl
    · rw [dif_neg h', dif_neg h']; exact zero_at _

/-! ## The blocks a point reads -/

theorem idx0 : ∀ t : Fin cfg0.N, win0_0.index t (0 : Fin 2) = t.val / 2 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val % 2 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val / 2 % 2 ∧ win0_4.index t (1 : Fin 2) = 0 := (by decide +kernel : ∀ t : Fin grid0.N, _)
theorem idx5 : ∀ t : Fin cfg0.N, win0_5.index t (0 : Fin 2) = t.val / 2 % 2 ∧ win0_5.index t (1 : Fin 2) = 0 := (by decide +kernel : ∀ t : Fin grid0.N, _)
theorem idx6 : ∀ t : Fin cfg0.N, win0_6.index t (0 : Fin 2) = t.val / 2 % 2 ∧ win0_6.index t (1 : Fin 2) = 0 := (by decide +kernel : ∀ t : Fin grid0.N, _)
theorem idx7 : ∀ t : Fin cfg0.N, win0_7.index t (0 : Fin 2) = t.val / 2 ∧ win0_7.index t (1 : Fin 2) = t.val % 2 := (by decide +kernel : ∀ t : Fin grid0.N, _)
theorem idx8 : ∀ t : Fin cfg0.N, win0_8.index t (0 : Fin 2) = t.val / 2 ∧ win0_8.index t (1 : Fin 2) = 0 := (by decide +kernel : ∀ t : Fin grid0.N, _)
theorem idx9 : ∀ t : Fin cfg0.N, win0_9.index t (0 : Fin 2) = t.val / 2 ∧ win0_9.index t (1 : Fin 2) = 0 := (by decide +kernel : ∀ t : Fin grid0.N, _)

theorem t_lt (t : Fin cfg0.N) : t.val < 32 := t.isLt

/-- The array row of a block's row. -/
abbrev row (t : Fin cfg0.N) (r : Fin 1024) : Fin 16384 := ⟨t.val / 2 * 1024 + r.val, by have := t_lt t; omega⟩

/-- The position of a row in its sequence. -/
abbrev pos (r : Fin 16384) : Fin 2048 := ⟨r.val % 2048, Nat.mod_lt _ (by omega)⟩

theorem blk0 (t : Fin cfg0.N) (r : Fin 1024) (k : Fin 2048) :
    (iblk m c 0 t : Vec Ideal S1024x2048 .f32) (ix2 r k) = m ((c : Thread nD τ).loc main_arg0) (ix2 (row t r) k) := by
  obtain ⟨e0, e1⟩ := idx0 t
  refine (congrFun (V_main_arg0 m c) _).trans (congrArg (m ((c : Thread nD τ).loc main_arg0)) (funext fun a => Fin.ext ?_))
  match a with
  | ⟨0, _⟩ => show win0_0.index t (0 : Fin 2) * 1024 + 1 * r.val = t.val / 2 * 1024 + r.val; omega
  | ⟨1, _⟩ => show win0_0.index t (1 : Fin 2) * 2048 + 1 * k.val = k.val; omega

theorem blk1 (t : Fin cfg0.N) (k : Fin 2048) :
    (iblk m c 1 t : Vec Ideal S1x2048 .f32) (ix2 (0 : Fin 1) k) = m ((c : Thread nD τ).loc main_arg1) (ix1 k) := by
  obtain ⟨e0, e1⟩ := idx1 t
  refine Eq.trans ?_ (V_v4_at m c k)
  refine congrArg (V m c main_v4) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem blk2 (t : Fin cfg0.N) (n : Fin 1024) (k : Fin 2048) :
    (X0_2 m c t : Vec Ideal S1024x2048 .bf16) (ix2 n k) = m ((c : Thread nD τ).loc main_arg2) (ix2 k (⟨t.val % 2 * 1024 + n.val, by omega⟩ : Fin 8224)) := by
  obtain ⟨e0, e1⟩ := idx2 t
  unfold X0_2 Pipeline.Window.fill
  rw [dif_pos (moved0_2 t (ix2 n k))]
  refine Eq.trans ?_ (V_v1_at m c _ k)
  refine congrArg (V m c main_v1) (funext fun a => Fin.ext ?_)
  match a with
  | ⟨0, _⟩ => show win0_2.index t (0 : Fin 2) * 1024 + 1 * n.val = t.val % 2 * 1024 + n.val; omega
  | ⟨1, _⟩ => show win0_2.index t (1 : Fin 2) * 2048 + 1 * k.val = k.val; omega

theorem blk3 (t : Fin cfg0.N) (n : Fin 128) (k : Fin 2048) :
    (iblk m c 3 t : Vec Ideal S128x2048 .bf16) (ix2 n k) = wdt (m ((c : Thread nD τ).loc main_arg2)) n k := by
  obtain ⟨e0, e1⟩ := idx3 t
  refine Eq.trans ?_ (V_v3_at m c n k)
  refine congrArg (V m c main_v3) (funext fun a => Fin.ext ?_)
  match a with
  | ⟨0, _⟩ => show win0_3.index t (0 : Fin 2) * 128 + 1 * n.val = n.val; omega
  | ⟨1, _⟩ => show win0_3.index t (1 : Fin 2) * 2048 + 1 * k.val = k.val; omega

theorem blk4 (t : Fin cfg0.N) (r : Fin 1024) (n : Fin 128) :
    (iblk m c 4 t : Vec Ideal S1024x128 .f32) (ix2 r n) = tc (pos (row t r)) n := by
  obtain ⟨e0, e1⟩ := idx4 t
  refine Eq.trans ?_ (V_v26_at m c _ n)
  refine congrArg (V m c main_v26) (funext fun a => Fin.ext ?_)
  match a with
  | ⟨0, _⟩ => show win0_4.index t (0 : Fin 2) * 1024 + 1 * r.val = (t.val / 2 * 1024 + r.val) % 2048; omega
  | ⟨1, _⟩ => show win0_4.index t (1 : Fin 2) * 128 + 1 * n.val = n.val; omega

theorem blk5 (t : Fin cfg0.N) (r : Fin 1024) (n : Fin 128) :
    (iblk m c 5 t : Vec Ideal S1024x128 .f32) (ix2 r n) = ts (pos (row t r)) n := by
  obtain ⟨e0, e1⟩ := idx5 t
  refine Eq.trans ?_ (V_v28_at m c _ n)
  refine congrArg (V m c main_v28) (funext fun a => Fin.ext ?_)
  match a with
  | ⟨0, _⟩ => show win0_5.index t (0 : Fin 2) * 1024 + 1 * r.val = (t.val / 2 * 1024 + r.val) % 2048; omega
  | ⟨1, _⟩ => show win0_5.index t (1 : Fin 2) * 128 + 1 * n.val = n.val; omega

theorem blk6 (t : Fin cfg0.N) (r : Fin 1024) (n : Fin 128) :
    (iblk m c 6 t : Vec Ideal S1024x128 .f32) (ix2 r n) = tb (pos (row t r)) n := by
  obtain ⟨e0, e1⟩ := idx6 t
  refine Eq.trans ?_ (V_v29_at m c _ n)
  refine congrArg (V m c main_v29) (funext fun a => Fin.ext ?_)
  match a with
  | ⟨0, _⟩ => show win0_6.index t (0 : Fin 2) * 1024 + 1 * r.val = (t.val / 2 * 1024 + r.val) % 2048; omega
  | ⟨1, _⟩ => show win0_6.index t (1 : Fin 2) * 128 + 1 * n.val = n.val; omega

end QkHost

end
-- ==== Proof.QkVal.lean ====
module

public import proofs.«01_k».proof.Proof.QkHost

/-! The three arrays the call `_in_proj_qk` leaves: the rotated columns, dt, and the normalised rows. -/

@[expose] public section

set_option maxRecDepth 16384

noncomputable section

namespace QkVal

open QkPay QkTile QkHost Cert.InQk Cert.Kernel4Ideal Cert.Kernel4Ideal.Gen Idealize.ShloMosaic Idealize.ShloMosaic.TcCoe Idealize.SL.Sem

/-- A normalised row's entry. -/
def un (x : Vec Ideal S16384x2048 .f32) (w : Vec Ideal S2048 .f32) (r : Fin 16384) (k : Fin 2048) : EReal :=
  urow (fun j => x (ix2 r j)) (fun j => w (ix1 j)) k

/-- An entry of dt. -/
def dtv (x : Vec Ideal S16384x2048 .f32) (w : Vec Ideal S2048 .f32) (y : Vec Ideal S2048x8224 .f32) (r : Fin 16384) (n : Fin 128) : EReal :=
  ∑ k : Fin 2048, un x w r k * wdt y n k

/-- A head's columns of the product. -/
def hd (x : Vec Ideal S16384x2048 .f32) (w : Vec Ideal S2048 .f32) (y : Vec Ideal S2048x8224 .f32) (r : Fin 16384) (h : Fin 16) (n : Fin 128) : EReal :=
  ∑ k : Fin 2048, un x w r k * y (ix2 k (⟨h.val * 128 + n.val, by omega⟩ : Fin 8224))

/-- An entry of the rotated columns. -/
def qkv (x : Vec Ideal S16384x2048 .f32) (w : Vec Ideal S2048 .f32) (y : Vec Ideal S2048x8224 .f32) (r : Fin 16384) (n : Fin 2048) : EReal :=
  rotv (hd x w y r ⟨n.val / 128, by omega⟩) (tc (pos r)) (ts (pos r)) (tb (pos r)) ⟨n.val % 128, Nat.mod_lt _ (by omega)⟩

variable (m : (ℓ : Loc nD τ sig) → Buf (Elt Ideal) ℓ) (c : Dev nD)

/-- The arguments, as launched. -/
abbrev a0 : Vec Ideal S16384x2048 .f32 := m ((c : Thread nD τ).loc main_arg0)
abbrev a1 : Vec Ideal S2048 .f32 := m ((c : Thread nD τ).loc main_arg1)
abbrev a2 : Vec Ideal S2048x8224 .f32 := m ((c : Thread nD τ).loc main_arg2)

theorem uAt_at (t : Fin cfg0.N) (r : Fin 1024) (k : Fin 2048) : uAt m c t (ix2 r k) = un (a0 m c) (a1 m c) (row t r) k := by
  rw [uAt_eq]
  have hrow : row (base t) r = row t r := Fin.ext (by show (t.val - t.val % 2) / 2 * 1024 + r.val = t.val / 2 * 1024 + r.val; omega)
  show urow (fun j => (iblk m c 0 (base t) : Vec Ideal S1024x2048 .f32) (ix2 r j)) (fun j => (iblk m c 1 (base t) : Vec Ideal S1x2048 .f32) (ix2 (0 : Fin 1) j)) k = _
  rw [funext fun j => blk0 m c (base t) r j, funext fun j => blk1 m c (base t) j, hrow]
  rfl

theorem dtAt_at (t : Fin cfg0.N) (r : Fin 1024) (n : Fin 128) : dtAt m c t (ix2 r n) = dtv (a0 m c) (a1 m c) (a2 m c) (row t r) n := by
  rw [dtAt_eq, ← uAt_eq]
  exact Finset.sum_congr rfl fun k _ => congrArg₂ (· * ·) (uAt_at m c t r k) (blk3 m c (base t) n k)

/-- The result's column of a block's column. -/
abbrev colOf (t : Fin cfg0.N) (n : Fin 1024) : Fin 2048 := ⟨t.val % 2 * 1024 + n.val, by omega⟩

theorem qkAt_at (t : Fin cfg0.N) (r : Fin 1024) (n : Fin 1024) : qkAt m c t (ix2 r n) = qkv (a0 m c) (a1 m c) (a2 m c) (row t r) (colOf t n) := by
  rw [qkAt_eq]
  have hn := n.isLt
  show rotv (fun q : Fin 128 => ∑ k : Fin 2048, uAt m c t (ix2 r k) * (X0_2 m c t : Vec Ideal S1024x2048 .bf16) (ix2 (⟨n.val / 128 * 128 + q.val, by omega⟩ : Fin 1024) k))
    (fun q => (iblk m c 4 t : Vec Ideal S1024x128 .f32) (ix2 r q)) (fun q => (iblk m c 5 t : Vec Ideal S1024x128 .f32) (ix2 r q)) (fun q => (iblk m c 6 t : Vec Ideal S1024x128 .f32) (ix2 r q)) (⟨n.val % 128, _⟩ : Fin 128) = _
  rw [funext fun q => blk4 m c t r q, funext fun q => blk5 m c t r q, funext fun q => blk6 m c t r q]
  unfold qkv
  refine congr (congrArg (fun a => rotv a _ _ _) (funext fun q => Finset.sum_congr rfl fun k _ => congrArg₂ (· * ·) (uAt_at m c t r k) ((blk2 m c t _ k).trans ?_))) (Fin.ext ?_)
  · refine congrArg (fun j => a2 m c (ix2 k j)) (Fin.ext ?_)
    show t.val % 2 * 1024 + (n.val / 128 * 128 + q.val) = (t.val % 2 * 1024 + n.val) / 128 * 128 + q.val
    omega
  · show n.val % 128 = (t.val % 2 * 1024 + n.val) % 128
    omega

def G7 : Buf (Elt Ideal) ((c : Thread nD τ).loc main_v30_0) := fun i => qkv (a0 m c) (a1 m c) (a2 m c) (i 0) (i 1)
def G8 : Buf (Elt Ideal) ((c : Thread nD τ).loc main_v30_1) := fun i => dtv (a0 m c) (a1 m c) (a2 m c) (i 0) (i 1)
def G9 : Buf (Elt Ideal) ((c : Thread nD τ).loc main_v30_2) := fun i => un (a0 m c) (a1 m c) (i 0) (i 1)

theorem flushed7_eq (t : Fin cfg0.N) : (dats m 0 c).flushed 7 t = ((cfg0.win 7).blk t).view.read (Elt Ideal) (G7 m c) := by
  obtain ⟨e0, e1⟩ := idx7 t
  funext y
  have hy0 : (y 0).val < 1024 := (y 0).isLt
  have hy1 : (y 1).val < 1024 := (y 1).isLt
  have hx : (cfg0.win 7).xinj (grid0.coords t) y = ix2 (⟨(y 0).val, hy0⟩ : Fin 1024) (⟨(y 1).val, hy1⟩ : Fin 1024) := funext fun a => match a with
    | ⟨0, _⟩ => rfl
    | ⟨1, _⟩ => rfl
  show (dats m 0 c).after 7 t ((cfg0.win 7).xinj (grid0.coords t) y) = G7 m c (((cfg0.win 7).blk t).view.emb y)
  rw [after0_7, hx]
  refine (qkAt_at m c t _ _).trans ?_
  exact (congrArg₂ (qkv (a0 m c) (a1 m c) (a2 m c)) (Fin.ext (by
    show win0_7.index t (0 : Fin 2) * 1024 + 1 * (y 0).val = t.val / 2 * 1024 + (y 0).val; omega)) (Fin.ext (by
    show win0_7.index t (1 : Fin 2) * 1024 + 1 * (y 1).val = t.val % 2 * 1024 + (y 1).val; omega))).symm

theorem flushed8_eq (t : Fin cfg0.N) : (dats m 0 c).flushed 8 t = ((cfg0.win 8).blk t).view.read (Elt Ideal) (G8 m c) := by
  obtain ⟨e0, e1⟩ := idx8 t
  funext y
  have hy0 : (y 0).val < 1024 := (y 0).isLt
  have hy1 : (y 1).val < 128 := (y 1).isLt
  have hx : (cfg0.win 8).xinj (grid0.coords t) y = ix2 (⟨(y 0).val, hy0⟩ : Fin 1024) (⟨(y 1).val, hy1⟩ : Fin 128) := funext fun a => match a with
    | ⟨0, _⟩ => rfl
    | ⟨1, _⟩ => rfl
  show (dats m 0 c).after 8 t ((cfg0.win 8).xinj (grid0.coords t) y) = G8 m c (((cfg0.win 8).blk t).view.emb y)
  rw [after0_8, hx]
  refine (dtAt_at m c t _ _).trans ?_
  exact (congrArg₂ (dtv (a0 m c) (a1 m c) (a2 m c)) (Fin.ext (by
    show win0_8.index t (0 : Fin 2) * 1024 + 1 * (y 0).val = t.val / 2 * 1024 + (y 0).val; omega)) (Fin.ext (by
    show win0_8.index t (1 : Fin 2) * 128 + 1 * (y 1).val = (y 1).val; omega))).symm

theorem flushed9_eq (t : Fin cfg0.N) : (dats m 0 c).flushed 9 t = ((cfg0.win 9).blk t).view.read (Elt Ideal) (G9 m c) := by
  obtain ⟨e0, e1⟩ := idx9 t
  funext y
  have hy0 : (y 0).val < 1024 := (y 0).isLt
  have hy1 : (y 1).val < 2048 := (y 1).isLt
  have hx : (cfg0.win 9).xinj (grid0.coords t) y = ix2 (⟨(y 0).val, hy0⟩ : Fin 1024) (⟨(y 1).val, hy1⟩ : Fin 2048) := funext fun a => match a with
    | ⟨0, _⟩ => rfl
    | ⟨1, _⟩ => rfl
  show (dats m 0 c).after 9 t ((cfg0.win 9).xinj (grid0.coords t) y) = G9 m c (((cfg0.win 9).blk t).view.emb y)
  rw [after0_9, hx]
  refine (uAt_at m c t _ _).trans ?_
  exact (congrArg₂ (un (a0 m c) (a1 m c)) (Fin.ext (by
    show win0_9.index t (0 : Fin 2) * 1024 + 1 * (y 0).val = t.val / 2 * 1024 + (y 0).val; omega)) (Fin.ext (by
    show win0_9.index t (1 : Fin 2) * 2048 + 1 * (y 1).val = (y 1).val; omega))).symm

theorem idx_onto7 : ∀ (p : Fin 16) (q : Fin 2), ∃ t : Fin cfg0.N, (cfg0.win 7).flush t = true ∧ win0_7.index t = ![p.val, q.val] :=
  (by decide +kernel : ∀ (p : Fin 16) (q : Fin 2), ∃ t : Fin grid0.N, win0_7.flush t = true ∧ win0_7.index t = ![p.val, q.val])
theorem idx_onto8 : ∀ p : Fin 16, ∃ t : Fin cfg0.N, (cfg0.win 8).flush t = true ∧ win0_8.index t = ![p.val, 0] :=
  (by decide +kernel : ∀ p : Fin 16, ∃ t : Fin grid0.N, win0_8.flush t = true ∧ win0_8.index t = ![p.val, 0])
theorem idx_onto9 : ∀ p : Fin 16, ∃ t : Fin cfg0.N, (cfg0.win 9).flush t = true ∧ win0_9.index t = ![p.val, 0] :=
  (by decide +kernel : ∀ p : Fin 16, ∃ t : Fin grid0.N, win0_9.flush t = true ∧ win0_9.index t = ![p.val, 0])

theorem covered7 (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  obtain ⟨t, hft, ht⟩ := idx_onto7 ⟨(i 0).val / 1024, by omega⟩ ⟨(i 1).val / 1024, by omega⟩
  have q0 : win0_7.index t (0 : Fin 2) = (i 0).val / 1024 := congrFun ht 0
  have q1 : win0_7.index t (1 : Fin 2) = (i 1).val / 1024 := congrFun ht 1
  refine ⟨t, hft, ?_⟩
  have h := ((cfg0.win 7).blk t).view.emb_mem_set (ix2 (⟨(i 0).val % 1024, by omega⟩ : Fin 1024) (⟨(i 1).val % 1024, by omega⟩ : Fin 1024))
  have e : ((cfg0.win 7).blk t).view.emb (ix2 (⟨(i 0).val % 1024, by omega⟩ : Fin 1024) (⟨(i 1).val % 1024, by omega⟩ : Fin 1024)) = i := funext fun a => Fin.ext (by
    match a with
    | ⟨0, _⟩ => show win0_7.index t (0 : Fin 2) * 1024 + 1 * ((i 0).val % 1024) = (i 0).val; omega
    | ⟨1, _⟩ => show win0_7.index t (1 : Fin 2) * 1024 + 1 * ((i 1).val % 1024) = (i 1).val; omega)
  rwa [e] at h

theorem covered8 (i : S16384x128.Idx) : ∃ t : Fin cfg0.N, (cfg0.win 8).flush t = true ∧ i ∈ ((cfg0.win 8).blk t).view.set := by
  have hi0 : (i 0).val < 16384 := (i 0).isLt
  have hi1 : (i 1).val < 128 := (i 1).isLt
  obtain ⟨t, hft, ht⟩ := idx_onto8 ⟨(i 0).val / 1024, by omega⟩
  have q0 : win0_8.index t (0 : Fin 2) = (i 0).val / 1024 := congrFun ht 0
  have q1 : win0_8.index t (1 : Fin 2) = 0 := congrFun ht 1
  refine ⟨t, hft, ?_⟩
  have h := ((cfg0.win 8).blk t).view.emb_mem_set (ix2 (⟨(i 0).val % 1024, by omega⟩ : Fin 1024) (⟨(i 1).val, hi1⟩ : Fin 128))
  have e : ((cfg0.win 8).blk t).view.emb (ix2 (⟨(i 0).val % 1024, by omega⟩ : Fin 1024) (⟨(i 1).val, hi1⟩ : Fin 128)) = i := funext fun a => Fin.ext (by
    match a with
    | ⟨0, _⟩ => show win0_8.index t (0 : Fin 2) * 1024 + 1 * ((i 0).val % 1024) = (i 0).val; omega
    | ⟨1, _⟩ => show win0_8.index t (1 : Fin 2) * 128 + 1 * (i 1).val = (i 1).val; omega)
  rwa [e] at h

theorem covered9 (i : S16384x2048.Idx) : ∃ t : Fin cfg0.N, (cfg0.win 9).flush t = true ∧ i ∈ ((cfg0.win 9).blk t).view.set := by
  have hi0 : (i 0).val < 16384 := (i 0).isLt
  have hi1 : (i 1).val < 2048 := (i 1).isLt
  obtain ⟨t, hft, ht⟩ := idx_onto9 ⟨(i 0).val / 1024, by omega⟩
  have q0 : win0_9.index t (0 : Fin 2) = (i 0).val / 1024 := congrFun ht 0
  have q1 : win0_9.index t (1 : Fin 2) = 0 := congrFun ht 1
  refine ⟨t, hft, ?_⟩
  have h := ((cfg0.win 9).blk t).view.emb_mem_set (ix2 (⟨(i 0).val % 1024, by omega⟩ : Fin 1024) (⟨(i 1).val, hi1⟩ : Fin 2048))
  have e : ((cfg0.win 9).blk t).view.emb (ix2 (⟨(i 0).val % 1024, by omega⟩ : Fin 1024) (⟨(i 1).val, hi1⟩ : Fin 2048)) = i := funext fun a => Fin.ext (by
    match a with
    | ⟨0, _⟩ => show win0_9.index t (0 : Fin 2) * 1024 + 1 * ((i 0).val % 1024) = (i 0).val; omega
    | ⟨1, _⟩ => show win0_9.index t (1 : Fin 2) * 2048 + 1 * (i 1).val = (i 1).val; omega)
  rwa [e] at h

theorem final7 : (dats m 0 c).arrAt 7 cfg0.N = G7 m c := (dats m 0 c).arrAt_eq_of_cover 7 (G7 m c) (fun t _ => flushed7_eq m c t) covered7
theorem final8 : (dats m 0 c).arrAt 8 cfg0.N = G8 m c := (dats m 0 c).arrAt_eq_of_cover 8 (G8 m c) (fun t _ => flushed8_eq m c t) covered8
theorem final9 : (dats m 0 c).arrAt 9 cfg0.N = G9 m c := (dats m 0 c).arrAt_eq_of_cover 9 (G9 m c) (fun t _ => flushed9_eq m c t) covered9

/-! ## The reference -/

section
open Cert.Reference4Ideal.Read

variable (x : Vec Ideal S16384x2048 .f32) (w : Vec Ideal S2048 .f32) (y : Vec Ideal S2048x8224 .f32)

theorem v6_at (r : Fin 16384) : val_main_v7 (F := Ideal) x (ix2 r (0 : Fin 1)) = rs (∑ j : Fin 2048, x (ix2 r j) * x (ix2 r j)) := by
  have hs : val_main_v2 (F := Ideal) x (ix2 r (0 : Fin 1)) = ∑ j : Fin 2048, x (ix2 r j) * x (ix2 r j) := by
    rw [val_main_v2_apply, val_main_v1_apply]
    have h0 : ∀ i, val_main_cst (F := Ideal) i = (0 : EReal) := fun _ => Ideal.ofBits_zero_f32
    refine (congrArg (fun z : EReal => z + _) (h0 _)).trans ((zero_add _).trans (Finset.sum_congr rfl fun k _ => ?_))
    have e : idx_main_v1 (idx_main_v2 (ix2 r (0 : Fin 1))) k = ix2 r k := funext fun a => match a with
      | ⟨0, _⟩ => rfl
      | ⟨1, _⟩ => rfl
    rw [e]; rfl
  have h3 : val_main_v3 (F := Ideal) (ix2 r (0 : Fin 1)) = Ideal.ofBits .f32 0x45000000#32 := (val_main_v3_apply _).trans rfl
  have h5 : val_main_v5 (F := Ideal) (ix2 r (0 : Fin 1)) = Ideal.ofBits .f32 0x358637BD#32 := (val_main_v5_apply _).trans rfl
  rw [val_main_v7_apply, val_main_v6_apply, val_main_v4_apply, hs, h3, h5]
  rfl

theorem v12_at (r : Fin 16384) (k : Fin 2048) (j : (⟨2, ![16384, 2048]⟩ : Shape).Idx) (h0 : (j 0).val = r.val) (h1 : (j 1).val = k.val) :
    val_main_v12 (F := Ideal) x w j = un x w r k := by
  have hj : j = ix2 r k := funext fun a => Fin.ext (match a with
    | ⟨0, _⟩ => h0
    | ⟨1, _⟩ => h1)
  rw [hj, val_main_v12_apply, val_main_v9_apply, val_main_v8_apply, val_main_v11_apply, val_main_v10_apply]
  have e8 : idx_main_v8 (ix2 r k) = ix2 r (0 : Fin 1) := funext fun a => match a with
    | ⟨0, _⟩ => rfl
    | ⟨1, _⟩ => rfl
  have e10 : idx_main_v10 (idx_main_v11 (ix2 r k)) = ix1 k := funext fun a => match a with
    | ⟨0, _⟩ => rfl
  rw [e8, e10, v6_at]
  rfl

theorem v13_at (r : Fin 16384) (n : Fin 8224) (j : (⟨2, ![16384, 8224]⟩ : Shape).Idx) (h0 : (j 0).val = r.val) (h1 : (j 1).val = n.val) :
    val_main_v13 (F := Ideal) x w y j = ∑ k : Fin 2048, un x w r k * y (ix2 k n) := by
  refine (val_main_v13_apply x w y j).trans (Finset.sum_congr rfl fun k _ => congrArg₂ (· * ·) (v12_at x w r k _ h0 rfl) ?_)
  exact congrArg y (funext fun b => Fin.ext (match b with
    | ⟨0, _⟩ => rfl
    | ⟨1, _⟩ => h1))

theorem ref9 (r : Fin 16384) (k : Fin 2048) : val_main_v54 (F := Ideal) x w (ix2 r k) = un x w r k := v12_at x w r k _ rfl rfl

theorem ref8 (r : Fin 16384) (n : Fin 128) : val_main_v51 (F := Ideal) x w y (ix2 r n) = dtv x w y r n := by
  unfold val_main_v51 dtv wdt
  by_cases h : n.val < 32
  · refine (pad_apply_of_inside (s := Cert.Reference4Ideal.S16384x32) (t := Cert.Reference4Ideal.S16384x128) ![0, 0] ![0, 96] ![0, 0] _ _ _ _ (ix2 r n) (ix2 r (⟨n.val, h⟩ : Fin 32)) (fun a => match a with
      | ⟨0, _⟩ => by show r.val = 0 + r.val * (0 + 1); omega
      | ⟨1, _⟩ => by show n.val = 0 + n.val * (0 + 1); omega)).trans ?_
    refine (val_main_v50_apply x w y _).trans ((v13_at x w y r (⟨8192 + n.val, by omega⟩ : Fin 8224) _ rfl rfl).trans ?_)
    exact Finset.sum_congr rfl fun k _ => by rw [dif_pos h]
  · refine (pad_apply_of_not_inside (s := Cert.Reference4Ideal.S16384x32) (t := Cert.Reference4Ideal.S16384x128) ![0, 0] ![0, 96] ![0, 0] _ _ _ _ (ix2 r n) (1 : Fin 2) (fun hh => ?_)).trans ?_
    · have h4 : (n.val - 0) / (0 + 1) < 32 := hh.2.2
      omega
    · refine Eq.trans ?_ (Finset.sum_eq_zero fun k _ => by rw [dif_neg h]; exact mul_zero _).symm
      show (((0#32 : BitVec 32).toInt : ℝ) : EReal) = 0
      simp

/-- The product's column of a head, in the four-dimensional layout. -/
theorem v35_at (r : Fin 16384) (h : Fin 16) (n : Fin 128) (j : (⟨4, ![8, 2048, 16, 128]⟩ : Shape).Idx)
    (h0 : (j 0).val = r.val / 2048) (h1 : (j 1).val = r.val % 2048) (h2 : (j 2).val = h.val) (h3 : (j 3).val = n.val) :
    val_main_v35 (F := Ideal) x w y j = hd x w y r h n := by
  rw [val_main_v35_apply, val_main_v34_apply]
  refine v13_at x w y r (⟨h.val * 128 + n.val, by omega⟩ : Fin 8224) _ ?_ ?_
  · show ((((j 0).val * 2048 + (j 1).val) * 16 + (j 2).val) * 128 + (j 3).val) / 2048 = r.val
    omega
  · show ((((j 0).val * 2048 + (j 1).val) * 16 + (j 2).val) * 128 + (j 3).val) % 2048 = h.val * 128 + n.val
    omega

/-- An index of the four-dimensional layout. -/
abbrev i4 {d : ℕ} (r : Fin 16384) (h : Fin 16) (q : Fin d) : (⟨4, ![8, 2048, 16, d]⟩ : Shape).Idx :=
  ix4 (⟨r.val / 2048, by omega⟩ : Fin 8) (⟨r.val % 2048, by omega⟩ : Fin 2048) h q

theorem cs (r : Fin 16384) (h : Fin 16) (q : Fin 16) : val_main_v31 (F := Ideal) (idx_main_v39 (i4 r h q)) = cosT (pos r) q :=
  (val_main_v31_apply _).trans (congrArg (val_main_v30 (F := Ideal)) (funext fun a => match a with
    | ⟨0, _⟩ => rfl
    | ⟨1, _⟩ => rfl))
theorem sn (r : Fin 16384) (h : Fin 16) (q : Fin 16) : val_main_v33 (F := Ideal) (idx_main_v41 (i4 r h q)) = sinT (pos r) q :=
  (val_main_v33_apply _).trans (congrArg (val_main_v32 (F := Ideal)) (funext fun a => match a with
    | ⟨0, _⟩ => rfl
    | ⟨1, _⟩ => rfl))

theorem x1_at (r : Fin 16384) (h : Fin 16) (q : Fin 16) : val_main_v36 (F := Ideal) x w y (i4 r h q) = hd x w y r h (⟨q.val, by omega⟩ : Fin 128) :=
  (val_main_v36_apply x w y _).trans (v35_at x w y r h _ _ rfl rfl rfl (by show q.val = q.val; rfl))
theorem x2_at (r : Fin 16384) (h : Fin 16) (q : Fin 16) : val_main_v37 (F := Ideal) x w y (i4 r h q) = hd x w y r h (⟨16 + q.val, by omega⟩ : Fin 128) :=
  (val_main_v37_apply x w y _).trans (v35_at x w y r h _ _ rfl rfl rfl rfl)
theorem x3_at (r : Fin 16384) (h : Fin 16) (q : Fin 96) : val_main_v38 (F := Ideal) x w y (i4 r h q) = hd x w y r h (⟨32 + q.val, by omega⟩ : Fin 128) :=
  (val_main_v38_apply x w y _).trans (v35_at x w y r h _ _ rfl rfl rfl rfl)

theorem v43_at (r : Fin 16384) (h : Fin 16) (q : Fin 16) : val_main_v43 (F := Ideal) x w y (i4 r h q) =
    hd x w y r h (⟨q.val, by omega⟩ : Fin 128) * cosT (pos r) q - hd x w y r h (⟨16 + q.val, by omega⟩ : Fin 128) * sinT (pos r) q := by
  rw [val_main_v43_apply, val_main_v40_apply, val_main_v42_apply, val_main_v39_apply, val_main_v41_apply, x1_at, x2_at, cs, sn]
  rfl
theorem v48_at (r : Fin 16384) (h : Fin 16) (q : Fin 16) : val_main_v48 (F := Ideal) x w y (i4 r h q) =
    hd x w y r h (⟨16 + q.val, by omega⟩ : Fin 128) * cosT (pos r) q + hd x w y r h (⟨q.val, by omega⟩ : Fin 128) * sinT (pos r) q := by
  rw [val_main_v48_apply, val_main_v45_apply, val_main_v47_apply, val_main_v44_apply, val_main_v46_apply, x1_at, x2_at]
  exact congrArg₂ (fun a b => _ * a + _ * b) (cs r h q) (sn r h q)

/-- The rotated head, in the four-dimensional layout. -/
theorem v49_at (r : Fin 16384) (h : Fin 16) (n : Fin 128) : val_main_v49 (F := Ideal) x w y (i4 r h n) =
    rotv (hd x w y r h) (tc (pos r)) (ts (pos r)) (tb (pos r)) n := by
  unfold val_main_v49 rotv tc ts tb
  have hn := n.isLt
  by_cases h1 : n.val < 16
  · refine (concatenate_apply_piece (t := Cert.Reference4Ideal.S8x2048x16x128) 3 _ _ (i4 r h n) 0 (by simp) Cert.Reference4Ideal.S8x2048x16x16 (val_main_v43 (F := Ideal) x w y) rfl rfl 0 rfl (i4 r h (⟨n.val, h1⟩ : Fin 16))
      (fun q hq => match q, hq with
        | ⟨0, _⟩, _ => rfl
        | ⟨1, _⟩, _ => rfl
        | ⟨2, _⟩, _ => rfl
        | ⟨3, _⟩, hq => absurd rfl hq) (by show 0 + n.val = n.val; omega)).trans ?_
    rw [v43_at, dif_pos h1, dif_pos h1, dif_pos h1, mul_zero, add_zero, mul_neg, ← sub_eq_add_neg]
    refine congrArg₂ (fun a b => a * _ - b * _) rfl (congrArg (hd x w y r h) (Fin.ext ?_))
    show 16 + n.val = (n.val + 16) % 128; omega
  · rw [dif_neg h1, dif_neg h1, dif_neg h1]
    by_cases h2 : n.val < 32
    · refine (concatenate_apply_piece (t := Cert.Reference4Ideal.S8x2048x16x128) 3 _ _ (i4 r h n) 1 (by simp) Cert.Reference4Ideal.S8x2048x16x16 (val_main_v48 (F := Ideal) x w y) rfl rfl 16 rfl (i4 r h (⟨n.val - 16, by omega⟩ : Fin 16))
        (fun q hq => match q, hq with
          | ⟨0, _⟩, _ => rfl
          | ⟨1, _⟩, _ => rfl
          | ⟨2, _⟩, _ => rfl
          | ⟨3, _⟩, hq => absurd rfl hq) (by show 16 + (n.val - 16) = n.val; omega)).trans ?_
      rw [v48_at, dif_pos h2, dif_pos h2, mul_zero, add_zero]
      refine congrArg₂ (fun a b => a * _ + b * _) (congrArg (hd x w y r h) (Fin.ext ?_)) (congrArg (hd x w y r h) (Fin.ext ?_))
      · show 16 + (n.val - 16) = n.val; omega
      · show n.val - 16 = (n.val + 112) % 128; omega
    · refine (concatenate_apply_piece (t := Cert.Reference4Ideal.S8x2048x16x128) 3 _ _ (i4 r h n) 2 (by simp) Cert.Reference4Ideal.S8x2048x16x96 (val_main_v38 (F := Ideal) x w y) rfl rfl 32 rfl (i4 r h (⟨n.val - 32, by omega⟩ : Fin 96))
        (fun q hq => match q, hq with
          | ⟨0, _⟩, _ => rfl
          | ⟨1, _⟩, _ => rfl
          | ⟨2, _⟩, _ => rfl
          | ⟨3, _⟩, hq => absurd rfl hq) (by show 32 + (n.val - 32) = n.val; omega)).trans ?_
      rw [x3_at, dif_neg h2, dif_neg h2, mul_zero, add_zero, mul_zero, add_zero, mul_one]
      exact congrArg (hd x w y r h) (Fin.ext (by show 32 + (n.val - 32) = n.val; omega))

theorem ref7 (r : Fin 16384) (n : Fin 2048) : val_main_v53 (F := Ideal) x w y (ix2 r n) = qkv x w y r n := by
  refine Eq.trans (b := val_main_v52 (F := Ideal) x w y (ix2 r n)) rfl ((val_main_v52_apply x w y _).trans ?_)
  have e : idx_main_v52 (ix2 r n) = i4 r (⟨n.val / 128, by omega⟩ : Fin 16) (⟨n.val % 128, Nat.mod_lt _ (by omega)⟩ : Fin 128) := funext fun a => Fin.ext (match a with
    | ⟨0, _⟩ => by show (r.val * 2048 + n.val) / 4194304 = r.val / 2048; omega
    | ⟨1, _⟩ => by show (r.val * 2048 + n.val) / 2048 % 2048 = r.val % 2048; omega
    | ⟨2, _⟩ => by show (r.val * 2048 + n.val) / 128 % 16 = n.val / 128; omega
    | ⟨3, _⟩ => by show (r.val * 2048 + n.val) % 128 = n.val % 128; omega)
  rw [e]
  exact v49_at x w y r _ _
end

end QkVal

end
-- ==== Proof.QkClaims.lean ====
module

public import proofs.«01_k».proof.Defs
public import proofs.«01_k».proof.Proof.QkVal
public import proofs.«01_k».proof.Proof.Gen.Kernel4
public import Idealize.ShloMosaic.Lib.Quiescent

/-! The five claims about the input projection's first columns. -/

@[expose] public section

set_option maxRecDepth 16384

noncomputable section

open Idealize.ShloMosaic Idealize.ShloMosaic.TcCoe Idealize.SL.Sem

namespace QkClaims

/-! The kernel and the ideal kernel are one text, so the kernel's frame is the ideal kernel's run over the bits. -/

theorem part1_eq : @Cert.Kernel4.k0_part1 Bits _ _ = @Cert.Kernel4Ideal.k0_part1 Bits _ _ := rfl
theorem part2_eq : @Cert.Kernel4.k0_part2 Bits _ _ = @Cert.Kernel4Ideal.k0_part2 Bits _ _ := rfl
theorem part3_eq : @Cert.Kernel4.k0_part3 Bits _ _ = @Cert.Kernel4Ideal.k0_part3 Bits _ _ := rfl
theorem body_eq : @Cert.Kernel4.cc0_in_proj_qk Bits _ _ = @Cert.Kernel4Ideal.cc0_in_proj_qk Bits _ _ := by
  unfold Cert.Kernel4.cc0_in_proj_qk Cert.Kernel4Ideal.cc0_in_proj_qk
  simp only [part1_eq, part2_eq, part3_eq]
  rfl
theorem table_eq : @Cert.Kernel4.defs₀ Bits _ _ = @Cert.Kernel4Ideal.defs₀ Bits _ _ :=
  congrArg Defs.onTc (funext fun l => funext fun a => match l, a with
    | ⟨0, _⟩, (t, s) => by
      show Cert.Kernel4.cc0_in_proj_qk (F := Bits) _ _ _ _ _ _ _ _ _ _ _ _ _ _ _ _ _ _ _ _ _ = _
      rw [body_eq]
      rfl
    | ⟨_ + 1, h⟩, _ => absurd h (Nat.not_lt.2 (Nat.le_add_left _ _)))
theorem defs_eq : @Cert.Kernel4.defs Bits _ _ = @Cert.Kernel4Ideal.defs Bits _ _ := by
  unfold Cert.Kernel4.defs Cert.Kernel4Ideal.defs
  exact congrArg (Pipeline.defs _) table_eq
set_option maxHeartbeats 4000000 in
theorem main_eq : @Cert.Kernel4.main Bits _ _ = @Cert.Kernel4Ideal.main Bits _ _ := by
  funext c
  unfold Cert.Kernel4.main Cert.Kernel4Ideal.main
  rfl

theorem frame_p : Cert.quiescent_Kernel4 := by
  intro m ρ _
  rw [main_eq, defs_eq]
  exact Cert.InQk.frame (F := Bits) m ρ
theorem frame_pi : Cert.quiescent_Kernel4Ideal := fun m ρ _ => Cert.InQk.frame m ρ
theorem frame_ri : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem preserves : Cert.preserves_Kernel4_Kernel4Ideal := trivial

variable (m : (ℓ : Loc Cert.Kernel4Ideal.nD Cert.Kernel4Ideal.τ Cert.Kernel4Ideal.sig) → Buf (Elt Ideal) ℓ) (c : Dev Cert.Kernel4Ideal.nD)

/-- The rotated columns are the reference's, as a whole array. -/
theorem out7_eq : Cert.Reference4Ideal.Read.val_main_v53 (F := Ideal) (QkVal.a0 m c) (QkVal.a1 m c) (QkVal.a2 m c) =
    (QkVal.G7 m c : Vec Ideal Cert.Kernel4Ideal.S16384x2048 .bf16) := by
  funext i
  have hi : i = ix2 (i 0 : Fin 16384) (i 1 : Fin 2048) := funext fun a => match a with
    | ⟨0, _⟩ => rfl
    | ⟨1, _⟩ => rfl
  rw [hi]
  exact QkVal.ref7 _ _ _ _ _

/-- dt is the reference's, as a whole array. -/
theorem out8_eq : Cert.Reference4Ideal.Read.val_main_v51 (F := Ideal) (QkVal.a0 m c) (QkVal.a1 m c) (QkVal.a2 m c) =
    (QkVal.G8 m c : Vec Ideal Cert.Kernel4Ideal.S16384x128 .f32) := by
  funext i
  have hi : i = ix2 (i 0 : Fin 16384) (i 1 : Fin 128) := funext fun a => match a with
    | ⟨0, _⟩ => rfl
    | ⟨1, _⟩ => rfl
  rw [hi]
  exact QkVal.ref8 _ _ _ _ _

/-- The normalised rows are the reference's, as a whole array. -/
theorem out9_eq : Cert.Reference4Ideal.Read.val_main_v54 (F := Ideal) (QkVal.a0 m c) (QkVal.a1 m c) =
    (QkVal.G9 m c : Vec Ideal Cert.Kernel4Ideal.S16384x2048 .bf16) := by
  funext i
  have hi : i = ix2 (i 0 : Fin 16384) (i 1 : Fin 2048) := funext fun a => match a with
    | ⟨0, _⟩ => rfl
    | ⟨1, _⟩ => rfl
  rw [hi]
  exact QkVal.ref9 _ _ _ _

theorem algebraic : Cert.algebraic_Kernel4Ideal_Reference4Ideal := by
  intro m ρ m' ρ' _ hagree
  refine ⟨_, _, _, (θ_run Cert.Kernel4Ideal.defs _ _).mono (fun _ h c => ⟨(h c).1.trans (QkVal.final7 m c), (h c).2.1.trans (QkVal.final8 m c), (h c).2.2.1.trans (QkVal.final9 m c), (h c).2.2.2⟩)
    (Cert.InQk.run_blocks m ρ), ?_⟩
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  · refine (Cert.Reference4Ideal.Read.val_main_v53_eq _ _).trans ?_
    obtain ⟨h0, h1, h2⟩ := hagree c
    rw [h0, h1, h2]
    exact out7_eq m c
  · refine (Cert.Reference4Ideal.Read.val_main_v51_eq _ _ _).trans ?_
    obtain ⟨h0, h1, h2⟩ := hagree c
    rw [h0, h1, h2]
    exact out8_eq m c
  · refine (Cert.Reference4Ideal.Read.val_main_v54_eq _ _).trans ?_
    obtain ⟨h0, h1, h2⟩ := hagree c
    rw [h0, h1]
    exact out9_eq m c

end QkClaims

end
-- ==== Proof.lean ====
module

public import proofs.«01_k».proof.Defs
public import proofs.«01_k».proof.Proof.SsdClaims
public import proofs.«01_k».proof.Proof.InClaims
public import proofs.«01_k».proof.Proof.OutClaims
public import proofs.«01_k».proof.Proof.QkClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    SsdClaims.frame_p, SsdClaims.frame_pi, SsdClaims.frame_ri,
    InClaims.frame_p, InClaims.frame_pi, InClaims.frame_ri,
    OutClaims.frame_p, OutClaims.frame_pi, OutClaims.frame_ri,
    QkClaims.frame_p, QkClaims.frame_pi, QkClaims.frame_ri,
    SsdClaims.preserves, SsdClaims.algebraic, InClaims.preserves, InClaims.algebraic,
    OutClaims.preserves, OutClaims.algebraic, QkClaims.preserves, QkClaims.algebraic⟩

end Cert.Proof

end
